-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_HyKernel (m : (ℓ : Loc Cert.HyKernel.nD Cert.HyKernel.τ Cert.HyKernel.sig) → Buf (Elt Bits) ℓ) : Prop :=
  True

def Pre_HyKernelIdeal (m : (ℓ : Loc Cert.HyKernelIdeal.nD Cert.HyKernelIdeal.τ Cert.HyKernelIdeal.sig) → Buf (Elt Ideal) ℓ) : Prop :=
  True

def Pre_HyReferenceIdeal (m : (ℓ : Loc Cert.HyReferenceIdeal.nD Cert.HyReferenceIdeal.τ Cert.HyReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4)
      ∧ r.2.mem ((c.tc : Thread Cert.MlpKernel.nD Cert.MlpKernel.τ).loc Cert.MlpKernel.main_arg5) = m ((c.tc : Thread Cert.MlpKernel.nD Cert.MlpKernel.τ).loc Cert.MlpKernel.main_arg5)
      ∧ r.2.mem ((c.tc : Thread Cert.MlpKernel.nD Cert.MlpKernel.τ).loc Cert.MlpKernel.main_arg6) = m ((c.tc : Thread Cert.MlpKernel.nD Cert.MlpKernel.τ).loc Cert.MlpKernel.main_arg6)
      ∧ r.2.mem ((c.tc : Thread Cert.MlpKernel.nD Cert.MlpKernel.τ).loc Cert.MlpKernel.main_arg7) = m ((c.tc : Thread Cert.MlpKernel.nD Cert.MlpKernel.τ).loc Cert.MlpKernel.main_arg7)
      ∧ r.2.mem ((c.tc : Thread Cert.MlpKernel.nD Cert.MlpKernel.τ).loc Cert.MlpKernel.main_arg8) = m ((c.tc : Thread Cert.MlpKernel.nD Cert.MlpKernel.τ).loc Cert.MlpKernel.main_arg8)
      ∧ r.2.mem ((c.tc : Thread Cert.MlpKernel.nD Cert.MlpKernel.τ).loc Cert.MlpKernel.main_arg9) = m ((c.tc : Thread Cert.MlpKernel.nD Cert.MlpKernel.τ).loc Cert.MlpKernel.main_arg9)
      ∧ r.2.mem ((c.tc : Thread Cert.MlpKernel.nD Cert.MlpKernel.τ).loc Cert.MlpKernel.main_arg10) = m ((c.tc : Thread Cert.MlpKernel.nD Cert.MlpKernel.τ).loc Cert.MlpKernel.main_arg10)
      ∧ r.2.mem ((c.tc : Thread Cert.MlpKernel.nD Cert.MlpKernel.τ).loc Cert.MlpKernel.main_arg11) = m ((c.tc : Thread Cert.MlpKernel.nD Cert.MlpKernel.τ).loc Cert.MlpKernel.main_arg11)
      ∧ r.2.mem ((c.tc : Thread Cert.MlpKernel.nD Cert.MlpKernel.τ).loc Cert.MlpKernel.main_arg12) = m ((c.tc : Thread Cert.MlpKernel.nD Cert.MlpKernel.τ).loc Cert.MlpKernel.main_arg12))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
      ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
      ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7)
      ∧ r.2.mem ((c.tc : Thread Cert.MlpKernelIdeal.nD Cert.MlpKernelIdeal.τ).loc Cert.MlpKernelIdeal.main_arg8) = m ((c.tc : Thread Cert.MlpKernelIdeal.nD Cert.MlpKernelIdeal.τ).loc Cert.MlpKernelIdeal.main_arg8)
      ∧ r.2.mem ((c.tc : Thread Cert.MlpKernelIdeal.nD Cert.MlpKernelIdeal.τ).loc Cert.MlpKernelIdeal.main_arg9) = m ((c.tc : Thread Cert.MlpKernelIdeal.nD Cert.MlpKernelIdeal.τ).loc Cert.MlpKernelIdeal.main_arg9)
      ∧ r.2.mem ((c.tc : Thread Cert.MlpKernelIdeal.nD Cert.MlpKernelIdeal.τ).loc Cert.MlpKernelIdeal.main_arg10) = m ((c.tc : Thread Cert.MlpKernelIdeal.nD Cert.MlpKernelIdeal.τ).loc Cert.MlpKernelIdeal.main_arg10)
      ∧ r.2.mem ((c.tc : Thread Cert.MlpKernelIdeal.nD Cert.MlpKernelIdeal.τ).loc Cert.MlpKernelIdeal.main_arg11) = m ((c.tc : Thread Cert.MlpKernelIdeal.nD Cert.MlpKernelIdeal.τ).loc Cert.MlpKernelIdeal.main_arg11)
      ∧ r.2.mem ((c.tc : Thread Cert.MlpKernelIdeal.nD Cert.MlpKernelIdeal.τ).loc Cert.MlpKernelIdeal.main_arg12) = m ((c.tc : Thread Cert.MlpKernelIdeal.nD Cert.MlpKernelIdeal.τ).loc Cert.MlpKernelIdeal.main_arg12))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9)
      ∧ r.2.mem ((c.tc : Thread Cert.MlpReferenceIdeal.nD Cert.MlpReferenceIdeal.τ).loc Cert.MlpReferenceIdeal.main_arg10) = m ((c.tc : Thread Cert.MlpReferenceIdeal.nD Cert.MlpReferenceIdeal.τ).loc Cert.MlpReferenceIdeal.main_arg10)
      ∧ r.2.mem ((c.tc : Thread Cert.MlpReferenceIdeal.nD Cert.MlpReferenceIdeal.τ).loc Cert.MlpReferenceIdeal.main_arg11) = m ((c.tc : Thread Cert.MlpReferenceIdeal.nD Cert.MlpReferenceIdeal.τ).loc Cert.MlpReferenceIdeal.main_arg11)
      ∧ r.2.mem ((c.tc : Thread Cert.MlpReferenceIdeal.nD Cert.MlpReferenceIdeal.τ).loc Cert.MlpReferenceIdeal.main_arg12) = m ((c.tc : Thread Cert.MlpReferenceIdeal.nD Cert.MlpReferenceIdeal.τ).loc Cert.MlpReferenceIdeal.main_arg12))
      ∧ r.2.sem = fun _ => 0)

def quiescent_HyKernel [hHyKernel : Cert.HyKernel.Facts] : Prop :=
  ∀ (m : (ℓ : Loc Cert.HyKernel.nD Cert.HyKernel.τ Cert.HyKernel.sig) → Buf (Elt Bits) ℓ) (g : Dev Cert.HyKernel.nD → PrngReg), Pre_HyKernel m →
    θ_run (Cert.HyKernel.defs (F := Bits)) (onTc (τ := Cert.HyKernel.τ) (Cert.HyKernel.main (F := Bits))) ⟨m, fun _ => 0, g⟩ (fun r => (∀ c : Dev Cert.HyKernel.nD,
      r.2.mem ((c.tc : Thread Cert.HyKernel.nD Cert.HyKernel.τ).loc Cert.HyKernel.main_arg0) = m ((c.tc : Thread Cert.HyKernel.nD Cert.HyKernel.τ).loc Cert.HyKernel.main_arg0)
      ∧ r.2.mem ((c.tc : Thread Cert.HyKernel.nD Cert.HyKernel.τ).loc Cert.HyKernel.main_arg1) = m ((c.tc : Thread Cert.HyKernel.nD Cert.HyKernel.τ).loc Cert.HyKernel.main_arg1)
      ∧ r.2.mem ((c.tc : Thread Cert.HyKernel.nD Cert.HyKernel.τ).loc Cert.HyKernel.main_arg2) = m ((c.tc : Thread Cert.HyKernel.nD Cert.HyKernel.τ).loc Cert.HyKernel.main_arg2)
      ∧ r.2.mem ((c.tc : Thread Cert.HyKernel.nD Cert.HyKernel.τ).loc Cert.HyKernel.main_arg3) = m ((c.tc : Thread Cert.HyKernel.nD Cert.HyKernel.τ).loc Cert.HyKernel.main_arg3)
      ∧ r.2.mem ((c.tc : Thread Cert.HyKernel.nD Cert.HyKernel.τ).loc Cert.HyKernel.main_arg4) = m ((c.tc : Thread Cert.HyKernel.nD Cert.HyKernel.τ).loc Cert.HyKernel.main_arg4)
      ∧ r.2.mem ((c.tc : Thread Cert.HyKernel.nD Cert.HyKernel.τ).loc Cert.HyKernel.main_arg5) = m ((c.tc : Thread Cert.HyKernel.nD Cert.HyKernel.τ).loc Cert.HyKernel.main_arg5)
      ∧ r.2.mem ((c.tc : Thread Cert.HyKernel.nD Cert.HyKernel.τ).loc Cert.HyKernel.main_arg6) = m ((c.tc : Thread Cert.HyKernel.nD Cert.HyKernel.τ).loc Cert.HyKernel.main_arg6)
      ∧ r.2.mem ((c.tc : Thread Cert.HyKernel.nD Cert.HyKernel.τ).loc Cert.HyKernel.main_arg7) = m ((c.tc : Thread Cert.HyKernel.nD Cert.HyKernel.τ).loc Cert.HyKernel.main_arg7))
      ∧ r.2.sem = fun _ => 0)

def quiescent_HyKernelIdeal [hHyKernelIdeal : Cert.HyKernelIdeal.Facts] : Prop :=
  ∀ (m : (ℓ : Loc Cert.HyKernelIdeal.nD Cert.HyKernelIdeal.τ Cert.HyKernelIdeal.sig) → Buf (Elt Ideal) ℓ) (g : Dev Cert.HyKernelIdeal.nD → PrngReg), Pre_HyKernelIdeal m →
    θ_run (Cert.HyKernelIdeal.defs (F := Ideal)) (onTc (τ := Cert.HyKernelIdeal.τ) (Cert.HyKernelIdeal.main (F := Ideal))) ⟨m, fun _ => 0, g⟩ (fun r => (∀ c : Dev Cert.HyKernelIdeal.nD,
      r.2.mem ((c.tc : Thread Cert.HyKernelIdeal.nD Cert.HyKernelIdeal.τ).loc Cert.HyKernelIdeal.main_arg0) = m ((c.tc : Thread Cert.HyKernelIdeal.nD Cert.HyKernelIdeal.τ).loc Cert.HyKernelIdeal.main_arg0)
      ∧ r.2.mem ((c.tc : Thread Cert.HyKernelIdeal.nD Cert.HyKernelIdeal.τ).loc Cert.HyKernelIdeal.main_arg1) = m ((c.tc : Thread Cert.HyKernelIdeal.nD Cert.HyKernelIdeal.τ).loc Cert.HyKernelIdeal.main_arg1)
      ∧ r.2.mem ((c.tc : Thread Cert.HyKernelIdeal.nD Cert.HyKernelIdeal.τ).loc Cert.HyKernelIdeal.main_arg2) = m ((c.tc : Thread Cert.HyKernelIdeal.nD Cert.HyKernelIdeal.τ).loc Cert.HyKernelIdeal.main_arg2)
      ∧ r.2.mem ((c.tc : Thread Cert.HyKernelIdeal.nD Cert.HyKernelIdeal.τ).loc Cert.HyKernelIdeal.main_arg3) = m ((c.tc : Thread Cert.HyKernelIdeal.nD Cert.HyKernelIdeal.τ).loc Cert.HyKernelIdeal.main_arg3)
      ∧ r.2.mem ((c.tc : Thread Cert.HyKernelIdeal.nD Cert.HyKernelIdeal.τ).loc Cert.HyKernelIdeal.main_arg4) = m ((c.tc : Thread Cert.HyKernelIdeal.nD Cert.HyKernelIdeal.τ).loc Cert.HyKernelIdeal.main_arg4)
      ∧ r.2.mem ((c.tc : Thread Cert.HyKernelIdeal.nD Cert.HyKernelIdeal.τ).loc Cert.HyKernelIdeal.main_arg5) = m ((c.tc : Thread Cert.HyKernelIdeal.nD Cert.HyKernelIdeal.τ).loc Cert.HyKernelIdeal.main_arg5)
      ∧ r.2.mem ((c.tc : Thread Cert.HyKernelIdeal.nD Cert.HyKernelIdeal.τ).loc Cert.HyKernelIdeal.main_arg6) = m ((c.tc : Thread Cert.HyKernelIdeal.nD Cert.HyKernelIdeal.τ).loc Cert.HyKernelIdeal.main_arg6)
      ∧ r.2.mem ((c.tc : Thread Cert.HyKernelIdeal.nD Cert.HyKernelIdeal.τ).loc Cert.HyKernelIdeal.main_arg7) = m ((c.tc : Thread Cert.HyKernelIdeal.nD Cert.HyKernelIdeal.τ).loc Cert.HyKernelIdeal.main_arg7))
      ∧ r.2.sem = fun _ => 0)

def quiescent_HyReferenceIdeal [hHyReferenceIdeal : Cert.HyReferenceIdeal.Facts] : Prop :=
  ∀ (m : (ℓ : Loc Cert.HyReferenceIdeal.nD Cert.HyReferenceIdeal.τ Cert.HyReferenceIdeal.sig) → Buf (Elt Ideal) ℓ) (g : Dev Cert.HyReferenceIdeal.nD → PrngReg), Pre_HyReferenceIdeal m →
    θ_run (Cert.HyReferenceIdeal.defs (F := Ideal)) (onTc (τ := Cert.HyReferenceIdeal.τ) (Cert.HyReferenceIdeal.main (F := Ideal))) ⟨m, fun _ => 0, g⟩ (fun r => (∀ c : Dev Cert.HyReferenceIdeal.nD,
      r.2.mem ((c.tc : Thread Cert.HyReferenceIdeal.nD Cert.HyReferenceIdeal.τ).loc Cert.HyReferenceIdeal.main_arg0) = m ((c.tc : Thread Cert.HyReferenceIdeal.nD Cert.HyReferenceIdeal.τ).loc Cert.HyReferenceIdeal.main_arg0)
      ∧ r.2.mem ((c.tc : Thread Cert.HyReferenceIdeal.nD Cert.HyReferenceIdeal.τ).loc Cert.HyReferenceIdeal.main_arg1) = m ((c.tc : Thread Cert.HyReferenceIdeal.nD Cert.HyReferenceIdeal.τ).loc Cert.HyReferenceIdeal.main_arg1)
      ∧ r.2.mem ((c.tc : Thread Cert.HyReferenceIdeal.nD Cert.HyReferenceIdeal.τ).loc Cert.HyReferenceIdeal.main_arg2) = m ((c.tc : Thread Cert.HyReferenceIdeal.nD Cert.HyReferenceIdeal.τ).loc Cert.HyReferenceIdeal.main_arg2)
      ∧ r.2.mem ((c.tc : Thread Cert.HyReferenceIdeal.nD Cert.HyReferenceIdeal.τ).loc Cert.HyReferenceIdeal.main_arg3) = m ((c.tc : Thread Cert.HyReferenceIdeal.nD Cert.HyReferenceIdeal.τ).loc Cert.HyReferenceIdeal.main_arg3)
      ∧ r.2.mem ((c.tc : Thread Cert.HyReferenceIdeal.nD Cert.HyReferenceIdeal.τ).loc Cert.HyReferenceIdeal.main_arg4) = m ((c.tc : Thread Cert.HyReferenceIdeal.nD Cert.HyReferenceIdeal.τ).loc Cert.HyReferenceIdeal.main_arg4)
      ∧ r.2.mem ((c.tc : Thread Cert.HyReferenceIdeal.nD Cert.HyReferenceIdeal.τ).loc Cert.HyReferenceIdeal.main_arg5) = m ((c.tc : Thread Cert.HyReferenceIdeal.nD Cert.HyReferenceIdeal.τ).loc Cert.HyReferenceIdeal.main_arg5)
      ∧ r.2.mem ((c.tc : Thread Cert.HyReferenceIdeal.nD Cert.HyReferenceIdeal.τ).loc Cert.HyReferenceIdeal.main_arg6) = m ((c.tc : Thread Cert.HyReferenceIdeal.nD Cert.HyReferenceIdeal.τ).loc Cert.HyReferenceIdeal.main_arg6)
      ∧ r.2.mem ((c.tc : Thread Cert.HyReferenceIdeal.nD Cert.HyReferenceIdeal.τ).loc Cert.HyReferenceIdeal.main_arg7) = m ((c.tc : Thread Cert.HyReferenceIdeal.nD Cert.HyReferenceIdeal.τ).loc Cert.HyReferenceIdeal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)
      ∧ m' ((c.tc : Thread Cert.MlpReferenceIdeal.nD Cert.MlpReferenceIdeal.τ).loc Cert.MlpReferenceIdeal.main_arg5) = m ((c.tc : Thread Cert.MlpKernelIdeal.nD Cert.MlpKernelIdeal.τ).loc Cert.MlpKernelIdeal.main_arg5)
      ∧ m' ((c.tc : Thread Cert.MlpReferenceIdeal.nD Cert.MlpReferenceIdeal.τ).loc Cert.MlpReferenceIdeal.main_arg6) = m ((c.tc : Thread Cert.MlpKernelIdeal.nD Cert.MlpKernelIdeal.τ).loc Cert.MlpKernelIdeal.main_arg6)
      ∧ m' ((c.tc : Thread Cert.MlpReferenceIdeal.nD Cert.MlpReferenceIdeal.τ).loc Cert.MlpReferenceIdeal.main_arg7) = m ((c.tc : Thread Cert.MlpKernelIdeal.nD Cert.MlpKernelIdeal.τ).loc Cert.MlpKernelIdeal.main_arg7)
      ∧ m' ((c.tc : Thread Cert.MlpReferenceIdeal.nD Cert.MlpReferenceIdeal.τ).loc Cert.MlpReferenceIdeal.main_arg8) = m ((c.tc : Thread Cert.MlpKernelIdeal.nD Cert.MlpKernelIdeal.τ).loc Cert.MlpKernelIdeal.main_arg8)
      ∧ m' ((c.tc : Thread Cert.MlpReferenceIdeal.nD Cert.MlpReferenceIdeal.τ).loc Cert.MlpReferenceIdeal.main_arg9) = m ((c.tc : Thread Cert.MlpKernelIdeal.nD Cert.MlpKernelIdeal.τ).loc Cert.MlpKernelIdeal.main_arg9)
      ∧ m' ((c.tc : Thread Cert.MlpReferenceIdeal.nD Cert.MlpReferenceIdeal.τ).loc Cert.MlpReferenceIdeal.main_arg10) = m ((c.tc : Thread Cert.MlpKernelIdeal.nD Cert.MlpKernelIdeal.τ).loc Cert.MlpKernelIdeal.main_arg10)
      ∧ m' ((c.tc : Thread Cert.MlpReferenceIdeal.nD Cert.MlpReferenceIdeal.τ).loc Cert.MlpReferenceIdeal.main_arg11) = m ((c.tc : Thread Cert.MlpKernelIdeal.nD Cert.MlpKernelIdeal.τ).loc Cert.MlpKernelIdeal.main_arg11)
      ∧ m' ((c.tc : Thread Cert.MlpReferenceIdeal.nD Cert.MlpReferenceIdeal.τ).loc Cert.MlpReferenceIdeal.main_arg12) = m ((c.tc : Thread Cert.MlpKernelIdeal.nD Cert.MlpKernelIdeal.τ).loc Cert.MlpKernelIdeal.main_arg12)) →
    ∃ (v0 : (c : Dev Cert.MlpKernelIdeal.nD) → Buf (Elt Ideal) ((c.tc : Thread Cert.MlpKernelIdeal.nD Cert.MlpKernelIdeal.τ).loc Cert.MlpKernelIdeal.main_v8)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v8) = v0 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
          ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5)
          ∧ r.2.mem ((c.tc : Thread Cert.MlpKernelIdeal.nD Cert.MlpKernelIdeal.τ).loc Cert.MlpKernelIdeal.main_arg6) = m ((c.tc : Thread Cert.MlpKernelIdeal.nD Cert.MlpKernelIdeal.τ).loc Cert.MlpKernelIdeal.main_arg6)
          ∧ r.2.mem ((c.tc : Thread Cert.MlpKernelIdeal.nD Cert.MlpKernelIdeal.τ).loc Cert.MlpKernelIdeal.main_arg7) = m ((c.tc : Thread Cert.MlpKernelIdeal.nD Cert.MlpKernelIdeal.τ).loc Cert.MlpKernelIdeal.main_arg7)
          ∧ r.2.mem ((c.tc : Thread Cert.MlpKernelIdeal.nD Cert.MlpKernelIdeal.τ).loc Cert.MlpKernelIdeal.main_arg8) = m ((c.tc : Thread Cert.MlpKernelIdeal.nD Cert.MlpKernelIdeal.τ).loc Cert.MlpKernelIdeal.main_arg8)
          ∧ r.2.mem ((c.tc : Thread Cert.MlpKernelIdeal.nD Cert.MlpKernelIdeal.τ).loc Cert.MlpKernelIdeal.main_arg9) = m ((c.tc : Thread Cert.MlpKernelIdeal.nD Cert.MlpKernelIdeal.τ).loc Cert.MlpKernelIdeal.main_arg9)
          ∧ r.2.mem ((c.tc : Thread Cert.MlpKernelIdeal.nD Cert.MlpKernelIdeal.τ).loc Cert.MlpKernelIdeal.main_arg10) = m ((c.tc : Thread Cert.MlpKernelIdeal.nD Cert.MlpKernelIdeal.τ).loc Cert.MlpKernelIdeal.main_arg10)
          ∧ r.2.mem ((c.tc : Thread Cert.MlpKernelIdeal.nD Cert.MlpKernelIdeal.τ).loc Cert.MlpKernelIdeal.main_arg11) = m ((c.tc : Thread Cert.MlpKernelIdeal.nD Cert.MlpKernelIdeal.τ).loc Cert.MlpKernelIdeal.main_arg11)
          ∧ r.2.mem ((c.tc : Thread Cert.MlpKernelIdeal.nD Cert.MlpKernelIdeal.τ).loc Cert.MlpKernelIdeal.main_arg12) = m ((c.tc : Thread Cert.MlpKernelIdeal.nD Cert.MlpKernelIdeal.τ).loc Cert.MlpKernelIdeal.main_arg12))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v58) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7)
          ∧ r.2.mem ((c.tc : Thread Cert.MlpReferenceIdeal.nD Cert.MlpReferenceIdeal.τ).loc Cert.MlpReferenceIdeal.main_arg8) = m' ((c.tc : Thread Cert.MlpReferenceIdeal.nD Cert.MlpReferenceIdeal.τ).loc Cert.MlpReferenceIdeal.main_arg8)
          ∧ r.2.mem ((c.tc : Thread Cert.MlpReferenceIdeal.nD Cert.MlpReferenceIdeal.τ).loc Cert.MlpReferenceIdeal.main_arg9) = m' ((c.tc : Thread Cert.MlpReferenceIdeal.nD Cert.MlpReferenceIdeal.τ).loc Cert.MlpReferenceIdeal.main_arg9)
          ∧ r.2.mem ((c.tc : Thread Cert.MlpReferenceIdeal.nD Cert.MlpReferenceIdeal.τ).loc Cert.MlpReferenceIdeal.main_arg10) = m' ((c.tc : Thread Cert.MlpReferenceIdeal.nD Cert.MlpReferenceIdeal.τ).loc Cert.MlpReferenceIdeal.main_arg10)
          ∧ r.2.mem ((c.tc : Thread Cert.MlpReferenceIdeal.nD Cert.MlpReferenceIdeal.τ).loc Cert.MlpReferenceIdeal.main_arg11) = m' ((c.tc : Thread Cert.MlpReferenceIdeal.nD Cert.MlpReferenceIdeal.τ).loc Cert.MlpReferenceIdeal.main_arg11)
          ∧ r.2.mem ((c.tc : Thread Cert.MlpReferenceIdeal.nD Cert.MlpReferenceIdeal.τ).loc Cert.MlpReferenceIdeal.main_arg12) = m' ((c.tc : Thread Cert.MlpReferenceIdeal.nD Cert.MlpReferenceIdeal.τ).loc Cert.MlpReferenceIdeal.main_arg12))

def preserves_HyKernel_HyKernelIdeal : Prop :=
  True

def algebraic_HyKernelIdeal_HyReferenceIdeal [hHyKernelIdeal : Cert.HyKernelIdeal.Facts] [hHyReferenceIdeal : Cert.HyReferenceIdeal.Facts] : Prop :=
  ∀ (m : (ℓ : Loc Cert.HyKernelIdeal.nD Cert.HyKernelIdeal.τ Cert.HyKernelIdeal.sig) → Buf (Elt Ideal) ℓ) (g : Dev Cert.HyKernelIdeal.nD → PrngReg)
    (m' : (ℓ : Loc Cert.HyReferenceIdeal.nD Cert.HyReferenceIdeal.τ Cert.HyReferenceIdeal.sig) → Buf (Elt Ideal) ℓ) (g' : Dev Cert.HyReferenceIdeal.nD → PrngReg), Pre_HyKernelIdeal m →
    (∀ c : Dev Cert.HyKernelIdeal.nD,
      m' ((c.tc : Thread Cert.HyReferenceIdeal.nD Cert.HyReferenceIdeal.τ).loc Cert.HyReferenceIdeal.main_arg0) = m ((c.tc : Thread Cert.HyKernelIdeal.nD Cert.HyKernelIdeal.τ).loc Cert.HyKernelIdeal.main_arg0)
      ∧ m' ((c.tc : Thread Cert.HyReferenceIdeal.nD Cert.HyReferenceIdeal.τ).loc Cert.HyReferenceIdeal.main_arg1) = m ((c.tc : Thread Cert.HyKernelIdeal.nD Cert.HyKernelIdeal.τ).loc Cert.HyKernelIdeal.main_arg1)
      ∧ m' ((c.tc : Thread Cert.HyReferenceIdeal.nD Cert.HyReferenceIdeal.τ).loc Cert.HyReferenceIdeal.main_arg2) = m ((c.tc : Thread Cert.HyKernelIdeal.nD Cert.HyKernelIdeal.τ).loc Cert.HyKernelIdeal.main_arg2)
      ∧ m' ((c.tc : Thread Cert.HyReferenceIdeal.nD Cert.HyReferenceIdeal.τ).loc Cert.HyReferenceIdeal.main_arg3) = m ((c.tc : Thread Cert.HyKernelIdeal.nD Cert.HyKernelIdeal.τ).loc Cert.HyKernelIdeal.main_arg3)
      ∧ m' ((c.tc : Thread Cert.HyReferenceIdeal.nD Cert.HyReferenceIdeal.τ).loc Cert.HyReferenceIdeal.main_arg4) = m ((c.tc : Thread Cert.HyKernelIdeal.nD Cert.HyKernelIdeal.τ).loc Cert.HyKernelIdeal.main_arg4)
      ∧ m' ((c.tc : Thread Cert.HyReferenceIdeal.nD Cert.HyReferenceIdeal.τ).loc Cert.HyReferenceIdeal.main_arg5) = m ((c.tc : Thread Cert.HyKernelIdeal.nD Cert.HyKernelIdeal.τ).loc Cert.HyKernelIdeal.main_arg5)
      ∧ m' ((c.tc : Thread Cert.HyReferenceIdeal.nD Cert.HyReferenceIdeal.τ).loc Cert.HyReferenceIdeal.main_arg6) = m ((c.tc : Thread Cert.HyKernelIdeal.nD Cert.HyKernelIdeal.τ).loc Cert.HyKernelIdeal.main_arg6)
      ∧ m' ((c.tc : Thread Cert.HyReferenceIdeal.nD Cert.HyReferenceIdeal.τ).loc Cert.HyReferenceIdeal.main_arg7) = m ((c.tc : Thread Cert.HyKernelIdeal.nD Cert.HyKernelIdeal.τ).loc Cert.HyKernelIdeal.main_arg7)) →
    ∃ (v0 : (c : Dev Cert.HyKernelIdeal.nD) → Buf (Elt Ideal) ((c.tc : Thread Cert.HyKernelIdeal.nD Cert.HyKernelIdeal.τ).loc Cert.HyKernelIdeal.main_v4_0)) (v1 : (c : Dev Cert.HyKernelIdeal.nD) → Buf (Elt Ideal) ((c.tc : Thread Cert.HyKernelIdeal.nD Cert.HyKernelIdeal.τ).loc Cert.HyKernelIdeal.main_v4_1)) (v2 : (c : Dev Cert.HyKernelIdeal.nD) → Buf (Elt Ideal) ((c.tc : Thread Cert.HyKernelIdeal.nD Cert.HyKernelIdeal.τ).loc Cert.HyKernelIdeal.main_v4_2)),
      θ_run (Cert.HyKernelIdeal.defs (F := Ideal)) (onTc (τ := Cert.HyKernelIdeal.τ) (Cert.HyKernelIdeal.main (F := Ideal))) ⟨m, fun _ => 0, g⟩ (fun r => ∀ c : Dev Cert.HyKernelIdeal.nD,
          r.2.mem ((c.tc : Thread Cert.HyKernelIdeal.nD Cert.HyKernelIdeal.τ).loc Cert.HyKernelIdeal.main_v4_0) = v0 c
          ∧ r.2.mem ((c.tc : Thread Cert.HyKernelIdeal.nD Cert.HyKernelIdeal.τ).loc Cert.HyKernelIdeal.main_v4_1) = v1 c
          ∧ r.2.mem ((c.tc : Thread Cert.HyKernelIdeal.nD Cert.HyKernelIdeal.τ).loc Cert.HyKernelIdeal.main_v4_2) = v2 c
          ∧ r.2.mem ((c.tc : Thread Cert.HyKernelIdeal.nD Cert.HyKernelIdeal.τ).loc Cert.HyKernelIdeal.main_arg0) = m ((c.tc : Thread Cert.HyKernelIdeal.nD Cert.HyKernelIdeal.τ).loc Cert.HyKernelIdeal.main_arg0)
          ∧ r.2.mem ((c.tc : Thread Cert.HyKernelIdeal.nD Cert.HyKernelIdeal.τ).loc Cert.HyKernelIdeal.main_arg1) = m ((c.tc : Thread Cert.HyKernelIdeal.nD Cert.HyKernelIdeal.τ).loc Cert.HyKernelIdeal.main_arg1)
          ∧ r.2.mem ((c.tc : Thread Cert.HyKernelIdeal.nD Cert.HyKernelIdeal.τ).loc Cert.HyKernelIdeal.main_arg2) = m ((c.tc : Thread Cert.HyKernelIdeal.nD Cert.HyKernelIdeal.τ).loc Cert.HyKernelIdeal.main_arg2)
          ∧ r.2.mem ((c.tc : Thread Cert.HyKernelIdeal.nD Cert.HyKernelIdeal.τ).loc Cert.HyKernelIdeal.main_arg3) = m ((c.tc : Thread Cert.HyKernelIdeal.nD Cert.HyKernelIdeal.τ).loc Cert.HyKernelIdeal.main_arg3)
          ∧ r.2.mem ((c.tc : Thread Cert.HyKernelIdeal.nD Cert.HyKernelIdeal.τ).loc Cert.HyKernelIdeal.main_arg4) = m ((c.tc : Thread Cert.HyKernelIdeal.nD Cert.HyKernelIdeal.τ).loc Cert.HyKernelIdeal.main_arg4)
          ∧ r.2.mem ((c.tc : Thread Cert.HyKernelIdeal.nD Cert.HyKernelIdeal.τ).loc Cert.HyKernelIdeal.main_arg5) = m ((c.tc : Thread Cert.HyKernelIdeal.nD Cert.HyKernelIdeal.τ).loc Cert.HyKernelIdeal.main_arg5)
          ∧ r.2.mem ((c.tc : Thread Cert.HyKernelIdeal.nD Cert.HyKernelIdeal.τ).loc Cert.HyKernelIdeal.main_arg6) = m ((c.tc : Thread Cert.HyKernelIdeal.nD Cert.HyKernelIdeal.τ).loc Cert.HyKernelIdeal.main_arg6)
          ∧ r.2.mem ((c.tc : Thread Cert.HyKernelIdeal.nD Cert.HyKernelIdeal.τ).loc Cert.HyKernelIdeal.main_arg7) = m ((c.tc : Thread Cert.HyKernelIdeal.nD Cert.HyKernelIdeal.τ).loc Cert.HyKernelIdeal.main_arg7))
      ∧ θ_run (Cert.HyReferenceIdeal.defs (F := Ideal)) (onTc (τ := Cert.HyReferenceIdeal.τ) (Cert.HyReferenceIdeal.main (F := Ideal))) ⟨m', fun _ => 0, g'⟩ (fun r => ∀ c : Dev Cert.HyReferenceIdeal.nD,
          r.2.mem ((c.tc : Thread Cert.HyReferenceIdeal.nD Cert.HyReferenceIdeal.τ).loc Cert.HyReferenceIdeal.main_v50) = v0 c
          ∧ r.2.mem ((c.tc : Thread Cert.HyReferenceIdeal.nD Cert.HyReferenceIdeal.τ).loc Cert.HyReferenceIdeal.main_v51) = v1 c
          ∧ r.2.mem ((c.tc : Thread Cert.HyReferenceIdeal.nD Cert.HyReferenceIdeal.τ).loc Cert.HyReferenceIdeal.main_v52) = v2 c
          ∧ r.2.mem ((c.tc : Thread Cert.HyReferenceIdeal.nD Cert.HyReferenceIdeal.τ).loc Cert.HyReferenceIdeal.main_arg0) = m' ((c.tc : Thread Cert.HyReferenceIdeal.nD Cert.HyReferenceIdeal.τ).loc Cert.HyReferenceIdeal.main_arg0)
          ∧ r.2.mem ((c.tc : Thread Cert.HyReferenceIdeal.nD Cert.HyReferenceIdeal.τ).loc Cert.HyReferenceIdeal.main_arg1) = m' ((c.tc : Thread Cert.HyReferenceIdeal.nD Cert.HyReferenceIdeal.τ).loc Cert.HyReferenceIdeal.main_arg1)
          ∧ r.2.mem ((c.tc : Thread Cert.HyReferenceIdeal.nD Cert.HyReferenceIdeal.τ).loc Cert.HyReferenceIdeal.main_arg2) = m' ((c.tc : Thread Cert.HyReferenceIdeal.nD Cert.HyReferenceIdeal.τ).loc Cert.HyReferenceIdeal.main_arg2)
          ∧ r.2.mem ((c.tc : Thread Cert.HyReferenceIdeal.nD Cert.HyReferenceIdeal.τ).loc Cert.HyReferenceIdeal.main_arg3) = m' ((c.tc : Thread Cert.HyReferenceIdeal.nD Cert.HyReferenceIdeal.τ).loc Cert.HyReferenceIdeal.main_arg3)
          ∧ r.2.mem ((c.tc : Thread Cert.HyReferenceIdeal.nD Cert.HyReferenceIdeal.τ).loc Cert.HyReferenceIdeal.main_arg4) = m' ((c.tc : Thread Cert.HyReferenceIdeal.nD Cert.HyReferenceIdeal.τ).loc Cert.HyReferenceIdeal.main_arg4)
          ∧ r.2.mem ((c.tc : Thread Cert.HyReferenceIdeal.nD Cert.HyReferenceIdeal.τ).loc Cert.HyReferenceIdeal.main_arg5) = m' ((c.tc : Thread Cert.HyReferenceIdeal.nD Cert.HyReferenceIdeal.τ).loc Cert.HyReferenceIdeal.main_arg5)
          ∧ r.2.mem ((c.tc : Thread Cert.HyReferenceIdeal.nD Cert.HyReferenceIdeal.τ).loc Cert.HyReferenceIdeal.main_arg6) = m' ((c.tc : Thread Cert.HyReferenceIdeal.nD Cert.HyReferenceIdeal.τ).loc Cert.HyReferenceIdeal.main_arg6)
          ∧ r.2.mem ((c.tc : Thread Cert.HyReferenceIdeal.nD Cert.HyReferenceIdeal.τ).loc Cert.HyReferenceIdeal.main_arg7) = m' ((c.tc : Thread Cert.HyReferenceIdeal.nD Cert.HyReferenceIdeal.τ).loc Cert.HyReferenceIdeal.main_arg7))

def Claim : Prop :=
  ∃ (hKernel : Cert.Kernel.Facts) (hKernelIdeal : Cert.KernelIdeal.Facts) (hReferenceIdeal : Cert.ReferenceIdeal.Facts) (hMlpKernel : Cert.MlpKernel.Facts) (hMlpKernelIdeal : Cert.MlpKernelIdeal.Facts) (hMlpReferenceIdeal : Cert.MlpReferenceIdeal.Facts) (hHyKernel : Cert.HyKernel.Facts) (hHyKernelIdeal : Cert.HyKernelIdeal.Facts) (hHyReferenceIdeal : Cert.HyReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_HyKernel (hHyKernel := hHyKernel)
    ∧ quiescent_HyKernelIdeal (hHyKernelIdeal := hHyKernelIdeal)
    ∧ quiescent_HyReferenceIdeal (hHyReferenceIdeal := hHyReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_MlpKernel_MlpKernelIdeal
    ∧ algebraic_MlpKernelIdeal_MlpReferenceIdeal (hMlpKernelIdeal := hMlpKernelIdeal) (hMlpReferenceIdeal := hMlpReferenceIdeal)
    ∧ preserves_HyKernel_HyKernelIdeal
    ∧ algebraic_HyKernelIdeal_HyReferenceIdeal (hHyKernelIdeal := hHyKernelIdeal) (hHyReferenceIdeal := hHyReferenceIdeal)
-- ==== Pre_finite_scores.lean ====
abbrev S2x16384x16x64 : Shape := ⟨4, ![2, 16384, 16, 64]⟩
abbrev S2x16384x16x32 : Shape := ⟨4, ![2, 16384, 16, 32]⟩
abbrev S2x256x16x64 : Shape := ⟨4, ![2, 256, 16, 64]⟩
abbrev S2x256x32 : Shape := ⟨3, ![2, 256, 32]⟩
abbrev S2x16384x32 : Shape := ⟨3, ![2, 16384, 32]⟩
abbrev S_ : Shape := ⟨0, ![]⟩

class Facts : Prop where
  bcast_S_S2x16384x16x64 : S_.BroadcastsInDim S2x16384x16x64 (![] : Fin 0 → Fin S2x16384x16x64.rank)
  reducesTo_S2x16384x16x64_S_d0_1_2_3 : S2x16384x16x64.ReducesTo [0, 1, 2, 3] S_
  h_S_ : 0 < S_.numel
  bcast_S_S2x16384x16x32 : S_.BroadcastsInDim S2x16384x16x32 (![] : Fin 0 → Fin S2x16384x16x32.rank)
  reducesTo_S2x16384x16x32_S_d0_1_2_3 : S2x16384x16x32.ReducesTo [0, 1, 2, 3] S_
  bcast_S_S2x256x16x64 : S_.BroadcastsInDim S2x256x16x64 (![] : Fin 0 → Fin S2x256x16x64.rank)
  reducesTo_S2x256x16x64_S_d0_1_2_3 : S2x256x16x64.ReducesTo [0, 1, 2, 3] S_
  bcast_S_S2x256x32 : S_.BroadcastsInDim S2x256x32 (![] : Fin 0 → Fin S2x256x32.rank)
  reducesTo_S2x256x32_S_d0_1_2 : S2x256x32.ReducesTo [0, 1, 2] S_
  bcast_S_S2x16384x32 : S_.BroadcastsInDim S2x16384x32 (![] : Fin 0 → Fin S2x16384x32.rank)
  reducesTo_S2x16384x32_S_d0_1_2 : S2x16384x32.ReducesTo [0, 1, 2] S_

variable [Facts]

def fn_part1 {F : FTy → Type} [FloatOps F] (main_arg5 : FVec F S2x16384x16x64 .f32) (main_arg6 : FVec F S2x16384x32 .f32) (main_v13 : IVec S_ 1) (main_v16 : IVec S2x256x32 1) : IVec S_ 1 :=
  let main_c_5 : IVec S_ 1 := constantI S_ 1 1#1
  let main_v17 : IVec S_ 1 := (fun x v => Host.reduce IntOp.andi x v reducesTo_S2x256x32_S_d0_1_2 h_S_) main_v16 main_c_5
  let main_v18 : IVec S_ 1 := andi main_v13 main_v17
  let main_v19 : FVec F S2x16384x16x64 .f32 := Host.absf main_arg5
  let main_cst_6 : FVec F S_ .f32 := constant S_ .f32 0x7F800000#32
  let main_v20 : FVec F S2x16384x16x64 .f32 := broadcastInDim S2x16384x16x64 ![] bcast_S_S2x16384x16x64 main_cst_6
  let main_v21 : IVec S2x16384x16x64 1 := cmpf .olt main_v19 main_v20
  let main_c_7 : IVec S_ 1 := constantI S_ 1 1#1
  let main_v22 : IVec S_ 1 := (fun x v => Host.reduce IntOp.andi x v reducesTo_S2x16384x16x64_S_d0_1_2_3 h_S_) main_v21 main_c_7
  let main_v23 : IVec S_ 1 := andi main_v18 main_v22
  let main_v24 : FVec F S2x16384x32 .f32 := Host.absf main_arg6
  let main_cst_8 : FVec F S_ .f32 := constant S_ .f32 0x7F800000#32
  let main_v25 : FVec F S2x16384x32 .f32 := broadcastInDim S2x16384x32 ![] bcast_S_S2x16384x32 main_cst_8
  let main_v26 : IVec S2x16384x32 1 := cmpf .olt main_v24 main_v25
  let main_c_9 : IVec S_ 1 := constantI S_ 1 1#1
  let main_v27 : IVec S_ 1 := (fun x v => Host.reduce IntOp.andi x v reducesTo_S2x16384x32_S_d0_1_2 h_S_) main_v26 main_c_9
  let main_v28 : IVec S_ 1 := andi main_v23 main_v27
  main_v28

def fn {F : FTy → Type} [FloatOps F] (main_arg0 : FVec F S2x16384x16x64 .f32) (main_arg1 : FVec F S2x16384x16x32 .f32) (main_arg2 : FVec F S2x256x16x64 .f32) (main_arg3 : FVec F S2x256x32 .f32) (main_arg4 : FVec F S2x256x16x64 .f32) (main_arg5 : FVec F S2x16384x16x64 .f32) (main_arg6 : FVec F S2x16384x32 .f32) (main_arg7 : FVec F S2x16384x16x64 .f32) : IVec S_ 1 :=
  let main_v0 : FVec F S2x16384x16x64 .f32 := Host.absf main_arg0
  let main_cst : FVec F S_ .f32 := constant S_ .f32 0x7F800000#32
  let main_v1 : FVec F S2x16384x16x64 .f32 := broadcastInDim S2x16384x16x64 ![] bcast_S_S2x16384x16x64 main_cst
  let main_v2 : IVec S2x16384x16x64 1 := cmpf .olt main_v0 main_v1
  let main_c : IVec S_ 1 := constantI S_ 1 1#1
  let main_v3 : IVec S_ 1 := (fun x v => Host.reduce IntOp.andi x v reducesTo_S2x16384x16x64_S_d0_1_2_3 h_S_) main_v2 main_c
  let main_v4 : FVec F S2x16384x16x32 .f32 := Host.absf main_arg1
  let main_cst_0 : FVec F S_ .f32 := constant S_ .f32 0x7F800000#32
  let main_v5 : FVec F S2x16384x16x32 .f32 := broadcastInDim S2x16384x16x32 ![] bcast_S_S2x16384x16x32 main_cst_0
  let main_v6 : IVec S2x16384x16x32 1 := cmpf .olt main_v4 main_v5
  let main_c_1 : IVec S_ 1 := constantI S_ 1 1#1
  let main_v7 : IVec S_ 1 := (fun x v => Host.reduce IntOp.andi x v reducesTo_S2x16384x16x32_S_d0_1_2_3 h_S_) main_v6 main_c_1
  let main_v8 : IVec S_ 1 := andi main_v3 main_v7
  let main_v9 : FVec F S2x256x16x64 .f32 := Host.absf main_arg2
  let main_cst_2 : FVec F S_ .f32 := constant S_ .f32 0x7F800000#32
  let main_v10 : FVec F S2x256x16x64 .f32 := broadcastInDim S2x256x16x64 ![] bcast_S_S2x256x16x64 main_cst_2
  let main_v11 : IVec S2x256x16x64 1 := cmpf .olt main_v9 main_v10
  let main_c_3 : IVec S_ 1 := constantI S_ 1 1#1
  let main_v12 : IVec S_ 1 := (fun x v => Host.reduce IntOp.andi x v reducesTo_S2x256x16x64_S_d0_1_2_3 h_S_) main_v11 main_c_3
  let main_v13 : IVec S_ 1 := andi main_v8 main_v12
  let main_v14 : FVec F S2x256x32 .f32 := Host.absf main_arg3
  let main_cst_4 : FVec F S_ .f32 := constant S_ .f32 0x7F800000#32
  let main_v15 : FVec F S2x256x32 .f32 := broadcastInDim S2x256x32 ![] bcast_S_S2x256x32 main_cst_4
  let main_v16 : IVec S2x256x32 1 := cmpf .olt main_v14 main_v15
  fn_part1 (F := F) main_arg5 main_arg6 main_v13 main_v16
-- ==== Kernel.lean ====
abbrev S2x16384x16x64 : Shape := ⟨4, ![2, 16384, 16, 64]⟩
abbrev S2x16384x16x32 : Shape := ⟨4, ![2, 16384, 16, 32]⟩
abbrev S2x256x16x64 : Shape := ⟨4, ![2, 256, 16, 64]⟩
abbrev S2x256x32 : Shape := ⟨3, ![2, 256, 32]⟩
abbrev S2x16384x32 : Shape := ⟨3, ![2, 16384, 32]⟩
abbrev S_ : Shape := ⟨0, ![]⟩
abbrev S2x16384x16x128 : Shape := ⟨4, ![2, 16384, 16, 128]⟩
abbrev S2x16x128x16384 : Shape := ⟨4, ![2, 16, 128, 16384]⟩
abbrev S2x2048x16384 : Shape := ⟨3, ![2, 2048, 16384]⟩
abbrev S2x256x1x32 : Shape := ⟨4, ![2, 256, 1, 32]⟩
abbrev S2x256x16x32 : Shape := ⟨4, ![2, 256, 16, 32]⟩
abbrev S2x256x16x128 : Shape := ⟨4, ![2, 256, 16, 128]⟩
abbrev S2x16x256x128 : Shape := ⟨4, ![2, 16, 256, 128]⟩
abbrev S2x256x16x1 : Shape := ⟨4, ![2, 256, 16, 1]⟩
abbrev S2x256x16x15 : Shape := ⟨4, ![2, 256, 16, 15]⟩
abbrev S2x256x16x80 : Shape := ⟨4, ![2, 256, 16, 80]⟩
abbrev S2x1x256x16x80 : Shape := ⟨5, ![2, 1, 256, 16, 80]⟩
abbrev S2x1x16x80x256 : Shape := ⟨5, ![2, 1, 16, 80, 256]⟩
abbrev S2x16384x1x32 : Shape := ⟨4, ![2, 16384, 1, 32]⟩
abbrev S2x16x16384x128 : Shape := ⟨4, ![2, 16, 16384, 128]⟩
abbrev S2x16384x16x1 : Shape := ⟨4, ![2, 16384, 16, 1]⟩
abbrev S2x16384x16x15 : Shape := ⟨4, ![2, 16384, 16, 15]⟩
abbrev S2x16384x16x80 : Shape := ⟨4, ![2, 16384, 16, 80]⟩
abbrev S2x64x256x16x80 : Shape := ⟨5, ![2, 64, 256, 16, 80]⟩
abbrev S2x64x16x80x256 : Shape := ⟨5, ![2, 64, 16, 80, 256]⟩
abbrev S2x16384x1024 : Shape := ⟨3, ![2, 16384, 1024]⟩
abbrev S1x256x512 : Shape := ⟨3, ![1, 256, 512]⟩
abbrev S1x2x256x128 : Shape := ⟨4, ![1, 2, 256, 128]⟩
abbrev S1x1x2x80x256 : Shape := ⟨5, ![1, 1, 2, 80, 256]⟩
abbrev S1x2x16384x128 : Shape := ⟨4, ![1, 2, 16384, 128]⟩
abbrev S1x64x2x80x256 : Shape := ⟨5, ![1, 64, 2, 80, 256]⟩
abbrev S1x512x128 : Shape := ⟨3, ![1, 512, 128]⟩
abbrev S256x512 : Shape := ⟨2, ![256, 512]⟩
abbrev S80x512 : Shape := ⟨2, ![80, 512]⟩
abbrev S1x1x256x128 : Shape := ⟨4, ![1, 1, 256, 128]⟩
abbrev S256x128 : Shape := ⟨2, ![256, 128]⟩
abbrev S1x128x512 : Shape := ⟨3, ![1, 128, 512]⟩
abbrev S128x512 : Shape := ⟨2, ![128, 512]⟩
abbrev S32x8x512 : Shape := ⟨3, ![32, 8, 512]⟩
abbrev S8x512 : Shape := ⟨2, ![8, 512]⟩
abbrev S1x512 : Shape := ⟨2, ![1, 512]⟩
abbrev S512 : Shape := ⟨1, ![512]⟩
abbrev S1x1x1x80x256 : Shape := ⟨5, ![1, 1, 1, 80, 256]⟩
abbrev S80x256 : Shape := ⟨2, ![80, 256]⟩
abbrev S64x512 : Shape := ⟨2, ![64, 512]⟩
abbrev S512x128 : Shape := ⟨2, ![512, 128]⟩

abbrev nBuf : Space → Nat
  | .hbm => 54
  | .vmem => 22
  | .smem => 0
  | _ => 0

abbrev bufTy : (tb : Table) → Fin (tcTables nBuf tb) → BufTy
  | .hbm, ⟨0, _⟩ => ⟨S2x16384x16x64, .f32⟩
  | .hbm, ⟨1, _⟩ => ⟨S2x16384x16x32, .f32⟩
  | .hbm, ⟨2, _⟩ => ⟨S2x256x16x64, .f32⟩
  | .hbm, ⟨3, _⟩ => ⟨S2x256x32, .f32⟩
  | .hbm, ⟨4, _⟩ => ⟨S2x256x16x64, .f32⟩
  | .hbm, ⟨5, _⟩ => ⟨S2x16384x16x64, .f32⟩
  | .hbm, ⟨6, _⟩ => ⟨S2x16384x32, .f32⟩
  | .hbm, ⟨7, _⟩ => ⟨S2x16384x16x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x16384x16x32, .f32⟩
  | .hbm, ⟨17, _⟩ => ⟨S2x16384x16x128, .f32⟩
  | .hbm, ⟨18, _⟩ => ⟨S2x16384x16x128, .f32⟩
  | .hbm, ⟨19, _⟩ => ⟨S2x16384x16x128, .f32⟩
  | .hbm, ⟨20, _⟩ => ⟨S2x16x128x16384, .f32⟩
  | .hbm, ⟨21, _⟩ => ⟨S2x2048x16384, .f32⟩
  | .hbm, ⟨22, _⟩ => ⟨S2x2048x16384, .bf16⟩
  | .hbm, ⟨23, _⟩ => ⟨S2x256x1x32, .f32⟩
  | .hbm, ⟨24, _⟩ => ⟨S2x256x16x32, .f32⟩
  | .hbm, ⟨25, _⟩ => ⟨S_, .f32⟩
  | .hbm, ⟨26, _⟩ => ⟨S2x256x16x32, .f32⟩
  | .hbm, ⟨27, _⟩ => ⟨S2x256x16x128, .f32⟩
  | .hbm, ⟨28, _⟩ => ⟨S2x16x256x128, .f32⟩
  | .hbm, ⟨29, _⟩ => ⟨S2x16x256x128, .bf16⟩
  | .hbm, ⟨30, _⟩ => ⟨S_, .f32⟩
  | .hbm, ⟨31, _⟩ => ⟨S2x256x16x1, .f32⟩
  | .hbm, ⟨32, _⟩ => ⟨S_, .f32⟩
  | .hbm, ⟨33, _⟩ => ⟨S2x256x16x15, .f32⟩
  | .hbm, ⟨34, _⟩ => ⟨S2x256x16x80, .f32⟩
  | .hbm, ⟨35, _⟩ => ⟨S2x1x256x16x80, .f32⟩
  | .hbm, ⟨36, _⟩ => ⟨S2x1x16x80x256, .f32⟩
  | .hbm, ⟨37, _⟩ => ⟨S2x1x16x80x256, .bf16⟩
  | .hbm, ⟨38, _⟩ => ⟨S2x16384x1x32, .f32⟩
  | .hbm, ⟨39, _⟩ => ⟨S2x16384x16x32, .f32⟩
  | .hbm, ⟨40, _⟩ => ⟨S_, .f32⟩
  | .hbm, ⟨41, _⟩ => ⟨S2x16384x16x32, .f32⟩
  | .hbm, ⟨42, _⟩ => ⟨S2x16384x16x128, .f32⟩
  | .hbm, ⟨43, _⟩ => ⟨S2x16x16384x128, .f32⟩
  | .hbm, ⟨44, _⟩ => ⟨S2x16x16384x128, .bf16⟩
  | .hbm, ⟨45, _⟩ => ⟨S_, .f32⟩
  | .hbm, ⟨46, _⟩ => ⟨S2x16384x16x1, .f32⟩
  | .hbm, ⟨47, _⟩ => ⟨S_, .f32⟩
  | .hbm, ⟨48, _⟩ => ⟨S2x16384x16x15, .f32⟩
  | .hbm, ⟨49, _⟩ => ⟨S2x16384x16x80, .f32⟩
  | .hbm, ⟨50, _⟩ => ⟨S2x64x256x16x80, .f32⟩
  | .hbm, ⟨51, _⟩ => ⟨S2x64x16x80x256, .f32⟩
  | .hbm, ⟨52, _⟩ => ⟨S2x64x16x80x256, .bf16⟩
  | .hbm, ⟨53, _⟩ => ⟨S2x16384x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x2x256x128, .bf16⟩
  | .local _ .vmem, ⟨3, _⟩ => ⟨S1x2x256x128, .bf16⟩
  | .local _ .vmem, ⟨4, _⟩ => ⟨S1x1x2x80x256, .bf16⟩
  | .local _ .vmem, ⟨5, _⟩ => ⟨S1x1x2x80x256, .bf16⟩
  | .local _ .vmem, ⟨6, _⟩ => ⟨S1x2x16384x128, .bf16⟩
  | .local _ .vmem, ⟨7, _⟩ => ⟨S1x2x16384x128, .bf16⟩
  | .local _ .vmem, ⟨8, _⟩ => ⟨S1x64x2x80x256, .bf16⟩
  | .local _ .vmem, ⟨9, _⟩ => ⟨S1x64x2x80x256, .bf16⟩
  | .local _ .vmem, ⟨10, _⟩ => ⟨S1x512x128, .bf16⟩
  | .local _ .vmem, ⟨11, _⟩ => ⟨S1x512x128, .bf16⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S80x512, .f32⟩
  | .local _ .vmem, ⟨21, _⟩ => ⟨S80x512, .f32⟩
  | _, _ => ⟨S2x16384x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 32], ![false, false, false]⟩

@[reducible] def k0_t1_loop : Scf.Loop 32 :=
  let c0_i32 : BitVec 32 := 0#32
  let c6_i32 : BitVec 32 := 6#32
  let v280 : BitVec 32 := Scalar.addi c0_i32 c6_i32
  let c1_i32 : BitVec 32 := 1#32
  ⟨c0_i32, v280, c1_i32⟩
def k0_off1 (k0_t1 : Fin k0_t1_loop.trips) (c0_i32_287 : BitVec 32) : Fin 5 → Nat :=
  let c0_289 : Index := 0#32
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let v370 : BitVec 32 := Scalar.addi v369 c0_i32_287
  let c1_i32_288 : BitVec 32 := 1#32
  let v371 : BitVec 32 := Scalar.subi v370 c1_i32_288
  let v372 : Index := Scalar.indexCast v371
  let c0_290 : Index := 0#32
  let c0_291 : Index := 0#32
  let c0_292 : Index := 0#32
  ![0, v372.toNat, 0, 0, 0]
def k0_mult1 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c0_i32_305 : BitVec 32 := 0#32
  let v397 : BitVec 32 := Scalar.addi v369 c0_i32_305
  let c2_i32 : BitVec 32 := 2#32
  let v398 : BitVec 32 := Scalar.addi v397 c2_i32
  let c1_i32_306 : BitVec 32 := 1#32
  let v399 : BitVec 32 := Scalar.subi v398 c1_i32_306
  let c256_i32 : BitVec 32 := 256#32
  let v400 : BitVec 32 := Scalar.muli v399 c256_i32
  v400
def k0_off2 (k0_t1 : Fin k0_t1_loop.trips) (c0_i32_305 : BitVec 32) : Fin 4 → Nat :=
  let c0_307 : Index := 0#32
  let c0_308 : Index := 0#32
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let v397 : BitVec 32 := Scalar.addi v369 c0_i32_305
  let c2_i32 : BitVec 32 := 2#32
  let v398 : BitVec 32 := Scalar.addi v397 c2_i32
  let c1_i32_306 : BitVec 32 := 1#32
  let v399 : BitVec 32 := Scalar.subi v398 c1_i32_306
  let c256_i32 : BitVec 32 := 256#32
  let v400 : BitVec 32 := Scalar.muli v399 c256_i32
  let v401 : BitVec 32 := v400
  let v402 : Index := Scalar.indexCast v401
  let c0_309 : Index := 0#32
  ![0, 0, v402.toNat, 0]
def k0_off3 (k0_t1 : Fin k0_t1_loop.trips) (c0_i32_317 : BitVec 32) : Fin 5 → Nat :=
  let c0_319 : Index := 0#32
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let v413 : BitVec 32 := Scalar.addi v369 c0_i32_317
  let c1_i32_318 : BitVec 32 := 1#32
  let v414 : BitVec 32 := Scalar.subi v413 c1_i32_318
  let v415 : Index := Scalar.indexCast v414
  let c1_320 : Index := 1#32
  let c0_321 : Index := 0#32
  let c0_322 : Index := 0#32
  ![0, v415.toNat, 1, 0, 0]
def k0_mult2 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c0_i32_335 : BitVec 32 := 0#32
  let v440 : BitVec 32 := Scalar.addi v369 c0_i32_335
  let c2_i32_336 : BitVec 32 := 2#32
  let v441 : BitVec 32 := Scalar.addi v440 c2_i32_336
  let c1_i32_337 : BitVec 32 := 1#32
  let v442 : BitVec 32 := Scalar.subi v441 c1_i32_337
  let c256_i32_338 : BitVec 32 := 256#32
  let v443 : BitVec 32 := Scalar.muli v442 c256_i32_338
  v443
def k0_off4 (k0_t1 : Fin k0_t1_loop.trips) (c0_i32_335 : BitVec 32) : Fin 4 → Nat :=
  let c0_339 : Index := 0#32
  let c1_340 : Index := 1#32
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let v440 : BitVec 32 := Scalar.addi v369 c0_i32_335
  let c2_i32_336 : BitVec 32 := 2#32
  let v441 : BitVec 32 := Scalar.addi v440 c2_i32_336
  let c1_i32_337 : BitVec 32 := 1#32
  let v442 : BitVec 32 := Scalar.subi v441 c1_i32_337
  let c256_i32_338 : BitVec 32 := 256#32
  let v443 : BitVec 32 := Scalar.muli v442 c256_i32_338
  let v444 : BitVec 32 := v443
  let v445 : Index := Scalar.indexCast v444
  let c0_341 : Index := 0#32
  ![0, 1, v445.toNat, 0]
def k0_mult3 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c1_i32_367 : BitVec 32 := 1#32
  let v483 : BitVec 32 := Scalar.addi v369 c1_i32_367
  let c2_i32_368 : BitVec 32 := 2#32
  let v484 : BitVec 32 := Scalar.addi v483 c2_i32_368
  let c1_i32_369 : BitVec 32 := 1#32
  let v485 : BitVec 32 := Scalar.subi v484 c1_i32_369
  let c256_i32_370 : BitVec 32 := 256#32
  let v486 : BitVec 32 := Scalar.muli v485 c256_i32_370
  v486
def k0_mult4 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c1_i32_399 : BitVec 32 := 1#32
  let v526 : BitVec 32 := Scalar.addi v369 c1_i32_399
  let c2_i32_400 : BitVec 32 := 2#32
  let v527 : BitVec 32 := Scalar.addi v526 c2_i32_400
  let c1_i32_401 : BitVec 32 := 1#32
  let v528 : BitVec 32 := Scalar.subi v527 c1_i32_401
  let c256_i32_402 : BitVec 32 := 256#32
  let v529 : BitVec 32 := Scalar.muli v528 c256_i32_402
  v529
def k0_mult5 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c2_i32_431 : BitVec 32 := 2#32
  let v569 : BitVec 32 := Scalar.addi v369 c2_i32_431
  let c2_i32_432 : BitVec 32 := 2#32
  let v570 : BitVec 32 := Scalar.addi v569 c2_i32_432
  let c1_i32_433 : BitVec 32 := 1#32
  let v571 : BitVec 32 := Scalar.subi v570 c1_i32_433
  let c256_i32_434 : BitVec 32 := 256#32
  let v572 : BitVec 32 := Scalar.muli v571 c256_i32_434
  v572
def k0_mult6 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c2_i32_463 : BitVec 32 := 2#32
  let v612 : BitVec 32 := Scalar.addi v369 c2_i32_463
  let c2_i32_464 : BitVec 32 := 2#32
  let v613 : BitVec 32 := Scalar.addi v612 c2_i32_464
  let c1_i32_465 : BitVec 32 := 1#32
  let v614 : BitVec 32 := Scalar.subi v613 c1_i32_465
  let c256_i32_466 : BitVec 32 := 256#32
  let v615 : BitVec 32 := Scalar.muli v614 c256_i32_466
  v615
def k0_mult7 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c3_i32_495 : BitVec 32 := 3#32
  let v655 : BitVec 32 := Scalar.addi v369 c3_i32_495
  let c2_i32_496 : BitVec 32 := 2#32
  let v656 : BitVec 32 := Scalar.addi v655 c2_i32_496
  let c1_i32_497 : BitVec 32 := 1#32
  let v657 : BitVec 32 := Scalar.subi v656 c1_i32_497
  let c256_i32_498 : BitVec 32 := 256#32
  let v658 : BitVec 32 := Scalar.muli v657 c256_i32_498
  v658
def k0_mult8 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c3_i32_527 : BitVec 32 := 3#32
  let v698 : BitVec 32 := Scalar.addi v369 c3_i32_527
  let c2_i32_528 : BitVec 32 := 2#32
  let v699 : BitVec 32 := Scalar.addi v698 c2_i32_528
  let c1_i32_529 : BitVec 32 := 1#32
  let v700 : BitVec 32 := Scalar.subi v699 c1_i32_529
  let c256_i32_530 : BitVec 32 := 256#32
  let v701 : BitVec 32 := Scalar.muli v700 c256_i32_530
  v701
def k0_mult9 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c4_i32_558 : BitVec 32 := 4#32
  let v741 : BitVec 32 := Scalar.addi v369 c4_i32_558
  let c2_i32_559 : BitVec 32 := 2#32
  let v742 : BitVec 32 := Scalar.addi v741 c2_i32_559
  let c1_i32_560 : BitVec 32 := 1#32
  let v743 : BitVec 32 := Scalar.subi v742 c1_i32_560
  let c256_i32_561 : BitVec 32 := 256#32
  let v744 : BitVec 32 := Scalar.muli v743 c256_i32_561
  v744
def k0_mult10 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c4_i32_590 : BitVec 32 := 4#32
  let v784 : BitVec 32 := Scalar.addi v369 c4_i32_590
  let c2_i32_591 : BitVec 32 := 2#32
  let v785 : BitVec 32 := Scalar.addi v784 c2_i32_591
  let c1_i32_592 : BitVec 32 := 1#32
  let v786 : BitVec 32 := Scalar.subi v785 c1_i32_592
  let c256_i32_593 : BitVec 32 := 256#32
  let v787 : BitVec 32 := Scalar.muli v786 c256_i32_593
  v787
def k0_mult11 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c5_i32_621 : BitVec 32 := 5#32
  let v827 : BitVec 32 := Scalar.addi v369 c5_i32_621
  let c2_i32_622 : BitVec 32 := 2#32
  let v828 : BitVec 32 := Scalar.addi v827 c2_i32_622
  let c1_i32_623 : BitVec 32 := 1#32
  let v829 : BitVec 32 := Scalar.subi v828 c1_i32_623
  let c256_i32_624 : BitVec 32 := 256#32
  let v830 : BitVec 32 := Scalar.muli v829 c256_i32_624
  v830
def k0_mult12 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c5_i32_653 : BitVec 32 := 5#32
  let v870 : BitVec 32 := Scalar.addi v369 c5_i32_653
  let c2_i32_654 : BitVec 32 := 2#32
  let v871 : BitVec 32 := Scalar.addi v870 c2_i32_654
  let c1_i32_655 : BitVec 32 := 1#32
  let v872 : BitVec 32 := Scalar.subi v871 c1_i32_655
  let c256_i32_656 : BitVec 32 := 256#32
  let v873 : BitVec 32 := Scalar.muli v872 c256_i32_656
  v873
def k0_mult13 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c6_i32_685 : BitVec 32 := 6#32
  let v913 : BitVec 32 := Scalar.addi v369 c6_i32_685
  let c2_i32_686 : BitVec 32 := 2#32
  let v914 : BitVec 32 := Scalar.addi v913 c2_i32_686
  let c1_i32_687 : BitVec 32 := 1#32
  let v915 : BitVec 32 := Scalar.subi v914 c1_i32_687
  let c256_i32_688 : BitVec 32 := 256#32
  let v916 : BitVec 32 := Scalar.muli v915 c256_i32_688
  v916
def k0_mult14 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c6_i32_717 : BitVec 32 := 6#32
  let v956 : BitVec 32 := Scalar.addi v369 c6_i32_717
  let c2_i32_718 : BitVec 32 := 2#32
  let v957 : BitVec 32 := Scalar.addi v956 c2_i32_718
  let c1_i32_719 : BitVec 32 := 1#32
  let v958 : BitVec 32 := Scalar.subi v957 c1_i32_719
  let c256_i32_720 : BitVec 32 := 256#32
  let v959 : BitVec 32 := Scalar.muli v958 c256_i32_720
  v959
def k0_mult15 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c7_i32_748 : BitVec 32 := 7#32
  let v999 : BitVec 32 := Scalar.addi v369 c7_i32_748
  let c2_i32_749 : BitVec 32 := 2#32
  let v1000 : BitVec 32 := Scalar.addi v999 c2_i32_749
  let c1_i32_750 : BitVec 32 := 1#32
  let v1001 : BitVec 32 := Scalar.subi v1000 c1_i32_750
  let c256_i32_751 : BitVec 32 := 256#32
  let v1002 : BitVec 32 := Scalar.muli v1001 c256_i32_751
  v1002
def k0_mult16 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c7_i32_780 : BitVec 32 := 7#32
  let v1042 : BitVec 32 := Scalar.addi v369 c7_i32_780
  let c2_i32_781 : BitVec 32 := 2#32
  let v1043 : BitVec 32 := Scalar.addi v1042 c2_i32_781
  let c1_i32_782 : BitVec 32 := 1#32
  let v1044 : BitVec 32 := Scalar.subi v1043 c1_i32_782
  let c256_i32_783 : BitVec 32 := 256#32
  let v1045 : BitVec 32 := Scalar.muli v1044 c256_i32_783
  v1045
def k0_mult17 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c8_i32_811 : BitVec 32 := 8#32
  let v1085 : BitVec 32 := Scalar.addi v369 c8_i32_811
  let c2_i32_812 : BitVec 32 := 2#32
  let v1086 : BitVec 32 := Scalar.addi v1085 c2_i32_812
  let c1_i32_813 : BitVec 32 := 1#32
  let v1087 : BitVec 32 := Scalar.subi v1086 c1_i32_813
  let c256_i32_814 : BitVec 32 := 256#32
  let v1088 : BitVec 32 := Scalar.muli v1087 c256_i32_814
  v1088
def k0_mult18 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c8_i32_843 : BitVec 32 := 8#32
  let v1128 : BitVec 32 := Scalar.addi v369 c8_i32_843
  let c2_i32_844 : BitVec 32 := 2#32
  let v1129 : BitVec 32 := Scalar.addi v1128 c2_i32_844
  let c1_i32_845 : BitVec 32 := 1#32
  let v1130 : BitVec 32 := Scalar.subi v1129 c1_i32_845
  let c256_i32_846 : BitVec 32 := 256#32
  let v1131 : BitVec 32 := Scalar.muli v1130 c256_i32_846
  v1131
def k0_mult19 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c9_i32_874 : BitVec 32 := 9#32
  let v1171 : BitVec 32 := Scalar.addi v369 c9_i32_874
  let c2_i32_875 : BitVec 32 := 2#32
  let v1172 : BitVec 32 := Scalar.addi v1171 c2_i32_875
  let c1_i32_876 : BitVec 32 := 1#32
  let v1173 : BitVec 32 := Scalar.subi v1172 c1_i32_876
  let c256_i32_877 : BitVec 32 := 256#32
  let v1174 : BitVec 32 := Scalar.muli v1173 c256_i32_877
  v1174
def k0_mult20 (k0_t1 : Fin k0_t1_loop.trips) : BitVec 32 :=
  let c3_i32 : BitVec 32 := 3#32
  let c10_i32 : BitVec 32 := 10#32
  let c0_i32 : BitVec 32 := 0#32
  let c1_i32 : BitVec 32 := 1#32
  let arg19 : BitVec 32 := Scf.iv c0_i32 c1_i32 k0_t1
  let v368 : BitVec 32 := Scalar.muli c10_i32 arg19
  let v369 : BitVec 32 := Scalar.addi c3_i32 v368
  let c9_i32_906 : BitVec 32 := 9#32
  let v1214 : BitVec 32 := Scalar.addi v369 c9_i32_906
  let c2_i32_907 : BitVec 32 := 2#32
  let v1215 : BitVec 32 := Scalar.addi v1214 c2_i32_907
  let c1_i32_908 : BitVec 32 := 1#32
  let v1216 : BitVec 32 := Scalar.subi v1215 c1_i32_908
  let c256_i32_909 : BitVec 32 := 256#32
  let v1217 : BitVec 32 := Scalar.muli v1216 c256_i32_909
  v1217
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x64x2x80x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x16384x16x64 : Shape := ⟨4, ![2, 16384, 16, 64]⟩
abbrev S2x16384x16x32 : Shape := ⟨4, ![2, 16384, 16, 32]⟩
abbrev S2x256x16x64 : Shape := ⟨4, ![2, 256, 16, 64]⟩
abbrev S2x256x32 : Shape := ⟨3, ![2, 256, 32]⟩
abbrev S2x16384x32 : Shape := ⟨3, ![2, 16384, 32]⟩
abbrev S2x16640x16x64 : Shape := ⟨4, ![2, 16640, 16, 64]⟩
abbrev S2x16640x32 : Shape := ⟨3, ![2, 16640, 32]⟩
abbrev S2x16x16384x16640 : Shape := ⟨4, ![2, 16, 16384, 16640]⟩
abbrev S2x16640x16384x16 : Shape := ⟨4, ![2, 16640, 16384, 16]⟩
abbrev S_ : Shape := ⟨0, ![]⟩
abbrev S2x16x16384 : Shape := ⟨3, ![2, 16, 16384]⟩
abbrev S2x16x16384x1 : Shape := ⟨4, ![2, 16, 16384, 1]⟩
abbrev S2x16x64x16384 : Shape := ⟨4, ![2, 16, 64, 16384]⟩
abbrev S2x16384x1024 : Shape := ⟨3, ![2, 16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x16x64, .f32⟩
  | .hbm, ⟨1, _⟩ => ⟨S2x16384x16x32, .f32⟩
  | .hbm, ⟨2, _⟩ => ⟨S2x256x16x64, .f32⟩
  | .hbm, ⟨3, _⟩ => ⟨S2x256x32, .f32⟩
  | .hbm, ⟨4, _⟩ => ⟨S2x256x16x64, .f32⟩
  | .hbm, ⟨5, _⟩ => ⟨S2x16384x16x64, .f32⟩
  | .hbm, ⟨6, _⟩ => ⟨S2x16384x32, .f32⟩
  | .hbm, ⟨7, _⟩ => ⟨S2x16384x16x64, .f32⟩
  | .hbm, ⟨8, _⟩ => ⟨S2x16640x16x64, .f32⟩
  | .hbm, ⟨9, _⟩ => ⟨S2x16640x32, .f32⟩
  | .hbm, ⟨10, _⟩ => ⟨S2x16640x16x64, .f32⟩
  | .hbm, ⟨11, _⟩ => ⟨S2x16x16384x16640, .f32⟩
  | .hbm, ⟨12, _⟩ => ⟨S2x16640x16384x16, .f32⟩
  | .hbm, ⟨13, _⟩ => ⟨S2x16x16384x16640, .f32⟩
  | .hbm, ⟨14, _⟩ => ⟨S2x16x16384x16640, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x16x16384x16640, .f32⟩
  | .hbm, ⟨20, _⟩ => ⟨S2x16x16384x16640, .f32⟩
  | .hbm, ⟨21, _⟩ => ⟨S_, .f32⟩
  | .hbm, ⟨22, _⟩ => ⟨S2x16x16384, .f32⟩
  | .hbm, ⟨23, _⟩ => ⟨S_, .f32⟩
  | .hbm, ⟨24, _⟩ => ⟨S2x16x16384, .f32⟩
  | .hbm, ⟨25, _⟩ => ⟨S2x16x16384, .f32⟩
  | .hbm, ⟨26, _⟩ => ⟨S2x16x16384x1, .f32⟩
  | .hbm, ⟨27, _⟩ => ⟨S2x16x16384x16640, .f32⟩
  | .hbm, ⟨28, _⟩ => ⟨S2x16x16384x16640, .f32⟩
  | .hbm, ⟨29, _⟩ => ⟨S2x16x16384x16640, .f32⟩
  | .hbm, ⟨30, _⟩ => ⟨S_, .f32⟩
  | .hbm, ⟨31, _⟩ => ⟨S2x16x16384, .f32⟩
  | .hbm, ⟨32, _⟩ => ⟨S2x16x16384x1, .f32⟩
  | .hbm, ⟨33, _⟩ => ⟨S2x16x16384x16640, .f32⟩
  | .hbm, ⟨34, _⟩ => ⟨S2x16x16384x16640, .f32⟩
  | .hbm, ⟨35, _⟩ => ⟨S2x16x64x16384, .f32⟩
  | .hbm, ⟨36, _⟩ => ⟨S2x16384x16x64, .f32⟩
  | .hbm, ⟨37, _⟩ => ⟨S2x16384x1024, .f32⟩
  | .hbm, ⟨38, _⟩ => ⟨S2x16384x1024, .bf16⟩
  | _, _ => ⟨S2x16384x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== MlpKernel.lean ====
abbrev S2x16384x1024 : Shape := ⟨3, ![2, 16384, 1024]⟩
abbrev S1024x1024 : Shape := ⟨2, ![1024, 1024]⟩
abbrev S1024 : Shape := ⟨1, ![1024]⟩
abbrev S2x1x1024 : Shape := ⟨3, ![2, 1, 1024]⟩
abbrev S1024x4096 : Shape := ⟨2, ![1024, 4096]⟩
abbrev S4096x1024 : Shape := ⟨2, ![4096, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1 : Shape := ⟨2, ![1024, 1]⟩

abbrev nBuf : Space → Nat
  | .hbm => 22
  | .vmem => 21
  | .smem => 0
  | _ => 0

abbrev bufTy : (tb : Table) → Fin (tcTables nBuf tb) → BufTy
  | .hbm, ⟨0, _⟩ => ⟨S2x16384x1024, .f32⟩
  | .hbm, ⟨1, _⟩ => ⟨S1024x1024, .f32⟩
  | .hbm, ⟨2, _⟩ => ⟨S1024, .f32⟩
  | .hbm, ⟨3, _⟩ => ⟨S2x1x1024, .f32⟩
  | .hbm, ⟨4, _⟩ => ⟨S1024, .f32⟩
  | .hbm, ⟨5, _⟩ => ⟨S2x16384x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S2x16384x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1024x4096, .bf16⟩
  | .hbm, ⟨20, _⟩ => ⟨S4096x1024, .bf16⟩
  | .hbm, ⟨21, _⟩ => ⟨S2x16384x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024, .f32⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S1x1024x1024, .f32⟩
  | .local _ .vmem, ⟨20, _⟩ => ⟨S1x1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MlpReferenceIdeal.lean ====
abbrev S2x16384x1024 : Shape := ⟨3, ![2, 16384, 1024]⟩
abbrev S1024x1024 : Shape := ⟨2, ![1024, 1024]⟩
abbrev S1024 : Shape := ⟨1, ![1024]⟩
abbrev S2x1x1024 : Shape := ⟨3, ![2, 1, 1024]⟩
abbrev S1024x4096 : Shape := ⟨2, ![1024, 4096]⟩
abbrev S4096x1024 : Shape := ⟨2, ![4096, 1024]⟩
abbrev S1x1x1024 : Shape := ⟨3, ![1, 1, 1024]⟩
abbrev S_ : Shape := ⟨0, ![]⟩
abbrev S2x16384 : Shape := ⟨2, ![2, 16384]⟩
abbrev S2x16384x1 : Shape := ⟨3, ![2, 16384, 1]⟩
abbrev S2x16384x4096 : Shape := ⟨3, ![2, 16384, 4096]⟩

abbrev nBuf : Space → Nat
  | .hbm => 84
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024x1024, .f32⟩
  | .hbm, ⟨2, _⟩ => ⟨S1024, .f32⟩
  | .hbm, ⟨3, _⟩ => ⟨S2x1x1024, .f32⟩
  | .hbm, ⟨4, _⟩ => ⟨S1024, .f32⟩
  | .hbm, ⟨5, _⟩ => ⟨S2x16384x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S2x16384x1024, .f32⟩
  | .hbm, ⟨14, _⟩ => ⟨S1x1x1024, .f32⟩
  | .hbm, ⟨15, _⟩ => ⟨S2x16384x1024, .f32⟩
  | .hbm, ⟨16, _⟩ => ⟨S2x16384x1024, .f32⟩
  | .hbm, ⟨17, _⟩ => ⟨S2x16384x1024, .f32⟩
  | .hbm, ⟨18, _⟩ => ⟨S_, .f32⟩
  | .hbm, ⟨19, _⟩ => ⟨S2x16384, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S_, .f32⟩
  | .hbm, ⟨25, _⟩ => ⟨S2x16384x1, .f32⟩
  | .hbm, ⟨26, _⟩ => ⟨S2x16384x1, .f32⟩
  | .hbm, ⟨27, _⟩ => ⟨S2x16384x1, .f32⟩
  | .hbm, ⟨28, _⟩ => ⟨S2x16384x1024, .f32⟩
  | .hbm, ⟨29, _⟩ => ⟨S2x16384x1024, .f32⟩
  | .hbm, ⟨30, _⟩ => ⟨S1x1x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x16384x1024, .f32⟩
  | .hbm, ⟨36, _⟩ => ⟨S2x16384x1024, .f32⟩
  | .hbm, ⟨37, _⟩ => ⟨S_, .f32⟩
  | .hbm, ⟨38, _⟩ => ⟨S2x16384, .f32⟩
  | .hbm, ⟨39, _⟩ => ⟨S2x16384x1, .f32⟩
  | .hbm, ⟨40, _⟩ => ⟨S_, .f32⟩
  | .hbm, ⟨41, _⟩ => ⟨S2x16384x1, .f32⟩
  | .hbm, ⟨42, _⟩ => ⟨S2x16384x1, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S2x16384x1, .f32⟩
  | .hbm, ⟨47, _⟩ => ⟨S2x16384x1024, .f32⟩
  | .hbm, ⟨48, _⟩ => ⟨S2x16384x1024, .f32⟩
  | .hbm, ⟨49, _⟩ => ⟨S1x1x1024, .f32⟩
  | .hbm, ⟨50, _⟩ => ⟨S2x16384x1024, .f32⟩
  | .hbm, ⟨51, _⟩ => ⟨S2x16384x1024, .f32⟩
  | .hbm, ⟨52, _⟩ => ⟨S_, .f32⟩
  | .hbm, ⟨53, _⟩ => ⟨S2x1x1024, .f32⟩
  | .hbm, ⟨54, _⟩ => ⟨S2x1x1024, .f32⟩
  | .hbm, ⟨55, _⟩ => ⟨S2x16384x1024, .f32⟩
  | .hbm, ⟨56, _⟩ => ⟨S2x16384x1024, .f32⟩
  | .hbm, ⟨57, _⟩ => ⟨S2x16384x1024, .f32⟩
  | .hbm, ⟨58, _⟩ => ⟨S2x16384x1024, .f32⟩
  | .hbm, ⟨59, _⟩ => ⟨S2x16384x4096, .f32⟩
  | .hbm, ⟨60, _⟩ => ⟨S_, .f32⟩
  | .hbm, ⟨61, _⟩ => ⟨S2x16384x4096, .f32⟩
  | .hbm, ⟨62, _⟩ => ⟨S2x16384x4096, .f32⟩
  | .hbm, ⟨63, _⟩ => ⟨S2x16384x4096, .f32⟩
  | .hbm, ⟨64, _⟩ => ⟨S2x16384x1024, .f32⟩
  | .hbm, ⟨65, _⟩ => ⟨S2x16384x1024, .f32⟩
  | .hbm, ⟨66, _⟩ => ⟨S_, .f32⟩
  | .hbm, ⟨67, _⟩ => ⟨S2x16384, .f32⟩
  | .hbm, ⟨68, _⟩ => ⟨S2x16384x1, .f32⟩
  | .hbm, ⟨69, _⟩ => ⟨S_, .f32⟩
  | .hbm, ⟨70, _⟩ => ⟨S2x16384x1, .f32⟩
  | .hbm, ⟨71, _⟩ => ⟨S2x16384x1, .f32⟩
  | .hbm, ⟨72, _⟩ => ⟨S_, .f32⟩
  | .hbm, ⟨73, _⟩ => ⟨S2x16384x1, .f32⟩
  | .hbm, ⟨74, _⟩ => ⟨S2x16384x1, .f32⟩
  | .hbm, ⟨75, _⟩ => ⟨S2x16384x1, .f32⟩
  | .hbm, ⟨76, _⟩ => ⟨S2x16384x1024, .f32⟩
  | .hbm, ⟨77, _⟩ => ⟨S2x16384x1024, .f32⟩
  | .hbm, ⟨78, _⟩ => ⟨S1x1x1024, .f32⟩
  | .hbm, ⟨79, _⟩ => ⟨S2x16384x1024, .f32⟩
  | .hbm, ⟨80, _⟩ => ⟨S2x16384x1024, .f32⟩
  | .hbm, ⟨81, _⟩ => ⟨S2x16384x1024, .f32⟩
  | .hbm, ⟨82, _⟩ => ⟨S2x16384x1024, .f32⟩
  | .hbm, ⟨83, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call0_cst : Ref sig .tc := ⟨.hbm, 60, rfl⟩
abbrev main_call0_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]
-- ==== HyKernel.lean ====
abbrev S2x16384x1024 : Shape := ⟨3, ![2, 16384, 1024]⟩
abbrev S2x1x1024 : Shape := ⟨3, ![2, 1, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S1x1024 : Shape := ⟨2, ![1, 1024]⟩
abbrev S1x3072 : Shape := ⟨2, ![1, 3072]⟩
abbrev S1x1024x1024 : Shape := ⟨3, ![1, 1024, 1024]⟩
abbrev S1x8x1024 : Shape := ⟨3, ![1, 8, 1024]⟩
abbrev S1x1x1024 : Shape := ⟨3, ![1, 1, 1024]⟩
abbrev S1040x3072 : Shape := ⟨2, ![1040, 3072]⟩
abbrev S8x1024 : Shape := ⟨2, ![8, 1024]⟩
abbrev S1024x1024 : Shape := ⟨2, ![1024, 1024]⟩
abbrev S1040x1024 : Shape := ⟨2, ![1040, 1024]⟩
abbrev S1040 : Shape := ⟨1, ![1040]⟩
abbrev S1040x1 : Shape := ⟨2, ![1040, 1]⟩
abbrev S8x3072 : Shape := ⟨2, ![8, 3072]⟩

abbrev nBuf : Space → Nat
  | .hbm => 15
  | .vmem => 22
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x3072, .f32⟩
  | .hbm, ⟨5, _⟩ => ⟨S3072, .f32⟩
  | .hbm, ⟨6, _⟩ => ⟨S3x3072, .f32⟩
  | .hbm, ⟨7, _⟩ => ⟨S3072, .f32⟩
  | .hbm, ⟨8, _⟩ => ⟨S1x1024, .f32⟩
  | .hbm, ⟨9, _⟩ => ⟨S1024x3072, .bf16⟩
  | .hbm, ⟨10, _⟩ => ⟨S1x3072, .f32⟩
  | .hbm, ⟨11, _⟩ => ⟨S1x3072, .f32⟩
  | .hbm, ⟨12, _⟩ => ⟨S2x16384x1024, .bf16⟩
  | .hbm, ⟨13, _⟩ => ⟨S2x16384x1024, .bf16⟩
  | .hbm, ⟨14, _⟩ => ⟨S2x16384x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x3072, .bf16⟩
  | .local _ .vmem, ⟨12, _⟩ => ⟨S1x3072, .f32⟩
  | .local _ .vmem, ⟨13, _⟩ => ⟨S3x3072, .f32⟩
  | .local _ .vmem, ⟨14, _⟩ => ⟨S1x3072, .f32⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1040x3072, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== HyReferenceIdeal.lean ====
abbrev S2x16384x1024 : Shape := ⟨3, ![2, 16384, 1024]⟩
abbrev S2x1x1024 : Shape := ⟨3, ![2, 1, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3072 : Shape := ⟨3, ![2, 16384, 3072]⟩
abbrev S1x1x3072 : Shape := ⟨3, ![1, 1, 3072]⟩
abbrev S2x16386x3072 : Shape := ⟨3, ![2, 16386, 3072]⟩
abbrev S1x3072 : Shape := ⟨2, ![1, 3072]⟩

abbrev nBuf : Space → Nat
  | .hbm => 67
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x3072, .f32⟩
  | .hbm, ⟨5, _⟩ => ⟨S3072, .f32⟩
  | .hbm, ⟨6, _⟩ => ⟨S3x3072, .f32⟩
  | .hbm, ⟨7, _⟩ => ⟨S3072, .f32⟩
  | .hbm, ⟨8, _⟩ => ⟨S2x16384x1024, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x1024, .f32⟩
  | .hbm, ⟨20, _⟩ => ⟨S2x16384x1024, .f32⟩
  | .hbm, ⟨21, _⟩ => ⟨S1x1x1024, .f32⟩
  | .hbm, ⟨22, _⟩ => ⟨S2x16384x1024, .f32⟩
  | .hbm, ⟨23, _⟩ => ⟨S2x16384x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x3072, .f32⟩
  | .hbm, ⟨32, _⟩ => ⟨S1x1x3072, .f32⟩
  | .hbm, ⟨33, _⟩ => ⟨S2x16384x3072, .f32⟩
  | .hbm, ⟨34, _⟩ => ⟨S2x16384x3072, .f32⟩
  | .hbm, ⟨35, _⟩ => ⟨S_, .i32⟩
  | .hbm, ⟨36, _⟩ => ⟨S_, .f32⟩
  | .hbm, ⟨37, _⟩ => ⟨S2x16386x3072, .f32⟩
  | .hbm, ⟨38, _⟩ => ⟨S2x16384x3072, .f32⟩
  | .hbm, ⟨39, _⟩ => ⟨S1x3072, .f32⟩
  | .hbm, ⟨40, _⟩ => ⟨S3072, .f32⟩
  | .hbm, ⟨41, _⟩ => ⟨S1x1x3072, .f32⟩
  | .hbm, ⟨42, _⟩ => ⟨S2x16384x3072, .f32⟩
  | .hbm, ⟨43, _⟩ => ⟨S2x16384x3072, .f32⟩
  | .hbm, ⟨44, _⟩ => ⟨S2x16384x3072, .f32⟩
  | .hbm, ⟨45, _⟩ => ⟨S1x3072, .f32⟩
  | .hbm, ⟨46, _⟩ => ⟨S3072, .f32⟩
  | .hbm, ⟨47, _⟩ => ⟨S1x1x3072, .f32⟩
  | .hbm, ⟨48, _⟩ => ⟨S2x16384x3072, .f32⟩
  | .hbm, ⟨49, _⟩ => ⟨S2x16384x3072, .f32⟩
  | .hbm, ⟨50, _⟩ => ⟨S2x16384x3072, .f32⟩
  | .hbm, ⟨51, _⟩ => ⟨S2x16384x3072, .f32⟩
  | .hbm, ⟨52, _⟩ => ⟨S1x3072, .f32⟩
  | .hbm, ⟨53, _⟩ => ⟨S3072, .f32⟩
  | .hbm, ⟨54, _⟩ => ⟨S1x1x3072, .f32⟩
  | .hbm, ⟨55, _⟩ => ⟨S2x16384x3072, .f32⟩
  | .hbm, ⟨56, _⟩ => ⟨S2x16384x3072, .f32⟩
  | .hbm, ⟨57, _⟩ => ⟨S2x16384x3072, .f32⟩
  | .hbm, ⟨58, _⟩ => ⟨S1x1x3072, .f32⟩
  | .hbm, ⟨59, _⟩ => ⟨S2x16384x3072, .f32⟩
  | .hbm, ⟨60, _⟩ => ⟨S2x16384x3072, .f32⟩
  | .hbm, ⟨61, _⟩ => ⟨S2x16384x1024, .f32⟩
  | .hbm, ⟨62, _⟩ => ⟨S2x16384x1024, .f32⟩
  | .hbm, ⟨63, _⟩ => ⟨S2x16384x1024, .f32⟩
  | .hbm, ⟨64, _⟩ => ⟨S2x16384x1024, .bf16⟩
  | .hbm, ⟨65, _⟩ => ⟨S2x16384x1024, .bf16⟩
  | .hbm, ⟨66, _⟩ => ⟨S2x16384x1024, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Proof.Steps.lean ====
/-
  The attention kernel's stages as small programs, what each does to the buffers it touches, and the
  running values they compute: for one head and one block of 512 queries, position `p` of the keys
  (position 0 the 256 context keys, position `p + 1` the `p`-th 256 latent keys).
-/
module

public import proofs.«01_k».proof.Proof.Gen.KernelIdeal.Skeleton
public import proofs.«01_k».proof.Proof.Gen.KernelIdeal.Frame
public import Idealize.ShloMosaic.Lib.Pipeline.FrameBody
public import Idealize.ShloMosaic.Lib.Pipeline.Kit
public import Idealize.ShloMosaic.Lib.VecWindow

@[expose] public section

set_option maxRecDepth 8192

noncomputable section

namespace Cert.Proof.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- No variant is used: the body calls no label. -/
abbrev 𝒱₀ : Variants := Variants.none

/-! ### Loads and stores of owned memrefs -/

/-- The weakest precondition the body's triples are stated at. -/
abbrev WP {α : Type} (c : Dev nD) (e : Prog (TpuEff nD τ sig (Elt F) Λ₀ .tc) α) (Q : α → sProp 𝕄) : sProp 𝕄 :=
  wp frame (wpE (defs₀ (F := F)) 𝒱₀ (c : Thread nD τ) none) Set.univ e Q

/-- A load through a rectangle of an owned memref reads its contents there. -/
theorem load_at (c : Dev nD) {α : Type} {s : Shape} {e : EltTy} (mr : Memref sig .tc .vmem s e) {r : Rect s}
    {hl : mr.view.LoadsAt r.toLoadRect} {k : (r.shape.Idx → Elt F e) → Prog (TpuEff nD τ sig (Elt F) Λ₀ .tc) α} {Q : α → sProp 𝕄}
    {X : s.Idx → Elt F e} {Y : r.shape.Idx → Elt F e} (hY : View.ld X r = Y) :
    owns (c : Thread nD τ) mr fullShare X
      ⊢ iprop((owns (c : Thread nD τ) mr fullShare X -∗ WP c (k Y) Q) -∗ WP c (.op (.load mr r.toLoadRect hl) k) Q) := by
  subst hY
  unfold owns
  iintro ⟨%f, %hf, H⟩ Hk
  subst hf
  iapply (wp_load (defs := defs₀ (F := F)) 𝒱₀ (c : Thread nD τ) none Set.univ (m := mr) (S := mr.view.set) (View.setOn_subset_set _ _)) $$ H
  iintro H
  iapply Hk
  iexists f
  isplitr
  · ipureintro; rfl
  iexact H

/-- A load of the whole of an owned memref reads its contents. -/
theorem load_full (c : Dev nD) {α : Type} {s : Shape} {e : EltTy} (mr : Memref sig .tc .vmem s e) {off : Fin s.rank → ℕ}
    {inb : ∀ a, off a + s.size a ≤ s.size a}
    {hl : mr.view.LoadsAt (Rect.unit off s.size inb).toLoadRect}
    {k : (s.Idx → Elt F e) → Prog (TpuEff nD τ sig (Elt F) Λ₀ .tc) α} {Q : α → sProp 𝕄}
    {X : s.Idx → Elt F e} :
    owns (c : Thread nD τ) mr fullShare X
      ⊢ iprop((owns (c : Thread nD τ) mr fullShare X -∗ WP c (k X) Q)
          -∗ WP c (.op (.load mr (Rect.unit off s.size inb).toLoadRect hl) k) Q) :=
  load_at c mr (r := Rect.unit off s.size inb) (X := X) (Y := X) (funext fun y => congrArg X (funext fun a => Fin.ext (by
    show off a + 1 * (y a).val = (y a).val
    have := inb a; omega)))

/-- A store over the whole of an owned memref leaves it holding the payload. -/
theorem store_full (c : Dev nD) {α : Type} {s : Shape} {e : EltTy} (mr : Memref sig .tc .vmem s e) {off : Fin s.rank → ℕ}
    {inb : ∀ a, off a + s.size a ≤ s.size a} {w : s.Idx → Elt F e}
    {hx : (mr.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} {Q : α → sProp 𝕄} {X : s.Idx → Elt F e} :
    owns (c : Thread nD τ) mr fullShare X
      ⊢ iprop((owns (c : Thread nD τ) mr fullShare w -∗ WP c (k ⟨⟩) Q)
          -∗ WP c (.op (.store mr (Rect.unit off s.size inb) w Finset.univ hx hm) k) Q) := by
  unfold owns
  iintro ⟨%f, %hf, H⟩ Hk
  iapply (wp_store (defs := defs₀ (F := F)) 𝒱₀ (c : Thread nD τ) none Set.univ (m := mr) (r := Rect.unit off s.size inb) (S := mr.view.set)
    (by rw [View.setOn_univ]; exact View.set_slice_subset _ _)) $$ H
  iintro H
  iapply Hk
  iexists ((mr.access (Rect.unit off s.size inb)).write (Elt F) f w Finset.univ)
  isplitr
  · ipureintro
    refine (View.readAt_full mr.view _ inb).symm.trans ?_
    exact View.read_write_univ (v := mr.access (Rect.unit off s.size inb)) f w
  iexact H

/-! ### The running values of one head

`kA p` and `vA p` are the keys and values of position `p`, `qA` the queries. -/

section Spec

variable (qA : Vec F S1x128x512 .bf16) (kA : ℕ → Vec F S1x1x256x128 .bf16) (vA : ℕ → Vec F S1x1x1x80x256 .bf16)

/-- The scores of position `p`. -/
def scoreAt (p : ℕ) : FVec F S256x512 .f32 := k0_pay8 (kA p) qA
/-- Their maxima over the rows that share a remainder modulo 8. -/
def cmAt (p : ℕ) : FVec F S8x512 .f32 := k0_pay9 (kA p) qA
/-- The running maximum before position `p`. -/
def maxAt : ℕ → FVec F S1x512 .f32
  | 0 => constant S1x512 .f32 0xFF800000#32
  | p + 1 => k0_pay4 (maxAt p) (cmAt qA kA p)
/-- The factor the sum before position `p` is rescaled by. -/
def alAt (p : ℕ) : FVec F S1x512 .f32 := k0_pay6 (maxAt qA kA p) (cmAt qA kA p)
/-- The weights of position `p`. -/
def probAt (p : ℕ) : FVec F S256x512 .bf16 := k0_pay5 (maxAt qA kA p) (cmAt qA kA p) (scoreAt qA kA p)
/-- The weighted sum of the values of the positions before `p`. -/
def accAt : ℕ → FVec F S80x512 .f32
  | 0 => k0_pay159
  | p + 1 => k0_pay3 (alAt qA kA p) (vA p) (accAt p) (probAt qA kA p)

theorem maxAt_succ (p : ℕ) : maxAt qA kA (p + 1) = k0_pay4 (maxAt qA kA p) (cmAt qA kA p) := rfl
theorem accAt_succ (p : ℕ) : accAt qA kA vA (p + 1) = k0_pay3 (alAt qA kA p) (vA p) (accAt qA kA vA p) (probAt qA kA p) := rfl

end Spec

/-- The block's result from the two heads' sums. -/
def outOf (a0 a1 : FVec F S80x512 .f32) : FVec F S1x512x128 .bf16 := k0_pay2 (k0_pay237 a0) a1

/-! ### The stages -/

/-- The programs the kernel's body is made of. -/
abbrev PT (F : FTy → Type) [FloatOps F] (α : Type) := Prog (TpuEff nD τ sig (Elt F) Λ₀ .tc) α

/-- Store over a whole 80 × 512 sum, after the load the compiler places before it. -/
def putA (A : Memref sig .tc .vmem S80x512 .f32) (w : FVec F S80x512 .f32) : PT F PUnit :=
  .op (.load A (Rect.unit (s := S80x512) ![0, 0] S80x512.size inb_S80x512_S80x512_0_0).toLoadRect (View.loadsAt_vmem h_S80x512)) fun _ =>
  .op (.store A (Rect.unit (s := S80x512) ![0, 0] S80x512.size inb_S80x512_S80x512_0_0) w Finset.univ (View.stores_vmem_bits_univ h_S80x512 rfl) (.inl rfl)) fun _ =>
  .ret ⟨⟩

/-- The rescaled sum plus the product of the values with the weights. -/
def stC {d : Fin 5 → ℕ} (MV : Memref sig .tc .vmem ⟨5, d⟩ .bf16) (off : Fin 5 → ℕ)
    (inb : ∀ a, off a + S1x1x1x80x256.size a ≤ d a)
    (A : Memref sig .tc .vmem S80x512 .f32) (Pr : Memref sig .tc .vmem S256x512 .bf16) (al : FVec F S1x512 .f32) : PT F PUnit :=
  .op (.load MV (Rect.unit (s := ⟨5, d⟩) off S1x1x1x80x256.size inb).toLoadRect (View.loadsAt_vmem h_S1x1x1x80x256)) fun v =>
  .op (.load A (Rect.unit (s := S80x512) ![0, 0] S80x512.size inb_S80x512_S80x512_0_0).toLoadRect (View.loadsAt_vmem h_S80x512)) fun a =>
  .op (.load Pr (Rect.unit (s := S256x512) ![0, 0] S256x512.size inb_S256x512_S256x512_0_0).toLoadRect (View.loadsAt_vmem h_S256x512)) fun p =>
  putA A (k0_pay3 al v a p)

/-- The weights of a position from its scores, and the running maximum and factor. -/
def stB (Sr : Memref sig .tc .vmem S256x512 .f32) (Pw : Memref sig .tc .vmem S256x512 .bf16) (hPw : Pw.IsWhole)
    (m : FVec F S1x512 .f32) (cm : FVec F S8x512 .f32) : PT F (FVec F S1x512 .f32 × FVec F S1x512 .f32) :=
  .op (.load Sr (Rect.unit (s := S256x512) ![0, 0] S256x512.size inb_S256x512_S256x512_0_0).toLoadRect (View.loadsAt_vmem h_S256x512)) fun s =>
  .op (.load Pw (Rect.unit (s := S256x512) ![0, 0] S256x512.size inb_S256x512_S256x512_0_0).toLoadRect (View.loadsAt_vmem h_S256x512)) fun _ =>
  .op (.store Pw (Rect.unit (s := S256x512) ![0, 0] S256x512.size inb_S256x512_S256x512_0_0) (k0_pay5 m cm s) Finset.univ
    (View.stores_vmem h_S256x512 (hPw.storeExact_slice rfl _ packedbf16_S256x512_S256x512_0_0) (fun _ => rfl)) (.inl rfl)) fun _ =>
  .ret (k0_pay4 m cm, k0_pay6 m cm)

/-- The scores of a position and their maxima. -/
def stA {d : Fin 4 → ℕ} (MK : Memref sig .tc .vmem ⟨4, d⟩ .bf16) (off : Fin 4 → ℕ)
    (inb : ∀ a, off a + S1x1x256x128.size a ≤ d a)
    (MQ : Memref sig .tc .vmem S1x256x512 .bf16) (offQ : Fin 3 → ℕ) (inbQ : ∀ a, offQ a + S1x128x512.size a ≤ S1x256x512.size a)
    (Sw : Memref sig .tc .vmem S256x512 .f32) : PT F (FVec F S8x512 .f32) :=
  .op (.load MK (Rect.unit (s := ⟨4, d⟩) off S1x1x256x128.size inb).toLoadRect (View.loadsAt_vmem h_S1x1x256x128)) fun k =>
  .op (.load MQ (Rect.unit (s := S1x256x512) offQ S1x128x512.size inbQ).toLoadRect (View.loadsAt_vmem h_S1x128x512)) fun q =>
  .op (.load Sw (Rect.unit (s := S256x512) ![0, 0] S256x512.size inb_S256x512_S256x512_0_0).toLoadRect (View.loadsAt_vmem h_S256x512)) fun _ =>
  .op (.store Sw (Rect.unit (s := S256x512) ![0, 0] S256x512.size inb_S256x512_S256x512_0_0) (k0_pay8 k q) Finset.univ (View.stores_vmem_bits_univ h_S256x512 rfl) (.inl rfl)) fun _ =>
  .ret (k0_pay9 k q)

/-! ### What the stages do -/

/-- A memref held at some contents. -/
def some_ (c : Dev nD) {s : Shape} {e : EltTy} (mr : Memref sig .tc .vmem s e) : sProp 𝕄 :=
  iprop(∃ X, owns (c : Thread nD τ) mr fullShare X)

theorem putA_wp (c : Dev nD) {α : Type} {Q : α → sProp 𝕄} (A : Memref sig .tc .vmem S80x512 .f32) (w : FVec F S80x512 .f32) {k : PUnit → PT F α} :
    some_ c A
      ⊢ iprop((owns (c : Thread nD τ) A fullShare w -∗ WP c (k ⟨⟩) Q) -∗ WP c (putA A w >>= k) Q) := by
  unfold some_
  iintro ⟨%X, HA⟩ Hk
  simp only [putA, Prog.bind_op, Prog.bind_ret]
  iapply (load_full c A) $$ HA; iintro HA
  iapply (store_full c A) $$ HA; iintro HA
  iapply Hk; iexact HA

theorem stC_wp (c : Dev nD) {α : Type} {Q : α → sProp 𝕄} {d : Fin 5 → ℕ} (MV : Memref sig .tc .vmem ⟨5, d⟩ .bf16) {off : Fin 5 → ℕ}
    {inb : ∀ a, off a + S1x1x1x80x256.size a ≤ d a}
    (A : Memref sig .tc .vmem S80x512 .f32) (Pr : Memref sig .tc .vmem S256x512 .bf16) {al : FVec F S1x512 .f32}
    {XV : (⟨5, d⟩ : Shape).Idx → Elt F .bf16} {v : Vec F S1x1x1x80x256 .bf16} {a : FVec F S80x512 .f32} {p : FVec F S256x512 .bf16}
    (hv : View.ld XV (Rect.unit (s := ⟨5, d⟩) off S1x1x1x80x256.size inb) = v) {k : PUnit → PT F α} :
    iprop(owns (c : Thread nD τ) MV fullShare XV ∗ owns (c : Thread nD τ) A fullShare a ∗ owns (c : Thread nD τ) Pr fullShare p)
      ⊢ iprop((owns (c : Thread nD τ) MV fullShare XV -∗ owns (c : Thread nD τ) A fullShare (k0_pay3 al v a p)
            -∗ owns (c : Thread nD τ) Pr fullShare p -∗ WP c (k ⟨⟩) Q)
          -∗ WP c (stC MV off inb A Pr al >>= k) Q) := by
  iintro ⟨HV, HA, HP⟩ Hk
  simp only [stC, Prog.bind_op, Prog.bind_ret]
  iapply (load_at c MV hv) $$ HV; iintro HV
  iapply (load_full c A) $$ HA; iintro HA
  iapply (load_full c Pr) $$ HP; iintro HP
  ihave HA2 : some_ c A $$ [HA]
  · unfold some_; iexists a; iexact HA
  iapply (putA_wp c A _) $$ HA2; iintro HA
  iapply Hk $$ HV HA HP

theorem stB_wp (c : Dev nD) {α : Type} {Q : α → sProp 𝕄} (Sr : Memref sig .tc .vmem S256x512 .f32) (Pw : Memref sig .tc .vmem S256x512 .bf16) {hPw : Pw.IsWhole}
    {m : FVec F S1x512 .f32} {cm : FVec F S8x512 .f32} {s : FVec F S256x512 .f32}
    {k : FVec F S1x512 .f32 × FVec F S1x512 .f32 → PT F α} :
    iprop(owns (c : Thread nD τ) Sr fullShare s ∗ some_ c Pw)
      ⊢ iprop((owns (c : Thread nD τ) Sr fullShare s -∗ owns (c : Thread nD τ) Pw fullShare (k0_pay5 m cm s)
            -∗ WP c (k (k0_pay4 m cm, k0_pay6 m cm)) Q)
          -∗ WP c (stB Sr Pw hPw m cm >>= k) Q) := by
  unfold some_
  iintro ⟨HS, ⟨%X, HP⟩⟩ Hk
  simp only [stB, Prog.bind_op, Prog.bind_ret]
  iapply (load_full c Sr) $$ HS; iintro HS
  iapply (load_full c Pw) $$ HP; iintro HP
  iapply (store_full c Pw) $$ HP; iintro HP
  iapply Hk $$ HS HP

theorem stA_wp (c : Dev nD) {α : Type} {Q : α → sProp 𝕄} {d : Fin 4 → ℕ} (MK : Memref sig .tc .vmem ⟨4, d⟩ .bf16) {off : Fin 4 → ℕ}
    {inb : ∀ a, off a + S1x1x256x128.size a ≤ d a}
    (MQ : Memref sig .tc .vmem S1x256x512 .bf16) {offQ : Fin 3 → ℕ} {inbQ : ∀ a, offQ a + S1x128x512.size a ≤ S1x256x512.size a}
    (Sw : Memref sig .tc .vmem S256x512 .f32)
    {XK : (⟨4, d⟩ : Shape).Idx → Elt F .bf16} {XQ : S1x256x512.Idx → Elt F .bf16}
    {kv : Vec F S1x1x256x128 .bf16} {qv : Vec F S1x128x512 .bf16}
    (hk : View.ld XK (Rect.unit (s := ⟨4, d⟩) off S1x1x256x128.size inb) = kv)
    (hq : View.ld XQ (Rect.unit (s := S1x256x512) offQ S1x128x512.size inbQ) = qv)
    {k : FVec F S8x512 .f32 → PT F α} :
    iprop(owns (c : Thread nD τ) MK fullShare XK ∗ owns (c : Thread nD τ) MQ fullShare XQ ∗ some_ c Sw)
      ⊢ iprop((owns (c : Thread nD τ) MK fullShare XK -∗ owns (c : Thread nD τ) MQ fullShare XQ
            -∗ owns (c : Thread nD τ) Sw fullShare (k0_pay8 kv qv) -∗ WP c (k (k0_pay9 kv qv)) Q)
          -∗ WP c (stA MK off inb MQ offQ inbQ Sw >>= k) Q) := by
  unfold some_
  iintro ⟨HK, HQ, ⟨%X, HS⟩⟩ Hk
  simp only [stA, Prog.bind_op, Prog.bind_ret]
  iapply (load_at c MK hk) $$ HK; iintro HK
  iapply (load_at c MQ hq) $$ HQ; iintro HQ
  iapply (load_full c Sw) $$ HS; iintro HS
  iapply (store_full c Sw) $$ HS; iintro HS
  iapply Hk $$ HK HQ HS

/-! ### One position of one head -/

/-- A head between positions: before position `p + 1`'s weights, its scores in `sr`, position `p`'s weights in
    `pr`, the sum of the positions before `p` in `A`; `sw` and `pw` are free. -/
def Hd (c : Dev nD) (qA : Vec F S1x128x512 .bf16) (kA : ℕ → Vec F S1x1x256x128 .bf16) (vA : ℕ → Vec F S1x1x1x80x256 .bf16) (p : ℕ)
    (sr sw : Memref sig .tc .vmem S256x512 .f32) (pr pw : Memref sig .tc .vmem S256x512 .bf16)
    (A : Memref sig .tc .vmem S80x512 .f32) : sProp 𝕄 :=
  iprop(owns (c : Thread nD τ) sr fullShare (scoreAt qA kA (p + 1)) ∗ some_ c sw ∗ owns (c : Thread nD τ) pr fullShare (probAt qA kA p)
    ∗ some_ c pw ∗ owns (c : Thread nD τ) A fullShare (accAt qA kA vA p))

/-- What a head carries in registers between positions. -/
abbrev Carry (F : FTy → Type) := FVec F S1x512 .f32 × FVec F S1x512 .f32 × FVec F S8x512 .f32

/-- The carried values before position `p + 1`'s weights. -/
def carryAt (qA : Vec F S1x128x512 .bf16) (kA : ℕ → Vec F S1x1x256x128 .bf16) (p : ℕ) : Carry F :=
  (maxAt qA kA (p + 1), alAt qA kA p, cmAt qA kA (p + 1))

/-- One position of one head. -/
def hstep {d : Fin 5 → ℕ} (MV : Memref sig .tc .vmem ⟨5, d⟩ .bf16) (off : Fin 5 → ℕ)
    (inb : ∀ a, off a + S1x1x1x80x256.size a ≤ d a)
    {d' : Fin 4 → ℕ} (MK : Memref sig .tc .vmem ⟨4, d'⟩ .bf16) (offK : Fin 4 → ℕ)
    (inbK : ∀ a, offK a + S1x1x256x128.size a ≤ d' a)
    (MQ : Memref sig .tc .vmem S1x256x512 .bf16) (offQ : Fin 3 → ℕ) (inbQ : ∀ a, offQ a + S1x128x512.size a ≤ S1x256x512.size a)
    (sr sw : Memref sig .tc .vmem S256x512 .f32) (pr pw : Memref sig .tc .vmem S256x512 .bf16) (hpw : pw.IsWhole)
    (A : Memref sig .tc .vmem S80x512 .f32) (x : Carry F) : PT F (Carry F) :=
  (stC MV off inb A pr x.2.1) >>= fun _ =>
  (stB sr pw hpw x.1 x.2.2) >>= fun y =>
  (stA MK offK inbK MQ offQ inbQ sw) >>= fun cm => .ret (y.1, y.2, cm)

theorem hstep_wp (c : Dev nD) {α : Type} {Q : α → sProp 𝕄} {d : Fin 5 → ℕ} (MV : Memref sig .tc .vmem ⟨5, d⟩ .bf16) {off : Fin 5 → ℕ}
    {inb : ∀ a, off a + S1x1x1x80x256.size a ≤ d a}
    {d' : Fin 4 → ℕ} (MK : Memref sig .tc .vmem ⟨4, d'⟩ .bf16) {offK : Fin 4 → ℕ}
    {inbK : ∀ a, offK a + S1x1x256x128.size a ≤ d' a}
    (MQ : Memref sig .tc .vmem S1x256x512 .bf16) {offQ : Fin 3 → ℕ} {inbQ : ∀ a, offQ a + S1x128x512.size a ≤ S1x256x512.size a}
    (sr sw : Memref sig .tc .vmem S256x512 .f32) (pr pw : Memref sig .tc .vmem S256x512 .bf16) {hpw : pw.IsWhole}
    (A : Memref sig .tc .vmem S80x512 .f32)
    {XV : (⟨5, d⟩ : Shape).Idx → Elt F .bf16} {XK : (⟨4, d'⟩ : Shape).Idx → Elt F .bf16} {XQ : S1x256x512.Idx → Elt F .bf16}
    (qA : Vec F S1x128x512 .bf16) (kA : ℕ → Vec F S1x1x256x128 .bf16) (vA : ℕ → Vec F S1x1x1x80x256 .bf16) (p : ℕ)
    (hv : View.ld XV (Rect.unit (s := ⟨5, d⟩) off S1x1x1x80x256.size inb) = vA p)
    (hk : View.ld XK (Rect.unit (s := ⟨4, d'⟩) offK S1x1x256x128.size inbK) = kA (p + 2))
    (hq : View.ld XQ (Rect.unit (s := S1x256x512) offQ S1x128x512.size inbQ) = qA)
    {k : Carry F → PT F α} :
    iprop(owns (c : Thread nD τ) MV fullShare XV ∗ owns (c : Thread nD τ) MK fullShare XK ∗ owns (c : Thread nD τ) MQ fullShare XQ
        ∗ Hd c qA kA vA p sr sw pr pw A)
      ⊢ iprop((owns (c : Thread nD τ) MV fullShare XV -∗ owns (c : Thread nD τ) MK fullShare XK -∗ owns (c : Thread nD τ) MQ fullShare XQ
            -∗ Hd c qA kA vA (p + 1) sw sr pw pr A -∗ WP c (k (carryAt qA kA (p + 1))) Q)
          -∗ WP c (hstep MV off inb MK offK inbK MQ offQ inbQ sr sw pr pw hpw A (carryAt qA kA p) >>= k) Q) := by
  unfold Hd
  rw [accAt_succ]
  dsimp only [carryAt]
  iintro ⟨HV, HK, HQ, Hsr, Hsw, Hpr, Hpw, HA⟩ Hk
  simp only [hstep, Prog.bind_assoc, Prog.bind_ret]
  ihave H : iprop(owns (c : Thread nD τ) MV fullShare XV ∗ owns (c : Thread nD τ) A fullShare (accAt qA kA vA p) ∗ owns (c : Thread nD τ) pr fullShare (probAt qA kA p)) $$ [HV HA Hpr]
  · isplitl [HV]; · iexact HV
    isplitl [HA]; · iexact HA
    iexact Hpr
  have e := stC_wp c (Q := Q) MV A pr (al := alAt qA kA p) (a := accAt qA kA vA p) (p := probAt qA kA p) hv
   (k := fun _ => (stB sr pw hpw (maxAt qA kA (p + 1)) (cmAt qA kA (p + 1))) >>= fun y =>
    (stA MK offK inbK MQ offQ inbQ sw) >>= fun cm => k (y.1, y.2, cm))
  iapply e $$ H
  iintro HV HA Hpr
  ihave H : iprop(owns (c : Thread nD τ) sr fullShare (scoreAt qA kA (p + 1)) ∗ some_ c pw) $$ [Hsr Hpw]
  · isplitl [Hsr]; · iexact Hsr
    iexact Hpw
  iapply (stB_wp c sr pw) $$ H; iintro Hsr Hpw
  ihave H : iprop(owns (c : Thread nD τ) MK fullShare XK ∗ owns (c : Thread nD τ) MQ fullShare XQ ∗ some_ c sw) $$ [HK HQ Hsw]
  · isplitl [HK]; · iexact HK
    isplitl [HQ]; · iexact HQ
    iexact Hsw
  iapply (stA_wp c MK MQ sw hk hq) $$ H; iintro HK HQ Hsw
  iapply Hk $$ HV HK HQ
  isplitl [Hsw]; · iexact Hsw
  isplitl [Hsr]; · unfold some_; iexists _; iexact Hsr
  isplitl [Hpw]; · iexact Hpw
  isplitl [Hpr]; · unfold some_; iexists _; iexact Hpr
  iexact HA

end Cert.Proof.Attn

end
-- ==== Proof.Shape.lean ====
/-
  The kernel's body as the stages of Steps.lean, by unfolding.
-/
module

public import proofs.«01_k».proof.Proof.Steps

@[expose] public section

set_option maxRecDepth 65536
set_option maxHeartbeats 4000000

noncomputable section

namespace Cert.Proof.Attn

open Cert.KernelIdeal Cert.KernelIdeal.Gen

open Idealize.ShloMosaic
open Idealize.ShloMosaic.TcCoe
open Idealize.SL.Sem

variable {F : FTy → Type} [FloatOps F]

variable (i : grid0.Coords) (arg3 : Memref sig .tc .vmem S1x256x512 .bf16) (harg3 : arg3.IsWhole) (arg4 : Memref sig .tc .vmem S1x2x256x128 .bf16) (harg4 : arg4.IsWhole) (arg5 : Memref sig .tc .vmem S1x1x2x80x256 .bf16) (harg5 : arg5.IsWhole) (arg6 : Memref sig .tc .vmem S1x2x16384x128 .bf16) (harg6 : arg6.IsWhole) (arg7 : Memref sig .tc .vmem S1x64x2x80x256 .bf16) (harg7 : arg7.IsWhole) (arg8 : Memref sig .tc .vmem S1x512x128 .bf16) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S80x512 .f32) (harg17 : arg17.IsWhole) (arg18 : Memref sig .tc .vmem S80x512 .f32) (harg18 : arg18.IsWhole)

/-- What both heads carry between positions. -/
abbrev Carry2 (F : FTy → Type) := Carry F × Carry F
/-- The same as the loop carries it. -/
def flat (x : Carry2 F) : FVec F S1x512 .f32 × FVec F S1x512 .f32 × FVec F S8x512 .f32 × FVec F S1x512 .f32 × FVec F S1x512 .f32 × FVec F S8x512 .f32 :=
  (x.1.1, x.1.2.1, x.1.2.2, x.2.1, x.2.2.1, x.2.2.2)

/-- One position of both heads in a trip of the loop, at an even offset in the trip. -/
def trE (k : Fin k0_t1_loop.trips) (u : Fin 10) : Carry2 F → PT F (Carry2 F) :=
  fun x => hstep arg7 (k0_off1 k (BitVec.ofNat 32 u.val)) (k0_off1_inb k u) arg6 (k0_off2 k (BitVec.ofNat 32 u.val)) (k0_off2_inb k u) arg3 ![0, 0, 0] inb_S1x256x512_S1x128x512_0_0_0 arg9 arg10 arg14 arg13 harg13 arg17 x.1 >>= fun a =>
    hstep arg7 (k0_off3 k (BitVec.ofNat 32 u.val)) (k0_off3_inb k u) arg6 (k0_off4 k (BitVec.ofNat 32 u.val)) (k0_off4_inb k u) arg3 ![0, 128, 0] inb_S1x256x512_S1x128x512_0_128_0 arg11 arg12 arg16 arg15 harg15 arg18 x.2 >>= fun b => .ret (a, b)

/-- One position of both heads in a trip of the loop, at an odd offset in the trip. -/
def trO (k : Fin k0_t1_loop.trips) (u : Fin 10) : Carry2 F → PT F (Carry2 F) :=
  fun x => hstep arg7 (k0_off1 k (BitVec.ofNat 32 u.val)) (k0_off1_inb k u) arg6 (k0_off2 k (BitVec.ofNat 32 u.val)) (k0_off2_inb k u) arg3 ![0, 0, 0] inb_S1x256x512_S1x128x512_0_0_0 arg10 arg9 arg13 arg14 harg14 arg17 x.1 >>= fun a =>
    hstep arg7 (k0_off3 k (BitVec.ofNat 32 u.val)) (k0_off3_inb k u) arg6 (k0_off4 k (BitVec.ofNat 32 u.val)) (k0_off4_inb k u) arg3 ![0, 128, 0] inb_S1x256x512_S1x128x512_0_128_0 arg12 arg11 arg15 arg16 harg16 arg18 x.2 >>= fun b => .ret (a, b)

/-- One trip of the loop. -/
def trip (k : Fin k0_t1_loop.trips) (x : Carry2 F) : PT F (Carry2 F) :=
  trE arg3 arg6 arg7 arg9 arg10 arg11 arg12 arg13 harg13 arg14 arg15 harg15 arg16 arg17 arg18 k 0 x >>= fun x =>
  trO arg3 arg6 arg7 arg9 arg10 arg11 arg12 arg13 arg14 harg14 arg15 arg16 harg16 arg17 arg18 k 1 x >>= fun x =>
  trE arg3 arg6 arg7 arg9 arg10 arg11 arg12 arg13 harg13 arg14 arg15 harg15 arg16 arg17 arg18 k 2 x >>= fun x =>
  trO arg3 arg6 arg7 arg9 arg10 arg11 arg12 arg13 arg14 harg14 arg15 arg16 harg16 arg17 arg18 k 3 x >>= fun x =>
  trE arg3 arg6 arg7 arg9 arg10 arg11 arg12 arg13 harg13 arg14 arg15 harg15 arg16 arg17 arg18 k 4 x >>= fun x =>
  trO arg3 arg6 arg7 arg9 arg10 arg11 arg12 arg13 arg14 harg14 arg15 arg16 harg16 arg17 arg18 k 5 x >>= fun x =>
  trE arg3 arg6 arg7 arg9 arg10 arg11 arg12 arg13 harg13 arg14 arg15 harg15 arg16 arg17 arg18 k 6 x >>= fun x =>
  trO arg3 arg6 arg7 arg9 arg10 arg11 arg12 arg13 arg14 harg14 arg15 arg16 harg16 arg17 arg18 k 7 x >>= fun x =>
  trE arg3 arg6 arg7 arg9 arg10 arg11 arg12 arg13 harg13 arg14 arg15 harg15 arg16 arg17 arg18 k 8 x >>= fun x =>
  trO arg3 arg6 arg7 arg9 arg10 arg11 arg12 arg13 arg14 harg14 arg15 arg16 harg16 arg17 arg18 k 9 x

theorem body_eq (v225 v235 : FVec F S1x512 .f32) (v245 : FVec F S8x512 .f32) (v259 v269 : FVec F S1x512 .f32) (v279 : FVec F S8x512 .f32) (c0_i32 : BitVec 32)
    (k : Fin k0_t1_loop.trips) (x : Carry2 F) :
    k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v225 v235 v245 v259 v269 v279 c0_i32 k (flat x)
      = trip arg3 arg6 arg7 arg9 arg10 arg11 arg12 arg13 harg13 arg14 harg14 arg15 harg15 arg16 harg16 arg17 arg18 k x >>= fun x => .ret (flat x) := by
  simp (maxSteps := 10000000) only [k0_t1_body, flat, trip, trE, trO, hstep, stA, stB, stC, putA, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel,
    Prog.lift, Prog.bind_op, Prog.bind_ret, Prog.pure_eq_ret]
  rfl

/-- The start of head 0: the scores of positions 0 and 1, and the weights of position 0. -/
def start0 : PT F (Carry F) :=
  putA arg17 k0_pay159 >>= fun _ =>
  stA arg4 ![0, 0, 0, 0] inb_S1x2x256x128_S1x1x256x128_0_0_0_0 arg3 ![0, 0, 0] inb_S1x256x512_S1x128x512_0_0_0 arg9 >>= fun cm =>
  stA arg6 ![0, 0, 0, 0] inb_S1x2x16384x128_S1x1x256x128_0_0_0_0 arg3 ![0, 0, 0] inb_S1x256x512_S1x128x512_0_0_0 arg10 >>= fun cm' =>
  stB arg9 arg13 harg13 (constant S1x512 .f32 0xFF800000#32) cm >>= fun y =>
  .ret (y.1, y.2, cm')

/-- The start of head 1: the scores of positions 0 and 1, and the weights of position 0. -/
def start1 : PT F (Carry F) :=
  putA arg18 k0_pay159 >>= fun _ =>
  stA arg4 ![0, 1, 0, 0] inb_S1x2x256x128_S1x1x256x128_0_1_0_0 arg3 ![0, 128, 0] inb_S1x256x512_S1x128x512_0_128_0 arg11 >>= fun cm =>
  stA arg6 ![0, 1, 0, 0] inb_S1x2x16384x128_S1x1x256x128_0_1_0_0 arg3 ![0, 128, 0] inb_S1x256x512_S1x128x512_0_128_0 arg12 >>= fun cm' =>
  stB arg11 arg15 harg15 (constant S1x512 .f32 0xFF800000#32) cm >>= fun y =>
  .ret (y.1, y.2, cm')

/-- The last two positions of head 0, and its sum. -/
def finish0 (x : Carry F) : PT F (FVec F S80x512 .f32) :=
  stC arg7 ![0, 62, 0, 0, 0] inb_S1x64x2x80x256_S1x1x1x80x256_0_62_0_0_0 arg17 arg14 x.2.1 >>= fun _ =>
  stB arg9 arg13 harg13 x.1 x.2.2 >>= fun y =>
  stC arg7 ![0, 63, 0, 0, 0] inb_S1x64x2x80x256_S1x1x1x80x256_0_63_0_0_0 arg17 arg13 y.2 >>= fun _ =>
  .op (β := S80x512.Idx → Elt F .f32) (.load arg17 (Rect.unit (s := S80x512) ![0, 0] S80x512.size inb_S80x512_S80x512_0_0).toLoadRect (View.loadsAt_vmem h_S80x512)) fun a => .ret a

/-- The last two positions of head 1, and its sum. -/
def finish1 (x : Carry F) : PT F (FVec F S80x512 .f32) :=
  stC arg7 ![0, 62, 1, 0, 0] inb_S1x64x2x80x256_S1x1x1x80x256_0_62_1_0_0 arg18 arg16 x.2.1 >>= fun _ =>
  stB arg11 arg15 harg15 x.1 x.2.2 >>= fun y =>
  stC arg7 ![0, 63, 1, 0, 0] inb_S1x64x2x80x256_S1x1x1x80x256_0_63_1_0_0 arg18 arg15 y.2 >>= fun _ =>
  .op (β := S80x512.Idx → Elt F .f32) (.load arg18 (Rect.unit (s := S80x512) ![0, 0] S80x512.size inb_S80x512_S80x512_0_0).toLoadRect (View.loadsAt_vmem h_S80x512)) fun a => .ret a

/-- The result's block. -/
def putOut (a0 a1 : FVec F S80x512 .f32) : PT F PUnit :=
  .op (.load arg8 (Rect.unit (s := S1x512x128) ![0, 0, 0] S1x512x128.size inb_S1x512x128_S1x512x128_0_0_0).toLoadRect (View.loadsAt_vmem h_S1x512x128)) fun _ =>
  .op (.store arg8 (Rect.unit (s := S1x512x128) ![0, 0, 0] S1x512x128.size inb_S1x512x128_S1x512x128_0_0_0) (outOf a0 a1) Finset.univ (View.stores_vmem h_S1x512x128 (harg8.storeExact_slice rfl _ packedbf16_S1x512x128_S1x512x128_0_0_0) (fun _ => rfl)) (.inl rfl)) fun _ =>
  .ret ⟨⟩

/-- Position 0 of head 0. -/
def peel0_0 (x : Carry F) : PT F (Carry F) :=
  hstep arg5 ![0, 0, 0, 0, 0] inb_S1x1x2x80x256_S1x1x1x80x256_0_0_0_0_0 arg6 ![0, 0, 256, 0] inb_S1x2x16384x128_S1x1x256x128_0_0_256_0 arg3 ![0, 0, 0] inb_S1x256x512_S1x128x512_0_0_0 arg10 arg9 arg13 arg14 harg14 arg17 x

/-- Position 0 of head 1. -/
def peel0_1 (x : Carry F) : PT F (Carry F) :=
  hstep arg5 ![0, 0, 1, 0, 0] inb_S1x1x2x80x256_S1x1x1x80x256_0_0_1_0_0 arg6 ![0, 1, 256, 0] inb_S1x2x16384x128_S1x1x256x128_0_1_256_0 arg3 ![0, 128, 0] inb_S1x256x512_S1x128x512_0_128_0 arg12 arg11 arg15 arg16 harg16 arg18 x

/-- Position 1 of head 0. -/
def peel1_0 (x : Carry F) : PT F (Carry F) :=
  hstep arg7 ![0, 0, 0, 0, 0] inb_S1x64x2x80x256_S1x1x1x80x256_0_0_0_0_0 arg6 ![0, 0, 512, 0] inb_S1x2x16384x128_S1x1x256x128_0_0_512_0 arg3 ![0, 0, 0] inb_S1x256x512_S1x128x512_0_0_0 arg9 arg10 arg14 arg13 harg13 arg17 x

/-- Position 1 of head 1. -/
def peel1_1 (x : Carry F) : PT F (Carry F) :=
  hstep arg7 ![0, 0, 1, 0, 0] inb_S1x64x2x80x256_S1x1x1x80x256_0_0_1_0_0 arg6 ![0, 1, 512, 0] inb_S1x2x16384x128_S1x1x256x128_0_1_512_0 arg3 ![0, 128, 0] inb_S1x256x512_S1x128x512_0_128_0 arg11 arg12 arg16 arg15 harg15 arg18 x

/-- Position 2 of head 0. -/
def peel2_0 (x : Carry F) : PT F (Carry F) :=
  hstep arg7 ![0, 1, 0, 0, 0] inb_S1x64x2x80x256_S1x1x1x80x256_0_1_0_0_0 arg6 ![0, 0, 768, 0] inb_S1x2x16384x128_S1x1x256x128_0_0_768_0 arg3 ![0, 0, 0] inb_S1x256x512_S1x128x512_0_0_0 arg10 arg9 arg13 arg14 harg14 arg17 x

/-- Position 2 of head 1. -/
def peel2_1 (x : Carry F) : PT F (Carry F) :=
  hstep arg7 ![0, 1, 1, 0, 0] inb_S1x64x2x80x256_S1x1x1x80x256_0_1_1_0_0 arg6 ![0, 1, 768, 0] inb_S1x2x16384x128_S1x1x256x128_0_1_768_0 arg3 ![0, 128, 0] inb_S1x256x512_S1x128x512_0_128_0 arg12 arg11 arg15 arg16 harg16 arg18 x

/-- The whole body around a loop of trips `body`. -/
def whole (loop : Carry2 F → PT F (FVec F S1x512 .f32 × FVec F S1x512 .f32 × FVec F S8x512 .f32 × FVec F S1x512 .f32 × FVec F S1x512 .f32 × FVec F S8x512 .f32)) : PT F PUnit :=
  start0 arg3 arg4 arg6 arg9 arg10 arg13 harg13 arg17 >>= fun x0 => start1 arg3 arg4 arg6 arg11 arg12 arg15 harg15 arg18 >>= fun x1 =>
  peel0_0 arg3 arg5 arg6 arg9 arg10 arg13 arg14 harg14 arg17 x0 >>= fun x0 =>
  peel0_1 arg3 arg5 arg6 arg11 arg12 arg15 arg16 harg16 arg18 x1 >>= fun x1 =>
  peel1_0 arg3 arg6 arg7 arg9 arg10 arg13 harg13 arg14 arg17 x0 >>= fun x0 =>
  peel1_1 arg3 arg6 arg7 arg11 arg12 arg15 harg15 arg16 arg18 x1 >>= fun x1 =>
  peel2_0 arg3 arg6 arg7 arg9 arg10 arg13 arg14 harg14 arg17 x0 >>= fun x0 =>
  peel2_1 arg3 arg6 arg7 arg11 arg12 arg15 arg16 harg16 arg18 x1 >>= fun x1 =>
  loop (x0, x1) >>= fun x =>
  finish0 arg7 arg9 arg13 harg13 arg14 arg17 (x.1, x.2.1, x.2.2.1) >>= fun a0 => finish1 arg7 arg11 arg15 harg15 arg16 arg18 (x.2.2.2.1, x.2.2.2.2.1, x.2.2.2.2.2) >>= fun a1 => putOut arg8 harg8 a0 a1

theorem attention_eq :
    cc0_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      = whole arg3 arg4 arg5 arg6 arg7 arg8 harg8 arg9 arg10 arg11 arg12 arg13 harg13 arg14 harg14 arg15 harg15 arg16 harg16 arg17 arg18 (fun x =>
          Scf.Loop.for k0_t1_loop k0_t1_ok (flat x) (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x.1.1 x.1.2.1 x.1.2.2 x.2.1 x.2.2.1 x.2.2.2 0#32)) := by
  rw [cc0_attention_eq_skeleton]
  simp (maxSteps := 10000000) only [cc0_attention_skel, flat, whole, start0, start1, peel0_0, peel0_1, peel1_0, peel1_1, peel2_0, peel2_1, finish0, finish1, putOut,
    hstep, stA, stB, stC, putA, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel,
    Prog.lift, Prog.bind_op, Prog.bind_ret, Prog.pure_eq_ret, Prog.bind_assoc]
  rfl

end Cert.Proof.Attn

end
-- ==== Proof.Body.lean ====
/-
  What the kernel's body leaves, from the blocks its operands hold: the loop's invariant, and the body's triple.
-/
module

public import proofs.«01_k».proof.Proof.Shape

@[expose] public section

set_option maxRecDepth 8192
set_option maxHeartbeats 1000000

noncomputable section

namespace Cert.Proof.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ### The blocks by position -/

omit [FloatOps F] in
/-- Windows at equal offsets are equal. -/
theorem ld_off {s : Shape} {e : EltTy} (X : s.Idx → Elt F e) {off off' size : Fin s.rank → ℕ} (h : off = off')
    (inb : ∀ a, off a + size a ≤ s.size a) (inb' : ∀ a, off' a + size a ≤ s.size a) :
    View.ld X (Rect.unit off size inb) = View.ld X (Rect.unit off' size inb') := by
  subst h; rfl

theorem kin0 (p : ℕ) (h : p < 64) : ∀ a, (![0, 0, 256 * p, 0] : Fin 4 → ℕ) a + S1x1x256x128.size a ≤ S1x2x16384x128.size a := by
  intro a; fin_cases a <;> simp [S1x1x256x128, S1x2x16384x128] <;> omega
theorem vin0 (p : ℕ) (h : p < 64) : ∀ a, (![0, p, 0, 0, 0] : Fin 5 → ℕ) a + S1x1x1x80x256.size a ≤ S1x64x2x80x256.size a := by
  intro a; fin_cases a <;> simp [S1x1x1x80x256, S1x64x2x80x256] <;> omega

/-- Head 0's queries. -/
def qB0 (XQ : S1x256x512.Idx → Elt F .bf16) : Vec F S1x128x512 .bf16 :=
  View.ld XQ (Rect.unit (s := S1x256x512) ![0, 0, 0] S1x128x512.size inb_S1x256x512_S1x128x512_0_0_0)
/-- Head 0's keys of each position. -/
def kB0 (XC : S1x2x256x128.Idx → Elt F .bf16) (XK : S1x2x16384x128.Idx → Elt F .bf16) : ℕ → Vec F S1x1x256x128 .bf16
  | 0 => View.ld XC (Rect.unit (s := S1x2x256x128) ![0, 0, 0, 0] S1x1x256x128.size inb_S1x2x256x128_S1x1x256x128_0_0_0_0)
  | p + 1 => if h : p < 64 then View.ld XK (Rect.unit (s := S1x2x16384x128) ![0, 0, 256 * p, 0] S1x1x256x128.size (kin0 p h)) else fun _ => FloatOps.ofBits .bf16 0#16
/-- Head 0's values of each position. -/
def vB0 (XC : S1x1x2x80x256.Idx → Elt F .bf16) (XV : S1x64x2x80x256.Idx → Elt F .bf16) : ℕ → Vec F S1x1x1x80x256 .bf16
  | 0 => View.ld XC (Rect.unit (s := S1x1x2x80x256) ![0, 0, 0, 0, 0] S1x1x1x80x256.size inb_S1x1x2x80x256_S1x1x1x80x256_0_0_0_0_0)
  | p + 1 => if h : p < 64 then View.ld XV (Rect.unit (s := S1x64x2x80x256) ![0, p, 0, 0, 0] S1x1x1x80x256.size (vin0 p h)) else fun _ => FloatOps.ofBits .bf16 0#16

theorem kB0_at (XC : S1x2x256x128.Idx → Elt F .bf16) (XK : S1x2x16384x128.Idx → Elt F .bf16) (p : ℕ) (h : p < 64)
    {off : Fin 4 → ℕ} (ho : off = ![0, 0, 256 * p, 0]) (inb : ∀ a, off a + S1x1x256x128.size a ≤ S1x2x16384x128.size a) :
    View.ld XK (Rect.unit (s := S1x2x16384x128) off S1x1x256x128.size inb) = kB0 XC XK (p + 1) := by
  rw [kB0, dif_pos h]; exact ld_off XK ho _ _
theorem vB0_at (XC : S1x1x2x80x256.Idx → Elt F .bf16) (XV : S1x64x2x80x256.Idx → Elt F .bf16) (p : ℕ) (h : p < 64)
    {off : Fin 5 → ℕ} (ho : off = ![0, p, 0, 0, 0]) (inb : ∀ a, off a + S1x1x1x80x256.size a ≤ S1x64x2x80x256.size a) :
    View.ld XV (Rect.unit (s := S1x64x2x80x256) off S1x1x1x80x256.size inb) = vB0 XC XV (p + 1) := by
  rw [vB0, dif_pos h]; exact ld_off XV ho _ _

theorem kin1 (p : ℕ) (h : p < 64) : ∀ a, (![0, 1, 256 * p, 0] : Fin 4 → ℕ) a + S1x1x256x128.size a ≤ S1x2x16384x128.size a := by
  intro a; fin_cases a <;> simp [S1x1x256x128, S1x2x16384x128] <;> omega
theorem vin1 (p : ℕ) (h : p < 64) : ∀ a, (![0, p, 1, 0, 0] : Fin 5 → ℕ) a + S1x1x1x80x256.size a ≤ S1x64x2x80x256.size a := by
  intro a; fin_cases a <;> simp [S1x1x1x80x256, S1x64x2x80x256] <;> omega

/-- Head 1's queries. -/
def qB1 (XQ : S1x256x512.Idx → Elt F .bf16) : Vec F S1x128x512 .bf16 :=
  View.ld XQ (Rect.unit (s := S1x256x512) ![0, 128, 0] S1x128x512.size inb_S1x256x512_S1x128x512_0_128_0)
/-- Head 1's keys of each position. -/
def kB1 (XC : S1x2x256x128.Idx → Elt F .bf16) (XK : S1x2x16384x128.Idx → Elt F .bf16) : ℕ → Vec F S1x1x256x128 .bf16
  | 0 => View.ld XC (Rect.unit (s := S1x2x256x128) ![0, 1, 0, 0] S1x1x256x128.size inb_S1x2x256x128_S1x1x256x128_0_1_0_0)
  | p + 1 => if h : p < 64 then View.ld XK (Rect.unit (s := S1x2x16384x128) ![0, 1, 256 * p, 0] S1x1x256x128.size (kin1 p h)) else fun _ => FloatOps.ofBits .bf16 0#16
/-- Head 1's values of each position. -/
def vB1 (XC : S1x1x2x80x256.Idx → Elt F .bf16) (XV : S1x64x2x80x256.Idx → Elt F .bf16) : ℕ → Vec F S1x1x1x80x256 .bf16
  | 0 => View.ld XC (Rect.unit (s := S1x1x2x80x256) ![0, 0, 1, 0, 0] S1x1x1x80x256.size inb_S1x1x2x80x256_S1x1x1x80x256_0_0_1_0_0)
  | p + 1 => if h : p < 64 then View.ld XV (Rect.unit (s := S1x64x2x80x256) ![0, p, 1, 0, 0] S1x1x1x80x256.size (vin1 p h)) else fun _ => FloatOps.ofBits .bf16 0#16

theorem kB1_at (XC : S1x2x256x128.Idx → Elt F .bf16) (XK : S1x2x16384x128.Idx → Elt F .bf16) (p : ℕ) (h : p < 64)
    {off : Fin 4 → ℕ} (ho : off = ![0, 1, 256 * p, 0]) (inb : ∀ a, off a + S1x1x256x128.size a ≤ S1x2x16384x128.size a) :
    View.ld XK (Rect.unit (s := S1x2x16384x128) off S1x1x256x128.size inb) = kB1 XC XK (p + 1) := by
  rw [kB1, dif_pos h]; exact ld_off XK ho _ _
theorem vB1_at (XC : S1x1x2x80x256.Idx → Elt F .bf16) (XV : S1x64x2x80x256.Idx → Elt F .bf16) (p : ℕ) (h : p < 64)
    {off : Fin 5 → ℕ} (ho : off = ![0, p, 1, 0, 0]) (inb : ∀ a, off a + S1x1x1x80x256.size a ≤ S1x64x2x80x256.size a) :
    View.ld XV (Rect.unit (s := S1x64x2x80x256) off S1x1x1x80x256.size inb) = vB1 XC XV (p + 1) := by
  rw [vB1, dif_pos h]; exact ld_off XV ho _ _

/-- The block of the result, from the operands' blocks. -/
def outB (XQ : S1x256x512.Idx → Elt F .bf16) (XKC : S1x2x256x128.Idx → Elt F .bf16) (XVC : S1x1x2x80x256.Idx → Elt F .bf16)
    (XK : S1x2x16384x128.Idx → Elt F .bf16) (XV : S1x64x2x80x256.Idx → Elt F .bf16) : FVec F S1x512x128 .bf16 :=
  outOf (accAt (qB0 XQ) (kB0 XKC XK) (vB0 XVC XV) 65) (accAt (qB1 XQ) (kB1 XKC XK) (vB1 XVC XV) 65)

section Body

variable (c : Dev nD) (i : grid0.Coords) (arg3 : Memref sig .tc .vmem S1x256x512 .bf16) (harg3 : arg3.IsWhole) (arg4 : Memref sig .tc .vmem S1x2x256x128 .bf16) (harg4 : arg4.IsWhole) (arg5 : Memref sig .tc .vmem S1x1x2x80x256 .bf16) (harg5 : arg5.IsWhole) (arg6 : Memref sig .tc .vmem S1x2x16384x128 .bf16) (harg6 : arg6.IsWhole) (arg7 : Memref sig .tc .vmem S1x64x2x80x256 .bf16) (harg7 : arg7.IsWhole) (arg8 : Memref sig .tc .vmem S1x512x128 .bf16) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .bf16) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S80x512 .f32) (harg17 : arg17.IsWhole) (arg18 : Memref sig .tc .vmem S80x512 .f32) (harg18 : arg18.IsWhole)
  (XQ : S1x256x512.Idx → Elt F .bf16) (XKC : S1x2x256x128.Idx → Elt F .bf16) (XVC : S1x1x2x80x256.Idx → Elt F .bf16)
  (XK : S1x2x16384x128.Idx → Elt F .bf16) (XV : S1x64x2x80x256.Idx → Elt F .bf16)

/-- Head 0 between positions. -/
abbrev H0 (p : ℕ) (sr sw : Memref sig .tc .vmem S256x512 .f32) (pr pw : Memref sig .tc .vmem S256x512 .bf16) : sProp 𝕄 :=
  Hd c (qB0 XQ) (kB0 XKC XK) (vB0 XVC XV) p sr sw pr pw arg17
/-- Head 1 between positions. -/
abbrev H1 (p : ℕ) (sr sw : Memref sig .tc .vmem S256x512 .f32) (pr pw : Memref sig .tc .vmem S256x512 .bf16) : sProp 𝕄 :=
  Hd c (qB1 XQ) (kB1 XKC XK) (vB1 XVC XV) p sr sw pr pw arg18
/-- The latents' operands. -/
abbrev In3 : sProp 𝕄 :=
  iprop(owns (c : Thread nD τ) arg7 fullShare XV ∗ owns (c : Thread nD τ) arg6 fullShare XK ∗ owns (c : Thread nD τ) arg3 fullShare XQ)
/-- Both heads' carried values. -/
def car (p : ℕ) : Carry2 F := (carryAt (qB0 XQ) (kB0 XKC XK) p, carryAt (qB1 XQ) (kB1 XKC XK) p)

theorem trE_wp {α : Type} {Q : α → sProp 𝕄} (k : Fin k0_t1_loop.trips) (u : Fin 10) (p : ℕ) (hp : p = 10 * k.val + u.val + 3) (kk : Carry2 F → PT F α) :
    iprop(In3 c arg3 arg6 arg7 XQ XK XV ∗ H0 c arg17 XQ XKC XVC XK XV p arg9 arg10 arg14 arg13 ∗ H1 c arg18 XQ XKC XVC XK XV p arg11 arg12 arg16 arg15)
      ⊢ iprop((iprop(In3 c arg3 arg6 arg7 XQ XK XV ∗ H0 c arg17 XQ XKC XVC XK XV (p + 1) arg10 arg9 arg13 arg14 ∗ H1 c arg18 XQ XKC XVC XK XV (p + 1) arg12 arg11 arg15 arg16)
            -∗ WP c (kk (car XQ XKC XK (p + 1))) Q)
          -∗ WP c (trE arg3 arg6 arg7 arg9 arg10 arg11 arg12 arg13 harg13 arg14 arg15 harg15 arg16 arg17 arg18 k u (car XQ XKC XK p) >>= kk) Q) := by
  have hk : k.val < 6 := k.isLt
  have hu := u.isLt
  unfold trE
  simp only [Prog.bind_assoc, Prog.bind_ret]
  iintro ⟨⟨HV, HK, HQ⟩, H0, H1⟩ Hk
  ihave H : iprop(owns (c : Thread nD τ) arg7 fullShare XV ∗ owns (c : Thread nD τ) arg6 fullShare XK ∗ owns (c : Thread nD τ) arg3 fullShare XQ ∗ H0 c arg17 XQ XKC XVC XK XV p arg9 arg10 arg14 arg13) $$ [HV HK HQ H0]
  · isplitl [HV]; · iexact HV
    isplitl [HK]; · iexact HK
    isplitl [HQ]; · iexact HQ
    iexact H0
  iapply (hstep_wp c (Q := Q) arg7 arg6 arg3 arg9 arg10 arg14 arg13 arg17 (qB0 XQ) (kB0 XKC XK) (vB0 XVC XV) p
    (by
      obtain ⟨q, rfl⟩ : ∃ q, p = q + 1 := ⟨p - 1, by omega⟩
      exact vB0_at XVC XV q (by omega) ((k0_off1_eq k u).trans (by rw [show 10 * k.val + u.val + 2 = q by omega])) _)
    (kB0_at XKC XK (p + 1) (by omega) ((k0_off2_eq k u).trans (by rw [show 2560 * k.val + 256 * u.val + 1024 = 256 * (p + 1) by omega])) _)
    rfl) $$ H
  iintro HV HK HQ H0
  ihave H : iprop(owns (c : Thread nD τ) arg7 fullShare XV ∗ owns (c : Thread nD τ) arg6 fullShare XK ∗ owns (c : Thread nD τ) arg3 fullShare XQ ∗ H1 c arg18 XQ XKC XVC XK XV p arg11 arg12 arg16 arg15) $$ [HV HK HQ H1]
  · isplitl [HV]; · iexact HV
    isplitl [HK]; · iexact HK
    isplitl [HQ]; · iexact HQ
    iexact H1
  iapply (hstep_wp c (Q := Q) arg7 arg6 arg3 arg11 arg12 arg16 arg15 arg18 (qB1 XQ) (kB1 XKC XK) (vB1 XVC XV) p
    (by
      obtain ⟨q, rfl⟩ : ∃ q, p = q + 1 := ⟨p - 1, by omega⟩
      exact vB1_at XVC XV q (by omega) ((k0_off3_eq k u).trans (by rw [show 10 * k.val + u.val + 2 = q by omega])) _)
    (kB1_at XKC XK (p + 1) (by omega) ((k0_off4_eq k u).trans (by rw [show 2560 * k.val + 256 * u.val + 1024 = 256 * (p + 1) by omega])) _)
    rfl) $$ H
  iintro HV HK HQ H1
  iapply Hk
  isplitl [HV HK HQ]
  · isplitl [HV]; · iexact HV
    isplitl [HK]; · iexact HK
    iexact HQ
  isplitl [H0]; · iexact H0
  iexact H1

theorem trO_wp {α : Type} {Q : α → sProp 𝕄} (k : Fin k0_t1_loop.trips) (u : Fin 10) (p : ℕ) (hp : p = 10 * k.val + u.val + 3) (kk : Carry2 F → PT F α) :
    iprop(In3 c arg3 arg6 arg7 XQ XK XV ∗ H0 c arg17 XQ XKC XVC XK XV p arg10 arg9 arg13 arg14 ∗ H1 c arg18 XQ XKC XVC XK XV p arg12 arg11 arg15 arg16)
      ⊢ iprop((iprop(In3 c arg3 arg6 arg7 XQ XK XV ∗ H0 c arg17 XQ XKC XVC XK XV (p + 1) arg9 arg10 arg14 arg13 ∗ H1 c arg18 XQ XKC XVC XK XV (p + 1) arg11 arg12 arg16 arg15)
            -∗ WP c (kk (car XQ XKC XK (p + 1))) Q)
          -∗ WP c (trO arg3 arg6 arg7 arg9 arg10 arg11 arg12 arg13 arg14 harg14 arg15 arg16 harg16 arg17 arg18 k u (car XQ XKC XK p) >>= kk) Q) := by
  have hk : k.val < 6 := k.isLt
  have hu := u.isLt
  unfold trO
  simp only [Prog.bind_assoc, Prog.bind_ret]
  iintro ⟨⟨HV, HK, HQ⟩, H0, H1⟩ Hk
  ihave H : iprop(owns (c : Thread nD τ) arg7 fullShare XV ∗ owns (c : Thread nD τ) arg6 fullShare XK ∗ owns (c : Thread nD τ) arg3 fullShare XQ ∗ H0 c arg17 XQ XKC XVC XK XV p arg10 arg9 arg13 arg14) $$ [HV HK HQ H0]
  · isplitl [HV]; · iexact HV
    isplitl [HK]; · iexact HK
    isplitl [HQ]; · iexact HQ
    iexact H0
  iapply (hstep_wp c (Q := Q) arg7 arg6 arg3 arg10 arg9 arg13 arg14 arg17 (qB0 XQ) (kB0 XKC XK) (vB0 XVC XV) p
    (by
      obtain ⟨q, rfl⟩ : ∃ q, p = q + 1 := ⟨p - 1, by omega⟩
      exact vB0_at XVC XV q (by omega) ((k0_off1_eq k u).trans (by rw [show 10 * k.val + u.val + 2 = q by omega])) _)
    (kB0_at XKC XK (p + 1) (by omega) ((k0_off2_eq k u).trans (by rw [show 2560 * k.val + 256 * u.val + 1024 = 256 * (p + 1) by omega])) _)
    rfl) $$ H
  iintro HV HK HQ H0
  ihave H : iprop(owns (c : Thread nD τ) arg7 fullShare XV ∗ owns (c : Thread nD τ) arg6 fullShare XK ∗ owns (c : Thread nD τ) arg3 fullShare XQ ∗ H1 c arg18 XQ XKC XVC XK XV p arg12 arg11 arg15 arg16) $$ [HV HK HQ H1]
  · isplitl [HV]; · iexact HV
    isplitl [HK]; · iexact HK
    isplitl [HQ]; · iexact HQ
    iexact H1
  iapply (hstep_wp c (Q := Q) arg7 arg6 arg3 arg12 arg11 arg15 arg16 arg18 (qB1 XQ) (kB1 XKC XK) (vB1 XVC XV) p
    (by
      obtain ⟨q, rfl⟩ : ∃ q, p = q + 1 := ⟨p - 1, by omega⟩
      exact vB1_at XVC XV q (by omega) ((k0_off3_eq k u).trans (by rw [show 10 * k.val + u.val + 2 = q by omega])) _)
    (kB1_at XKC XK (p + 1) (by omega) ((k0_off4_eq k u).trans (by rw [show 2560 * k.val + 256 * u.val + 1024 = 256 * (p + 1) by omega])) _)
    rfl) $$ H
  iintro HV HK HQ H1
  iapply Hk
  isplitl [HV HK HQ]
  · isplitl [HV]; · iexact HV
    isplitl [HK]; · iexact HK
    iexact HQ
  isplitl [H0]; · iexact H0
  iexact H1

/-- Both heads before an odd position's scores are used, and the latents' operands. -/
abbrev St (p : ℕ) : sProp 𝕄 := iprop(In3 c arg3 arg6 arg7 XQ XK XV ∗ H0 c arg17 XQ XKC XVC XK XV p arg9 arg10 arg14 arg13 ∗ H1 c arg18 XQ XKC XVC XK XV p arg11 arg12 arg16 arg15)

theorem trip_wp {α : Type} {Q : α → sProp 𝕄} (k : Fin k0_t1_loop.trips) (kk : Carry2 F → PT F α) :
    St c arg3 arg6 arg7 arg9 arg10 arg11 arg12 arg13 arg14 arg15 arg16 arg17 arg18 XQ XKC XVC XK XV (10 * k.val + 3)
      ⊢ iprop((St c arg3 arg6 arg7 arg9 arg10 arg11 arg12 arg13 arg14 arg15 arg16 arg17 arg18 XQ XKC XVC XK XV (10 * (k.val + 1) + 3)
            -∗ WP c (kk (car XQ XKC XK (10 * (k.val + 1) + 3))) Q)
          -∗ WP c (trip arg3 arg6 arg7 arg9 arg10 arg11 arg12 arg13 harg13 arg14 harg14 arg15 harg15 arg16 harg16 arg17 arg18 k (car XQ XKC XK (10 * k.val + 3)) >>= kk) Q) := by
  unfold trip
  simp only [Prog.bind_assoc]
  iintro H Hk
  iapply (trE_wp c (Q := Q) arg3 arg6 arg7 arg9 arg10 arg11 arg12 arg13 harg13 arg14 arg15 harg15 arg16 arg17 arg18 XQ XKC XVC XK XV k 0 (10 * k.val + 3) (by simp) _) $$ H; iintro H
  iapply (trO_wp c (Q := Q) arg3 arg6 arg7 arg9 arg10 arg11 arg12 arg13 arg14 harg14 arg15 arg16 harg16 arg17 arg18 XQ XKC XVC XK XV k 1 (10 * k.val + 3 + 1) (by simp) _) $$ H; iintro H
  iapply (trE_wp c (Q := Q) arg3 arg6 arg7 arg9 arg10 arg11 arg12 arg13 harg13 arg14 arg15 harg15 arg16 arg17 arg18 XQ XKC XVC XK XV k 2 (10 * k.val + 3 + 1 + 1) (by simp) _) $$ H; iintro H
  iapply (trO_wp c (Q := Q) arg3 arg6 arg7 arg9 arg10 arg11 arg12 arg13 arg14 harg14 arg15 arg16 harg16 arg17 arg18 XQ XKC XVC XK XV k 3 (10 * k.val + 3 + 1 + 1 + 1) (by simp) _) $$ H; iintro H
  iapply (trE_wp c (Q := Q) arg3 arg6 arg7 arg9 arg10 arg11 arg12 arg13 harg13 arg14 arg15 harg15 arg16 arg17 arg18 XQ XKC XVC XK XV k 4 (10 * k.val + 3 + 1 + 1 + 1 + 1) (by simp) _) $$ H; iintro H
  iapply (trO_wp c (Q := Q) arg3 arg6 arg7 arg9 arg10 arg11 arg12 arg13 arg14 harg14 arg15 arg16 harg16 arg17 arg18 XQ XKC XVC XK XV k 5 (10 * k.val + 3 + 1 + 1 + 1 + 1 + 1) (by simp) _) $$ H; iintro H
  iapply (trE_wp c (Q := Q) arg3 arg6 arg7 arg9 arg10 arg11 arg12 arg13 harg13 arg14 arg15 harg15 arg16 arg17 arg18 XQ XKC XVC XK XV k 6 (10 * k.val + 3 + 1 + 1 + 1 + 1 + 1 + 1) (by simp) _) $$ H; iintro H
  iapply (trO_wp c (Q := Q) arg3 arg6 arg7 arg9 arg10 arg11 arg12 arg13 arg14 harg14 arg15 arg16 harg16 arg17 arg18 XQ XKC XVC XK XV k 7 (10 * k.val + 3 + 1 + 1 + 1 + 1 + 1 + 1 + 1) (by simp) _) $$ H; iintro H
  iapply (trE_wp c (Q := Q) arg3 arg6 arg7 arg9 arg10 arg11 arg12 arg13 harg13 arg14 arg15 harg15 arg16 arg17 arg18 XQ XKC XVC XK XV k 8 (10 * k.val + 3 + 1 + 1 + 1 + 1 + 1 + 1 + 1 + 1) (by simp) _) $$ H; iintro H
  iapply (trO_wp c (Q := Q) arg3 arg6 arg7 arg9 arg10 arg11 arg12 arg13 arg14 harg14 arg15 arg16 harg16 arg17 arg18 XQ XKC XVC XK XV k 9 (10 * k.val + 3 + 1 + 1 + 1 + 1 + 1 + 1 + 1 + 1 + 1) (by simp) _) $$ H; iintro H
  iapply Hk; iexact H

theorem start0_wp {α : Type} {Q : α → sProp 𝕄} (kk : Carry F → PT F α) :
    iprop(owns (c : Thread nD τ) arg4 fullShare XKC ∗ owns (c : Thread nD τ) arg6 fullShare XK ∗ owns (c : Thread nD τ) arg3 fullShare XQ ∗ some_ c arg9 ∗ some_ c arg10 ∗ some_ c arg13 ∗ some_ c arg14 ∗ some_ c arg17)
      ⊢ iprop((owns (c : Thread nD τ) arg4 fullShare XKC -∗ owns (c : Thread nD τ) arg6 fullShare XK -∗ owns (c : Thread nD τ) arg3 fullShare XQ
            -∗ H0 c arg17 XQ XKC XVC XK XV 0 arg10 arg9 arg13 arg14 -∗ WP c (kk (carryAt (qB0 XQ) (kB0 XKC XK) 0)) Q)
          -∗ WP c (start0 arg3 arg4 arg6 arg9 arg10 arg13 harg13 arg17 >>= kk) Q) := by
  iintro ⟨HKC, HK, HQ, Hs0, Hs1, Hp0, Hp1, HA⟩ Hk
  unfold start0
  simp only [Prog.bind_assoc, Prog.bind_ret]
  iapply (putA_wp c (Q := Q) arg17 k0_pay159) $$ HA; iintro HA
  ihave H : iprop(owns (c : Thread nD τ) arg4 fullShare XKC ∗ owns (c : Thread nD τ) arg3 fullShare XQ ∗ some_ c arg9) $$ [HKC HQ Hs0]
  · isplitl [HKC]; · iexact HKC
    isplitl [HQ]; · iexact HQ
    iexact Hs0
  iapply (stA_wp c (Q := Q) arg4 arg3 arg9 (XK := XKC) (XQ := XQ) (kv := kB0 XKC XK 0) (qv := qB0 XQ) rfl rfl) $$ H; iintro HKC HQ Hs0
  ihave H : iprop(owns (c : Thread nD τ) arg6 fullShare XK ∗ owns (c : Thread nD τ) arg3 fullShare XQ ∗ some_ c arg10) $$ [HK HQ Hs1]
  · isplitl [HK]; · iexact HK
    isplitl [HQ]; · iexact HQ
    iexact Hs1
  iapply (stA_wp c (Q := Q) arg6 arg3 arg10 (XK := XK) (XQ := XQ) (kv := kB0 XKC XK 1) (qv := qB0 XQ) (kB0_at XKC XK 0 (by decide) rfl _) rfl) $$ H; iintro HK HQ Hs1
  ihave H : iprop(owns (c : Thread nD τ) arg9 fullShare (scoreAt (qB0 XQ) (kB0 XKC XK) 0) ∗ some_ c arg13) $$ [Hs0 Hp0]
  · isplitl [Hs0]; · iexact Hs0
    iexact Hp0
  iapply (stB_wp c (Q := Q) arg9 arg13 (m := maxAt (qB0 XQ) (kB0 XKC XK) 0) (cm := cmAt (qB0 XQ) (kB0 XKC XK) 0) (s := scoreAt (qB0 XQ) (kB0 XKC XK) 0)
    (k := fun y => kk (y.1, y.2, cmAt (qB0 XQ) (kB0 XKC XK) 1))) $$ H; iintro Hs0 Hp0
  iapply Hk $$ HKC HK HQ
  unfold H0 Hd
  isplitl [Hs1]; · iexact Hs1
  isplitl [Hs0]; · unfold some_; iexists _; iexact Hs0
  isplitl [Hp0]; · iexact Hp0
  isplitl [Hp1]; · iexact Hp1
  iexact HA

theorem peel0_0_wp {α : Type} {Q : α → sProp 𝕄} (kk : Carry F → PT F α) :
    iprop(owns (c : Thread nD τ) arg5 fullShare XVC ∗ owns (c : Thread nD τ) arg6 fullShare XK ∗ owns (c : Thread nD τ) arg3 fullShare XQ ∗ H0 c arg17 XQ XKC XVC XK XV 0 arg10 arg9 arg13 arg14)
      ⊢ iprop((owns (c : Thread nD τ) arg5 fullShare XVC -∗ owns (c : Thread nD τ) arg6 fullShare XK -∗ owns (c : Thread nD τ) arg3 fullShare XQ
            -∗ H0 c arg17 XQ XKC XVC XK XV 1 arg9 arg10 arg14 arg13 -∗ WP c (kk (carryAt (qB0 XQ) (kB0 XKC XK) 1)) Q)
          -∗ WP c (peel0_0 arg3 arg5 arg6 arg9 arg10 arg13 arg14 harg14 arg17 (carryAt (qB0 XQ) (kB0 XKC XK) 0) >>= kk) Q) :=
  hstep_wp c (Q := Q) arg5 arg6 arg3 arg10 arg9 arg13 arg14 arg17 (qB0 XQ) (kB0 XKC XK) (vB0 XVC XV) 0
    rfl (kB0_at XKC XK 1 (by decide) rfl _) rfl

theorem peel1_0_wp {α : Type} {Q : α → sProp 𝕄} (kk : Carry F → PT F α) :
    iprop(owns (c : Thread nD τ) arg7 fullShare XV ∗ owns (c : Thread nD τ) arg6 fullShare XK ∗ owns (c : Thread nD τ) arg3 fullShare XQ ∗ H0 c arg17 XQ XKC XVC XK XV 1 arg9 arg10 arg14 arg13)
      ⊢ iprop((owns (c : Thread nD τ) arg7 fullShare XV -∗ owns (c : Thread nD τ) arg6 fullShare XK -∗ owns (c : Thread nD τ) arg3 fullShare XQ
            -∗ H0 c arg17 XQ XKC XVC XK XV 2 arg10 arg9 arg13 arg14 -∗ WP c (kk (carryAt (qB0 XQ) (kB0 XKC XK) 2)) Q)
          -∗ WP c (peel1_0 arg3 arg6 arg7 arg9 arg10 arg13 harg13 arg14 arg17 (carryAt (qB0 XQ) (kB0 XKC XK) 1) >>= kk) Q) :=
  hstep_wp c (Q := Q) arg7 arg6 arg3 arg9 arg10 arg14 arg13 arg17 (qB0 XQ) (kB0 XKC XK) (vB0 XVC XV) 1
    (vB0_at XVC XV 0 (by decide) rfl _) (kB0_at XKC XK 2 (by decide) rfl _) rfl

theorem peel2_0_wp {α : Type} {Q : α → sProp 𝕄} (kk : Carry F → PT F α) :
    iprop(owns (c : Thread nD τ) arg7 fullShare XV ∗ owns (c : Thread nD τ) arg6 fullShare XK ∗ owns (c : Thread nD τ) arg3 fullShare XQ ∗ H0 c arg17 XQ XKC XVC XK XV 2 arg10 arg9 arg13 arg14)
      ⊢ iprop((owns (c : Thread nD τ) arg7 fullShare XV -∗ owns (c : Thread nD τ) arg6 fullShare XK -∗ owns (c : Thread nD τ) arg3 fullShare XQ
            -∗ H0 c arg17 XQ XKC XVC XK XV 3 arg9 arg10 arg14 arg13 -∗ WP c (kk (carryAt (qB0 XQ) (kB0 XKC XK) 3)) Q)
          -∗ WP c (peel2_0 arg3 arg6 arg7 arg9 arg10 arg13 arg14 harg14 arg17 (carryAt (qB0 XQ) (kB0 XKC XK) 2) >>= kk) Q) :=
  hstep_wp c (Q := Q) arg7 arg6 arg3 arg10 arg9 arg13 arg14 arg17 (qB0 XQ) (kB0 XKC XK) (vB0 XVC XV) 2
    (vB0_at XVC XV 1 (by decide) rfl _) (kB0_at XKC XK 3 (by decide) rfl _) rfl

theorem finish0_wp {α : Type} {Q : α → sProp 𝕄} (p : ℕ) (hp : p = 63) (kk : FVec F S80x512 .f32 → PT F α) :
    iprop(owns (c : Thread nD τ) arg7 fullShare XV ∗ H0 c arg17 XQ XKC XVC XK XV p arg9 arg10 arg14 arg13)
      ⊢ iprop((owns (c : Thread nD τ) arg7 fullShare XV -∗ some_ c arg9 -∗ some_ c arg10 -∗ some_ c arg13 -∗ some_ c arg14 -∗ some_ c arg17
            -∗ WP c (kk (accAt (qB0 XQ) (kB0 XKC XK) (vB0 XVC XV) (p + 2))) Q)
          -∗ WP c (finish0 arg7 arg9 arg13 harg13 arg14 arg17 (carryAt (qB0 XQ) (kB0 XKC XK) p) >>= kk) Q) := by
  unfold H0 Hd
  iintro ⟨HV, Hsr, Hsw, Hpr, Hpw, HA⟩ Hk
  unfold finish0
  dsimp only [carryAt]
  simp only [Prog.bind_assoc, Prog.bind_ret, Prog.bind_op]
  ihave H : iprop(owns (c : Thread nD τ) arg7 fullShare XV ∗ owns (c : Thread nD τ) arg17 fullShare (accAt (qB0 XQ) (kB0 XKC XK) (vB0 XVC XV) p) ∗ owns (c : Thread nD τ) arg14 fullShare (probAt (qB0 XQ) (kB0 XKC XK) p)) $$ [HV HA Hpr]
  · isplitl [HV]; · iexact HV
    isplitl [HA]; · iexact HA
    iexact Hpr
  iapply (stC_wp c (Q := Q) arg7 arg17 arg14 (al := alAt (qB0 XQ) (kB0 XKC XK) p) (a := accAt (qB0 XQ) (kB0 XKC XK) (vB0 XVC XV) p) (p := probAt (qB0 XQ) (kB0 XKC XK) p) (v := vB0 XVC XV p)
    (by subst hp; exact vB0_at XVC XV 62 (by decide) rfl _)) $$ H; iintro HV HA Hpr
  ihave H : iprop(owns (c : Thread nD τ) arg9 fullShare (scoreAt (qB0 XQ) (kB0 XKC XK) (p + 1)) ∗ some_ c arg13) $$ [Hsr Hpw]
  · isplitl [Hsr]; · iexact Hsr
    iexact Hpw
  iapply (stB_wp c (Q := Q) arg9 arg13 (m := maxAt (qB0 XQ) (kB0 XKC XK) (p + 1)) (cm := cmAt (qB0 XQ) (kB0 XKC XK) (p + 1)) (s := scoreAt (qB0 XQ) (kB0 XKC XK) (p + 1))) $$ H; iintro Hsr Hpw
  ihave H : iprop(owns (c : Thread nD τ) arg7 fullShare XV ∗ owns (c : Thread nD τ) arg17 fullShare (accAt (qB0 XQ) (kB0 XKC XK) (vB0 XVC XV) (p + 1)) ∗ owns (c : Thread nD τ) arg13 fullShare (probAt (qB0 XQ) (kB0 XKC XK) (p + 1))) $$ [HV HA Hpw]
  · isplitl [HV]; · iexact HV
    isplitl [HA]; · iexact HA
    iexact Hpw
  iapply (stC_wp c (Q := Q) arg7 arg17 arg13 (al := alAt (qB0 XQ) (kB0 XKC XK) (p + 1)) (a := accAt (qB0 XQ) (kB0 XKC XK) (vB0 XVC XV) (p + 1)) (p := probAt (qB0 XQ) (kB0 XKC XK) (p + 1))
    (v := vB0 XVC XV (p + 1)) (by subst hp; exact vB0_at XVC XV 63 (by decide) rfl _)) $$ H; iintro HV HA Hpw
  rw [accAt_succ (p := p + 1)]
  iapply (load_full c (Q := Q) arg17 (X := k0_pay3 (alAt (qB0 XQ) (kB0 XKC XK) (p + 1)) (vB0 XVC XV (p + 1)) (accAt (qB0 XQ) (kB0 XKC XK) (vB0 XVC XV) (p + 1)) (probAt (qB0 XQ) (kB0 XKC XK) (p + 1)))) $$ HA; iintro HA
  iapply Hk $$ HV [Hsr] [Hsw] [Hpw] [Hpr] [HA]
  · unfold some_; iexists _; iexact Hsr
  · iexact Hsw
  · unfold some_; iexists _; iexact Hpw
  · unfold some_; iexists _; iexact Hpr
  · unfold some_; iexists _; iexact HA

theorem start1_wp {α : Type} {Q : α → sProp 𝕄} (kk : Carry F → PT F α) :
    iprop(owns (c : Thread nD τ) arg4 fullShare XKC ∗ owns (c : Thread nD τ) arg6 fullShare XK ∗ owns (c : Thread nD τ) arg3 fullShare XQ ∗ some_ c arg11 ∗ some_ c arg12 ∗ some_ c arg15 ∗ some_ c arg16 ∗ some_ c arg18)
      ⊢ iprop((owns (c : Thread nD τ) arg4 fullShare XKC -∗ owns (c : Thread nD τ) arg6 fullShare XK -∗ owns (c : Thread nD τ) arg3 fullShare XQ
            -∗ H1 c arg18 XQ XKC XVC XK XV 0 arg12 arg11 arg15 arg16 -∗ WP c (kk (carryAt (qB1 XQ) (kB1 XKC XK) 0)) Q)
          -∗ WP c (start1 arg3 arg4 arg6 arg11 arg12 arg15 harg15 arg18 >>= kk) Q) := by
  iintro ⟨HKC, HK, HQ, Hs0, Hs1, Hp0, Hp1, HA⟩ Hk
  unfold start1
  simp only [Prog.bind_assoc, Prog.bind_ret]
  iapply (putA_wp c (Q := Q) arg18 k0_pay159) $$ HA; iintro HA
  ihave H : iprop(owns (c : Thread nD τ) arg4 fullShare XKC ∗ owns (c : Thread nD τ) arg3 fullShare XQ ∗ some_ c arg11) $$ [HKC HQ Hs0]
  · isplitl [HKC]; · iexact HKC
    isplitl [HQ]; · iexact HQ
    iexact Hs0
  iapply (stA_wp c (Q := Q) arg4 arg3 arg11 (XK := XKC) (XQ := XQ) (kv := kB1 XKC XK 0) (qv := qB1 XQ) rfl rfl) $$ H; iintro HKC HQ Hs0
  ihave H : iprop(owns (c : Thread nD τ) arg6 fullShare XK ∗ owns (c : Thread nD τ) arg3 fullShare XQ ∗ some_ c arg12) $$ [HK HQ Hs1]
  · isplitl [HK]; · iexact HK
    isplitl [HQ]; · iexact HQ
    iexact Hs1
  iapply (stA_wp c (Q := Q) arg6 arg3 arg12 (XK := XK) (XQ := XQ) (kv := kB1 XKC XK 1) (qv := qB1 XQ) (kB1_at XKC XK 0 (by decide) rfl _) rfl) $$ H; iintro HK HQ Hs1
  ihave H : iprop(owns (c : Thread nD τ) arg11 fullShare (scoreAt (qB1 XQ) (kB1 XKC XK) 0) ∗ some_ c arg15) $$ [Hs0 Hp0]
  · isplitl [Hs0]; · iexact Hs0
    iexact Hp0
  iapply (stB_wp c (Q := Q) arg11 arg15 (m := maxAt (qB1 XQ) (kB1 XKC XK) 0) (cm := cmAt (qB1 XQ) (kB1 XKC XK) 0) (s := scoreAt (qB1 XQ) (kB1 XKC XK) 0)
    (k := fun y => kk (y.1, y.2, cmAt (qB1 XQ) (kB1 XKC XK) 1))) $$ H; iintro Hs0 Hp0
  iapply Hk $$ HKC HK HQ
  unfold H1 Hd
  isplitl [Hs1]; · iexact Hs1
  isplitl [Hs0]; · unfold some_; iexists _; iexact Hs0
  isplitl [Hp0]; · iexact Hp0
  isplitl [Hp1]; · iexact Hp1
  iexact HA

theorem peel0_1_wp {α : Type} {Q : α → sProp 𝕄} (kk : Carry F → PT F α) :
    iprop(owns (c : Thread nD τ) arg5 fullShare XVC ∗ owns (c : Thread nD τ) arg6 fullShare XK ∗ owns (c : Thread nD τ) arg3 fullShare XQ ∗ H1 c arg18 XQ XKC XVC XK XV 0 arg12 arg11 arg15 arg16)
      ⊢ iprop((owns (c : Thread nD τ) arg5 fullShare XVC -∗ owns (c : Thread nD τ) arg6 fullShare XK -∗ owns (c : Thread nD τ) arg3 fullShare XQ
            -∗ H1 c arg18 XQ XKC XVC XK XV 1 arg11 arg12 arg16 arg15 -∗ WP c (kk (carryAt (qB1 XQ) (kB1 XKC XK) 1)) Q)
          -∗ WP c (peel0_1 arg3 arg5 arg6 arg11 arg12 arg15 arg16 harg16 arg18 (carryAt (qB1 XQ) (kB1 XKC XK) 0) >>= kk) Q) :=
  hstep_wp c (Q := Q) arg5 arg6 arg3 arg12 arg11 arg15 arg16 arg18 (qB1 XQ) (kB1 XKC XK) (vB1 XVC XV) 0
    rfl (kB1_at XKC XK 1 (by decide) rfl _) rfl

theorem peel1_1_wp {α : Type} {Q : α → sProp 𝕄} (kk : Carry F → PT F α) :
    iprop(owns (c : Thread nD τ) arg7 fullShare XV ∗ owns (c : Thread nD τ) arg6 fullShare XK ∗ owns (c : Thread nD τ) arg3 fullShare XQ ∗ H1 c arg18 XQ XKC XVC XK XV 1 arg11 arg12 arg16 arg15)
      ⊢ iprop((owns (c : Thread nD τ) arg7 fullShare XV -∗ owns (c : Thread nD τ) arg6 fullShare XK -∗ owns (c : Thread nD τ) arg3 fullShare XQ
            -∗ H1 c arg18 XQ XKC XVC XK XV 2 arg12 arg11 arg15 arg16 -∗ WP c (kk (carryAt (qB1 XQ) (kB1 XKC XK) 2)) Q)
          -∗ WP c (peel1_1 arg3 arg6 arg7 arg11 arg12 arg15 harg15 arg16 arg18 (carryAt (qB1 XQ) (kB1 XKC XK) 1) >>= kk) Q) :=
  hstep_wp c (Q := Q) arg7 arg6 arg3 arg11 arg12 arg16 arg15 arg18 (qB1 XQ) (kB1 XKC XK) (vB1 XVC XV) 1
    (vB1_at XVC XV 0 (by decide) rfl _) (kB1_at XKC XK 2 (by decide) rfl _) rfl

theorem peel2_1_wp {α : Type} {Q : α → sProp 𝕄} (kk : Carry F → PT F α) :
    iprop(owns (c : Thread nD τ) arg7 fullShare XV ∗ owns (c : Thread nD τ) arg6 fullShare XK ∗ owns (c : Thread nD τ) arg3 fullShare XQ ∗ H1 c arg18 XQ XKC XVC XK XV 2 arg12 arg11 arg15 arg16)
      ⊢ iprop((owns (c : Thread nD τ) arg7 fullShare XV -∗ owns (c : Thread nD τ) arg6 fullShare XK -∗ owns (c : Thread nD τ) arg3 fullShare XQ
            -∗ H1 c arg18 XQ XKC XVC XK XV 3 arg11 arg12 arg16 arg15 -∗ WP c (kk (carryAt (qB1 XQ) (kB1 XKC XK) 3)) Q)
          -∗ WP c (peel2_1 arg3 arg6 arg7 arg11 arg12 arg15 arg16 harg16 arg18 (carryAt (qB1 XQ) (kB1 XKC XK) 2) >>= kk) Q) :=
  hstep_wp c (Q := Q) arg7 arg6 arg3 arg12 arg11 arg15 arg16 arg18 (qB1 XQ) (kB1 XKC XK) (vB1 XVC XV) 2
    (vB1_at XVC XV 1 (by decide) rfl _) (kB1_at XKC XK 3 (by decide) rfl _) rfl

theorem finish1_wp {α : Type} {Q : α → sProp 𝕄} (p : ℕ) (hp : p = 63) (kk : FVec F S80x512 .f32 → PT F α) :
    iprop(owns (c : Thread nD τ) arg7 fullShare XV ∗ H1 c arg18 XQ XKC XVC XK XV p arg11 arg12 arg16 arg15)
      ⊢ iprop((owns (c : Thread nD τ) arg7 fullShare XV -∗ some_ c arg11 -∗ some_ c arg12 -∗ some_ c arg15 -∗ some_ c arg16 -∗ some_ c arg18
            -∗ WP c (kk (accAt (qB1 XQ) (kB1 XKC XK) (vB1 XVC XV) (p + 2))) Q)
          -∗ WP c (finish1 arg7 arg11 arg15 harg15 arg16 arg18 (carryAt (qB1 XQ) (kB1 XKC XK) p) >>= kk) Q) := by
  unfold H1 Hd
  iintro ⟨HV, Hsr, Hsw, Hpr, Hpw, HA⟩ Hk
  unfold finish1
  dsimp only [carryAt]
  simp only [Prog.bind_assoc, Prog.bind_ret, Prog.bind_op]
  ihave H : iprop(owns (c : Thread nD τ) arg7 fullShare XV ∗ owns (c : Thread nD τ) arg18 fullShare (accAt (qB1 XQ) (kB1 XKC XK) (vB1 XVC XV) p) ∗ owns (c : Thread nD τ) arg16 fullShare (probAt (qB1 XQ) (kB1 XKC XK) p)) $$ [HV HA Hpr]
  · isplitl [HV]; · iexact HV
    isplitl [HA]; · iexact HA
    iexact Hpr
  iapply (stC_wp c (Q := Q) arg7 arg18 arg16 (al := alAt (qB1 XQ) (kB1 XKC XK) p) (a := accAt (qB1 XQ) (kB1 XKC XK) (vB1 XVC XV) p) (p := probAt (qB1 XQ) (kB1 XKC XK) p) (v := vB1 XVC XV p)
    (by subst hp; exact vB1_at XVC XV 62 (by decide) rfl _)) $$ H; iintro HV HA Hpr
  ihave H : iprop(owns (c : Thread nD τ) arg11 fullShare (scoreAt (qB1 XQ) (kB1 XKC XK) (p + 1)) ∗ some_ c arg15) $$ [Hsr Hpw]
  · isplitl [Hsr]; · iexact Hsr
    iexact Hpw
  iapply (stB_wp c (Q := Q) arg11 arg15 (m := maxAt (qB1 XQ) (kB1 XKC XK) (p + 1)) (cm := cmAt (qB1 XQ) (kB1 XKC XK) (p + 1)) (s := scoreAt (qB1 XQ) (kB1 XKC XK) (p + 1))) $$ H; iintro Hsr Hpw
  ihave H : iprop(owns (c : Thread nD τ) arg7 fullShare XV ∗ owns (c : Thread nD τ) arg18 fullShare (accAt (qB1 XQ) (kB1 XKC XK) (vB1 XVC XV) (p + 1)) ∗ owns (c : Thread nD τ) arg15 fullShare (probAt (qB1 XQ) (kB1 XKC XK) (p + 1))) $$ [HV HA Hpw]
  · isplitl [HV]; · iexact HV
    isplitl [HA]; · iexact HA
    iexact Hpw
  iapply (stC_wp c (Q := Q) arg7 arg18 arg15 (al := alAt (qB1 XQ) (kB1 XKC XK) (p + 1)) (a := accAt (qB1 XQ) (kB1 XKC XK) (vB1 XVC XV) (p + 1)) (p := probAt (qB1 XQ) (kB1 XKC XK) (p + 1))
    (v := vB1 XVC XV (p + 1)) (by subst hp; exact vB1_at XVC XV 63 (by decide) rfl _)) $$ H; iintro HV HA Hpw
  rw [accAt_succ (p := p + 1)]
  iapply (load_full c (Q := Q) arg18 (X := k0_pay3 (alAt (qB1 XQ) (kB1 XKC XK) (p + 1)) (vB1 XVC XV (p + 1)) (accAt (qB1 XQ) (kB1 XKC XK) (vB1 XVC XV) (p + 1)) (probAt (qB1 XQ) (kB1 XKC XK) (p + 1)))) $$ HA; iintro HA
  iapply Hk $$ HV [Hsr] [Hsw] [Hpw] [Hpr] [HA]
  · unfold some_; iexists _; iexact Hsr
  · iexact Hsw
  · unfold some_; iexists _; iexact Hpw
  · unfold some_; iexists _; iexact Hpr
  · unfold some_; iexists _; iexact HA

theorem putOut_wp {Q : PUnit → sProp 𝕄} (a0 a1 : FVec F S80x512 .f32) :
    some_ c arg8
      ⊢ iprop((owns (c : Thread nD τ) arg8 fullShare (outOf a0 a1) -∗ Q ⟨⟩) -∗ WP c (putOut arg8 harg8 a0 a1) Q) := by
  unfold some_
  iintro ⟨%X, H⟩ Hk
  unfold putOut
  iapply (load_full c (Q := Q) arg8) $$ H; iintro H
  iapply (store_full c (Q := Q) arg8 (w := outOf a0 a1)) $$ H; iintro H
  unfold WP; rw [wp_ret]; imodintro
  iapply Hk; iexact H

theorem flat_fst (x : Carry2 F) : ((flat x).1, (flat x).2.1, (flat x).2.2.1) = x.1 := rfl
theorem flat_snd (x : Carry2 F) : ((flat x).2.2.2.1, (flat x).2.2.2.2.1, (flat x).2.2.2.2.2) = x.2 := rfl
theorem car_fst (p : ℕ) : (car XQ XKC XK p).1 = carryAt (qB0 XQ) (kB0 XKC XK) p := rfl
theorem car_snd (p : ℕ) : (car XQ XKC XK p).2 = carryAt (qB1 XQ) (kB1 XKC XK) p := rfl

/-- The loop's invariant before trip `j`. -/
def inv (j : ℕ) (acc : FVec F S1x512 .f32 × FVec F S1x512 .f32 × FVec F S8x512 .f32 × FVec F S1x512 .f32 × FVec F S1x512 .f32 × FVec F S8x512 .f32) : sProp 𝕄 :=
  iprop(⌜acc = flat (car XQ XKC XK (10 * j + 3))⌝ ∗ St c arg3 arg6 arg7 arg9 arg10 arg11 arg12 arg13 arg14 arg15 arg16 arg17 arg18 XQ XKC XVC XK XV (10 * j + 3))

theorem inv_step (v225 v235 : FVec F S1x512 .f32) (v245 : FVec F S8x512 .f32) (v259 v269 : FVec F S1x512 .f32) (v279 : FVec F S8x512 .f32) (c0_i32 : BitVec 32)
    (k : Fin k0_t1_loop.trips) (acc : FVec F S1x512 .f32 × FVec F S1x512 .f32 × FVec F S8x512 .f32 × FVec F S1x512 .f32 × FVec F S1x512 .f32 × FVec F S8x512 .f32) :
    inv c arg3 arg6 arg7 arg9 arg10 arg11 arg12 arg13 arg14 arg15 arg16 arg17 arg18 XQ XKC XVC XK XV k.val acc ⊢ WP c (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v225 v235 v245 v259 v269 v279 c0_i32 k acc) (inv c arg3 arg6 arg7 arg9 arg10 arg11 arg12 arg13 arg14 arg15 arg16 arg17 arg18 XQ XKC XVC XK XV (k.val + 1)) := by
  unfold inv
  iintro ⟨%ha, H⟩
  subst ha
  rw [body_eq]
  iapply (trip_wp c arg3 arg6 arg7 arg9 arg10 arg11 arg12 arg13 harg13 arg14 harg14 arg15 harg15 arg16 harg16 arg17 arg18 XQ XKC XVC XK XV k (fun x => .ret (flat x))) $$ H
  iintro H
  unfold WP; rw [wp_ret]; imodintro
  isplitr
  · ipureintro; rfl
  iexact H

/-- The body: from the operands' blocks at any contents, to the result's block holding `outB` of them. -/
theorem body_wp {Q : PUnit → sProp 𝕄} :
    iprop(owns (c : Thread nD τ) arg3 fullShare XQ ∗ owns (c : Thread nD τ) arg4 fullShare XKC ∗ owns (c : Thread nD τ) arg5 fullShare XVC ∗ owns (c : Thread nD τ) arg6 fullShare XK ∗ owns (c : Thread nD τ) arg7 fullShare XV ∗ some_ c arg8 ∗ some_ c arg9 ∗ some_ c arg10 ∗ some_ c arg11 ∗ some_ c arg12 ∗ some_ c arg13 ∗ some_ c arg14 ∗ some_ c arg15 ∗ some_ c arg16 ∗ some_ c arg17 ∗ some_ c arg18)
      ⊢ iprop((iprop(owns (c : Thread nD τ) arg3 fullShare XQ ∗ owns (c : Thread nD τ) arg4 fullShare XKC ∗ owns (c : Thread nD τ) arg5 fullShare XVC ∗ owns (c : Thread nD τ) arg6 fullShare XK ∗ owns (c : Thread nD τ) arg7 fullShare XV ∗ owns (c : Thread nD τ) arg8 fullShare (outB XQ XKC XVC XK XV) ∗ some_ c arg9 ∗ some_ c arg10 ∗ some_ c arg11 ∗ some_ c arg12 ∗ some_ c arg13 ∗ some_ c arg14 ∗ some_ c arg15 ∗ some_ c arg16 ∗ some_ c arg17 ∗ some_ c arg18) -∗ Q ⟨⟩)
          -∗ WP c (cc0_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) Q) := by
  rw [attention_eq]
  unfold whole
  iintro ⟨HQ, HKC, HVC, HK, HV, Ho, H9, H10, H11, H12, H13, H14, H15, H16, H17, H18⟩ Hk
  ihave H : iprop(owns (c : Thread nD τ) arg4 fullShare XKC ∗ owns (c : Thread nD τ) arg6 fullShare XK ∗ owns (c : Thread nD τ) arg3 fullShare XQ ∗ some_ c arg9 ∗ some_ c arg10 ∗ some_ c arg13 ∗ some_ c arg14 ∗ some_ c arg17) $$ [HKC HK HQ H9 H10 H13 H14 H17]
  · isplitl [HKC]; · iexact HKC
    isplitl [HK]; · iexact HK
    isplitl [HQ]; · iexact HQ
    isplitl [H9]; · iexact H9
    isplitl [H10]; · iexact H10
    isplitl [H13]; · iexact H13
    isplitl [H14]; · iexact H14
    iexact H17
  iapply (start0_wp c (Q := Q) arg3 arg4 arg6 arg9 arg10 arg13 harg13 arg14 arg17 XQ XKC XVC XK XV _) $$ H; iintro HKC HK HQ HH0
  ihave H : iprop(owns (c : Thread nD τ) arg4 fullShare XKC ∗ owns (c : Thread nD τ) arg6 fullShare XK ∗ owns (c : Thread nD τ) arg3 fullShare XQ ∗ some_ c arg11 ∗ some_ c arg12 ∗ some_ c arg15 ∗ some_ c arg16 ∗ some_ c arg18) $$ [HKC HK HQ H11 H12 H15 H16 H18]
  · isplitl [HKC]; · iexact HKC
    isplitl [HK]; · iexact HK
    isplitl [HQ]; · iexact HQ
    isplitl [H11]; · iexact H11
    isplitl [H12]; · iexact H12
    isplitl [H15]; · iexact H15
    isplitl [H16]; · iexact H16
    iexact H18
  iapply (start1_wp c (Q := Q) arg3 arg4 arg6 arg11 arg12 arg15 harg15 arg16 arg18 XQ XKC XVC XK XV _) $$ H; iintro HKC HK HQ HH1
  ihave H : iprop(owns (c : Thread nD τ) arg5 fullShare XVC ∗ owns (c : Thread nD τ) arg6 fullShare XK ∗ owns (c : Thread nD τ) arg3 fullShare XQ ∗ H0 c arg17 XQ XKC XVC XK XV 0 arg10 arg9 arg13 arg14) $$ [HVC HK HQ HH0]
  · isplitl [HVC]; · iexact HVC
    isplitl [HK]; · iexact HK
    isplitl [HQ]; · iexact HQ
    iexact HH0
  iapply (peel0_0_wp c (Q := Q) arg3 arg5 arg6 arg9 arg10 arg13 arg14 harg14 arg17 XQ XKC XVC XK XV _) $$ H; iintro HVC HK HQ HH0
  ihave H : iprop(owns (c : Thread nD τ) arg5 fullShare XVC ∗ owns (c : Thread nD τ) arg6 fullShare XK ∗ owns (c : Thread nD τ) arg3 fullShare XQ ∗ H1 c arg18 XQ XKC XVC XK XV 0 arg12 arg11 arg15 arg16) $$ [HVC HK HQ HH1]
  · isplitl [HVC]; · iexact HVC
    isplitl [HK]; · iexact HK
    isplitl [HQ]; · iexact HQ
    iexact HH1
  iapply (peel0_1_wp c (Q := Q) arg3 arg5 arg6 arg11 arg12 arg15 arg16 harg16 arg18 XQ XKC XVC XK XV _) $$ H; iintro HVC HK HQ HH1
  ihave H : iprop(owns (c : Thread nD τ) arg7 fullShare XV ∗ owns (c : Thread nD τ) arg6 fullShare XK ∗ owns (c : Thread nD τ) arg3 fullShare XQ ∗ H0 c arg17 XQ XKC XVC XK XV 1 arg9 arg10 arg14 arg13) $$ [HV HK HQ HH0]
  · isplitl [HV]; · iexact HV
    isplitl [HK]; · iexact HK
    isplitl [HQ]; · iexact HQ
    iexact HH0
  iapply (peel1_0_wp c (Q := Q) arg3 arg6 arg7 arg9 arg10 arg13 harg13 arg14 arg17 XQ XKC XVC XK XV _) $$ H; iintro HV HK HQ HH0
  ihave H : iprop(owns (c : Thread nD τ) arg7 fullShare XV ∗ owns (c : Thread nD τ) arg6 fullShare XK ∗ owns (c : Thread nD τ) arg3 fullShare XQ ∗ H1 c arg18 XQ XKC XVC XK XV 1 arg11 arg12 arg16 arg15) $$ [HV HK HQ HH1]
  · isplitl [HV]; · iexact HV
    isplitl [HK]; · iexact HK
    isplitl [HQ]; · iexact HQ
    iexact HH1
  iapply (peel1_1_wp c (Q := Q) arg3 arg6 arg7 arg11 arg12 arg15 harg15 arg16 arg18 XQ XKC XVC XK XV _) $$ H; iintro HV HK HQ HH1
  ihave H : iprop(owns (c : Thread nD τ) arg7 fullShare XV ∗ owns (c : Thread nD τ) arg6 fullShare XK ∗ owns (c : Thread nD τ) arg3 fullShare XQ ∗ H0 c arg17 XQ XKC XVC XK XV 2 arg10 arg9 arg13 arg14) $$ [HV HK HQ HH0]
  · isplitl [HV]; · iexact HV
    isplitl [HK]; · iexact HK
    isplitl [HQ]; · iexact HQ
    iexact HH0
  iapply (peel2_0_wp c (Q := Q) arg3 arg6 arg7 arg9 arg10 arg13 arg14 harg14 arg17 XQ XKC XVC XK XV _) $$ H; iintro HV HK HQ HH0
  ihave H : iprop(owns (c : Thread nD τ) arg7 fullShare XV ∗ owns (c : Thread nD τ) arg6 fullShare XK ∗ owns (c : Thread nD τ) arg3 fullShare XQ ∗ H1 c arg18 XQ XKC XVC XK XV 2 arg12 arg11 arg15 arg16) $$ [HV HK HQ HH1]
  · isplitl [HV]; · iexact HV
    isplitl [HK]; · iexact HK
    isplitl [HQ]; · iexact HQ
    iexact HH1
  iapply (peel2_1_wp c (Q := Q) arg3 arg6 arg7 arg11 arg12 arg15 arg16 harg16 arg18 XQ XKC XVC XK XV _) $$ H; iintro HV HK HQ HH1
  ihave H : inv c arg3 arg6 arg7 arg9 arg10 arg11 arg12 arg13 arg14 arg15 arg16 arg17 arg18 XQ XKC XVC XK XV 0 (flat (car XQ XKC XK 3)) $$ [HV HK HQ HH0 HH1]
  · unfold inv
    isplitr
    · ipureintro; rfl
    isplitl [HV HK HQ]
    · isplitl [HV]; · iexact HV
      isplitl [HK]; · iexact HK
      iexact HQ
    isplitl [HH0]; · iexact HH0
    iexact HH1
  iapply (Scf.wp_for_bind frame (wpE (defs₀ (F := F)) 𝒱₀ (c : Thread nD τ) none) Set.univ k0_t1_loop.lb k0_t1_loop.ub k0_t1_loop.st k0_t1_ok _ _
    (inv c arg3 arg6 arg7 arg9 arg10 arg11 arg12 arg13 arg14 arg15 arg16 arg17 arg18 XQ XKC XVC XK XV) (inv_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 XQ XKC XVC XK XV _ _ _ _ _ _ _)) $$ H
  iintro %acc H
  rw [show Scf.trips k0_t1_loop.lb k0_t1_loop.ub k0_t1_loop.st = 6 from rfl]
  unfold inv
  rw [show 10 * 6 + 3 = 63 from rfl]
  icases H with ⟨%ha, HIn, HH0, HH1⟩
  icases HIn with ⟨HV, HK, HQ⟩
  subst ha
  rw [flat_fst, flat_snd, car_fst, car_snd]
  ihave H : iprop(owns (c : Thread nD τ) arg7 fullShare XV ∗ H0 c arg17 XQ XKC XVC XK XV 63 arg9 arg10 arg14 arg13) $$ [HV HH0]
  · isplitl [HV]; · iexact HV
    iexact HH0
  iapply (finish0_wp c (Q := Q) arg7 arg9 arg10 arg13 harg13 arg14 arg17 XQ XKC XVC XK XV 63 rfl _) $$ H; iintro HV H9 H10 H13 H14 H17
  ihave H : iprop(owns (c : Thread nD τ) arg7 fullShare XV ∗ H1 c arg18 XQ XKC XVC XK XV 63 arg11 arg12 arg16 arg15) $$ [HV HH1]
  · isplitl [HV]; · iexact HV
    iexact HH1
  iapply (finish1_wp c (Q := Q) arg7 arg11 arg12 arg15 harg15 arg16 arg18 XQ XKC XVC XK XV 63 rfl _) $$ H; iintro HV H11 H12 H15 H16 H18
  iapply (putOut_wp c arg8 harg8 _ _) $$ Ho; iintro Ho
  iapply Hk
  isplitl [HQ]; · iexact HQ
  isplitl [HKC]; · iexact HKC
  isplitl [HVC]; · iexact HVC
  isplitl [HK]; · iexact HK
  isplitl [HV]; · iexact HV
  isplitl [Ho]; · iexact Ho
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

end Body

end Cert.Proof.Attn

end
-- ==== Proof.Run.lean ====
/- The run of the program round the attention kernel: the pipeline's proof data, the body obligation from
   the body's triple, and the frame, over any float instance. -/
module

public import proofs.«01_k».proof.Proof.Body
public import proofs.«01_k».proof.Proof.Gen.KernelIdeal.Points
public import Idealize.ShloMosaic.Lib.Pipeline.Frame
public import Idealize.ShloMosaic.Lib.Pipeline.Quiescent

@[expose] public section

set_option maxRecDepth 8192
set_option maxHeartbeats 1000000

noncomputable section

namespace Cert.Proof.Attn

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them, every operand's buffer left as it was, the result's
    at what the body computes from the point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outB (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The scoped buffers at some contents are the body's scratch memrefs, each at some contents. -/
theorem scratch_eq (c : Dev nD) :
    (Pipeline.scopedRest (Ix := Unit) (Name := ℕ) (U := UR sig nD τ) (Lvl := ℕ) (Val := Elt F) spec0 c : sProp 𝕄)
      = iprop(some_ c (Memref.whole cc0_scratch0) ∗ some_ c (Memref.whole cc0_scratch1) ∗ some_ c (Memref.whole cc0_scratch2) ∗ some_ c (Memref.whole cc0_scratch3) ∗ some_ c (Memref.whole cc0_scratch4) ∗ some_ c (Memref.whole cc0_scratch5) ∗ some_ c (Memref.whole cc0_scratch6) ∗ some_ c (Memref.whole cc0_scratch7) ∗ some_ c (Memref.whole cc0_scratch8) ∗ some_ c (Memref.whole cc0_scratch9)) := by
  rw [scopedRest0_eq]
  unfold some_
  simp only [owns_whole]

/-- The library's body obligation at every point, from the body's triple. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before_0, before_1, before_2, before_3, before_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after_0, after_1, after_2, after_3, after_4, after_5]
  unfold Pipeline.ΦA
  rw [scratch_eq]
  iintro ⟨⟨Hs, Hr⟩, Hw, ⟨%d0, H0⟩, ⟨%d1, H1⟩, ⟨%d2, H2⟩, ⟨%d3, H3⟩, ⟨%d4, H4⟩, ⟨%d5, H5⟩⟩
  icases Hs with ⟨H9, H10, H11, H12, H13, H14, H15, H16, H17, H18⟩
  iapply (body_wp c (grid0.coords t) _ _ _ _ _ _ _ _ _ _ _ _ _ _ _ _ _ _ _ _ _ _ _ _ _ _ _ _ _ _ _ _
    (iblk m c 0 t) (iblk m c 1 t) (iblk m c 2 t) (iblk m c 3 t) (iblk m c 4 t)) $$ [H0 H1 H2 H3 H4 H5 H9 H10 H11 H12 H13 H14 H15 H16 H17 H18]
  · isplitl [H0]; · iexact H0
    isplitl [H1]; · iexact H1
    isplitl [H2]; · iexact H2
    isplitl [H3]; · iexact H3
    isplitl [H4]; · iexact H4
    isplitl [H5]; · unfold some_; iexists _; iexact H5
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  iintro ⟨H0, H1, H2, H3, H4, H5, Hs⟩
  isplitl [Hs Hr]
  · isplitl [Hs]; · iexact Hs
    iexact Hr
  isplitl [Hw]; · iexact Hw
  isplitl [H0]; · iexact H0
  isplitl [H1]; · iexact H1
  isplitl [H2]; · iexact H2
  isplitl [H3]; · iexact H3
  isplitl [H4]; · iexact H4
  iexact H5

-- the launch theorem's implicit arguments are found by unifying its conclusion with this one
set_option backward.isDefEq.respectTransparency.types false in
/-- From any memory with zero counters every execution ends, each array at what the proof data says and every
    semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The frame, over any float instance: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_with_sems (frame_of m ρ (dats m) (A_eq m)) (run_main m ρ)

end Cert.Proof.Attn

end
-- ==== Proof.Same.lean ====
/- The two printings of the kernel are one program: what is proved of the one over any numbers holds of the other. -/
module

public import proofs.«01_k».proof.Proof.Run
public import proofs.«01_k».proof.Proof.Gen.Kernel.Launch

@[expose] public section

noncomputable section

namespace Cert.Proof.Attn

open Idealize.ShloMosaic Idealize.SL.Sem Idealize.ShloMosaic.TcCoe

attribute [local instance] Cert.Kernel.Gen.facts Cert.KernelIdeal.Gen.facts

variable {F : FTy → Type} [FloatOps F]

/-- One table of bodies. -/
theorem rows_same : Cert.Kernel.defs₀ (F := F) = Cert.KernelIdeal.defs₀ (F := F) := by
  unfold Cert.Kernel.defs₀ Cert.KernelIdeal.defs₀
  refine congrArg _ (funext fun l => funext fun x => ?_)
  match l, x with
  | ⟨0, _⟩, (t, s) => rfl

/-- One table with the pipeline's entries. -/
theorem defs_same : Cert.Kernel.defs (F := F) = Cert.KernelIdeal.defs (F := F) := by
  unfold Cert.Kernel.defs Cert.KernelIdeal.defs
  exact congrArg (Pipeline.defs Cert.KernelIdeal.pcfgs) rows_same

/-- One list of host operations and one call. -/
theorem main_same : Cert.Kernel.main (F := F) = Cert.KernelIdeal.main (F := F) := by
  funext c
  refine (Cert.Kernel.Gen.main_chain c).trans (Eq.trans ?_ (Cert.KernelIdeal.Gen.main_chain c).symm)
  rfl

/-- The frame of the kernel, over any numbers. -/
theorem frame_other (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0) := by
  rw [defs_same, main_same]
  exact frame (F := F) m ρ

end Cert.Proof.Attn

end
-- ==== Proof.Online.lean ====
module

public import Idealize.ShloMosaic.PureOps.Ideal
public import Idealize.ShloMosaic.PureOps.Ideal.Laws

/-!
# A softmax taken block by block

The kernel walks the keys in blocks, carrying a running maximum and rescaling what it has summed so far; the reference
takes one softmax over all the keys. Both are `Σ v · w / Σ w` for weights that agree up to a common factor. The scores
are real, the values need not be.
-/

@[expose] public section

set_option maxRecDepth 4096

namespace Cert.Proof.Online

open Idealize.ShloMosaic

/-- A nonnegative real factor goes into a sum of extended reals. -/
theorem sum_mul_real {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a t ha ih =>
    rw [Finset.sum_insert ha, Finset.sum_insert ha,
      EReal.right_distrib_of_nonneg_of_ne_top (EReal.coe_nonneg.mpr hc) (EReal.coe_ne_top c), ih]

/-- A sum of reals is real. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a t ha ih => rw [Finset.sum_insert ha, Finset.sum_insert ha, ih, EReal.coe_add]

/-- The maximum of two reals is real. -/
theorem coe_max' (a b : ℝ) : max (a : EReal) (b : EReal) = ((max a b : ℝ) : EReal) :=
  (EReal.coe_strictMono.monotone.map_max).symm

/-- The maximum of finitely many reals, from `⊥`, is real. -/
theorem fold_max_real {ι : Type*} (s : Finset ι) (hs : s.Nonempty) (f : ι → EReal) (hf : ∀ i, ∃ r : ℝ, f i = r) :
    ∃ r : ℝ, s.fold max (⊥ : EReal) f = r := by
  classical
  induction hs using Finset.Nonempty.cons_induction with
  | singleton a => obtain ⟨r, hr⟩ := hf a; exact ⟨r, by simp [hr]⟩
  | cons a t ha ht ih =>
    obtain ⟨r, hr⟩ := hf a; obtain ⟨q, hq⟩ := ih
    exact ⟨max r q, by rw [Finset.fold_cons, hr, hq, coe_max']⟩

/-- The running maximum: real once a block is in. -/
theorem max_real (M B : ℕ → EReal) (h0 : M 0 = ⊥) (hM : ∀ p, p < 65 → M (p + 1) = max (M p) (B p)) (hB : ∀ p, p < 65 → ∃ r : ℝ, B p = r) :
    ∀ p, p < 65 → ∃ r : ℝ, M (p + 1) = r := by
  intro p
  induction p with
  | zero => intro hp; obtain ⟨r, hr⟩ := hB 0 hp; exact ⟨r, by rw [hM 0 hp, h0, hr]; simp⟩
  | succ p ih =>
    intro hp
    obtain ⟨r, hr⟩ := hB (p + 1) hp; obtain ⟨q, hq⟩ := ih (by omega)
    exact ⟨max q r, by rw [hM (p + 1) hp, hq, hr, coe_max']⟩

theorem exp2_sub (a b : ℝ) : Ideal.exp2 ((a : EReal) - (b : EReal)) = (((2 : ℝ) ^ (a - b) : ℝ) : EReal) := by
  rw [← EReal.coe_sub, Ideal.exp2_coe]; rfl

theorem exp_sub (a b : ℝ) : Ideal.exp ((a : EReal) - (b : EReal)) = ((Real.exp (a - b) : ℝ) : EReal) := by
  rw [← EReal.coe_sub, Ideal.exp_coe]

/-- The accumulator after `p + 1` blocks: the values weighed against the maximum so far. -/
theorem acc_eq (s : ℕ → Fin 256 → ℝ) (v : ℕ → Fin 256 → EReal) (M A : ℕ → EReal) (m : ℕ → ℝ)
    (hm : ∀ p, p < 65 → M (p + 1) = m p) (hA0 : A 0 = 0)
    (hA : ∀ p, p < 65 → A (p + 1) = A p * Ideal.exp2 (M p - M (p + 1)) + ∑ r, v p r * Ideal.exp2 ((s p r : EReal) - M (p + 1))) :
    ∀ p, p < 65 → A (p + 1) = ∑ j ∈ Finset.range (p + 1), ∑ r, v j r * (((2 : ℝ) ^ (s j r - m p) : ℝ) : EReal) := by
  intro p
  induction p with
  | zero =>
    intro hp
    rw [hA 0 hp, hA0, zero_mul, zero_add, Finset.sum_range_one, hm 0 hp]
    simp only [exp2_sub]
  | succ p ih =>
    intro hp
    rw [hA (p + 1) hp, ih (by omega), hm p (by omega), hm (p + 1) hp, Finset.sum_range_succ _ (p + 1), exp2_sub,
      sum_mul_real _ _ (by positivity)]
    refine congrArg₂ (· + ·) (Finset.sum_congr rfl fun j _ => ?_) (Finset.sum_congr rfl fun r _ => by rw [exp2_sub])
    rw [sum_mul_real _ _ (by positivity)]
    refine Finset.sum_congr rfl fun r _ => ?_
    rw [mul_assoc, ← EReal.coe_mul, ← Real.rpow_add (by norm_num), sub_add_sub_cancel]

/-- All the keys in one sum: block by block. -/
theorem sum_blocks {M : Type*} [AddCommMonoid M] (f : Fin 16640 → M) :
    ∑ k, f k = ∑ j ∈ Finset.range 65, ∑ r : Fin 256, (if h : j < 65 then f ⟨256 * j + r.val, by omega⟩ else 0) := by
  rw [Finset.sum_range, ← Fintype.sum_prod_type', ← (finProdFinEquiv (m := 65) (n := 256)).sum_comp]
  refine Finset.sum_congr rfl fun x _ => ?_
  rw [dif_pos x.1.isLt]
  exact congrArg f (Fin.ext (by show x.2.val + 256 * x.1.val = 256 * x.1.val + x.2.val; omega))

/-- The kernel's quotient is the reference's softmax-weighted sum: `t` are the reference's scores, `s` the kernel's in
    base 2, `u` the reference's maximum. -/
theorem softmax_eq (s : ℕ → Fin 256 → ℝ) (v : ℕ → Fin 256 → EReal) (M A Z : ℕ → EReal)
    (t : Fin 16640 → ℝ) (x : Fin 16640 → EReal) (u : ℝ)
    (hts : ∀ (j : ℕ) (hj : j < 65) (r : Fin 256), t ⟨256 * j + r.val, by omega⟩ = s j r * Real.log 2)
    (hxv : ∀ (j : ℕ) (hj : j < 65) (r : Fin 256), x ⟨256 * j + r.val, by omega⟩ = v j r)
    (hM : ∀ p, p < 65 → ∃ r : ℝ, M (p + 1) = r) (hA0 : A 0 = 0) (hZ0 : Z 0 = 0)
    (hA : ∀ p, p < 65 → A (p + 1) = A p * Ideal.exp2 (M p - M (p + 1)) + ∑ r, v p r * Ideal.exp2 ((s p r : EReal) - M (p + 1)))
    (hZ : ∀ p, p < 65 → Z (p + 1) = Z p * Ideal.exp2 (M p - M (p + 1)) + ∑ r, 1 * Ideal.exp2 ((s p r : EReal) - M (p + 1))) :
    Ideal.div (A 65) (Z 65)
      = ∑ k, x k * Ideal.div (Ideal.exp ((t k : EReal) - u)) (0 + ∑ k', Ideal.exp ((t k' : EReal) - u)) := by
  choose! m hm using hM
  have eA : A 65 = ∑ j ∈ Finset.range 65, ∑ r, v j r * (((2 : ℝ) ^ (s j r - m 64) : ℝ) : EReal) := acc_eq s v M A m hm hA0 hA 64 (by norm_num)
  have eZ : Z 65 = ∑ j ∈ Finset.range 65, ∑ r, 1 * (((2 : ℝ) ^ (s j r - m 64) : ℝ) : EReal) := acc_eq s (fun _ _ => 1) M Z m hm hZ0 hZ 64 (by norm_num)
  rw [eA, eZ]
  clear eA eZ hA hZ hA0 hZ0 hm
  have hw : ∀ (j : ℕ) (hj : j < 65) (r : Fin 256),
      Real.exp (t ⟨256 * j + r.val, by omega⟩ - u) = (2 : ℝ) ^ (s j r - m 64) * (Real.exp (m 64 * Real.log 2 - u)) := by
    intro j hj r
    rw [hts j hj r, Real.rpow_def_of_pos (by norm_num), ← Real.exp_add]
    congr 1; ring
  have hden : ∑ k', Ideal.exp ((t k' : EReal) - u)
      = (((∑ j ∈ Finset.range 65, ∑ r : Fin 256, (2 : ℝ) ^ (s j r - m 64)) * Real.exp (m 64 * Real.log 2 - u) : ℝ) : EReal) := by
    simp only [exp_sub]
    rw [coe_sum, sum_blocks, Finset.sum_mul]
    congr 1
    refine Finset.sum_congr rfl fun j hj => ?_
    rw [Finset.sum_mul]
    refine Finset.sum_congr rfl fun r _ => ?_
    rw [dif_pos (Finset.mem_range.mp hj), hw j (Finset.mem_range.mp hj) r]
  have hpos : 0 < ∑ j ∈ Finset.range 65, ∑ r : Fin 256, (2 : ℝ) ^ (s j r - m 64) := by
    refine Finset.sum_pos (fun j _ => Finset.sum_pos (fun r _ => by positivity) ⟨0, Finset.mem_univ _⟩) ⟨0, by simp⟩
  have hone : ∑ j ∈ Finset.range 65, ∑ r : Fin 256, (1 : EReal) * (((2 : ℝ) ^ (s j r - m 64) : ℝ) : EReal)
      = ((∑ j ∈ Finset.range 65, ∑ r : Fin 256, (2 : ℝ) ^ (s j r - m 64) : ℝ) : EReal) := by
    simp only [one_mul, coe_sum]
  have he := Real.exp_pos (m 64 * Real.log 2 - u)
  rw [hone, hden, zero_add]
  generalize (∑ j ∈ Finset.range 65, ∑ r : Fin 256, (2 : ℝ) ^ (s j r - m 64)) = S at hpos
  generalize Real.exp (m 64 * Real.log 2 - u) = E at hw he
  clear hone hden
  rw [Ideal.div_coe hpos.ne', sum_mul_real _ _ (one_div_pos.mpr hpos).le, sum_blocks]
  refine Finset.sum_congr rfl fun j hj => ?_
  have hj' : j < 65 := Finset.mem_range.mp hj
  rw [sum_mul_real _ _ (one_div_pos.mpr hpos).le]
  refine Finset.sum_congr rfl fun r _ => ?_
  rw [dif_pos hj', hxv j hj' r, exp_sub, Ideal.div_coe (mul_pos hpos he).ne', hw j hj' r, mul_assoc, ← EReal.coe_mul, ← EReal.coe_mul]
  refine congrArg (fun y : ℝ => v j r * (y : EReal)) ?_
  field_simp

end Cert.Proof.Online
-- ==== Proof.Elem.lean ====
/-
  The payloads of the attention kernel read at an element, at the ideal values.
-/
module

public import proofs.«01_k».proof.Proof.Steps
public import proofs.«01_k».proof.Proof.Online
public import Idealize.ShloMosaic.Lib.Pipeline.Value
public import Idealize.ShloMosaic.Lib.ValueIdx
public import Idealize.ShloMosaic.Lib.ValueLayout
public import Idealize.ShloMosaic.PureOps.Ideal.Laws

@[expose] public section

set_option maxRecDepth 8192

noncomputable section

namespace Cert.Proof.Attn

open Cert.KernelIdeal Cert.KernelIdeal.Gen
open Idealize.ShloMosaic Idealize.ShloMosaic.ValueIdx

/-- The plain product of a 256 × 128 and a 128 × 512 matrix, read at an element. -/
theorem dot_kq (x : FVec Ideal S256x128 .bf16) (y : FVec Ideal S128x512 .bf16) (r : Fin 256) (n : Fin 512) :
    matmul dot_S256x128_S128x512_S256x512_1_0_0_1_n_n none x y (constant S256x512 .f32 0x00000000#32) (ix2 r n)
      = ∑ d : Fin 128, x (ix2 r d) * y (ix2 d n) := by
  simp only [matmul]
  rw [Ideal.matmul_constant_zero_apply, ← Equiv.sum_comp (contrEquiv1 dot_S256x128_S128x512_S256x512_1_0_0_1_n_n 128 rfl rfl).symm]
  refine Finset.sum_congr rfl fun k _ => ?_
  have hk := contrEquiv1_symm_val dot_S256x128_S128x512_S256x512_1_0_0_1_n_n 128 rfl rfl k
  have el : dot_S256x128_S128x512_S256x512_1_0_0_1_n_n.lhsIdx (ix2 r n) ((contrEquiv1 dot_S256x128_S128x512_S256x512_1_0_0_1_n_n 128 rfl rfl).symm k) = ix2 r k :=
    funext fun a => Fin.ext (by
      match a with
      | ⟨0, _⟩ => rfl
      | ⟨1, _⟩ => exact (dot_S256x128_S128x512_S256x512_1_0_0_1_n_n.lhsIdx_val_of_single rfl _ _).trans hk)
  have er : dot_S256x128_S128x512_S256x512_1_0_0_1_n_n.rhsIdx (ix2 r n) ((contrEquiv1 dot_S256x128_S128x512_S256x512_1_0_0_1_n_n 128 rfl rfl).symm k) = ix2 k n :=
    funext fun a => Fin.ext (by
      match a with
      | ⟨0, _⟩ => exact (dot_S256x128_S128x512_S256x512_1_0_0_1_n_n.rhsIdx_val_of_single rfl _ _).trans hk
      | ⟨1, _⟩ => rfl)
  rw [el, er]

/-- The plain product of an 80 × 256 and a 256 × 512 matrix, read at an element. -/
theorem dot_vp (x : FVec Ideal S80x256 .bf16) (y : FVec Ideal S256x512 .bf16) (i : Fin 80) (n : Fin 512) :
    matmul dot_S80x256_S256x512_S80x512_1_0_0_1_n_n none x y (constant S80x512 .f32 0x00000000#32) (ix2 i n)
      = ∑ r : Fin 256, x (ix2 i r) * y (ix2 r n) := by
  simp only [matmul]
  rw [Ideal.matmul_constant_zero_apply, ← Equiv.sum_comp (contrEquiv1 dot_S80x256_S256x512_S80x512_1_0_0_1_n_n 256 rfl rfl).symm]
  refine Finset.sum_congr rfl fun k _ => ?_
  have hk := contrEquiv1_symm_val dot_S80x256_S256x512_S80x512_1_0_0_1_n_n 256 rfl rfl k
  have el : dot_S80x256_S256x512_S80x512_1_0_0_1_n_n.lhsIdx (ix2 i n) ((contrEquiv1 dot_S80x256_S256x512_S80x512_1_0_0_1_n_n 256 rfl rfl).symm k) = ix2 i k :=
    funext fun a => Fin.ext (by
      match a with
      | ⟨0, _⟩ => rfl
      | ⟨1, _⟩ => exact (dot_S80x256_S256x512_S80x512_1_0_0_1_n_n.lhsIdx_val_of_single rfl _ _).trans hk)
  have er : dot_S80x256_S256x512_S80x512_1_0_0_1_n_n.rhsIdx (ix2 i n) ((contrEquiv1 dot_S80x256_S256x512_S80x512_1_0_0_1_n_n 256 rfl rfl).symm k) = ix2 k n :=
    funext fun a => Fin.ext (by
      match a with
      | ⟨0, _⟩ => exact (dot_S80x256_S256x512_S80x512_1_0_0_1_n_n.rhsIdx_val_of_single rfl _ _).trans hk
      | ⟨1, _⟩ => rfl)
  rw [el, er]

theorem cast_k (x : Vec Ideal S1x1x256x128 .bf16) (r : Fin 256) (d : Fin 128) :
    shapeCast S256x128 x shapeCasts_S1x1x256x128_S256x128 (ix2 r d) = x (ix4 0 0 r d) :=
  shapeCast_apply x _ _ _ (by
    rw [Shape.rowMajor_val_four, Shape.rowMajor_val_two]
    show ((0 * 1 + 0) * 256 + r.val) * 128 + d.val = r.val * 128 + d.val; omega)

theorem cast_q (x : Vec Ideal S1x128x512 .bf16) (d : Fin 128) (n : Fin 512) :
    shapeCast S128x512 x shapeCasts_S1x128x512_S128x512 (ix2 d n) = x (ix3 0 d n) :=
  shapeCast_apply x _ _ _ (by
    rw [Shape.rowMajor_val_three, Shape.rowMajor_val_two]
    show (0 * 128 + d.val) * 512 + n.val = d.val * 512 + n.val; omega)

theorem cast_v (x : Vec Ideal S1x1x1x80x256 .bf16) (i : Fin 80) (r : Fin 256) :
    shapeCast S80x256 x shapeCasts_S1x1x1x80x256_S80x256 (ix2 i r) = x (ix5 0 0 0 i r) :=
  shapeCast_apply x _ _ _ (by
    rw [Shape.rowMajor_val_five, Shape.rowMajor_val_two]
    show (((0 * 1 + 0) * 1 + 0) * 80 + i.val) * 256 + r.val = i.val * 256 + r.val; omega)

/-- A score: the product over the 128 lanes. -/
theorem pay7_apply (k : Vec Ideal S1x1x256x128 .bf16) (q : Vec Ideal S1x128x512 .bf16) (r : Fin 256) (n : Fin 512) :
    k0_pay7 k q (ix2 r n) = ∑ d : Fin 128, k (ix4 0 0 r d) * q (ix3 0 d n) := by
  dsimp only [k0_pay7]
  rw [dot_kq]
  exact Finset.sum_congr rfl fun d _ => by rw [cast_k, cast_q]

theorem pay8_eq (k : Vec Ideal S1x1x256x128 .bf16) (q : Vec Ideal S1x128x512 .bf16) : k0_pay8 k q = k0_pay7 k q := by
  dsimp only [k0_pay8]; exact shapeCast_self _ _

theorem neg_inf : Ideal.ofBits .f32 0xFF800000#32 = ⊥ := by simp [Ideal.ofBits, Ideal.ieee]

/-- The maxima over the rows of one remainder are real when the scores are. -/
theorem pay9_real (k : Vec Ideal S1x1x256x128 .bf16) (q : Vec Ideal S1x128x512 .bf16) (n : Fin 512)
    (h : ∀ r : Fin 256, ∃ x : ℝ, k0_pay7 k q (ix2 r n) = (x : EReal)) (a : Fin 8) :
    ∃ x : ℝ, k0_pay9 k q (ix2 a n) = (x : EReal) := by
  have e : k0_pay9 k q (ix2 a n) = Finset.fold max (Ideal.ofBits .f32 0xFF800000#32) _ _ :=
    Ideal.multiReduction_maximumf_single (φ := .f32) (shapeCast S32x8x512 (k0_pay7 k q) shapeCasts_S256x512_S32x8x512) 0xFF800000#32
      reduces_S32x8x512_S8x512 (.inl rfl) rfl (ix2 a n)
  rw [e, neg_inf]
  refine Online.fold_max_real _ ⟨⟨0, by decide⟩, Finset.mem_univ _⟩ _ fun i => ?_
  have hi : i.val < 32 := i.isLt
  obtain ⟨x, hx⟩ := h ⟨i.val * 8 + a.val, by omega⟩
  refine ⟨x, ?_⟩
  rw [← hx]
  exact shapeCast_apply (k0_pay7 k q) _ _ (ix2 ⟨i.val * 8 + a.val, by omega⟩ n) (by
    rw [Shape.rowMajor_val_three, Shape.rowMajor_val_two]; rfl)

/-- The maximum of a position's scores, from its eight. -/
def topOf (cm : FVec Ideal S8x512 .f32) (n : Fin 512) : EReal :=
  (Finset.univ : Finset (Fin (S8x512.size 0))).fold max (⊥ : EReal) (cm ∘ (reduces_S8x512_S512).lift (ix1 n))

theorem topOf_real (cm : FVec Ideal S8x512 .f32) (n : Fin 512) (h : ∀ a : Fin 8, ∃ x : ℝ, cm (ix2 a n) = (x : EReal)) :
    ∃ x : ℝ, topOf cm n = (x : EReal) := by
  refine Online.fold_max_real _ ⟨⟨0, by decide⟩, Finset.mem_univ _⟩ _ fun i => ?_
  obtain ⟨x, hx⟩ := h i
  refine ⟨x, ?_⟩
  rw [← hx]
  exact congrArg cm (funext fun a => Fin.ext (by match a with | ⟨0, _⟩ => rfl | ⟨1, _⟩ => rfl))

theorem pay4_apply (mx : FVec Ideal S1x512 .f32) (cm : FVec Ideal S8x512 .f32) (n : Fin 512) :
    k0_pay4 mx cm (ix2 0 n) = max (mx (ix2 0 n)) (topOf cm n) := by
  have e : multiReduction .maximumf [0] S512 cm 0xFF800000#32 reduces_S8x512_S512 (.inl rfl) rfl (ix1 n) = topOf cm n := by
    refine (Ideal.multiReduction_maximumf_single (φ := .f32) cm 0xFF800000#32 reduces_S8x512_S512 (.inl rfl) rfl (ix1 n)).trans ?_
    show Finset.fold max (Ideal.ofBits .f32 0xFF800000#32) _ _ = _
    rw [neg_inf]; rfl
  dsimp only [k0_pay4]
  rw [maximumf_apply, shapeCast_a_1a_apply]
  exact congrArg (max (mx (ix2 0 n))) e

theorem pay6_apply (mx : FVec Ideal S1x512 .f32) (cm : FVec Ideal S8x512 .f32) (n : Fin 512) :
    k0_pay6 mx cm (ix2 0 n) = Ideal.exp2 (mx (ix2 0 n) - k0_pay4 mx cm (ix2 0 n)) := rfl

theorem pay5_apply (mx : FVec Ideal S1x512 .f32) (cm : FVec Ideal S8x512 .f32) (s : Vec Ideal S256x512 .f32) (r : Fin 256) (n : Fin 512) :
    k0_pay5 mx cm s (ix2 r n) = Ideal.exp2 (s (ix2 r n) - k0_pay4 mx cm (ix2 0 n)) := by
  dsimp only [k0_pay5]
  rw [shapeCast_self]
  show Ideal.exp2 (s (ix2 r n) - broadcastTo S256x512 (k0_pay4 mx cm) broadcasts_S1x512_S256x512 (ix2 r n)) = _
  rw [broadcastTo_1b_ab_apply]

theorem pay3_apply (al : FVec Ideal S1x512 .f32) (v : Vec Ideal S1x1x1x80x256 .bf16) (a : Vec Ideal S80x512 .f32) (p : Vec Ideal S256x512 .bf16)
    (i : Fin 80) (n : Fin 512) :
    k0_pay3 al v a p (ix2 i n) = a (ix2 i n) * al (ix2 0 n) + ∑ r : Fin 256, v (ix5 0 0 0 i r) * p (ix2 r n) := by
  dsimp only [k0_pay3]
  rw [shapeCast_self, addf_apply, mulf_apply, broadcastTo_1b_ab_apply, dot_vp]
  show _ + _ = _ + _
  exact congrArg (a (ix2 i n) * al (ix2 0 n) + ·) (Finset.sum_congr rfl fun r _ => by rw [cast_v])

theorem pay159_apply (i : Fin 80) (n : Fin 512) : (k0_pay159 (F := Ideal)) (ix2 i n) = 0 := by
  dsimp only [k0_pay159]
  rw [shapeCast_self]
  show Ideal.ofBits .f32 0x00000000#32 = 0
  exact Ideal.ofBits_zero_f32

/-- A head's quotient: a value row over the row of ones. -/
theorem pay237_apply (a : Vec Ideal S80x512 .f32) (i : Fin 64) (n : Fin 512) :
    k0_pay237 a (ix2 i n) = Ideal.div (a (ix2 ⟨i.val, by omega⟩ n)) (a (ix2 64 n)) := by
  dsimp only [k0_pay237]
  rw [divf_apply, broadcastTo_1b_ab_apply]
  refine congrArg₂ Ideal.div ?_ ?_
  · exact extractStridedSlice_apply _ a _ _ _ (fun b => by match b with | ⟨0, _⟩ => exact (Nat.zero_add _).symm | ⟨1, _⟩ => exact (Nat.zero_add _).symm)
  · exact extractStridedSlice_apply _ a _ _ _ (fun b => by match b with | ⟨0, _⟩ => rfl | ⟨1, _⟩ => exact (Nat.zero_add _).symm)

/-- The block's result at an element: the first head's 64 columns, then the second's. -/
theorem out_apply (a0 a1 : Vec Ideal S80x512 .f32) (n : Fin 512) (i : Fin 128) :
    outOf (F := Ideal) a0 a1 (ix3 0 n i)
      = if h : i.val < 64 then Ideal.div (a0 (ix2 ⟨i.val, by omega⟩ n)) (a0 (ix2 64 n))
        else Ideal.div (a1 (ix2 ⟨i.val - 64, by omega⟩ n)) (a1 (ix2 64 n)) := by
  have e2 : @Eq EReal (outOf (F := Ideal) a0 a1 (ix3 0 n i)) <|
      concatenate S128x512 0 [⟨S64x512, k0_pay237 (F := Ideal) a0⟩, ⟨S64x512, k0_pay237 (F := Ideal) a1⟩] concatenates_S64x512_S64x512_S128x512_d0 (ix2 i n) := by
    have e : @Eq EReal (outOf (F := Ideal) a0 a1 (ix3 0 n i)) (shapeCast S1x512x128 (transpose (α := EReal) S512x128 [1, 0]
        (concatenate S128x512 0 [⟨S64x512, k0_pay237 (F := Ideal) a0⟩, ⟨S64x512, k0_pay237 (F := Ideal) a1⟩] concatenates_S64x512_S64x512_S128x512_d0)
        transposes_S128x512_p1_0_S512x128) shapeCasts_S512x128_S1x512x128 (ix3 0 n i)) := rfl
    rw [e, shapeCast_ab_1ab_apply, transpose_ix2_apply]
  refine e2.trans ?_
  split
  · rename_i h
    exact (concatenate_pair_apply_left (α := EReal) 0 (k0_pay237 (F := Ideal) a0) (k0_pay237 (F := Ideal) a1) concatenates_S64x512_S64x512_S128x512_d0 (ix2 i n) rfl (ix2 ⟨i.val, h⟩ n)
      (fun b => by match b with | ⟨0, _⟩ => rfl | ⟨1, _⟩ => rfl)).trans (pay237_apply a0 _ n)
  · rename_i h
    exact (concatenate_pair_apply_right (α := EReal) 0 (k0_pay237 (F := Ideal) a0) (k0_pay237 (F := Ideal) a1) concatenates_S64x512_S64x512_S128x512_d0 (ix2 i n) rfl rfl (ix2 ⟨i.val - 64, by omega⟩ n)
      (fun b hb => by match b with | ⟨0, _⟩ => exact absurd rfl hb | ⟨1, _⟩ => rfl)
      (by show i.val - 64 + 64 = i.val; omega)).trans (pay237_apply a1 _ n)

/-! ### The running values of one head at an element -/

section

variable (qA : Vec Ideal S1x128x512 .bf16) (kA : ℕ → Vec Ideal S1x1x256x128 .bf16) (vA : ℕ → Vec Ideal S1x1x1x80x256 .bf16)

theorem maxAt_zero_apply (n : Fin 512) : maxAt qA kA 0 (ix2 0 n) = (⊥ : EReal) := neg_inf

theorem maxAt_succ_apply (p : ℕ) (n : Fin 512) :
    maxAt qA kA (p + 1) (ix2 0 n) = max (maxAt qA kA p (ix2 0 n)) (topOf (cmAt qA kA p) n) := by
  rw [maxAt_succ, pay4_apply]

theorem accAt_zero_apply (i : Fin 80) (n : Fin 512) : accAt qA kA vA 0 (ix2 i n) = (0 : EReal) := pay159_apply i n

theorem accAt_succ_apply (p : ℕ) (i : Fin 80) (n : Fin 512) :
    accAt qA kA vA (p + 1) (ix2 i n)
      = accAt qA kA vA p (ix2 i n) * Ideal.exp2 (maxAt qA kA p (ix2 0 n) - maxAt qA kA (p + 1) (ix2 0 n))
        + ∑ r : Fin 256, vA p (ix5 0 0 0 i r) * Ideal.exp2 (k0_pay7 (kA p) qA (ix2 r n) - maxAt qA kA (p + 1) (ix2 0 n)) := by
  rw [accAt_succ, pay3_apply, maxAt_succ]
  refine congrArg₂ (· + ·) (by rw [alAt, pay6_apply]) (Finset.sum_congr rfl fun r _ => ?_)
  rw [probAt, pay5_apply, scoreAt, pay8_eq]

/-- One head's quotient is the softmax-weighted sum: `t` the reference's scores, `x` the values, `u` the reference's
    maximum. -/
theorem head_eq (n : Fin 512) (i : Fin 80) (s : ℕ → Fin 256 → ℝ) (t : Fin 16640 → ℝ) (x : Fin 16640 → EReal) (u : ℝ)
    (hs : ∀ p, p < 65 → ∀ r : Fin 256, k0_pay7 (kA p) qA (ix2 r n) = (s p r : EReal))
    (h1 : ∀ p, p < 65 → ∀ r : Fin 256, vA p (ix5 0 0 0 64 r) = (1 : EReal))
    (hts : ∀ (j : ℕ) (hj : j < 65) (r : Fin 256), t ⟨256 * j + r.val, by omega⟩ = s j r * Real.log 2)
    (hxv : ∀ (j : ℕ) (hj : j < 65) (r : Fin 256), x ⟨256 * j + r.val, by omega⟩ = vA j (ix5 0 0 0 i r)) :
    Ideal.div (accAt qA kA vA 65 (ix2 i n)) (accAt qA kA vA 65 (ix2 64 n))
      = ∑ k, x k * Ideal.div (Ideal.exp ((t k : EReal) - u)) (0 + ∑ k', Ideal.exp ((t k' : EReal) - u)) := by
  refine Online.softmax_eq s (fun p r => vA p (ix5 0 0 0 i r)) (fun p => maxAt qA kA p (ix2 0 n))
    (fun p => accAt qA kA vA p (ix2 i n)) (fun p => accAt qA kA vA p (ix2 64 n)) t x u hts hxv ?_
    (accAt_zero_apply qA kA vA i n) (accAt_zero_apply qA kA vA 64 n) ?_ ?_
  · refine Online.max_real (fun p => maxAt qA kA p (ix2 0 n)) (fun p => topOf (cmAt qA kA p) n)
      (maxAt_zero_apply qA kA n) (fun p _ => maxAt_succ_apply qA kA p n) fun p hp => ?_
    exact topOf_real _ _ fun a => pay9_real _ _ _ (fun r => ⟨s p r, hs p hp r⟩) a
  · intro p hp
    show accAt qA kA vA (p + 1) (ix2 i n) = _
    rw [accAt_succ_apply]
    exact congrArg (_ + ·) (Finset.sum_congr rfl fun r _ => by rw [hs p hp r])
  · intro p hp
    show accAt qA kA vA (p + 1) (ix2 64 n) = _
    rw [accAt_succ_apply]
    exact congrArg (_ + ·) (Finset.sum_congr rfl fun r _ => by rw [hs p hp r, h1 p hp r])

end

end Cert.Proof.Attn
-- ==== Proof.Host.lean ====
/-
  The arrays the program hands the kernel, as the kernel finds them: each read at an element from the arguments.
-/
module

public import proofs.«01_k».proof.Proof.Gen.KernelIdeal.Frame
public import Idealize.ShloMosaic.Lib.StableHlo.RunRead
public import Idealize.ShloMosaic.Lib.Pipeline.Value
public import Idealize.ShloMosaic.Lib.ValueIdx
public import Idealize.ShloMosaic.Lib.ValueLayout
public import Idealize.ShloMosaic.PureOps.Ideal.Laws

@[expose] public section

set_option maxRecDepth 8192

noncomputable section

namespace Cert.Proof.Attn

open Cert.KernelIdeal Cert.KernelIdeal.Gen
open Idealize.ShloMosaic Idealize.ShloMosaic.ValueIdx Idealize.ShloMosaic.TcCoe Idealize.SL.Sem

/-! ### The arrays as terms -/

/-- The factor the queries are scaled by. -/
def scaleT : FVec Ideal S_ .f32 :=
  Host.divf (constant S_ .f32 0x3F800000#32) (mulf (Host.log (constant S_ .f32 0x40000000#32)) (Host.sqrt (constant S_ .f32 0x42C00000#32)))

/-- The queries: 64 lanes, 32 lanes, 32 zeros; scaled. -/
def qC (x0 : FVec Ideal S2x16384x16x64 .f32) (x1 : FVec Ideal S2x16384x16x32 .f32) : S2x16384x16x128.Idx → EReal :=
  mulf (F := Ideal) (φ := .f32) (concatenate S2x16384x16x128 3 [⟨S2x16384x16x64, x0⟩, ⟨S2x16384x16x32, x1⟩, ⟨S2x16384x16x32, broadcastInDim S2x16384x16x32 ![] bcast_S_S2x16384x16x32 (constant (F := Ideal) S_ .f32 0x00000000#32)⟩]
        concatenates_S2x16384x16x64_S2x16384x16x32_S2x16384x16x32_S2x16384x16x128_d3)
      (broadcastInDim S2x16384x16x128 ![] bcast_S_S2x16384x16x128 scaleT)

/-- The same, heads and lanes first. -/
def qT (x0 : FVec Ideal S2x16384x16x64 .f32) (x1 : FVec Ideal S2x16384x16x32 .f32) : S2x2048x16384.Idx → EReal :=
  shapeCast S2x2048x16384 (transpose S2x16x128x16384 [0, 2, 3, 1] (qC x0 x1)
    transposes_S2x16384x16x128_S2x16x128x16384_0_2_3_1) shapeCasts_S2x16x128x16384_S2x2048x16384

/-- The 32 context lanes the heads share, once per head. -/
def rcC (x3 : FVec Ideal S2x256x32 .f32) : S2x256x16x32.Idx → EReal :=
  broadcastInDim S2x256x16x32 ![0, 1, 2, 3] bcast_S2x256x1x32_S2x256x16x32_0_1_2_3 (broadcastInDim S2x256x1x32 ![0, 1, 3] bcast_S2x256x32_S2x256x1x32_0_1_3 x3)

/-- The context keys: 64 lanes, the 32 lanes the heads share, 32 zeros. -/
def kcC (x2 : FVec Ideal S2x256x16x64 .f32) (x3 : FVec Ideal S2x256x32 .f32) : S2x256x16x128.Idx → EReal :=
  concatenate S2x256x16x128 3 [⟨S2x256x16x64, x2⟩, ⟨S2x256x16x32, rcC x3⟩,
        ⟨S2x256x16x32, broadcastInDim S2x256x16x32 ![] bcast_S_S2x256x16x32 (constant (F := Ideal) S_ .f32 0x00000000#32)⟩]
      concatenates_S2x256x16x64_S2x256x16x32_S2x256x16x32_S2x256x16x128_d3

/-- The same, heads first. -/
def kcT (x2 : FVec Ideal S2x256x16x64 .f32) (x3 : FVec Ideal S2x256x32 .f32) : S2x16x256x128.Idx → EReal :=
  transpose S2x16x256x128 [0, 2, 1, 3] (kcC x2 x3) transposes_S2x256x16x128_S2x16x256x128_0_2_1_3

/-- The 32 latent lanes the heads share, once per head. -/
def rC (x6 : FVec Ideal S2x16384x32 .f32) : S2x16384x16x32.Idx → EReal :=
  broadcastInDim S2x16384x16x32 ![0, 1, 2, 3] bcast_S2x16384x1x32_S2x16384x16x32_0_1_2_3 (broadcastInDim S2x16384x1x32 ![0, 1, 3] bcast_S2x16384x32_S2x16384x1x32_0_1_3 x6)

/-- The latent keys likewise. -/
def kC (x5 : FVec Ideal S2x16384x16x64 .f32) (x6 : FVec Ideal S2x16384x32 .f32) : S2x16384x16x128.Idx → EReal :=
  concatenate S2x16384x16x128 3 [⟨S2x16384x16x64, x5⟩, ⟨S2x16384x16x32, rC x6⟩,
        ⟨S2x16384x16x32, broadcastInDim S2x16384x16x32 ![] bcast_S_S2x16384x16x32 (constant (F := Ideal) S_ .f32 0x00000000#32)⟩]
      concatenates_S2x16384x16x64_S2x16384x16x32_S2x16384x16x32_S2x16384x16x128_d3

/-- The same, heads first. -/
def kT (x5 : FVec Ideal S2x16384x16x64 .f32) (x6 : FVec Ideal S2x16384x32 .f32) : S2x16x16384x128.Idx → EReal :=
  transpose S2x16x16384x128 [0, 2, 1, 3] (kC x5 x6) transposes_S2x16384x16x128_S2x16x16384x128_0_2_1_3

/-- The context values: 64 rows, a row of ones, 15 of zeros. -/
def vcC (x4 : FVec Ideal S2x256x16x64 .f32) : S2x256x16x80.Idx → EReal :=
  concatenate S2x256x16x80 3 [⟨S2x256x16x64, x4⟩,
        ⟨S2x256x16x1, broadcastInDim S2x256x16x1 ![] bcast_S_S2x256x16x1 (constant (F := Ideal) S_ .f32 0x3F800000#32)⟩,
        ⟨S2x256x16x15, broadcastInDim S2x256x16x15 ![] bcast_S_S2x256x16x15 (constant (F := Ideal) S_ .f32 0x00000000#32)⟩]
      concatenates_S2x256x16x64_S2x256x16x1_S2x256x16x15_S2x256x16x80_d3

/-- The same, heads and rows first. -/
def vcT (x4 : FVec Ideal S2x256x16x64 .f32) : S2x1x16x80x256.Idx → EReal :=
  transpose S2x1x16x80x256 [0, 1, 3, 4, 2] (shapeCast S2x1x256x16x80 (vcC x4)
    shapeCasts_S2x256x16x80_S2x1x256x16x80) transposes_S2x1x256x16x80_S2x1x16x80x256_0_1_3_4_2

/-- The latent values likewise. -/
def vC (x7 : FVec Ideal S2x16384x16x64 .f32) : S2x16384x16x80.Idx → EReal :=
  concatenate S2x16384x16x80 3 [⟨S2x16384x16x64, x7⟩,
        ⟨S2x16384x16x1, broadcastInDim S2x16384x16x1 ![] bcast_S_S2x16384x16x1 (constant (F := Ideal) S_ .f32 0x3F800000#32)⟩,
        ⟨S2x16384x16x15, broadcastInDim S2x16384x16x15 ![] bcast_S_S2x16384x16x15 (constant (F := Ideal) S_ .f32 0x00000000#32)⟩]
      concatenates_S2x16384x16x64_S2x16384x16x1_S2x16384x16x15_S2x16384x16x80_d3

/-- The same, 256 keys at a time, heads and rows first. -/
def vT (x7 : FVec Ideal S2x16384x16x64 .f32) : S2x64x16x80x256.Idx → EReal :=
  transpose S2x64x16x80x256 [0, 1, 3, 4, 2] (shapeCast S2x64x256x16x80 (vC x7)
    shapeCasts_S2x16384x16x80_S2x64x256x16x80) transposes_S2x64x256x16x80_S2x64x16x80x256_0_1_3_4_2

/-! ### The lanes of a query or key, and the rows of a value -/

/-- 64 lanes of one array, 32 of another, 32 zeros. -/
def lane (f : Fin 64 → EReal) (g : Fin 32 → EReal) (d : Fin 128) : EReal :=
  if h : d.val < 64 then f ⟨d.val, h⟩ else if h' : d.val < 96 then g ⟨d.val - 64, by omega⟩ else 0

/-- 64 rows of an array, a row of ones, zeros. -/
def row (f : Fin 64 → EReal) (i : Fin 80) : EReal :=
  if h : i.val < 64 then f ⟨i.val, h⟩ else if i.val = 64 then 1 else 0

theorem one_bits : Ideal.ofBits .f32 0x3F800000#32 = 1 := by
  simp [Ideal.ofBits, Ideal.ieee]
  rw [← EReal.coe_mul]; norm_num

/-- Three arrays joined along the last of four axes, at 64, 32 and 32 lanes. -/
theorem cat_lane {n1 n2 : ℕ} (a : FVec Ideal ⟨4, ![2, n1, n2, 64]⟩ .f32) (b z : FVec Ideal ⟨4, ![2, n1, n2, 32]⟩ .f32)
    (h : Shape.Concatenates [⟨4, ![2, n1, n2, 64]⟩, ⟨4, ![2, n1, n2, 32]⟩, ⟨4, ![2, n1, n2, 32]⟩] ⟨4, ![2, n1, n2, 128]⟩ 3)
    (hz : ∀ i, z i = (0 : EReal)) (i0 : Fin 2) (i1 : Fin n1) (i2 : Fin n2) (d : Fin 128) :
    @Eq EReal (concatenate ⟨4, ![2, n1, n2, 128]⟩ 3 [⟨⟨4, ![2, n1, n2, 64]⟩, a⟩, ⟨⟨4, ![2, n1, n2, 32]⟩, b⟩, ⟨⟨4, ![2, n1, n2, 32]⟩, z⟩] h (ix4 i0 i1 i2 d))
      (lane (fun e => a (ix4 i0 i1 i2 e)) (fun e => b (ix4 i0 i1 i2 e)) d) := by
  unfold lane
  split
  · rename_i hd
    exact concatenate_apply_piece (α := EReal) 3 [⟨⟨4, ![2, n1, n2, 64]⟩, a⟩, ⟨⟨4, ![2, n1, n2, 32]⟩, b⟩, ⟨⟨4, ![2, n1, n2, 32]⟩, z⟩] h (ix4 i0 i1 i2 d) 0 (by show 0 < 3; decide) _ a rfl rfl 0 rfl (ix4 i0 i1 i2 ⟨d.val, hd⟩)
      (fun e he => by match e with | ⟨0, _⟩ => rfl | ⟨1, _⟩ => rfl | ⟨2, _⟩ => rfl | ⟨3, _⟩ => exact absurd rfl he)
      (Nat.zero_add _)
  · rename_i hd
    split
    · rename_i hd'
      exact concatenate_apply_piece (α := EReal) 3 [⟨⟨4, ![2, n1, n2, 64]⟩, a⟩, ⟨⟨4, ![2, n1, n2, 32]⟩, b⟩, ⟨⟨4, ![2, n1, n2, 32]⟩, z⟩] h (ix4 i0 i1 i2 d) 1 (by show 1 < 3; decide) _ b rfl rfl 64 rfl (ix4 i0 i1 i2 ⟨d.val - 64, by omega⟩)
        (fun e he => by match e with | ⟨0, _⟩ => rfl | ⟨1, _⟩ => rfl | ⟨2, _⟩ => rfl | ⟨3, _⟩ => exact absurd rfl he)
        (by show 64 + (d.val - 64) = d.val; omega)
    · rename_i hd'
      refine Eq.trans ?_ (hz (ix4 i0 i1 i2 ⟨d.val - 96, by omega⟩))
      exact concatenate_apply_piece (α := EReal) 3 [⟨⟨4, ![2, n1, n2, 64]⟩, a⟩, ⟨⟨4, ![2, n1, n2, 32]⟩, b⟩, ⟨⟨4, ![2, n1, n2, 32]⟩, z⟩] h (ix4 i0 i1 i2 d) 2 (by show 2 < 3; decide) _ z rfl rfl 96 rfl (ix4 i0 i1 i2 ⟨d.val - 96, by omega⟩)
        (fun e he => by match e with | ⟨0, _⟩ => rfl | ⟨1, _⟩ => rfl | ⟨2, _⟩ => rfl | ⟨3, _⟩ => exact absurd rfl he)
        (by show 96 + (d.val - 96) = d.val; omega)

/-- Three arrays joined along the last of four axes, at 64, 1 and 15 rows. -/
theorem cat_row {n1 n2 : ℕ} (a : FVec Ideal ⟨4, ![2, n1, n2, 64]⟩ .f32) (o : FVec Ideal ⟨4, ![2, n1, n2, 1]⟩ .f32) (z : FVec Ideal ⟨4, ![2, n1, n2, 15]⟩ .f32)
    (h : Shape.Concatenates [⟨4, ![2, n1, n2, 64]⟩, ⟨4, ![2, n1, n2, 1]⟩, ⟨4, ![2, n1, n2, 15]⟩] ⟨4, ![2, n1, n2, 80]⟩ 3)
    (ho : ∀ i, o i = (1 : EReal)) (hz : ∀ i, z i = (0 : EReal)) (i0 : Fin 2) (i1 : Fin n1) (i2 : Fin n2) (d : Fin 80) :
    @Eq EReal (concatenate ⟨4, ![2, n1, n2, 80]⟩ 3 [⟨⟨4, ![2, n1, n2, 64]⟩, a⟩, ⟨⟨4, ![2, n1, n2, 1]⟩, o⟩, ⟨⟨4, ![2, n1, n2, 15]⟩, z⟩] h (ix4 i0 i1 i2 d))
      (row (fun e => a (ix4 i0 i1 i2 e)) d) := by
  unfold row
  split
  · rename_i hd
    exact concatenate_apply_piece (α := EReal) 3 [⟨⟨4, ![2, n1, n2, 64]⟩, a⟩, ⟨⟨4, ![2, n1, n2, 1]⟩, o⟩, ⟨⟨4, ![2, n1, n2, 15]⟩, z⟩] h (ix4 i0 i1 i2 d) 0 (by show 0 < 3; decide) _ a rfl rfl 0 rfl (ix4 i0 i1 i2 ⟨d.val, hd⟩)
      (fun e he => by match e with | ⟨0, _⟩ => rfl | ⟨1, _⟩ => rfl | ⟨2, _⟩ => rfl | ⟨3, _⟩ => exact absurd rfl he)
      (Nat.zero_add _)
  · rename_i hd
    split
    · rename_i hd'
      refine Eq.trans ?_ (ho (ix4 i0 i1 i2 0))
      exact concatenate_apply_piece (α := EReal) 3 [⟨⟨4, ![2, n1, n2, 64]⟩, a⟩, ⟨⟨4, ![2, n1, n2, 1]⟩, o⟩, ⟨⟨4, ![2, n1, n2, 15]⟩, z⟩] h (ix4 i0 i1 i2 d) 1 (by show 1 < 3; decide) _ o rfl rfl 64 rfl (ix4 i0 i1 i2 0)
        (fun e he => by match e with | ⟨0, _⟩ => rfl | ⟨1, _⟩ => rfl | ⟨2, _⟩ => rfl | ⟨3, _⟩ => exact absurd rfl he)
        (by show 64 + 0 = d.val; omega)
    · rename_i hd'
      refine Eq.trans ?_ (hz (ix4 i0 i1 i2 ⟨d.val - 65, by omega⟩))
      exact concatenate_apply_piece (α := EReal) 3 [⟨⟨4, ![2, n1, n2, 64]⟩, a⟩, ⟨⟨4, ![2, n1, n2, 1]⟩, o⟩, ⟨⟨4, ![2, n1, n2, 15]⟩, z⟩] h (ix4 i0 i1 i2 d) 2 (by show 2 < 3; decide) _ z rfl rfl 65 rfl (ix4 i0 i1 i2 ⟨d.val - 65, by omega⟩)
        (fun e he => by match e with | ⟨0, _⟩ => rfl | ⟨1, _⟩ => rfl | ⟨2, _⟩ => rfl | ⟨3, _⟩ => exact absurd rfl he)
        (by show 65 + (d.val - 65) = d.val; omega)

/-- A scalar spread over an array. -/
theorem spread {t : Shape} (h : S_.BroadcastsInDim t ![]) (x : FVec Ideal S_ .f32) (j : t.Idx) : broadcastInDim t ![] h x j = x ix0 :=
  broadcastInDim_apply _ h x j ix0 (fun a => a.elim0)

/-! ### The arrays at an element -/

theorem qT_apply (x0 : FVec Ideal S2x16384x16x64 .f32) (x1 : FVec Ideal S2x16384x16x32 .f32) (b : Fin 2) (h : Fin 16) (d : Fin 128) (n : Fin 16384)
    (hd : Fin 2048) (hhd : hd.val = h.val * 128 + d.val) :
    qT x0 x1 (ix3 b hd n) = lane (fun e => x0 (ix4 b n h e)) (fun e => x1 (ix4 b n h e)) d * scaleT ix0 := by
  unfold qT
  rw [shapeCast_apply _ shapeCasts_S2x16x128x16384_S2x2048x16384 (ix3 b hd n) (ix4 b h d n) (by
      rw [Shape.rowMajor_val_four, Shape.rowMajor_val_three]
      show ((b.val * 16 + h.val) * 128 + d.val) * 16384 + n.val = (b.val * 2048 + hd.val) * 16384 + n.val; omega),
    transpose_apply _ (qC x0 x1) _ (ix4 b h d n) (ix4 b n h d) (fun e => by match e with | ⟨0, _⟩ => rfl | ⟨1, _⟩ => rfl | ⟨2, _⟩ => rfl | ⟨3, _⟩ => rfl)]
  exact congrArg₂ (fun y z : EReal => y * z) (cat_lane x0 x1 _ _ (fun i => (spread _ _ i).trans Ideal.ofBits_zero_f32) b n h d) (spread _ _ _)

theorem rcC_apply (x3 : FVec Ideal S2x256x32 .f32) (b : Fin 2) (r : Fin 256) (h : Fin 16) (e : Fin 32) : rcC x3 (ix4 b r h e) = x3 (ix3 b r e) := by
  unfold rcC
  rw [broadcastInDim_apply _ _ _ _ (ix4 b r 0 e : S2x256x1x32.Idx) (fun a => by match a with | ⟨0, _⟩ => rfl | ⟨1, _⟩ => rfl | ⟨2, _⟩ => rfl | ⟨3, _⟩ => rfl)]
  exact broadcastInDim_apply _ _ x3 _ (ix3 b r e) (fun a => by match a with | ⟨0, _⟩ => rfl | ⟨1, _⟩ => rfl | ⟨2, _⟩ => rfl)

theorem rC_apply (x6 : FVec Ideal S2x16384x32 .f32) (b : Fin 2) (r : Fin 16384) (h : Fin 16) (e : Fin 32) : rC x6 (ix4 b r h e) = x6 (ix3 b r e) := by
  unfold rC
  rw [broadcastInDim_apply _ _ _ _ (ix4 b r 0 e : S2x16384x1x32.Idx) (fun a => by match a with | ⟨0, _⟩ => rfl | ⟨1, _⟩ => rfl | ⟨2, _⟩ => rfl | ⟨3, _⟩ => rfl)]
  exact broadcastInDim_apply _ _ x6 _ (ix3 b r e) (fun a => by match a with | ⟨0, _⟩ => rfl | ⟨1, _⟩ => rfl | ⟨2, _⟩ => rfl)

theorem kcT_apply (x2 : FVec Ideal S2x256x16x64 .f32) (x3 : FVec Ideal S2x256x32 .f32) (b : Fin 2) (h : Fin 16) (r : Fin 256) (d : Fin 128) :
    kcT x2 x3 (ix4 b h r d) = lane (fun e => x2 (ix4 b r h e)) (fun e => x3 (ix3 b r e)) d := by
  unfold kcT
  rw [transpose_apply _ (kcC x2 x3) _ (ix4 b h r d) (ix4 b r h d) (fun e => by match e with | ⟨0, _⟩ => rfl | ⟨1, _⟩ => rfl | ⟨2, _⟩ => rfl | ⟨3, _⟩ => rfl)]
  refine (cat_lane x2 (rcC x3) _ _ (fun i => (spread _ _ i).trans Ideal.ofBits_zero_f32) b r h d).trans ?_
  simp only [rcC_apply]

theorem kT_apply (x5 : FVec Ideal S2x16384x16x64 .f32) (x6 : FVec Ideal S2x16384x32 .f32) (b : Fin 2) (h : Fin 16) (r : Fin 16384) (d : Fin 128) :
    kT x5 x6 (ix4 b h r d) = lane (fun e => x5 (ix4 b r h e)) (fun e => x6 (ix3 b r e)) d := by
  unfold kT
  rw [transpose_apply _ (kC x5 x6) _ (ix4 b h r d) (ix4 b r h d) (fun e => by match e with | ⟨0, _⟩ => rfl | ⟨1, _⟩ => rfl | ⟨2, _⟩ => rfl | ⟨3, _⟩ => rfl)]
  refine (cat_lane x5 (rC x6) _ _ (fun i => (spread _ _ i).trans Ideal.ofBits_zero_f32) b r h d).trans ?_
  simp only [rC_apply]

theorem vcT_apply (x4 : FVec Ideal S2x256x16x64 .f32) (b : Fin 2) (h : Fin 16) (i : Fin 80) (r : Fin 256) :
    vcT x4 (ix5 b 0 h i r) = row (fun e => x4 (ix4 b r h e)) i := by
  unfold vcT
  rw [transpose_apply _ _ transposes_S2x1x256x16x80_S2x1x16x80x256_0_1_3_4_2 (ix5 b 0 h i r) (ix5 b 0 r h i) (fun e => by match e with | ⟨0, _⟩ => rfl | ⟨1, _⟩ => rfl | ⟨2, _⟩ => rfl | ⟨3, _⟩ => rfl | ⟨4, _⟩ => rfl),
    shapeCast_apply (vcC x4) _ (ix5 b 0 r h i) (ix4 b r h i) (by
      rw [Shape.rowMajor_val_four, Shape.rowMajor_val_five]
      show ((b.val * 256 + r.val) * 16 + h.val) * 80 + i.val = (((b.val * 1 + 0) * 256 + r.val) * 16 + h.val) * 80 + i.val; omega)]
  exact cat_row x4 _ _ _ (fun i => (spread _ _ i).trans one_bits) (fun i => (spread _ _ i).trans Ideal.ofBits_zero_f32) b r h i

theorem vT_apply (x7 : FVec Ideal S2x16384x16x64 .f32) (b : Fin 2) (p : Fin 64) (h : Fin 16) (i : Fin 80) (r : Fin 256) (n : Fin 16384)
    (hn : n.val = 256 * p.val + r.val) :
    vT x7 (ix5 b p h i r) = row (fun e => x7 (ix4 b n h e)) i := by
  unfold vT
  rw [transpose_apply _ _ transposes_S2x64x256x16x80_S2x64x16x80x256_0_1_3_4_2 (ix5 b p h i r) (ix5 b p r h i) (fun e => by match e with | ⟨0, _⟩ => rfl | ⟨1, _⟩ => rfl | ⟨2, _⟩ => rfl | ⟨3, _⟩ => rfl | ⟨4, _⟩ => rfl),
    shapeCast_apply (vC x7) _ (ix5 b p r h i) (ix4 b n h i) (by
      rw [Shape.rowMajor_val_four, Shape.rowMajor_val_five]
      show ((b.val * 16384 + n.val) * 16 + h.val) * 80 + i.val = (((b.val * 64 + p.val) * 256 + r.val) * 16 + h.val) * 80 + i.val; omega)]
  exact cat_row x7 _ _ _ (fun i => (spread _ _ i).trans one_bits) (fun i => (spread _ _ i).trans Ideal.ofBits_zero_f32) b n h i

end Cert.Proof.Attn
-- ==== Proof.Lane.lean ====
/-
  The scale, and a score over 128 lanes as a score over 64 and 32.
-/
module

public import proofs.«01_k».proof.Proof.Host
public import proofs.«01_k».proof.Proof.Online
public import proofs.«01_k».proof.Proof.Gen.ReferenceIdeal.Read

@[expose] public section

set_option maxRecDepth 8192

noncomputable section

namespace Cert.Proof.Attn

open Idealize.ShloMosaic Idealize.ShloMosaic.ValueIdx

theorem two_bits : Ideal.ofBits .f32 0x40000000#32 = ((2 : ℝ) : EReal) := by
  simp [Ideal.ofBits, Ideal.ieee]
  rw [← EReal.coe_mul]; norm_num

theorem lanes_bits : Ideal.ofBits .f32 0x42C00000#32 = ((96 : ℝ) : EReal) := by
  simp [Ideal.ofBits, Ideal.ieee]
  rw [← EReal.coe_mul]; norm_num

theorem sqrt_lanes : Ideal.sqrt ((96 : ℝ) : EReal) = ((Real.sqrt 96 : ℝ) : EReal) := by
  show (if (96 : ℝ) < 0 then (⊥ : EReal) else ((Real.sqrt 96 : ℝ) : EReal)) = _
  rw [if_neg (by norm_num)]

theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

theorem sqrt_pos : (0 : ℝ) < Real.sqrt 96 := Real.sqrt_pos.2 (by norm_num)

theorem log_pos : (0 : ℝ) < Real.log 2 := Real.log_pos (by norm_num)

/-- The reference's scale. -/
theorem ref_scale : @Eq EReal (Cert.ReferenceIdeal.Read.val_main_v8 (F := Ideal) ix0) ((1 / Real.sqrt 96 : ℝ) : EReal) := by
  show Ideal.div (Ideal.ofBits .f32 0x3F800000#32) (Ideal.sqrt (Ideal.ofBits .f32 0x42C00000#32)) = _
  rw [one_bits, lanes_bits, sqrt_lanes, Ideal.div_coe sqrt_pos.ne', one_mul]

/-- The kernel's, for exponentials of base 2. -/
theorem ker_scale : @Eq EReal (scaleT ix0) ((1 / (Real.log 2 * Real.sqrt 96) : ℝ) : EReal) := by
  show Ideal.div (Ideal.ofBits .f32 0x3F800000#32)
    (Ideal.log (Ideal.ofBits .f32 0x40000000#32) * Ideal.sqrt (Ideal.ofBits .f32 0x42C00000#32)) = _
  rw [one_bits, two_bits, lanes_bits, sqrt_lanes, log_two, ← EReal.coe_mul, Ideal.div_coe (mul_pos log_pos sqrt_pos).ne', one_mul]

/-- A sum over the 128 lanes: 64, 32, and zeros. -/
theorem sum_lanes (f : Fin 128 → ℝ) (hf : ∀ d : Fin 128, 96 ≤ d.val → f d = 0) :
    ∑ d, f d = (∑ e : Fin 64, f ⟨e.val, by omega⟩) + ∑ e : Fin 32, f ⟨64 + e.val, by omega⟩ := by
  have e1 := Fin.sum_univ_add (a := 64) (b := 64) f
  have e2 := Fin.sum_univ_add (a := 32) (b := 32) fun d : Fin (32 + 32) => f (Fin.natAdd 64 d)
  have e3 : ∑ d : Fin 32, f (Fin.natAdd 64 (Fin.natAdd 32 d)) = 0 := Finset.sum_eq_zero fun d _ => hf _ (by
    show 96 ≤ 64 + (32 + d.val); omega)
  refine e1.trans (congrArg (fun z => (∑ e : Fin 64, f ⟨e.val, by omega⟩) + z) ?_)
  refine e2.trans ?_
  rw [e3, add_zero]
  rfl

/-- A score of the kernel, and the reference's of the same query and key: real, and apart by the factor of the base. -/
theorem score_lanes (qn kn : Fin 64 → EReal) (qr kr : Fin 32 → EReal)
    (hqn : ∀ e, ∃ x : ℝ, qn e = x) (hkn : ∀ e, ∃ x : ℝ, kn e = x) (hqr : ∀ e, ∃ x : ℝ, qr e = x) (hkr : ∀ e, ∃ x : ℝ, kr e = x) :
    ∃ s : ℝ, (∑ d : Fin 128, lane kn kr d * (lane qn qr d * scaleT ix0)) = (s : EReal)
      ∧ ((∑ e, qn e * kn e) + ∑ e, kr e * qr e) * Cert.ReferenceIdeal.Read.val_main_v8 (F := Ideal) ix0 = ((s * Real.log 2 : ℝ) : EReal) := by
  choose a ha using hqn
  choose b hb using hkn
  choose g hg using hqr
  choose w hw using hkr
  let L : (Fin 64 → ℝ) → (Fin 32 → ℝ) → Fin 128 → ℝ := fun f g d =>
    if h : d.val < 64 then f ⟨d.val, h⟩ else if h' : d.val < 96 then g ⟨d.val - 64, by omega⟩ else 0
  have hL : ∀ (f : Fin 64 → EReal) (f' : Fin 64 → ℝ) (g : Fin 32 → EReal) (g' : Fin 32 → ℝ), (∀ e, f e = f' e) → (∀ e, g e = g' e) →
      ∀ d, lane f g d = ((L f' g' d : ℝ) : EReal) := by
    intro f f' g g' hf hg d
    show lane f g d = ((if h : d.val < 64 then f' ⟨d.val, h⟩ else if h' : d.val < 96 then g' ⟨d.val - 64, by omega⟩ else 0 : ℝ) : EReal)
    unfold lane
    split
    · exact hf _
    · split
      · exact hg _
      · rfl
  let σ : ℝ := 1 / (Real.log 2 * Real.sqrt 96)
  refine ⟨∑ d, L b w d * (L a g d * σ), ?_, ?_⟩
  · rw [← Online.coe_sum]
    refine Finset.sum_congr rfl fun d _ => ?_
    rw [hL kn b kr w hb hw d, hL qn a qr g ha hg d, ker_scale, ← EReal.coe_mul, ← EReal.coe_mul]
  · have e1 : (∑ e, qn e * kn e) = ((∑ e, a e * b e : ℝ) : EReal) := by
      rw [← Online.coe_sum]; exact Finset.sum_congr rfl fun e _ => by rw [ha, hb, ← EReal.coe_mul]
    have e2 : (∑ e, kr e * qr e) = ((∑ e, w e * g e : ℝ) : EReal) := by
      rw [← Online.coe_sum]; exact Finset.sum_congr rfl fun e _ => by rw [hw, hg, ← EReal.coe_mul]
    rw [e1, e2, ref_scale, ← EReal.coe_add, ← EReal.coe_mul]
    refine congrArg (fun z : ℝ => (z : EReal)) ?_
    rw [sum_lanes _ (fun d hd => by
      have : L b w d = 0 := by show (if h : d.val < 64 then b ⟨d.val, h⟩ else if h' : d.val < 96 then w ⟨d.val - 64, by omega⟩ else 0) = 0; rw [dif_neg (by omega), dif_neg (by omega)]
      rw [this, zero_mul])]
    have e3 : ∀ e : Fin 64, L b w ⟨e.val, by omega⟩ * (L a g ⟨e.val, by omega⟩ * σ) = a e * b e * σ := fun e => by
      have h1 : ∀ (f : Fin 64 → ℝ) (g : Fin 32 → ℝ), L f g ⟨e.val, by omega⟩ = f e := fun f g => dif_pos e.isLt
      rw [h1, h1]; ring
    have e4 : ∀ e : Fin 32, L b w ⟨64 + e.val, by omega⟩ * (L a g ⟨64 + e.val, by omega⟩ * σ) = w e * g e * σ := fun e => by
      have h1 : ∀ (f : Fin 64 → ℝ) (g : Fin 32 → ℝ), L f g ⟨64 + e.val, by omega⟩ = g e := fun f g => by
        show (if h : 64 + e.val < 64 then f ⟨64 + e.val, h⟩ else if h' : 64 + e.val < 96 then g ⟨64 + e.val - 64, by omega⟩ else 0) = g e
        rw [dif_neg (by omega), dif_pos (by omega)]
        exact congrArg g (Fin.ext (by show 64 + e.val - 64 = e.val; omega))
      rw [h1, h1]; ring
    simp only [e3, e4]
    rw [← Finset.sum_mul, ← Finset.sum_mul, ← add_mul, mul_assoc]
    refine congrArg _ ?_
    show 1 / Real.sqrt 96 = 1 / (Real.log 2 * Real.sqrt 96) * Real.log 2
    have := log_pos.ne'
    have := sqrt_pos.ne'
    field_simp

end Cert.Proof.Attn
-- ==== Proof.Ref.lean ====
/-
  The reference read at an element: a sum over the 16640 keys of a value times an exponential over the sum of the exponentials.
-/
module

public import proofs.«01_k».proof.Proof.Gen.ReferenceIdeal.Read
public import proofs.«01_k».proof.Proof.Online
public import proofs.«01_k».proof.Proof.Host

@[expose] public section

set_option maxRecDepth 8192

noncomputable section

namespace Cert.Proof.Attn

open Cert.ReferenceIdeal Cert.ReferenceIdeal.Gen Cert.ReferenceIdeal.Read
open Idealize.ShloMosaic Idealize.ShloMosaic.ValueIdx Idealize.ShloMosaic.TcCoe Idealize.SL.Sem

/-! ### The joined keys and values -/

/-- Key `256 * j + r` of the 16640. -/
abbrev keyAt (j : ℕ) (hj : j < 65) (r : Fin 256) : Fin 16640 := ⟨256 * j + r.val, by omega⟩

theorem keyAt_surj (k : Fin 16640) : ∃ (j : ℕ) (hj : j < 65) (r : Fin 256), k = keyAt j hj r :=
  ⟨k.val / 256, by omega, ⟨k.val % 256, by omega⟩, Fin.ext (by show k.val = 256 * (k.val / 256) + k.val % 256; omega)⟩

section Joined

variable (a : FVec Ideal ⟨4, ![2, 256, 16, 64]⟩ .f32) (c : FVec Ideal ⟨4, ![2, 16384, 16, 64]⟩ .f32)
  (a' : FVec Ideal ⟨3, ![2, 256, 32]⟩ .f32) (c' : FVec Ideal ⟨3, ![2, 16384, 32]⟩ .f32)

/-- The first 256 keys are the context's. -/
theorem joined_ctx (b : Fin 2) (hj : 0 < 65) (r : Fin 256) (h : Fin 16) (e : Fin 64) :
    @Eq EReal (val_main_v0 (F := Ideal) a c (ix4 b (keyAt 0 hj r) h e)) (a (ix4 b r h e)) :=
  concatenate_pair_apply_left (α := EReal) (t := ⟨4, ![2, 16640, 16, 64]⟩) (s₁ := ⟨4, ![2, 256, 16, 64]⟩) (s₂ := ⟨4, ![2, 16384, 16, 64]⟩) (1 : Fin 4) a c
    concatenates_S2x256x16x64_S2x16384x16x64_S2x16640x16x64_d1 _ rfl (ix4 b r h e) (fun x => by
      match x with | ⟨0, _⟩ => rfl | ⟨1, _⟩ => show r.val = 256 * 0 + r.val; omega | ⟨2, _⟩ => rfl | ⟨3, _⟩ => rfl)

/-- The others are the latents'. -/
theorem joined_lat (b : Fin 2) (p : ℕ) (hp : p + 1 < 65) (r : Fin 256) (h : Fin 16) (e : Fin 64) :
    @Eq EReal (val_main_v0 (F := Ideal) a c (ix4 b (keyAt (p + 1) hp r) h e)) (c (ix4 b ⟨256 * p + r.val, by omega⟩ h e)) :=
  concatenate_pair_apply_right (α := EReal) (t := ⟨4, ![2, 16640, 16, 64]⟩) (s₁ := ⟨4, ![2, 256, 16, 64]⟩) (s₂ := ⟨4, ![2, 16384, 16, 64]⟩) (1 : Fin 4) a c
    concatenates_S2x256x16x64_S2x16384x16x64_S2x16640x16x64_d1 _ rfl rfl (ix4 b ⟨256 * p + r.val, by omega⟩ h e) (fun x hx => by
      match x with | ⟨0, _⟩ => rfl | ⟨1, _⟩ => exact absurd rfl hx | ⟨2, _⟩ => rfl | ⟨3, _⟩ => rfl) (by
      show 256 * p + r.val + 256 = 256 * (p + 1) + r.val; omega)

theorem rope_ctx (b : Fin 2) (hj : 0 < 65) (r : Fin 256) (e : Fin 32) :
    @Eq EReal (val_main_v1 (F := Ideal) a' c' (ix3 b (keyAt 0 hj r) e)) (a' (ix3 b r e)) :=
  concatenate_pair_apply_left (α := EReal) (t := ⟨3, ![2, 16640, 32]⟩) (s₁ := ⟨3, ![2, 256, 32]⟩) (s₂ := ⟨3, ![2, 16384, 32]⟩) (1 : Fin 3) a' c'
    concatenates_S2x256x32_S2x16384x32_S2x16640x32_d1 _ rfl (ix3 b r e) (fun x => by
      match x with | ⟨0, _⟩ => rfl | ⟨1, _⟩ => show r.val = 256 * 0 + r.val; omega | ⟨2, _⟩ => rfl)

theorem rope_lat (b : Fin 2) (p : ℕ) (hp : p + 1 < 65) (r : Fin 256) (e : Fin 32) :
    @Eq EReal (val_main_v1 (F := Ideal) a' c' (ix3 b (keyAt (p + 1) hp r) e)) (c' (ix3 b ⟨256 * p + r.val, by omega⟩ e)) :=
  concatenate_pair_apply_right (α := EReal) (t := ⟨3, ![2, 16640, 32]⟩) (s₁ := ⟨3, ![2, 256, 32]⟩) (s₂ := ⟨3, ![2, 16384, 32]⟩) (1 : Fin 3) a' c'
    concatenates_S2x256x32_S2x16384x32_S2x16640x32_d1 _ rfl rfl (ix3 b ⟨256 * p + r.val, by omega⟩ e) (fun x hx => by
      match x with | ⟨0, _⟩ => rfl | ⟨1, _⟩ => exact absurd rfl hx | ⟨2, _⟩ => rfl) (by
      show 256 * p + r.val + 256 = 256 * (p + 1) + r.val; omega)

theorem joined_real (ha : ∀ i, ∃ x : ℝ, a i = (x : EReal)) (hc : ∀ i, ∃ x : ℝ, c i = (x : EReal)) (b : Fin 2) (k : Fin 16640) (h : Fin 16) (e : Fin 64) :
    ∃ x : ℝ, val_main_v0 (F := Ideal) a c (ix4 b k h e) = (x : EReal) := by
  obtain ⟨j, hj, r, rfl⟩ := keyAt_surj k
  cases j with
  | zero => obtain ⟨x, hx⟩ := ha (ix4 b r h e); exact ⟨x, (joined_ctx a c b hj r h e).trans hx⟩
  | succ p => obtain ⟨x, hx⟩ := hc (ix4 b ⟨256 * p + r.val, by omega⟩ h e); exact ⟨x, (joined_lat a c b p hj r h e).trans hx⟩

theorem rope_real (ha : ∀ i, ∃ x : ℝ, a' i = (x : EReal)) (hc : ∀ i, ∃ x : ℝ, c' i = (x : EReal)) (b : Fin 2) (k : Fin 16640) (e : Fin 32) :
    ∃ x : ℝ, val_main_v1 (F := Ideal) a' c' (ix3 b k e) = (x : EReal) := by
  obtain ⟨j, hj, r, rfl⟩ := keyAt_surj k
  cases j with
  | zero => obtain ⟨x, hx⟩ := ha (ix3 b r e); exact ⟨x, (rope_ctx a' c' b hj r e).trans hx⟩
  | succ p => obtain ⟨x, hx⟩ := hc (ix3 b ⟨256 * p + r.val, by omega⟩ e); exact ⟨x, (rope_lat a' c' b p hj r e).trans hx⟩

end Joined

/-! ### The scores, their maximum, and the result -/

section Scores

variable (x0 : (⟨S2x16384x16x64, .f32⟩ : BufTy).Contents (Elt Ideal)) (x1 : (⟨S2x16384x16x32, .f32⟩ : BufTy).Contents (Elt Ideal))
  (x2 : (⟨S2x256x16x64, .f32⟩ : BufTy).Contents (Elt Ideal)) (x3 : (⟨S2x256x32, .f32⟩ : BufTy).Contents (Elt Ideal))
  (x4 : (⟨S2x256x16x64, .f32⟩ : BufTy).Contents (Elt Ideal))
  (x5 : (⟨S2x16384x16x64, .f32⟩ : BufTy).Contents (Elt Ideal)) (x6 : (⟨S2x16384x32, .f32⟩ : BufTy).Contents (Elt Ideal))
  (x7 : (⟨S2x16384x16x64, .f32⟩ : BufTy).Contents (Elt Ideal))

/-- A score: 64 products, 32 products, scaled. -/
theorem score_apply (b : Fin 2) (h : Fin 16) (n : Fin 16384) (k : Fin 16640) :
    @Eq EReal (val_main_v10 (F := Ideal) x0 x1 x2 x3 x5 x6 (ix4 b h n k))
      (((∑ e : Fin 64, (x0 (ix4 b n h e) : EReal) * val_main_v0 (F := Ideal) x2 x5 (ix4 b k h e))
        + ∑ e : Fin 32, (val_main_v1 (F := Ideal) x3 x6 (ix3 b k e) : EReal) * x1 (ix4 b n h e)) * val_main_v8 (F := Ideal) ix0) := by
  have e9 : val_main_v9 (F := Ideal) (ix4 b h n k) = val_main_v8 (F := Ideal) ix0 :=
    (val_main_v9_apply (F := Ideal) (ix4 b h n k)).trans (congrArg _ (funext fun a => a.elim0))
  rw [val_main_v10_apply, val_main_v6_apply, val_main_v3_apply, val_main_v5_apply, val_main_v4_apply, e9]
  have i1 : ∀ e : Fin 64, lidx_main_v3 (ix4 b h n k) e = ix4 b n h e := fun e => funext fun a => by
    match a with | ⟨0, _⟩ => rfl | ⟨1, _⟩ => rfl | ⟨2, _⟩ => rfl | ⟨3, _⟩ => rfl
  have i2 : ∀ e : Fin 64, ridx_main_v3 (ix4 b h n k) e = ix4 b k h e := fun e => funext fun a => by
    match a with | ⟨0, _⟩ => rfl | ⟨1, _⟩ => rfl | ⟨2, _⟩ => rfl | ⟨3, _⟩ => rfl
  have i3 : ∀ e : Fin 32, lidx_main_v4 (idx_main_v5 (ix4 b h n k)) e = ix3 b k e := fun e => funext fun a => by
    match a with | ⟨0, _⟩ => rfl | ⟨1, _⟩ => rfl | ⟨2, _⟩ => rfl
  have i4 : ∀ e : Fin 32, ridx_main_v4 (idx_main_v5 (ix4 b h n k)) e = ix4 b n h e := fun e => funext fun a => by
    match a with | ⟨0, _⟩ => rfl | ⟨1, _⟩ => rfl | ⟨2, _⟩ => rfl | ⟨3, _⟩ => rfl
  simp only [i1, i2, i3, i4]
  rfl

/-- Negative infinity's bits. -/
theorem ref_neg_inf : Ideal.ofBits .f32 0xFF800000#32 = ⊥ := by simp [Ideal.ofBits, Ideal.ieee]

/-- The maximum of a query's scores, when they are real. -/
theorem top_real (b : Fin 2) (h : Fin 16) (n : Fin 16384)
    (hs : ∀ k, ∃ x : ℝ, val_main_v10 (F := Ideal) x0 x1 x2 x3 x5 x6 (ix4 b h n k) = (x : EReal)) :
    ∃ u : ℝ, val_main_v13 (F := Ideal) x0 x1 x2 x3 x5 x6 (ix3 b h n) = (u : EReal) := by
  have e : ∃ u : ℝ, val_main_v11 (F := Ideal) x0 x1 x2 x3 x5 x6 (ix3 b h n) = (u : EReal) := by
    unfold val_main_v11
    have := Host.reduce_eq_fold_single (max : EReal → EReal → EReal) (val_main_v10 (F := Ideal) x0 x1 x2 x3 x5 x6) (val_main_cst_1 (F := Ideal))
      reducesTo_S2x16x16384x16640_S2x16x16384_d3 (by decide) h_S_ (ix3 b h n)
    refine (this.trans (congrArg (fun z : EReal => Finset.fold max z _ _) ref_neg_inf)) ▸ ?_
    refine Online.fold_max_real _ ⟨⟨0, by decide⟩, Finset.mem_univ _⟩ _ fun i => ?_
    obtain ⟨x, hx⟩ := hs i
    refine ⟨x, ?_⟩
    rw [← hx]
    exact congrArg (val_main_v10 (F := Ideal) x0 x1 x2 x3 x5 x6) (funext fun a => Fin.ext (by
      match a with | ⟨0, _⟩ => rfl | ⟨1, _⟩ => rfl | ⟨2, _⟩ => rfl | ⟨3, _⟩ => rfl))
  obtain ⟨u, hu⟩ := e
  refine ⟨u, ?_⟩
  rw [val_main_v13_apply, hu, val_main_v12_apply]
  show max (Ideal.ofBits .f32 0xFF800000#32) (u : EReal) = u
  rw [ref_neg_inf]
  exact max_eq_right bot_le

/-- An exponential of a score less the maximum. -/
theorem exp_apply (b : Fin 2) (h : Fin 16) (n : Fin 16384) (k : Fin 16640) :
    @Eq EReal (val_main_v17 (F := Ideal) x0 x1 x2 x3 x5 x6 (ix4 b h n k))
      (Ideal.exp (val_main_v10 (F := Ideal) x0 x1 x2 x3 x5 x6 (ix4 b h n k) - val_main_v13 (F := Ideal) x0 x1 x2 x3 x5 x6 (ix3 b h n))) := by
  have i : idx_main_v14 (idx_main_v15 (ix4 b h n k)) = ix3 b h n := funext fun a => by
    match a with | ⟨0, _⟩ => rfl | ⟨1, _⟩ => rfl | ⟨2, _⟩ => rfl
  rw [val_main_v17_apply, val_main_v16_apply, val_main_v15_apply, val_main_v14_apply, i]
  rfl

/-- The result at batch `b`, query `n`, head `h`, lane `e`. -/
theorem ref_apply (b : Fin 2) (n : Fin 16384) (h : Fin 16) (e : Fin 64) (cc : Fin 1024) (hcc : cc.val = h.val * 64 + e.val) :
    @Eq EReal (val_main_v25 (F := Ideal) x0 x1 x2 x3 x4 x5 x6 x7 (ix3 b n cc))
      (∑ k, (val_main_v2 (F := Ideal) x4 x7 (ix4 b k h e) : EReal)
        * Ideal.div (Ideal.exp (val_main_v10 (F := Ideal) x0 x1 x2 x3 x5 x6 (ix4 b h n k) - val_main_v13 (F := Ideal) x0 x1 x2 x3 x5 x6 (ix3 b h n)))
            (0 + ∑ k', Ideal.exp (val_main_v10 (F := Ideal) x0 x1 x2 x3 x5 x6 (ix4 b h n k') - val_main_v13 (F := Ideal) x0 x1 x2 x3 x5 x6 (ix3 b h n)))) := by
  have i24 : idx_main_v23 (idx_main_v24 (ix3 b n cc)) = ix4 b h e n := funext fun a => Fin.ext (by
    have h0 := b.isLt; have h1 := n.isLt; have h2 := h.isLt; have h3 := e.isLt
    match a with
    | ⟨0, _⟩ => show ((b.val * 16384 + n.val) * 1024 + cc.val) / 16777216 = b.val; omega
    | ⟨1, _⟩ => show ((b.val * 16384 + n.val) * 1024 + cc.val) / 64 % 16 = h.val; omega
    | ⟨2, _⟩ => show ((b.val * 16384 + n.val) * 1024 + cc.val) % 64 = e.val; omega
    | ⟨3, _⟩ => show ((b.val * 16384 + n.val) * 1024 + cc.val) / 1024 % 16384 = n.val; omega)
  have il : ∀ k, lidx_main_v22 (ix4 b h e n) k = ix4 b k h e := fun k => funext fun a => by
    match a with | ⟨0, _⟩ => rfl | ⟨1, _⟩ => rfl | ⟨2, _⟩ => rfl | ⟨3, _⟩ => rfl
  have ir : ∀ k, ridx_main_v22 (ix4 b h e n) k = ix4 b h n k := fun k => funext fun a => by
    match a with | ⟨0, _⟩ => rfl | ⟨1, _⟩ => rfl | ⟨2, _⟩ => rfl | ⟨3, _⟩ => rfl
  have i19 : ∀ k, idx_main_v19 (idx_main_v20 (ix4 b h n k)) = ix3 b h n := fun k => funext fun a => by
    match a with | ⟨0, _⟩ => rfl | ⟨1, _⟩ => rfl | ⟨2, _⟩ => rfl
  have i18 : ∀ k, idx_main_v18 (ix3 b h n) k = ix4 b h n k := fun k => funext fun a => by
    match a with | ⟨0, _⟩ => rfl | ⟨1, _⟩ => rfl | ⟨2, _⟩ => rfl | ⟨3, _⟩ => rfl
  refine (val_main_v24_apply (F := Ideal) x0 x1 x2 x3 x4 x5 x6 x7 (ix3 b n cc)).trans ?_
  rw [val_main_v23_apply, i24, val_main_v22_apply]
  refine Finset.sum_congr rfl fun k _ => ?_
  rw [il, ir, val_main_v21_apply, val_main_v20_apply, val_main_v19_apply, i19, val_main_v18_apply]
  simp only [i18]
  have hz : val_main_cst_3 (F := Ideal) (Shape.Idx.first h_S_) = (0 : EReal) := Ideal.ofBits_zero_f32
  refine congrArg (fun z : EReal => (val_main_v2 (F := Ideal) x4 x7 (ix4 b k h e) : EReal) * z) ?_
  exact congrArg₂ Ideal.div (exp_apply x0 x1 x2 x3 x5 x6 b h n k)
    (congrArg₂ (fun y z : EReal => y + z) hz (Finset.sum_congr rfl fun k' _ => exp_apply x0 x1 x2 x3 x5 x6 b h n k'))

end Scores

end Cert.Proof.Attn
-- ==== Proof.Head.lean ====
/-
  One head of one query: the kernel's quotient of two accumulated rows is the reference's weighted mean of values.
-/
module

public import proofs.«01_k».proof.Proof.Elem
public import proofs.«01_k».proof.Proof.Lane
public import proofs.«01_k».proof.Proof.Ref

@[expose] public section

set_option maxRecDepth 8192

noncomputable section

namespace Cert.Proof.Attn

open Cert.KernelIdeal.Gen
open Cert.ReferenceIdeal.Read (val_main_v0 val_main_v1 val_main_v2 val_main_v8 val_main_v10 val_main_v13 val_main_v25)
open Idealize.ShloMosaic Idealize.ShloMosaic.ValueIdx

open Cert.ReferenceIdeal in
theorem head_ref (x0 : (⟨S2x16384x16x64, .f32⟩ : BufTy).Contents (Elt Ideal)) (x1 : (⟨S2x16384x16x32, .f32⟩ : BufTy).Contents (Elt Ideal))
    (x2 : (⟨S2x256x16x64, .f32⟩ : BufTy).Contents (Elt Ideal)) (x3 : (⟨S2x256x32, .f32⟩ : BufTy).Contents (Elt Ideal))
    (x4 : (⟨S2x256x16x64, .f32⟩ : BufTy).Contents (Elt Ideal))
    (x5 : (⟨S2x16384x16x64, .f32⟩ : BufTy).Contents (Elt Ideal)) (x6 : (⟨S2x16384x32, .f32⟩ : BufTy).Contents (Elt Ideal))
    (x7 : (⟨S2x16384x16x64, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h5 : ∀ i, ∃ r : ℝ, x5 i = (r : EReal)) (h6 : ∀ i, ∃ r : ℝ, x6 i = (r : EReal))
    (qA : Vec Ideal Cert.KernelIdeal.S1x128x512 .bf16) (kA : ℕ → Vec Ideal Cert.KernelIdeal.S1x1x256x128 .bf16) (vA : ℕ → Vec Ideal Cert.KernelIdeal.S1x1x1x80x256 .bf16)
    (b : Fin 2) (N : Fin 16384) (h : Fin 16) (n : Fin 512)
    (hq : ∀ d : Fin 128, @Eq EReal (qA (ix3 (0 : Fin 1) d n)) (lane (fun e => x0 (ix4 b N h e)) (fun e => x1 (ix4 b N h e)) d * scaleT ix0))
    (hk : ∀ (j : ℕ) (hj : j < 65) (r : Fin 256) (d : Fin 128), @Eq EReal (kA j (ix4 (0 : Fin 1) (0 : Fin 1) r d))
      (lane (fun e => val_main_v0 (F := Ideal) x2 x5 (ix4 b (keyAt j hj r) h e)) (fun e => val_main_v1 (F := Ideal) x3 x6 (ix3 b (keyAt j hj r) e)) d))
    (hv : ∀ (j : ℕ) (hj : j < 65) (i : Fin 80) (r : Fin 256), @Eq EReal (vA j (ix5 (0 : Fin 1) (0 : Fin 1) (0 : Fin 1) i r))
      (row (fun e => val_main_v2 (F := Ideal) x4 x7 (ix4 b (keyAt j hj r) h e)) i))
    (e : Fin 64) (i : Fin 80) (hi : i.val = e.val) (cc : Fin 1024) (hcc : cc.val = h.val * 64 + e.val) :
    @Eq EReal (Ideal.div (accAt qA kA vA 65 (ix2 i n)) (accAt qA kA vA 65 (ix2 64 n)))
      (val_main_v25 (F := Ideal) x0 x1 x2 x3 x4 x5 x6 x7 (ix3 b N cc)) := by
  have S : ∀ (j : ℕ) (r : Fin 256), ∃ s : ℝ, ∀ hj : j < 65,
      (∑ d : Fin 128, lane (fun e => val_main_v0 (F := Ideal) x2 x5 (ix4 b (keyAt j hj r) h e)) (fun e => val_main_v1 (F := Ideal) x3 x6 (ix3 b (keyAt j hj r) e)) d
          * (lane (fun e => x0 (ix4 b N h e)) (fun e => x1 (ix4 b N h e)) d * scaleT ix0)) = (s : EReal)
        ∧ @Eq EReal (val_main_v10 (F := Ideal) x0 x1 x2 x3 x5 x6 (ix4 b h N (keyAt j hj r))) ((s * Real.log 2 : ℝ) : EReal) := by
    intro j r
    by_cases hj : j < 65
    · obtain ⟨s, e1, e2⟩ := score_lanes (fun e => x0 (ix4 b N h e)) (fun e => val_main_v0 (F := Ideal) x2 x5 (ix4 b (keyAt j hj r) h e))
        (fun e => x1 (ix4 b N h e)) (fun e => val_main_v1 (F := Ideal) x3 x6 (ix3 b (keyAt j hj r) e))
        (fun e => h0 _) (fun e => joined_real x2 x5 h2 h5 b _ h e) (fun e => h1 _) (fun e => rope_real x3 x6 h3 h6 b _ e)
      exact ⟨s, fun _ => ⟨e1, (score_apply x0 x1 x2 x3 x5 x6 b h N (keyAt j hj r)).trans e2⟩⟩
    · exact ⟨0, fun hj' => absurd hj' hj⟩
  choose s hs using S
  obtain ⟨t, ht⟩ : ∃ t : Fin 16640 → ℝ, ∀ k, t k = s (k.val / 256) ⟨k.val % 256, Nat.mod_lt _ (by decide)⟩ * Real.log 2 := ⟨_, fun _ => rfl⟩
  have tk : ∀ (j : ℕ) (hj : j < 65) (r : Fin 256), t (keyAt j hj r) = s j r * Real.log 2 := by
    intro j hj r
    have e1 : (256 * j + r.val) / 256 = j := by omega
    have e2 : (⟨(256 * j + r.val) % 256, Nat.mod_lt _ (by decide)⟩ : Fin 256) = r := Fin.ext (by show (256 * j + r.val) % 256 = r.val; omega)
    rw [ht]
    show s ((256 * j + r.val) / 256) ⟨(256 * j + r.val) % 256, Nat.mod_lt _ (by decide)⟩ * Real.log 2 = _
    rw [e2, e1]
  have hs' : ∀ k, @Eq EReal (val_main_v10 (F := Ideal) x0 x1 x2 x3 x5 x6 (ix4 b h N k)) (t k : EReal) := by
    intro k
    obtain ⟨j, hj, r, rfl⟩ := keyAt_surj k
    rw [tk]; exact (hs j r hj).2
  obtain ⟨u, hu⟩ := top_real x0 x1 x2 x3 x5 x6 b h N (fun k => ⟨t k, hs' k⟩)
  have R := ref_apply x0 x1 x2 x3 x4 x5 x6 x7 b N h e cc hcc
  simp only [hs', hu] at R
  refine (head_eq qA kA vA n i s t (fun k => val_main_v2 (F := Ideal) x4 x7 (ix4 b k h e)) u ?_ ?_ (fun j hj r => tk j hj r) ?_).trans R.symm
  · intro p hp r
    refine (pay7_apply _ _ _ _).trans (Eq.trans ?_ (hs p r hp).1)
    exact Finset.sum_congr rfl fun d _ => congrArg₂ (fun x y : EReal => x * y) (hk p hp r d) (hq d)
  · intro p hp r
    exact (hv p hp 64 r).trans (by simp [row])
  · intro j hj r
    refine Eq.trans ?_ (hv j hj i r).symm
    have : i.val < 64 := by omega
    rw [row, dif_pos this]
    exact congrArg (fun z => val_main_v2 (F := Ideal) x4 x7 (ix4 b (keyAt j hj r) h z)) (Fin.ext hi.symm)

end Cert.Proof.Attn
-- ==== Proof.HostRead.lean ====
/-
  The arrays the program hands the kernel, as the kernel finds them, are the terms of `Host`.
-/
module

public import proofs.«01_k».proof.Proof.Gen.KernelIdeal.Frame
public import proofs.«01_k».proof.Proof.Host
public import Idealize.ShloMosaic.Lib.StableHlo.RunRead
public import Idealize.ShloMosaic.Lib.Pipeline.Value
public import Idealize.ShloMosaic.Lib.ValueIdx
public import Idealize.ShloMosaic.Lib.ValueLayout
public import Idealize.ShloMosaic.PureOps.Ideal.Laws

@[expose] public section

set_option maxRecDepth 8192

noncomputable section

namespace Cert.Proof.Attn

open Cert.KernelIdeal Cert.KernelIdeal.Gen
open Idealize.ShloMosaic Idealize.ShloMosaic.ValueIdx Idealize.ShloMosaic.TcCoe Idealize.SL.Sem

section

variable (m : (ℓ : Loc nD τ sig) → Buf (Elt Ideal) ℓ) (c : Dev nD)

theorem V_q : V m c main_v10 = qT (m ((c : Thread nD τ).loc main_arg0)) (m ((c : Thread nD τ).loc main_arg1)) := by
  unfold V hostOps0
  after_reads_simp
  generalize hU : StableHlo.upto _ _ _ = U
  have e0 : U (Proc.devRef .tc main_arg0) = m ((c : Thread nD τ).loc main_arg0) := by
    subst hU; after_reads_simp
  have e1 : U (Proc.devRef .tc main_arg1) = m ((c : Thread nD τ).loc main_arg1) := by
    subst hU; after_reads_simp
  have e2 : U (Proc.devRef .tc main_v4) = broadcastInDim S2x16384x16x32 ![] bcast_S_S2x16384x16x32 (constant (F := Ideal) S_ .f32 0x00000000#32) := by
    subst hU; after_reads_simp
  clear hU
  unfold qT qC
  rw [← e0]
  rw [← e1]
  rw [← e2]
  rfl

theorem V_kc : V m c main_v16 = kcT (m ((c : Thread nD τ).loc main_arg2)) (m ((c : Thread nD τ).loc main_arg3)) := by
  unfold V hostOps0
  after_reads_simp
  generalize hU : StableHlo.upto _ _ _ = U
  have e0 : U (Proc.devRef .tc main_arg2) = m ((c : Thread nD τ).loc main_arg2) := by
    subst hU; after_reads_simp
  have e1 : U (Proc.devRef .tc main_v12) = rcC (m ((c : Thread nD τ).loc main_arg3)) := by
    subst hU; after_reads_simp; rfl
  have e2 : U (Proc.devRef .tc main_v13) = broadcastInDim S2x256x16x32 ![] bcast_S_S2x256x16x32 (constant (F := Ideal) S_ .f32 0x00000000#32) := by
    subst hU; after_reads_simp
  clear hU
  unfold kcT kcC
  rw [← e0]
  rw [← e1]
  rw [← e2]
  rfl

end

end Cert.Proof.Attn
-- ==== Proof.HostReadV.lean ====
/-
  The arrays the program hands the kernel, as the kernel finds them, are the terms of `Host`: the latent values.
-/
module

public import proofs.«01_k».proof.Proof.Gen.KernelIdeal.Frame
public import proofs.«01_k».proof.Proof.Host
public import Idealize.ShloMosaic.Lib.StableHlo.RunRead
public import Idealize.ShloMosaic.Lib.Pipeline.Value
public import Idealize.ShloMosaic.Lib.ValueIdx
public import Idealize.ShloMosaic.Lib.ValueLayout
public import Idealize.ShloMosaic.PureOps.Ideal.Laws

@[expose] public section

set_option maxRecDepth 8192

noncomputable section

namespace Cert.Proof.Attn

open Cert.KernelIdeal Cert.KernelIdeal.Gen
open Idealize.ShloMosaic Idealize.ShloMosaic.ValueIdx Idealize.ShloMosaic.TcCoe Idealize.SL.Sem

section

variable (m : (ℓ : Loc nD τ sig) → Buf (Elt Ideal) ℓ) (c : Dev nD)

theorem tr_ideal {s : Shape} (x : FVec Ideal s .f32) (h : FTy.bits .bf16 < FTy.bits .f32) :
    @Eq (s.Idx → EReal) (truncf .bf16 x h) x := rfl

theorem V_vc : V m c main_v22 = vcT (m ((c : Thread nD τ).loc main_arg4)) := by
  unfold V hostOps0
  after_reads_simp
  generalize hU : StableHlo.upto _ _ _ = U
  have e0 : U (Proc.devRef .tc main_arg4) = m ((c : Thread nD τ).loc main_arg4) := by
    subst hU; after_reads_simp
  have e1 : U (Proc.devRef .tc main_v17) = broadcastInDim S2x256x16x1 ![] bcast_S_S2x256x16x1 (constant (F := Ideal) S_ .f32 0x3F800000#32) := by
    subst hU; after_reads_simp
  have e2 : U (Proc.devRef .tc main_v18) = broadcastInDim S2x256x16x15 ![] bcast_S_S2x256x16x15 (constant (F := Ideal) S_ .f32 0x00000000#32) := by
    subst hU; after_reads_simp
  clear hU
  unfold vcT vcC
  rw [← e0]
  rw [← e1]
  rw [← e2]
  rfl

theorem V_k : V m c main_v28 = kT (m ((c : Thread nD τ).loc main_arg5)) (m ((c : Thread nD τ).loc main_arg6)) := by
  unfold V hostOps0
  after_reads_simp
  generalize hU : StableHlo.upto _ _ _ = U
  have e0 : U (Proc.devRef .tc main_arg5) = m ((c : Thread nD τ).loc main_arg5) := by
    subst hU; after_reads_simp
  have e1 : U (Proc.devRef .tc main_v24) = rC (m ((c : Thread nD τ).loc main_arg6)) := by
    subst hU; after_reads_simp; rfl
  have e2 : U (Proc.devRef .tc main_v25) = broadcastInDim S2x16384x16x32 ![] bcast_S_S2x16384x16x32 (constant (F := Ideal) S_ .f32 0x00000000#32) := by
    subst hU; after_reads_simp
  clear hU
  unfold kT kC
  rw [← e0]
  rw [← e1]
  rw [← e2]
  rfl

theorem V_v : V m c main_v34 = vT (m ((c : Thread nD τ).loc main_arg7)) := by
  unfold V hostOps0
  after_reads_simp
  generalize hU : StableHlo.upto _ _ _ = U
  have e0 : U (Proc.devRef .tc main_arg7) = m ((c : Thread nD τ).loc main_arg7) := by
    subst hU; after_reads_simp
  have e1 : U (Proc.devRef .tc main_v29) = broadcastInDim S2x16384x16x1 ![] bcast_S_S2x16384x16x1 (constant (F := Ideal) S_ .f32 0x3F800000#32) := by
    subst hU; after_reads_simp
  have e2 : U (Proc.devRef .tc main_v30) = broadcastInDim S2x16384x16x15 ![] bcast_S_S2x16384x16x15 (constant (F := Ideal) S_ .f32 0x00000000#32) := by
    subst hU; after_reads_simp
  clear hU
  unfold vT vC
  rw [← e0]
  rw [← e1]
  rw [← e2]
  refine (tr_ideal _ _).trans ?_
  refine congrArg (fun z => transpose S2x64x16x80x256 [0, 1, 3, 4, 2] z transposes_S2x64x256x16x80_S2x64x16x80x256_0_1_3_4_2) ?_
  refine congrArg (fun z => shapeCast S2x64x256x16x80 z shapeCasts_S2x16384x16x80_S2x64x256x16x80) ?_
  rfl

end

end Cert.Proof.Attn
-- ==== Proof.Blocks.lean ====
/-
  The kernel's operands at a grid point, read at an element from the program's arguments.
-/
module

public import proofs.«01_k».proof.Proof.Gen.KernelIdeal.Frame
public import proofs.«01_k».proof.Proof.HostRead
public import proofs.«01_k».proof.Proof.HostReadV
public import proofs.«01_k».proof.Proof.Body
public import proofs.«01_k».proof.Proof.Ref

@[expose] public section

set_option maxRecDepth 8192

noncomputable section

namespace Cert.Proof.Attn

open Cert.KernelIdeal Cert.KernelIdeal.Gen
open Idealize.ShloMosaic Idealize.ShloMosaic.ValueIdx Idealize.ShloMosaic.TcCoe Idealize.SL.Sem

/-! ### The point's coordinates -/

/-- The batch of point `t`. -/
def pb (t : Fin cfg0.N) : Fin 2 := ⟨(grid0.coords t 0).val, (grid0.coords t 0).isLt⟩
/-- Its pair of heads. -/
def pp (t : Fin cfg0.N) : Fin 8 := ⟨(grid0.coords t 1).val, (grid0.coords t 1).isLt⟩
/-- Its 512 queries. -/
def pq (t : Fin cfg0.N) : Fin 32 := ⟨(grid0.coords t 2).val, (grid0.coords t 2).isLt⟩

/-- Head `k` of the pair. -/
def hdAt (t : Fin cfg0.N) (k : Fin 2) : Fin 16 := ⟨2 * (pp t).val + k.val, by omega⟩
/-- Query `n` of the 512. -/
def qAt (t : Fin cfg0.N) (n : Fin 512) : Fin 16384 := ⟨512 * (pq t).val + n.val, by omega⟩

theorem word (n : ℕ) (h : n < 32) : (BitVec.ofNat 32 n).toNat = n := by
  rw [BitVec.toNat_ofNat]; exact Nat.mod_eq_of_lt (by omega)

theorem c0 (t : Fin cfg0.N) : (BitVec.ofNat 32 (grid0.coords t 0).val).toNat = (pb t).val := word _ (by have : (grid0.coords t 0).val < 2 := (grid0.coords t 0).isLt; omega)
theorem c1 (t : Fin cfg0.N) : (BitVec.ofNat 32 (grid0.coords t 1).val).toNat = (pp t).val := word _ (by have : (grid0.coords t 1).val < 8 := (grid0.coords t 1).isLt; omega)
theorem c2 (t : Fin cfg0.N) : (BitVec.ofNat 32 (grid0.coords t 2).val).toNat = (pq t).val := word _ (grid0.coords t 2).isLt

theorem ix0_0 (t : Fin cfg0.N) : win0_0.index t (0 : Fin 3) = (pb t).val := c0 t
theorem ix0_1 (t : Fin cfg0.N) : win0_0.index t (1 : Fin 3) = (pp t).val := c1 t
theorem ix0_2 (t : Fin cfg0.N) : win0_0.index t (2 : Fin 3) = (pq t).val := c2 t
theorem ix1_0 (t : Fin cfg0.N) : win0_1.index t (0 : Fin 4) = (pb t).val := c0 t
theorem ix1_1 (t : Fin cfg0.N) : win0_1.index t (1 : Fin 4) = (pp t).val := c1 t
theorem ix1_2 (t : Fin cfg0.N) : win0_1.index t (2 : Fin 4) = 0 := rfl
theorem ix1_3 (t : Fin cfg0.N) : win0_1.index t (3 : Fin 4) = 0 := rfl
theorem ix2_0 (t : Fin cfg0.N) : win0_2.index t (0 : Fin 5) = (pb t).val := c0 t
theorem ix2_1 (t : Fin cfg0.N) : win0_2.index t (1 : Fin 5) = 0 := rfl
theorem ix2_2 (t : Fin cfg0.N) : win0_2.index t (2 : Fin 5) = (pp t).val := c1 t
theorem ix2_3 (t : Fin cfg0.N) : win0_2.index t (3 : Fin 5) = 0 := rfl
theorem ix2_4 (t : Fin cfg0.N) : win0_2.index t (4 : Fin 5) = 0 := rfl
theorem ix3_0 (t : Fin cfg0.N) : win0_3.index t (0 : Fin 4) = (pb t).val := c0 t
theorem ix3_1 (t : Fin cfg0.N) : win0_3.index t (1 : Fin 4) = (pp t).val := c1 t
theorem ix3_2 (t : Fin cfg0.N) : win0_3.index t (2 : Fin 4) = 0 := rfl
theorem ix3_3 (t : Fin cfg0.N) : win0_3.index t (3 : Fin 4) = 0 := rfl
theorem ix4_0 (t : Fin cfg0.N) : win0_4.index t (0 : Fin 5) = (pb t).val := c0 t
theorem ix4_1 (t : Fin cfg0.N) : win0_4.index t (1 : Fin 5) = 0 := rfl
theorem ix4_2 (t : Fin cfg0.N) : win0_4.index t (2 : Fin 5) = (pp t).val := c1 t
theorem ix4_3 (t : Fin cfg0.N) : win0_4.index t (3 : Fin 5) = 0 := rfl
theorem ix4_4 (t : Fin cfg0.N) : win0_4.index t (4 : Fin 5) = 0 := rfl
theorem ix5_0 (t : Fin cfg0.N) : win0_5.index t (0 : Fin 3) = (pb t).val := c0 t
theorem ix5_1 (t : Fin cfg0.N) : win0_5.index t (1 : Fin 3) = (pq t).val := c2 t
theorem ix5_2 (t : Fin cfg0.N) : win0_5.index t (2 : Fin 3) = (pp t).val := c1 t

/-! ### Where a block's element sits -/

theorem emb_q (t : Fin cfg0.N) (x : Fin 256) (n : Fin 512) :
    ((cfg0.win 0).blk t).view.emb (ix3 (0 : Fin 1) x n) = (ix3 (pb t) ⟨256 * (pp t).val + x.val, by omega⟩ (qAt t n) : S2x2048x16384.Idx) := by
  have e0 := ix0_0 t; have e1 := ix0_1 t; have e2 := ix0_2 t
  funext a; apply Fin.ext
  match a with
  | ⟨0, _⟩ => show win0_0.index t (0 : Fin 3) * 1 + 1 * 0 = (pb t).val; omega
  | ⟨1, _⟩ => show win0_0.index t (1 : Fin 3) * 256 + 1 * x.val = 256 * (pp t).val + x.val; omega
  | ⟨2, _⟩ => show win0_0.index t (2 : Fin 3) * 512 + 1 * n.val = 512 * (pq t).val + n.val; omega

theorem emb_kc (t : Fin cfg0.N) (k : Fin 2) (r : Fin 256) (d : Fin 128) :
    ((cfg0.win 1).blk t).view.emb (ix4 (0 : Fin 1) k r d) = (ix4 (pb t) (hdAt t k) r d : S2x16x256x128.Idx) := by
  have e0 := ix1_0 t; have e1 := ix1_1 t; have e2 := ix1_2 t; have e3 := ix1_3 t
  funext a; apply Fin.ext
  match a with
  | ⟨0, _⟩ => show win0_1.index t (0 : Fin 4) * 1 + 1 * 0 = (pb t).val; omega
  | ⟨1, _⟩ => show win0_1.index t (1 : Fin 4) * 2 + 1 * k.val = 2 * (pp t).val + k.val; omega
  | ⟨2, _⟩ => show win0_1.index t (2 : Fin 4) * 256 + 1 * r.val = r.val; omega
  | ⟨3, _⟩ => show win0_1.index t (3 : Fin 4) * 128 + 1 * d.val = d.val; omega

theorem emb_vc (t : Fin cfg0.N) (k : Fin 2) (i : Fin 80) (r : Fin 256) :
    ((cfg0.win 2).blk t).view.emb (ix5 (0 : Fin 1) (0 : Fin 1) k i r) = (ix5 (pb t) (0 : Fin 1) (hdAt t k) i r : S2x1x16x80x256.Idx) := by
  have e0 := ix2_0 t; have e1 := ix2_1 t; have e2 := ix2_2 t; have e3 := ix2_3 t; have e4 := ix2_4 t
  funext a; apply Fin.ext
  match a with
  | ⟨0, _⟩ => show win0_2.index t (0 : Fin 5) * 1 + 1 * 0 = (pb t).val; omega
  | ⟨1, _⟩ => show win0_2.index t (1 : Fin 5) * 1 + 1 * 0 = 0; omega
  | ⟨2, _⟩ => show win0_2.index t (2 : Fin 5) * 2 + 1 * k.val = 2 * (pp t).val + k.val; omega
  | ⟨3, _⟩ => show win0_2.index t (3 : Fin 5) * 80 + 1 * i.val = i.val; omega
  | ⟨4, _⟩ => show win0_2.index t (4 : Fin 5) * 256 + 1 * r.val = r.val; omega

theorem emb_k (t : Fin cfg0.N) (k : Fin 2) (n : Fin 16384) (d : Fin 128) :
    ((cfg0.win 3).blk t).view.emb (ix4 (0 : Fin 1) k n d) = (ix4 (pb t) (hdAt t k) n d : S2x16x16384x128.Idx) := by
  have e0 := ix3_0 t; have e1 := ix3_1 t; have e2 := ix3_2 t; have e3 := ix3_3 t
  funext a; apply Fin.ext
  match a with
  | ⟨0, _⟩ => show win0_3.index t (0 : Fin 4) * 1 + 1 * 0 = (pb t).val; omega
  | ⟨1, _⟩ => show win0_3.index t (1 : Fin 4) * 2 + 1 * k.val = 2 * (pp t).val + k.val; omega
  | ⟨2, _⟩ => show win0_3.index t (2 : Fin 4) * 16384 + 1 * n.val = n.val; omega
  | ⟨3, _⟩ => show win0_3.index t (3 : Fin 4) * 128 + 1 * d.val = d.val; omega

theorem emb_v (t : Fin cfg0.N) (p : Fin 64) (k : Fin 2) (i : Fin 80) (r : Fin 256) :
    ((cfg0.win 4).blk t).view.emb (ix5 (0 : Fin 1) p k i r) = (ix5 (pb t) p (hdAt t k) i r : S2x64x16x80x256.Idx) := by
  have e0 := ix4_0 t; have e1 := ix4_1 t; have e2 := ix4_2 t; have e3 := ix4_3 t; have e4 := ix4_4 t
  funext a; apply Fin.ext
  match a with
  | ⟨0, _⟩ => show win0_4.index t (0 : Fin 5) * 1 + 1 * 0 = (pb t).val; omega
  | ⟨1, _⟩ => show win0_4.index t (1 : Fin 5) * 64 + 1 * p.val = p.val; omega
  | ⟨2, _⟩ => show win0_4.index t (2 : Fin 5) * 2 + 1 * k.val = 2 * (pp t).val + k.val; omega
  | ⟨3, _⟩ => show win0_4.index t (3 : Fin 5) * 80 + 1 * i.val = i.val; omega
  | ⟨4, _⟩ => show win0_4.index t (4 : Fin 5) * 256 + 1 * r.val = r.val; omega

/-- Result element `(n, l)` of point `t`. -/
def outIx (t : Fin cfg0.N) (n : Fin 512) (l : Fin 128) : S2x16384x1024.Idx :=
  ix3 (pb t) (qAt t n) ⟨128 * (pp t).val + l.val, by omega⟩

theorem emb_out (t : Fin cfg0.N) (n : Fin 512) (l : Fin 128) :
    ((cfg0.win 5).blk t).view.emb (ix3 (0 : Fin 1) n l) = outIx t n l := by
  have e0 := ix5_0 t; have e1 := ix5_1 t; have e2 := ix5_2 t
  funext a; apply Fin.ext
  match a with
  | ⟨0, _⟩ => show win0_5.index t (0 : Fin 3) * 1 + 1 * 0 = (pb t).val; omega
  | ⟨1, _⟩ => show win0_5.index t (1 : Fin 3) * 512 + 1 * n.val = 512 * (pq t).val + n.val; omega
  | ⟨2, _⟩ => show win0_5.index t (2 : Fin 3) * 128 + 1 * l.val = 128 * (pp t).val + l.val; omega

/-- A load through a unit-stride rectangle, read at an element. -/
theorem ld_at {S : Shape} {e : EltTy} {Val : EltTy → Type} (X : S.Idx → Val e) (off size : Fin S.rank → ℕ) (inb : ∀ a, off a + size a ≤ S.size a)
    (x : (⟨S.rank, size⟩ : Shape).Idx) (i : S.Idx) (h : ∀ a, (i a).val = off a + (x a).val) : View.ld X (Rect.unit off size inb) x = X i :=
  congrArg X (funext fun a => Fin.ext ((congrArg (off a + ·) (Nat.one_mul (x a).val)).trans (h a).symm))

/-! ### The operands at an element -/

section

variable (m : (ℓ : Loc nD τ sig) → Buf (Elt Ideal) ℓ) (c : Dev nD)

/-- Argument `i`'s contents. -/
abbrev a0 : FVec Ideal S2x16384x16x64 .f32 := m ((c : Thread nD τ).loc main_arg0)
abbrev a1 : FVec Ideal S2x16384x16x32 .f32 := m ((c : Thread nD τ).loc main_arg1)
abbrev a2 : FVec Ideal S2x256x16x64 .f32 := m ((c : Thread nD τ).loc main_arg2)
abbrev a3 : FVec Ideal S2x256x32 .f32 := m ((c : Thread nD τ).loc main_arg3)
abbrev a4 : FVec Ideal S2x256x16x64 .f32 := m ((c : Thread nD τ).loc main_arg4)
abbrev a5 : FVec Ideal S2x16384x16x64 .f32 := m ((c : Thread nD τ).loc main_arg5)
abbrev a6 : FVec Ideal S2x16384x32 .f32 := m ((c : Thread nD τ).loc main_arg6)
abbrev a7 : FVec Ideal S2x16384x16x64 .f32 := m ((c : Thread nD τ).loc main_arg7)

/-- The lanes of the joined key `k` of head `h`. -/
abbrev keyLane (b : Fin 2) (k : Fin 16640) (h : Fin 16) : Fin 128 → EReal :=
  lane (fun e => Cert.ReferenceIdeal.Read.val_main_v0 (F := Ideal) (a2 m c) (a5 m c) (ix4 b k h e))
    (fun e => Cert.ReferenceIdeal.Read.val_main_v1 (F := Ideal) (a3 m c) (a6 m c) (ix3 b k e))

/-- The lanes of query `n` of head `h`. -/
abbrev qryLane (b : Fin 2) (n : Fin 16384) (h : Fin 16) : Fin 128 → EReal :=
  lane (fun e => a0 m c (ix4 b n h e)) (fun e => a1 m c (ix4 b n h e))

/-- The rows of the joined value `k` of head `h`. -/
abbrev valRow (b : Fin 2) (k : Fin 16640) (h : Fin 16) : Fin 80 → EReal :=
  row (fun e => Cert.ReferenceIdeal.Read.val_main_v2 (F := Ideal) (a4 m c) (a7 m c) (ix4 b k h e))

end

end Cert.Proof.Attn
-- ==== Proof.Operands.lean ====
/-
  The heads' operands at an element.
-/
module

public import proofs.«01_k».proof.Proof.Gen.KernelIdeal.Frame
public import proofs.«01_k».proof.Proof.HostRead
public import proofs.«01_k».proof.Proof.HostReadV
public import proofs.«01_k».proof.Proof.Body
public import proofs.«01_k».proof.Proof.Ref
public import proofs.«01_k».proof.Proof.Blocks

@[expose] public section

set_option maxRecDepth 8192

noncomputable section

namespace Cert.Proof.Attn

open Cert.KernelIdeal Cert.KernelIdeal.Gen
open Idealize.ShloMosaic Idealize.ShloMosaic.ValueIdx Idealize.ShloMosaic.TcCoe Idealize.SL.Sem

section

variable (m : (ℓ : Loc nD τ sig) → Buf (Elt Ideal) ℓ) (c : Dev nD)

variable (t : Fin cfg0.N)

theorem read_0 (f : S2x2048x16384.Idx → EReal) (y) : @Eq EReal (((cfg0.win 0).blk t).view.read (Elt Ideal) f y) (f (((cfg0.win 0).blk t).view.emb y)) := rfl
theorem iblk_0 : iblk m c 0 t = ((cfg0.win 0).blk t).view.read (Elt Ideal) (V m c main_v10) := rfl
theorem read_1 (f : S2x16x256x128.Idx → EReal) (y) : @Eq EReal (((cfg0.win 1).blk t).view.read (Elt Ideal) f y) (f (((cfg0.win 1).blk t).view.emb y)) := rfl
theorem iblk_1 : iblk m c 1 t = ((cfg0.win 1).blk t).view.read (Elt Ideal) (V m c main_v16) := rfl
theorem read_2 (f : S2x1x16x80x256.Idx → EReal) (y) : @Eq EReal (((cfg0.win 2).blk t).view.read (Elt Ideal) f y) (f (((cfg0.win 2).blk t).view.emb y)) := rfl
theorem iblk_2 : iblk m c 2 t = ((cfg0.win 2).blk t).view.read (Elt Ideal) (V m c main_v22) := rfl
theorem read_3 (f : S2x16x16384x128.Idx → EReal) (y) : @Eq EReal (((cfg0.win 3).blk t).view.read (Elt Ideal) f y) (f (((cfg0.win 3).blk t).view.emb y)) := rfl
theorem iblk_3 : iblk m c 3 t = ((cfg0.win 3).blk t).view.read (Elt Ideal) (V m c main_v28) := rfl
theorem read_4 (f : S2x64x16x80x256.Idx → EReal) (y) : @Eq EReal (((cfg0.win 4).blk t).view.read (Elt Ideal) f y) (f (((cfg0.win 4).blk t).view.emb y)) := rfl
theorem iblk_4 : iblk m c 4 t = ((cfg0.win 4).blk t).view.read (Elt Ideal) (V m c main_v34) := rfl

theorem iblk_q (k : Fin 2) (d : Fin 128) (n : Fin 512) (x : Fin 256) (hx : x.val = 128 * k.val + d.val) :
    @Eq EReal (iblk m c 0 t (ix3 (0 : Fin 1) x n)) (qryLane m c (pb t) (qAt t n) (hdAt t k) d * scaleT ix0) := by
  rw [iblk_0, V_q]
  refine (read_0 t _ _).trans ?_
  rw [emb_q]
  exact qT_apply _ _ _ (hdAt t k) d _ _ (by show 256 * (pp t).val + x.val = (2 * (pp t).val + k.val) * 128 + d.val; omega)

theorem iblk_kc (k : Fin 2) (r : Fin 256) (d : Fin 128) :
    @Eq EReal (iblk m c 1 t (ix4 (0 : Fin 1) k r d)) (keyLane m c (pb t) (keyAt 0 (by decide) r) (hdAt t k) d) := by
  rw [iblk_1, V_kc]
  refine (read_1 t _ _).trans ?_
  rw [emb_kc]
  refine (kcT_apply _ _ _ _ _ _).trans ?_
  exact congrArg₂ (fun f g => lane f g d) (funext fun e => (joined_ctx _ (a5 m c) _ _ _ _ _).symm) (funext fun e => (rope_ctx _ (a6 m c) _ _ _ _).symm)

theorem iblk_k (k : Fin 2) (p : ℕ) (hp : p + 1 < 65) (r : Fin 256) (d : Fin 128) (n : Fin 16384) (hn : n.val = 256 * p + r.val) :
    @Eq EReal (iblk m c 3 t (ix4 (0 : Fin 1) k n d)) (keyLane m c (pb t) (keyAt (p + 1) hp r) (hdAt t k) d) := by
  rw [iblk_3, V_k]
  refine (read_3 t _ _).trans ?_
  rw [emb_k]
  refine (kT_apply _ _ _ _ _ _).trans ?_
  have hb : 256 * p + r.val < 16384 := by omega
  obtain rfl : (⟨256 * p + r.val, hb⟩ : Fin 16384) = n := Fin.ext hn.symm
  exact congrArg₂ (fun f g => lane f g d) (funext fun e => (joined_lat (a2 m c) _ _ _ _ _ _ _).symm) (funext fun e => (rope_lat (a3 m c) _ _ _ _ _ _).symm)

theorem iblk_vc (k : Fin 2) (i : Fin 80) (r : Fin 256) :
    @Eq EReal (iblk m c 2 t (ix5 (0 : Fin 1) (0 : Fin 1) k i r)) (valRow m c (pb t) (keyAt 0 (by decide) r) (hdAt t k) i) := by
  rw [iblk_2, V_vc]
  refine (read_2 t _ _).trans ?_
  rw [emb_vc]
  refine (vcT_apply _ _ _ _ _).trans ?_
  exact congrArg (fun f => row f i) (funext fun e => (joined_ctx _ (a7 m c) _ _ _ _ _).symm)

theorem iblk_v (k : Fin 2) (p : Fin 64) (hp : p.val + 1 < 65) (i : Fin 80) (r : Fin 256) :
    @Eq EReal (iblk m c 4 t (ix5 (0 : Fin 1) p k i r)) (valRow m c (pb t) (keyAt (p.val + 1) hp r) (hdAt t k) i) := by
  rw [iblk_4, V_v]
  refine (read_4 t _ _).trans ?_
  rw [emb_v]
  refine (vT_apply _ _ _ _ _ _ ⟨256 * p.val + r.val, by omega⟩ rfl).trans ?_
  exact congrArg (fun f => row f i) (funext fun e => (joined_lat (a4 m c) _ _ _ _ _ _ _).symm)

/-! ### Each head's query, keys and values -/

theorem q_0 (d : Fin 128) (n : Fin 512) :
    @Eq EReal (qB0 (F := Ideal) (iblk m c 0 t) (ix3 (0 : Fin 1) d n)) (qryLane m c (pb t) (qAt t n) (hdAt t 0) d * scaleT ix0) := by
  refine Eq.trans ?_ (iblk_q m c t 0 d n ⟨128 * 0 + d.val, by omega⟩ rfl)
  exact ld_at (iblk m c 0 t) _ _ _ (ix3 (0 : Fin 1) d n) (ix3 (0 : Fin 1) (⟨128 * 0 + d.val, by omega⟩ : Fin 256) n) (fun a => by
    match a with | ⟨0, _⟩ => rfl | ⟨1, _⟩ => show 128 * 0 + d.val = 0 + d.val; omega | ⟨2, _⟩ => show n.val = 0 + n.val; omega)

theorem q_1 (d : Fin 128) (n : Fin 512) :
    @Eq EReal (qB1 (F := Ideal) (iblk m c 0 t) (ix3 (0 : Fin 1) d n)) (qryLane m c (pb t) (qAt t n) (hdAt t 1) d * scaleT ix0) := by
  refine Eq.trans ?_ (iblk_q m c t 1 d n ⟨128 * 1 + d.val, by omega⟩ rfl)
  exact ld_at (iblk m c 0 t) _ _ _ (ix3 (0 : Fin 1) d n) (ix3 (0 : Fin 1) (⟨128 * 1 + d.val, by omega⟩ : Fin 256) n) (fun a => by
    match a with | ⟨0, _⟩ => rfl | ⟨1, _⟩ => show 128 * 1 + d.val = 128 + d.val; omega | ⟨2, _⟩ => show n.val = 0 + n.val; omega)

theorem k_0 (j : ℕ) (hj : j < 65) (r : Fin 256) (d : Fin 128) :
    @Eq EReal (kB0 (F := Ideal) (iblk m c 1 t) (iblk m c 3 t) j (ix4 (0 : Fin 1) (0 : Fin 1) r d)) (keyLane m c (pb t) (keyAt j hj r) (hdAt t 0) d) := by
  cases j with
  | zero =>
    refine Eq.trans ?_ (iblk_kc m c t 0 r d)
    exact ld_at (iblk m c 1 t) _ _ _ (ix4 (0 : Fin 1) (0 : Fin 1) r d) (ix4 (0 : Fin 1) (0 : Fin 2) r d) (fun a => by
      match a with | ⟨0, _⟩ => rfl | ⟨1, _⟩ => rfl | ⟨2, _⟩ => show r.val = 0 + r.val; omega | ⟨3, _⟩ => show d.val = 0 + d.val; omega)
  | succ p =>
    refine Eq.trans ?_ (iblk_k m c t 0 p hj r d ⟨256 * p + r.val, by omega⟩ rfl)
    rw [kB0, dif_pos (by omega : p < 64)]
    exact ld_at (iblk m c 3 t) _ _ _ (ix4 (0 : Fin 1) (0 : Fin 1) r d) (ix4 (0 : Fin 1) (0 : Fin 2) (⟨256 * p + r.val, by omega⟩ : Fin 16384) d) (fun a => by
      match a with | ⟨0, _⟩ => rfl | ⟨1, _⟩ => rfl | ⟨2, _⟩ => rfl | ⟨3, _⟩ => show d.val = 0 + d.val; omega)

theorem k_1 (j : ℕ) (hj : j < 65) (r : Fin 256) (d : Fin 128) :
    @Eq EReal (kB1 (F := Ideal) (iblk m c 1 t) (iblk m c 3 t) j (ix4 (0 : Fin 1) (0 : Fin 1) r d)) (keyLane m c (pb t) (keyAt j hj r) (hdAt t 1) d) := by
  cases j with
  | zero =>
    refine Eq.trans ?_ (iblk_kc m c t 1 r d)
    exact ld_at (iblk m c 1 t) _ _ _ (ix4 (0 : Fin 1) (0 : Fin 1) r d) (ix4 (0 : Fin 1) (1 : Fin 2) r d) (fun a => by
      match a with | ⟨0, _⟩ => rfl | ⟨1, _⟩ => rfl | ⟨2, _⟩ => show r.val = 0 + r.val; omega | ⟨3, _⟩ => show d.val = 0 + d.val; omega)
  | succ p =>
    refine Eq.trans ?_ (iblk_k m c t 1 p hj r d ⟨256 * p + r.val, by omega⟩ rfl)
    rw [kB1, dif_pos (by omega : p < 64)]
    exact ld_at (iblk m c 3 t) _ _ _ (ix4 (0 : Fin 1) (0 : Fin 1) r d) (ix4 (0 : Fin 1) (1 : Fin 2) (⟨256 * p + r.val, by omega⟩ : Fin 16384) d) (fun a => by
      match a with | ⟨0, _⟩ => rfl | ⟨1, _⟩ => rfl | ⟨2, _⟩ => rfl | ⟨3, _⟩ => show d.val = 0 + d.val; omega)

theorem v_0 (j : ℕ) (hj : j < 65) (i : Fin 80) (r : Fin 256) :
    @Eq EReal (vB0 (F := Ideal) (iblk m c 2 t) (iblk m c 4 t) j (ix5 (0 : Fin 1) (0 : Fin 1) (0 : Fin 1) i r)) (valRow m c (pb t) (keyAt j hj r) (hdAt t 0) i) := by
  cases j with
  | zero =>
    refine Eq.trans ?_ (iblk_vc m c t 0 i r)
    exact ld_at (iblk m c 2 t) _ _ _ (ix5 (0 : Fin 1) (0 : Fin 1) (0 : Fin 1) i r) (ix5 (0 : Fin 1) (0 : Fin 1) (0 : Fin 2) i r) (fun a => by
      match a with | ⟨0, _⟩ => rfl | ⟨1, _⟩ => rfl | ⟨2, _⟩ => rfl | ⟨3, _⟩ => show i.val = 0 + i.val; omega | ⟨4, _⟩ => show r.val = 0 + r.val; omega)
  | succ p =>
    refine Eq.trans ?_ (iblk_v m c t 0 ⟨p, by omega⟩ hj i r)
    rw [vB0, dif_pos (by omega : p < 64)]
    exact ld_at (iblk m c 4 t) _ _ _ (ix5 (0 : Fin 1) (0 : Fin 1) (0 : Fin 1) i r) (ix5 (0 : Fin 1) (⟨p, by omega⟩ : Fin 64) (0 : Fin 2) i r) (fun a => by
      match a with | ⟨0, _⟩ => rfl | ⟨1, _⟩ => rfl | ⟨2, _⟩ => rfl | ⟨3, _⟩ => show i.val = 0 + i.val; omega | ⟨4, _⟩ => show r.val = 0 + r.val; omega)

theorem v_1 (j : ℕ) (hj : j < 65) (i : Fin 80) (r : Fin 256) :
    @Eq EReal (vB1 (F := Ideal) (iblk m c 2 t) (iblk m c 4 t) j (ix5 (0 : Fin 1) (0 : Fin 1) (0 : Fin 1) i r)) (valRow m c (pb t) (keyAt j hj r) (hdAt t 1) i) := by
  cases j with
  | zero =>
    refine Eq.trans ?_ (iblk_vc m c t 1 i r)
    exact ld_at (iblk m c 2 t) _ _ _ (ix5 (0 : Fin 1) (0 : Fin 1) (0 : Fin 1) i r) (ix5 (0 : Fin 1) (0 : Fin 1) (1 : Fin 2) i r) (fun a => by
      match a with | ⟨0, _⟩ => rfl | ⟨1, _⟩ => rfl | ⟨2, _⟩ => rfl | ⟨3, _⟩ => show i.val = 0 + i.val; omega | ⟨4, _⟩ => show r.val = 0 + r.val; omega)
  | succ p =>
    refine Eq.trans ?_ (iblk_v m c t 1 ⟨p, by omega⟩ hj i r)
    rw [vB1, dif_pos (by omega : p < 64)]
    exact ld_at (iblk m c 4 t) _ _ _ (ix5 (0 : Fin 1) (0 : Fin 1) (0 : Fin 1) i r) (ix5 (0 : Fin 1) (⟨p, by omega⟩ : Fin 64) (1 : Fin 2) i r) (fun a => by
      match a with | ⟨0, _⟩ => rfl | ⟨1, _⟩ => rfl | ⟨2, _⟩ => rfl | ⟨3, _⟩ => show i.val = 0 + i.val; omega | ⟨4, _⟩ => show r.val = 0 + r.val; omega)

end

end Cert.Proof.Attn
-- ==== Proof.Pre.lean ====
/-
  The precondition read back: the queries and keys are real numbers.
-/
module

public import proofs.«01_k».proof.Pre_finite_scores
public import Idealize.ShloMosaic.Lib.ReduceAll
public import Idealize.ShloMosaic.Lib.ValueIdx
public import Idealize.ShloMosaic.PureOps.Ideal.Laws

@[expose] public section

set_option maxRecDepth 8192

noncomputable section

namespace Cert.Proof.Attn

open Idealize.ShloMosaic Idealize.ShloMosaic.ValueIdx

theorem inf_bits : Ideal.ofBits .f32 0x7F800000#32 = ⊤ := by simp [Ideal.ofBits, Ideal.ieee]

/-- A number of absolute value below infinity is real. -/
theorem real_of_abs (x : EReal) (h : Ideal.cmp .olt (max x (-x)) (Ideal.ofBits .f32 0x7F800000#32) = 1#1) : ∃ r : ℝ, x = r := by
  rw [inf_bits] at h
  induction x using EReal.rec with
  | coe r => exact ⟨r, rfl⟩
  | bot => exact absurd h (by simp [Ideal.cmp])
  | top => exact absurd h (by simp [Ideal.cmp])

instance : Subsingleton Cert.Pre_finite_scores.S_.Idx := ⟨fun x y => funext fun a => a.elim0⟩

/-- An array all of whose absolute values are below infinity is real everywhere. -/
theorem real_of_all {S : Shape} (x : FVec Ideal S .f32) (hb : Cert.Pre_finite_scores.S_.BroadcastsInDim S (![] : Fin 0 → Fin S.rank))
    {ax : List (Fin S.rank)} (hr : S.ReducesTo ax Cert.Pre_finite_scores.S_) (hs : 0 < Cert.Pre_finite_scores.S_.numel)
    (h : Host.reduce IntOp.andi (cmpf (F := Ideal) .olt (Host.absf x) (broadcastInDim S ![] hb (constant (F := Ideal) Cert.Pre_finite_scores.S_ .f32 0x7F800000#32)))
      (constantI Cert.Pre_finite_scores.S_ 1 1#1) hr hs ix0 = 1#1) (i : S.Idx) : ∃ r : ℝ, x i = (r : EReal) :=
  real_of_abs (x i) (Host.reduce_andi_all _ _ hr hs ix0 h i)

/-- What the precondition says. -/
theorem pre_real [Cert.Pre_finite_scores.Facts] (x0 : FVec Ideal Cert.Pre_finite_scores.S2x16384x16x64 .f32) (x1 : FVec Ideal Cert.Pre_finite_scores.S2x16384x16x32 .f32)
    (x2 : FVec Ideal Cert.Pre_finite_scores.S2x256x16x64 .f32) (x3 : FVec Ideal Cert.Pre_finite_scores.S2x256x32 .f32) (x4 : FVec Ideal Cert.Pre_finite_scores.S2x256x16x64 .f32)
    (x5 : FVec Ideal Cert.Pre_finite_scores.S2x16384x16x64 .f32) (x6 : FVec Ideal Cert.Pre_finite_scores.S2x16384x32 .f32) (x7 : FVec Ideal Cert.Pre_finite_scores.S2x16384x16x64 .f32)
    (h : Cert.Pre_finite_scores.fn (F := Ideal) x0 x1 x2 x3 x4 x5 x6 x7 = (fun _ => 1#1)) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x5 i = (r : EReal)) ∧ (∀ i, ∃ r : ℝ, x6 i = (r : EReal)) := by
  have h' := congrFun h ix0
  have a6 := IntOp.andi_eq_one.1 h'
  have a5 := IntOp.andi_eq_one.1 a6.1
  have a3 := IntOp.andi_eq_one.1 a5.1
  have a2 := IntOp.andi_eq_one.1 a3.1
  have a1 := IntOp.andi_eq_one.1 a2.1
  exact ⟨real_of_all x0 Cert.Pre_finite_scores.Facts.bcast_S_S2x16384x16x64 Cert.Pre_finite_scores.Facts.reducesTo_S2x16384x16x64_S_d0_1_2_3 Cert.Pre_finite_scores.Facts.h_S_ a1.1,
    real_of_all x1 Cert.Pre_finite_scores.Facts.bcast_S_S2x16384x16x32 Cert.Pre_finite_scores.Facts.reducesTo_S2x16384x16x32_S_d0_1_2_3 Cert.Pre_finite_scores.Facts.h_S_ a1.2,
    real_of_all x2 Cert.Pre_finite_scores.Facts.bcast_S_S2x256x16x64 Cert.Pre_finite_scores.Facts.reducesTo_S2x256x16x64_S_d0_1_2_3 Cert.Pre_finite_scores.Facts.h_S_ a2.2,
    real_of_all x3 Cert.Pre_finite_scores.Facts.bcast_S_S2x256x32 Cert.Pre_finite_scores.Facts.reducesTo_S2x256x32_S_d0_1_2 Cert.Pre_finite_scores.Facts.h_S_ a3.2,
    real_of_all x5 Cert.Pre_finite_scores.Facts.bcast_S_S2x16384x16x64 Cert.Pre_finite_scores.Facts.reducesTo_S2x16384x16x64_S_d0_1_2_3 Cert.Pre_finite_scores.Facts.h_S_ a5.2,
    real_of_all x6 Cert.Pre_finite_scores.Facts.bcast_S_S2x16384x32 Cert.Pre_finite_scores.Facts.reducesTo_S2x16384x32_S_d0_1_2 Cert.Pre_finite_scores.Facts.h_S_ a6.2⟩

end Cert.Proof.Attn
-- ==== Proof.Value.lean ====
/-
  The program's result is the reference's function of its arguments: each point writes its block of it, and the blocks cover the array.
-/
module

public import proofs.«01_k».proof.Proof.Head
public import proofs.«01_k».proof.Proof.Operands
public import proofs.«01_k».proof.Proof.Pre
public import proofs.«01_k».proof.Proof.Run
public import Idealize.ShloMosaic.Lib.Pipeline.Covers

@[expose] public section

set_option maxRecDepth 8192

noncomputable section

namespace Cert.Proof.Attn

open Cert.KernelIdeal Cert.KernelIdeal.Gen
open Cert.ReferenceIdeal.Read (val_main_v25)
open Idealize.ShloMosaic Idealize.ShloMosaic.ValueIdx Idealize.ShloMosaic.TcCoe Idealize.SL.Sem

/-- The queries and keys are real numbers. -/
def Finite (m : (ℓ : Loc nD τ sig) → Buf (Elt Ideal) ℓ) (c : Dev nD) : Prop :=
  (∀ i, ∃ r : ℝ, a0 m c i = (r : EReal)) ∧ (∀ i, ∃ r : ℝ, a1 m c i = (r : EReal)) ∧ (∀ i, ∃ r : ℝ, a2 m c i = (r : EReal))
    ∧ (∀ i, ∃ r : ℝ, a3 m c i = (r : EReal)) ∧ (∀ i, ∃ r : ℝ, a5 m c i = (r : EReal)) ∧ (∀ i, ∃ r : ℝ, a6 m c i = (r : EReal))

variable (m : (ℓ : Loc nD τ sig) → Buf (Elt Ideal) ℓ)

/-- The reference's result from the arguments. -/
def refOut (c : Dev nD) : S2x16384x1024.Idx → EReal :=
  val_main_v25 (F := Ideal) (a0 m c) (a1 m c) (a2 m c) (a3 m c) (a4 m c) (a5 m c) (a6 m c) (a7 m c)

/-- What a point computes is its block of the reference's result. -/
theorem out_at (c : Dev nD) (hf : Finite m c) (t : Fin cfg0.N) (n : Fin 512) (l : Fin 128) :
    @Eq EReal (outB (F := Ideal) (iblk m c 0 t) (iblk m c 1 t) (iblk m c 2 t) (iblk m c 3 t) (iblk m c 4 t) (ix3 (0 : Fin 1) n l))
      (refOut m c (outIx t n l)) := by
  obtain ⟨h0, h1, h2, h3, h5, h6⟩ := hf
  refine (out_apply _ _ n l).trans ?_
  by_cases hl : l.val < 64
  · rw [dif_pos hl]
    exact head_ref (a0 m c) (a1 m c) (a2 m c) (a3 m c) (a4 m c) (a5 m c) (a6 m c) (a7 m c) h0 h1 h2 h3 h5 h6
      (qB0 (iblk m c 0 t)) (kB0 (iblk m c 1 t) (iblk m c 3 t)) (vB0 (iblk m c 2 t) (iblk m c 4 t)) (pb t) (qAt t n) (hdAt t 0) n
      (fun d => q_0 m c t d n) (fun j hj r d => k_0 m c t j hj r d) (fun j hj i r => v_0 m c t j hj i r)
      ⟨l.val, hl⟩ ⟨l.val, by omega⟩ rfl ⟨128 * (pp t).val + l.val, by omega⟩ (by show 128 * (pp t).val + l.val = (2 * (pp t).val + 0) * 64 + l.val; omega)
  · rw [dif_neg hl]
    exact head_ref (a0 m c) (a1 m c) (a2 m c) (a3 m c) (a4 m c) (a5 m c) (a6 m c) (a7 m c) h0 h1 h2 h3 h5 h6
      (qB1 (iblk m c 0 t)) (kB1 (iblk m c 1 t) (iblk m c 3 t)) (vB1 (iblk m c 2 t) (iblk m c 4 t)) (pb t) (qAt t n) (hdAt t 1) n
      (fun d => q_1 m c t d n) (fun j hj r d => k_1 m c t j hj r d) (fun j hj i r => v_1 m c t j hj i r)
      ⟨l.val - 64, by omega⟩ ⟨l.val - 64, by omega⟩ rfl ⟨128 * (pp t).val + l.val, by omega⟩
      (by show 128 * (pp t).val + l.val = (2 * (pp t).val + 1) * 64 + (l.val - 64); omega)

theorem cut_5 (t : Fin cfg0.N) (X : S1x512x128.Idx → EReal) (y : S1x512x128.Idx) : @Eq EReal ((cfg0.win 5).cut (grid0.coords t) X y) (X y) := rfl
theorem read_5 (t : Fin cfg0.N) (G : S2x16384x1024.Idx → EReal) (y) :
    @Eq EReal (((cfg0.win 5).blk t).view.read (Elt Ideal) G y) (G (((cfg0.win 5).blk t).view.emb y)) := rfl

/-- A point whose body leaves `G`'s elements writes back `G`'s block. -/
theorem cut_eq (t : Fin cfg0.N) (X : S1x512x128.Idx → EReal) (G : S2x16384x1024.Idx → EReal) (h : ∀ n l, X (ix3 (0 : Fin 1) n l) = G (outIx t n l)) :
    (cfg0.win 5).cut (grid0.coords t) X = ((cfg0.win 5).blk t).view.read (Elt Ideal) G := by
  funext y
  have e : ∀ y : S1x512x128.Idx, X y = G (((cfg0.win 5).blk t).view.emb y) := by
    intro y
    obtain ⟨n, l, rfl⟩ : ∃ (n : Fin 512) (l : Fin 128), y = ix3 (0 : Fin 1) n l := ⟨y 1, y 2, by
      funext a
      match a with
      | ⟨0, _⟩ => exact Subsingleton.elim (α := Fin 1) _ _
      | ⟨1, _⟩ => rfl
      | ⟨2, _⟩ => rfl⟩
    exact (h n l).trans (congrArg G (emb_out t n l).symm)
  exact (cut_5 t X y).trans ((e y).trans (read_5 t G y).symm)

theorem flushed_5 (c : Dev nD) (t : Fin cfg0.N) : (dats (F := Ideal) m 0 c).flushed 5 t = (cfg0.win 5).cut (grid0.coords t) ((dats (F := Ideal) m 0 c).after 5 t) := by
  unfold Pipeline.Dat.flushed; rfl

theorem flushed_eq (c : Dev nD) (hf : Finite m c) (t : Fin cfg0.N) :
    (dats (F := Ideal) m 0 c).flushed 5 t = ((cfg0.win 5).blk t).view.read (Elt Ideal) (refOut m c) := by
  rw [flushed_5, after_5]
  exact cut_eq t _ _ (out_at m c hf t)

/-- Every index of the result is in a point's block. -/
theorem covered (i : S2x16384x1024.Idx) : ∃ t : Fin cfg0.N, (cfg0.win 5).flush t = true ∧ i ∈ ((cfg0.win 5).blk t).view.set := by
  have b0 : (i 0).val < 2 := (i 0).isLt
  have b1 : (i 1).val < 16384 := (i 1).isLt
  have b2 : (i 2).val < 1024 := (i 2).isLt
  obtain ⟨t, ht⟩ := Pipeline.Grid.coords_surjective grid0 (fun a => match a with
    | ⟨0, _⟩ => (⟨(i 0).val, b0⟩ : Fin 2) | ⟨1, _⟩ => (⟨(i 2).val / 128, by omega⟩ : Fin 8) | ⟨2, _⟩ => (⟨(i 1).val / 512, by omega⟩ : Fin 32))
  have p0 : (pb t).val = (i 0).val := by show (grid0.coords t 0).val = _; rw [ht]
  have p1 : (pp t).val = (i 2).val / 128 := by show (grid0.coords t 1).val = _; rw [ht]
  have p2 : (pq t).val = (i 1).val / 512 := by show (grid0.coords t 2).val = _; rw [ht]
  refine ⟨t, flush0_5 t, ?_⟩
  have e : i = outIx t ⟨(i 1).val % 512, Nat.mod_lt _ (by decide)⟩ ⟨(i 2).val % 128, Nat.mod_lt _ (by decide)⟩ := by
    funext a; apply Fin.ext
    match a with
    | ⟨0, _⟩ => exact p0.symm
    | ⟨1, _⟩ => show (i 1).val = 512 * (pq t).val + (i 1).val % 512; omega
    | ⟨2, _⟩ => show (i 2).val = 128 * (pp t).val + (i 2).val % 128; omega
  rw [e, ← emb_out]
  exact ((cfg0.win 5).blk t).view.emb_mem_set _

/-- The result array after the run. -/
theorem final (c : Dev nD) (hf : Finite m c) : (dats (F := Ideal) m 0 c).arrAt 5 cfg0.N = refOut m c :=
  (dats (F := Ideal) m 0 c).arrAt_eq_of_cover 5 (refOut m c) (fun t _ => flushed_eq m c hf t) covered

/-- The run, with the result at the reference's function of the arguments. -/
theorem run_value (ρ : Dev nD → PrngReg) (hf : ∀ c, Finite m c) : θ_run (defs (F := Ideal)) (onTc (τ := τ) (main (F := Ideal))) ⟨m, fun _ => 0, ρ⟩ (fun r => ∀ c : Dev nD,
      r.2.mem ((c : Thread nD τ).loc main_v35) = refOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun _ h c => ⟨((h.1 c).1 5).trans (final m c (hf c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩) (run_main (F := Ideal) m ρ)

end Cert.Proof.Attn
-- ==== Proof.MlpBlocks.lean ====
/-
  The second kernel's operands at a grid point, read at an element from the program's arguments.
-/
module

public import proofs.«01_k».proof.Proof.Gen.MlpKernelIdeal.Frame
public import proofs.«01_k».proof.Proof.Gen.MlpKernelIdeal.Value
public import Idealize.ShloMosaic.Lib.StableHlo.RunRead
public import Idealize.ShloMosaic.Lib.Pipeline.Value
public import Idealize.ShloMosaic.Lib.ValueIdx
public import Idealize.ShloMosaic.Lib.ValueLayout
public import Idealize.ShloMosaic.PureOps.Ideal.Laws

@[expose] public section

set_option maxRecDepth 8192

noncomputable section

namespace Cert.Proof.Mlp

open Cert.MlpKernelIdeal Cert.MlpKernelIdeal.Gen
open Idealize.ShloMosaic Idealize.ShloMosaic.ValueIdx Idealize.ShloMosaic.TcCoe Idealize.SL.Sem

/-! ### The point's coordinates -/

/-- The batch of point `t`. -/
def pb (t : Fin cfg0.N) : Fin 2 := ⟨(grid0.coords t 0).val, (grid0.coords t 0).isLt⟩
/-- Its 1024 rows. -/
def pq (t : Fin cfg0.N) : Fin 16 := ⟨(grid0.coords t 1).val, (grid0.coords t 1).isLt⟩
/-- Row `r` of the 1024. -/
def rowAt (t : Fin cfg0.N) (r : Fin 1024) : Fin 16384 := ⟨1024 * (pq t).val + r.val, by omega⟩

theorem word (n : ℕ) (h : n < 32) : (BitVec.ofNat 32 n).toNat = n := by
  rw [BitVec.toNat_ofNat]; exact Nat.mod_eq_of_lt (by omega)

theorem c0 (t : Fin cfg0.N) : (BitVec.ofNat 32 (grid0.coords t 0).val).toNat = (pb t).val := word _ (by have : (grid0.coords t 0).val < 2 := (grid0.coords t 0).isLt; omega)
theorem c1 (t : Fin cfg0.N) : (BitVec.ofNat 32 (grid0.coords t 1).val).toNat = (pq t).val := word _ (by have : (grid0.coords t 1).val < 16 := (grid0.coords t 1).isLt; omega)

/-! ### Where a block's element sits -/

theorem emb_z (t : Fin cfg0.N) (r d : Fin 1024) :
    ((cfg0.win 0).blk t).view.emb (ix3 (0 : Fin 1) r d) = (ix3 (pb t) (rowAt t r) d : S2x16384x1024.Idx) := by
  have e0 : win0_0.index t (0 : Fin 3) = (pb t).val := c0 t
  have e1 : win0_0.index t (1 : Fin 3) = (pq t).val := c1 t
  have e2 : win0_0.index t (2 : Fin 3) = 0 := rfl
  funext a; apply Fin.ext
  match a with
  | ⟨0, _⟩ => show win0_0.index t (0 : Fin 3) * 1 + 1 * 0 = (pb t).val; omega
  | ⟨1, _⟩ => show win0_0.index t (1 : Fin 3) * 1024 + 1 * r.val = 1024 * (pq t).val + r.val; omega
  | ⟨2, _⟩ => show win0_0.index t (2 : Fin 3) * 1024 + 1 * d.val = d.val; omega

theorem emb_wo (t : Fin cfg0.N) (r : Fin 1024) (d : Fin 1024) :
    ((cfg0.win 1).blk t).view.emb (ix2 r d) = (ix2 r d : S1024x1024.Idx) := by
  have e0 : win0_1.index t (0 : Fin 2) = 0 := rfl
  have e1 : win0_1.index t (1 : Fin 2) = 0 := rfl
  funext a; apply Fin.ext
  match a with
  | ⟨0, _⟩ => show win0_1.index t (0 : Fin 2) * 1024 + 1 * r.val = r.val; omega
  | ⟨1, _⟩ => show win0_1.index t (1 : Fin 2) * 1024 + 1 * d.val = d.val; omega

theorem emb_bo (t : Fin cfg0.N) (r : Fin 1) (d : Fin 1024) :
    ((cfg0.win 2).blk t).view.emb (ix2 r d) = (ix2 r d : S1x1024.Idx) := by
  have e0 : win0_2.index t (0 : Fin 2) = 0 := rfl
  have e1 : win0_2.index t (1 : Fin 2) = 0 := rfl
  funext a; apply Fin.ext
  match a with
  | ⟨0, _⟩ => show win0_2.index t (0 : Fin 2) * 1 + 1 * r.val = r.val; omega
  | ⟨1, _⟩ => show win0_2.index t (1 : Fin 2) * 1024 + 1 * d.val = d.val; omega

theorem emb_gt1 (t : Fin cfg0.N) (d : Fin 1024) :
    ((cfg0.win 3).blk t).view.emb (ix3 (0 : Fin 1) (0 : Fin 1) d) = (ix3 (pb t) (0 : Fin 1) d : S2x1x1024.Idx) := by
  have e0 : win0_3.index t (0 : Fin 3) = (pb t).val := c0 t
  have e1 : win0_3.index t (1 : Fin 3) = 0 := rfl
  have e2 : win0_3.index t (2 : Fin 3) = 0 := rfl
  funext a; apply Fin.ext
  match a with
  | ⟨0, _⟩ => show win0_3.index t (0 : Fin 3) * 1 + 1 * 0 = (pb t).val; omega
  | ⟨1, _⟩ => show win0_3.index t (1 : Fin 3) * 1 + 1 * 0 = 0; omega
  | ⟨2, _⟩ => show win0_3.index t (2 : Fin 3) * 1024 + 1 * d.val = d.val; omega

theorem emb_g1 (t : Fin cfg0.N) (r : Fin 1) (d : Fin 1024) :
    ((cfg0.win 4).blk t).view.emb (ix2 r d) = (ix2 r d : S1x1024.Idx) := by
  have e0 : win0_4.index t (0 : Fin 2) = 0 := rfl
  have e1 : win0_4.index t (1 : Fin 2) = 0 := rfl
  funext a; apply Fin.ext
  match a with
  | ⟨0, _⟩ => show win0_4.index t (0 : Fin 2) * 1 + 1 * r.val = r.val; omega
  | ⟨1, _⟩ => show win0_4.index t (1 : Fin 2) * 1024 + 1 * d.val = d.val; omega

theorem emb_x (t : Fin cfg0.N) (r d : Fin 1024) :
    ((cfg0.win 5).blk t).view.emb (ix3 (0 : Fin 1) r d) = (ix3 (pb t) (rowAt t r) d : S2x16384x1024.Idx) := by
  have e0 : win0_5.index t (0 : Fin 3) = (pb t).val := c0 t
  have e1 : win0_5.index t (1 : Fin 3) = (pq t).val := c1 t
  have e2 : win0_5.index t (2 : Fin 3) = 0 := rfl
  funext a; apply Fin.ext
  match a with
  | ⟨0, _⟩ => show win0_5.index t (0 : Fin 3) * 1 + 1 * 0 = (pb t).val; omega
  | ⟨1, _⟩ => show win0_5.index t (1 : Fin 3) * 1024 + 1 * r.val = 1024 * (pq t).val + r.val; omega
  | ⟨2, _⟩ => show win0_5.index t (2 : Fin 3) * 1024 + 1 * d.val = d.val; omega

theorem emb_sh (t : Fin cfg0.N) (d : Fin 1024) :
    ((cfg0.win 6).blk t).view.emb (ix3 (0 : Fin 1) (0 : Fin 1) d) = (ix3 (pb t) (0 : Fin 1) d : S2x1x1024.Idx) := by
  have e0 : win0_6.index t (0 : Fin 3) = (pb t).val := c0 t
  have e1 : win0_6.index t (1 : Fin 3) = 0 := rfl
  have e2 : win0_6.index t (2 : Fin 3) = 0 := rfl
  funext a; apply Fin.ext
  match a with
  | ⟨0, _⟩ => show win0_6.index t (0 : Fin 3) * 1 + 1 * 0 = (pb t).val; omega
  | ⟨1, _⟩ => show win0_6.index t (1 : Fin 3) * 1 + 1 * 0 = 0; omega
  | ⟨2, _⟩ => show win0_6.index t (2 : Fin 3) * 1024 + 1 * d.val = d.val; omega

theorem emb_sc (t : Fin cfg0.N) (d : Fin 1024) :
    ((cfg0.win 7).blk t).view.emb (ix3 (0 : Fin 1) (0 : Fin 1) d) = (ix3 (pb t) (0 : Fin 1) d : S2x1x1024.Idx) := by
  have e0 : win0_7.index t (0 : Fin 3) = (pb t).val := c0 t
  have e1 : win0_7.index t (1 : Fin 3) = 0 := rfl
  have e2 : win0_7.index t (2 : Fin 3) = 0 := rfl
  funext a; apply Fin.ext
  match a with
  | ⟨0, _⟩ => show win0_7.index t (0 : Fin 3) * 1 + 1 * 0 = (pb t).val; omega
  | ⟨1, _⟩ => show win0_7.index t (1 : Fin 3) * 1 + 1 * 0 = 0; omega
  | ⟨2, _⟩ => show win0_7.index t (2 : Fin 3) * 1024 + 1 * d.val = d.val; omega

theorem emb_gt2 (t : Fin cfg0.N) (d : Fin 1024) :
    ((cfg0.win 8).blk t).view.emb (ix3 (0 : Fin 1) (0 : Fin 1) d) = (ix3 (pb t) (0 : Fin 1) d : S2x1x1024.Idx) := by
  have e0 : win0_8.index t (0 : Fin 3) = (pb t).val := c0 t
  have e1 : win0_8.index t (1 : Fin 3) = 0 := rfl
  have e2 : win0_8.index t (2 : Fin 3) = 0 := rfl
  funext a; apply Fin.ext
  match a with
  | ⟨0, _⟩ => show win0_8.index t (0 : Fin 3) * 1 + 1 * 0 = (pb t).val; omega
  | ⟨1, _⟩ => show win0_8.index t (1 : Fin 3) * 1 + 1 * 0 = 0; omega
  | ⟨2, _⟩ => show win0_8.index t (2 : Fin 3) * 1024 + 1 * d.val = d.val; omega

theorem emb_gp (t : Fin cfg0.N) (r : Fin 1) (d : Fin 1024) :
    ((cfg0.win 9).blk t).view.emb (ix2 r d) = (ix2 r d : S1x1024.Idx) := by
  have e0 : win0_9.index t (0 : Fin 2) = 0 := rfl
  have e1 : win0_9.index t (1 : Fin 2) = 0 := rfl
  funext a; apply Fin.ext
  match a with
  | ⟨0, _⟩ => show win0_9.index t (0 : Fin 2) * 1 + 1 * r.val = r.val; omega
  | ⟨1, _⟩ => show win0_9.index t (1 : Fin 2) * 1024 + 1 * d.val = d.val; omega

theorem emb_g2 (t : Fin cfg0.N) (r : Fin 1) (d : Fin 1024) :
    ((cfg0.win 10).blk t).view.emb (ix2 r d) = (ix2 r d : S1x1024.Idx) := by
  have e0 : win0_10.index t (0 : Fin 2) = 0 := rfl
  have e1 : win0_10.index t (1 : Fin 2) = 0 := rfl
  funext a; apply Fin.ext
  match a with
  | ⟨0, _⟩ => show win0_10.index t (0 : Fin 2) * 1 + 1 * r.val = r.val; omega
  | ⟨1, _⟩ => show win0_10.index t (1 : Fin 2) * 1024 + 1 * d.val = d.val; omega

theorem emb_w1 (t : Fin cfg0.N) (r : Fin 1024) (d : Fin 4096) :
    ((cfg0.win 11).blk t).view.emb (ix2 r d) = (ix2 r d : S1024x4096.Idx) := by
  have e0 : win0_11.index t (0 : Fin 2) = 0 := rfl
  have e1 : win0_11.index t (1 : Fin 2) = 0 := rfl
  funext a; apply Fin.ext
  match a with
  | ⟨0, _⟩ => show win0_11.index t (0 : Fin 2) * 1024 + 1 * r.val = r.val; omega
  | ⟨1, _⟩ => show win0_11.index t (1 : Fin 2) * 4096 + 1 * d.val = d.val; omega

theorem emb_w2 (t : Fin cfg0.N) (r : Fin 4096) (d : Fin 1024) :
    ((cfg0.win 12).blk t).view.emb (ix2 r d) = (ix2 r d : S4096x1024.Idx) := by
  have e0 : win0_12.index t (0 : Fin 2) = 0 := rfl
  have e1 : win0_12.index t (1 : Fin 2) = 0 := rfl
  funext a; apply Fin.ext
  match a with
  | ⟨0, _⟩ => show win0_12.index t (0 : Fin 2) * 4096 + 1 * r.val = r.val; omega
  | ⟨1, _⟩ => show win0_12.index t (1 : Fin 2) * 1024 + 1 * d.val = d.val; omega

theorem emb_out (t : Fin cfg0.N) (r d : Fin 1024) :
    ((cfg0.win 13).blk t).view.emb (ix3 (0 : Fin 1) r d) = (ix3 (pb t) (rowAt t r) d : S2x16384x1024.Idx) := by
  have e0 : win0_13.index t (0 : Fin 3) = (pb t).val := c0 t
  have e1 : win0_13.index t (1 : Fin 3) = (pq t).val := c1 t
  have e2 : win0_13.index t (2 : Fin 3) = 0 := rfl
  funext a; apply Fin.ext
  match a with
  | ⟨0, _⟩ => show win0_13.index t (0 : Fin 3) * 1 + 1 * 0 = (pb t).val; omega
  | ⟨1, _⟩ => show win0_13.index t (1 : Fin 3) * 1024 + 1 * r.val = 1024 * (pq t).val + r.val; omega
  | ⟨2, _⟩ => show win0_13.index t (2 : Fin 3) * 1024 + 1 * d.val = d.val; omega

theorem read_z (t : Fin cfg0.N) (f : S2x16384x1024.Idx → EReal) (y) :
    @Eq EReal (((cfg0.win 0).blk t).view.read (Elt Ideal) f y) (f (((cfg0.win 0).blk t).view.emb y)) := rfl
theorem read_wo (t : Fin cfg0.N) (f : S1024x1024.Idx → EReal) (y) :
    @Eq EReal (((cfg0.win 1).blk t).view.read (Elt Ideal) f y) (f (((cfg0.win 1).blk t).view.emb y)) := rfl
theorem read_bo (t : Fin cfg0.N) (f : S1x1024.Idx → EReal) (y) :
    @Eq EReal (((cfg0.win 2).blk t).view.read (Elt Ideal) f y) (f (((cfg0.win 2).blk t).view.emb y)) := rfl
theorem read_gt1 (t : Fin cfg0.N) (f : S2x1x1024.Idx → EReal) (y) :
    @Eq EReal (((cfg0.win 3).blk t).view.read (Elt Ideal) f y) (f (((cfg0.win 3).blk t).view.emb y)) := rfl
theorem read_g1 (t : Fin cfg0.N) (f : S1x1024.Idx → EReal) (y) :
    @Eq EReal (((cfg0.win 4).blk t).view.read (Elt Ideal) f y) (f (((cfg0.win 4).blk t).view.emb y)) := rfl
theorem read_x (t : Fin cfg0.N) (f : S2x16384x1024.Idx → EReal) (y) :
    @Eq EReal (((cfg0.win 5).blk t).view.read (Elt Ideal) f y) (f (((cfg0.win 5).blk t).view.emb y)) := rfl
theorem read_sh (t : Fin cfg0.N) (f : S2x1x1024.Idx → EReal) (y) :
    @Eq EReal (((cfg0.win 6).blk t).view.read (Elt Ideal) f y) (f (((cfg0.win 6).blk t).view.emb y)) := rfl
theorem read_sc (t : Fin cfg0.N) (f : S2x1x1024.Idx → EReal) (y) :
    @Eq EReal (((cfg0.win 7).blk t).view.read (Elt Ideal) f y) (f (((cfg0.win 7).blk t).view.emb y)) := rfl
theorem read_gt2 (t : Fin cfg0.N) (f : S2x1x1024.Idx → EReal) (y) :
    @Eq EReal (((cfg0.win 8).blk t).view.read (Elt Ideal) f y) (f (((cfg0.win 8).blk t).view.emb y)) := rfl
theorem read_gp (t : Fin cfg0.N) (f : S1x1024.Idx → EReal) (y) :
    @Eq EReal (((cfg0.win 9).blk t).view.read (Elt Ideal) f y) (f (((cfg0.win 9).blk t).view.emb y)) := rfl
theorem read_g2 (t : Fin cfg0.N) (f : S1x1024.Idx → EReal) (y) :
    @Eq EReal (((cfg0.win 10).blk t).view.read (Elt Ideal) f y) (f (((cfg0.win 10).blk t).view.emb y)) := rfl
theorem read_w1 (t : Fin cfg0.N) (f : S1024x4096.Idx → EReal) (y) :
    @Eq EReal (((cfg0.win 11).blk t).view.read (Elt Ideal) f y) (f (((cfg0.win 11).blk t).view.emb y)) := rfl
theorem read_w2 (t : Fin cfg0.N) (f : S4096x1024.Idx → EReal) (y) :
    @Eq EReal (((cfg0.win 12).blk t).view.read (Elt Ideal) f y) (f (((cfg0.win 12).blk t).view.emb y)) := rfl

section

variable (m : (ℓ : Loc nD τ sig) → Buf (Elt Ideal) ℓ) (c : Dev nD)

/-- Argument `i`'s contents. -/
abbrev b0 : FVec Ideal S2x16384x1024 .f32 := m ((c : Thread nD τ).loc main_arg0)
abbrev b1 : FVec Ideal S1024x1024 .f32 := m ((c : Thread nD τ).loc main_arg1)
abbrev b2 : FVec Ideal S1024 .f32 := m ((c : Thread nD τ).loc main_arg2)
abbrev b3 : FVec Ideal S2x1x1024 .f32 := m ((c : Thread nD τ).loc main_arg3)
abbrev b4 : FVec Ideal S1024 .f32 := m ((c : Thread nD τ).loc main_arg4)
abbrev b5 : FVec Ideal S2x16384x1024 .f32 := m ((c : Thread nD τ).loc main_arg5)
abbrev b6 : FVec Ideal S2x1x1024 .f32 := m ((c : Thread nD τ).loc main_arg6)
abbrev b7 : FVec Ideal S2x1x1024 .f32 := m ((c : Thread nD τ).loc main_arg7)
abbrev b8 : FVec Ideal S2x1x1024 .f32 := m ((c : Thread nD τ).loc main_arg8)
abbrev b9 : FVec Ideal S1024 .f32 := m ((c : Thread nD τ).loc main_arg9)
abbrev b10 : FVec Ideal S1024 .f32 := m ((c : Thread nD τ).loc main_arg10)
abbrev b11 : FVec Ideal S1024x4096 .f32 := m ((c : Thread nD τ).loc main_arg11)
abbrev b12 : FVec Ideal S4096x1024 .f32 := m ((c : Thread nD τ).loc main_arg12)

/-! ### The arrays the kernel finds -/

theorem V_z : V m c main_v0 = b0 m c := by
  unfold V hostOps0
  after_reads_simp
  rfl

theorem V_wo : V m c main_v1 = b1 m c := by
  unfold V hostOps0
  after_reads_simp
  rfl

theorem V_w1 : V m c main_v6 = b11 m c := by
  unfold V hostOps0
  after_reads_simp
  rfl

theorem V_w2 : V m c main_v7 = b12 m c := by
  unfold V hostOps0
  after_reads_simp
  rfl

theorem V_bo : V m c main_v2 = shapeCast (α := EReal) S1x1024 (b2 m c) shapeCasts_S1024_S1x1024 := by
  unfold V hostOps0
  after_reads_simp
  rfl

theorem V_g1 : V m c main_v3 = shapeCast (α := EReal) S1x1024 (b4 m c) shapeCasts_S1024_S1x1024 := by
  unfold V hostOps0
  after_reads_simp
  rfl

theorem V_gp : V m c main_v4 = shapeCast (α := EReal) S1x1024 (b9 m c) shapeCasts_S1024_S1x1024 := by
  unfold V hostOps0
  after_reads_simp
  rfl

theorem V_g2 : V m c main_v5 = shapeCast (α := EReal) S1x1024 (b10 m c) shapeCasts_S1024_S1x1024 := by
  unfold V hostOps0
  after_reads_simp
  rfl

theorem V_gt1 : V m c main_arg3 = b3 m c := V_main_arg3 m c
theorem V_x : V m c main_arg5 = b5 m c := V_main_arg5 m c
theorem V_sh : V m c main_arg6 = b6 m c := V_main_arg6 m c
theorem V_sc : V m c main_arg7 = b7 m c := V_main_arg7 m c
theorem V_gt2 : V m c main_arg8 = b8 m c := V_main_arg8 m c

/-! ### The operands at an element -/

/-- A vector as one row. -/
theorem row_one (x : S1024.Idx → EReal) (d : Fin 1024) : shapeCast (α := EReal) S1x1024 x shapeCasts_S1024_S1x1024 (ix2 (0 : Fin 1) d) = x (ix1 d) :=
  shapeCast_a_1a_apply (α := EReal) x shapeCasts_S1024_S1x1024 (0 : Fin 1) d

theorem blk_z (t : Fin cfg0.N) : iblk m c 0 t = ((cfg0.win 0).blk t).view.read (Elt Ideal) (V m c main_v0) := rfl
theorem at_z (t : Fin cfg0.N) (r d : Fin 1024) : @Eq EReal (iblk m c 0 t (ix3 (0 : Fin 1) r d)) (b0 m c (ix3 (pb t) (rowAt t r) d)) := by
  rw [blk_z, V_z]
  refine (read_z t _ _).trans ?_
  rw [emb_z]

theorem blk_wo (t : Fin cfg0.N) : iblk m c 1 t = ((cfg0.win 1).blk t).view.read (Elt Ideal) (V m c main_v1) := rfl
theorem at_wo (t : Fin cfg0.N) (r : Fin 1024) (d : Fin 1024) : @Eq EReal (iblk m c 1 t (ix2 r d)) (b1 m c (ix2 r d)) := by
  rw [blk_wo, V_wo]
  refine (read_wo t _ _).trans ?_
  rw [emb_wo]

theorem blk_bo (t : Fin cfg0.N) : iblk m c 2 t = ((cfg0.win 2).blk t).view.read (Elt Ideal) (V m c main_v2) := rfl
theorem at_bo (t : Fin cfg0.N) (d : Fin 1024) : @Eq EReal (iblk m c 2 t (ix2 (0 : Fin 1) d)) (b2 m c (ix1 d)) := by
  rw [blk_bo, V_bo]
  refine (read_bo t _ _).trans ?_
  rw [emb_bo]
  exact row_one _ d

theorem blk_gt1 (t : Fin cfg0.N) : iblk m c 3 t = ((cfg0.win 3).blk t).view.read (Elt Ideal) (V m c main_arg3) := rfl
theorem at_gt1 (t : Fin cfg0.N) (d : Fin 1024) : @Eq EReal (iblk m c 3 t (ix3 (0 : Fin 1) (0 : Fin 1) d)) (b3 m c (ix3 (pb t) (0 : Fin 1) d)) := by
  rw [blk_gt1, V_gt1]
  refine (read_gt1 t _ _).trans ?_
  rw [emb_gt1]

theorem blk_g1 (t : Fin cfg0.N) : iblk m c 4 t = ((cfg0.win 4).blk t).view.read (Elt Ideal) (V m c main_v3) := rfl
theorem at_g1 (t : Fin cfg0.N) (d : Fin 1024) : @Eq EReal (iblk m c 4 t (ix2 (0 : Fin 1) d)) (b4 m c (ix1 d)) := by
  rw [blk_g1, V_g1]
  refine (read_g1 t _ _).trans ?_
  rw [emb_g1]
  exact row_one _ d

theorem blk_x (t : Fin cfg0.N) : iblk m c 5 t = ((cfg0.win 5).blk t).view.read (Elt Ideal) (V m c main_arg5) := rfl
theorem at_x (t : Fin cfg0.N) (r d : Fin 1024) : @Eq EReal (iblk m c 5 t (ix3 (0 : Fin 1) r d)) (b5 m c (ix3 (pb t) (rowAt t r) d)) := by
  rw [blk_x, V_x]
  refine (read_x t _ _).trans ?_
  rw [emb_x]

theorem blk_sh (t : Fin cfg0.N) : iblk m c 6 t = ((cfg0.win 6).blk t).view.read (Elt Ideal) (V m c main_arg6) := rfl
theorem at_sh (t : Fin cfg0.N) (d : Fin 1024) : @Eq EReal (iblk m c 6 t (ix3 (0 : Fin 1) (0 : Fin 1) d)) (b6 m c (ix3 (pb t) (0 : Fin 1) d)) := by
  rw [blk_sh, V_sh]
  refine (read_sh t _ _).trans ?_
  rw [emb_sh]

theorem blk_sc (t : Fin cfg0.N) : iblk m c 7 t = ((cfg0.win 7).blk t).view.read (Elt Ideal) (V m c main_arg7) := rfl
theorem at_sc (t : Fin cfg0.N) (d : Fin 1024) : @Eq EReal (iblk m c 7 t (ix3 (0 : Fin 1) (0 : Fin 1) d)) (b7 m c (ix3 (pb t) (0 : Fin 1) d)) := by
  rw [blk_sc, V_sc]
  refine (read_sc t _ _).trans ?_
  rw [emb_sc]

theorem blk_gt2 (t : Fin cfg0.N) : iblk m c 8 t = ((cfg0.win 8).blk t).view.read (Elt Ideal) (V m c main_arg8) := rfl
theorem at_gt2 (t : Fin cfg0.N) (d : Fin 1024) : @Eq EReal (iblk m c 8 t (ix3 (0 : Fin 1) (0 : Fin 1) d)) (b8 m c (ix3 (pb t) (0 : Fin 1) d)) := by
  rw [blk_gt2, V_gt2]
  refine (read_gt2 t _ _).trans ?_
  rw [emb_gt2]

theorem blk_gp (t : Fin cfg0.N) : iblk m c 9 t = ((cfg0.win 9).blk t).view.read (Elt Ideal) (V m c main_v4) := rfl
theorem at_gp (t : Fin cfg0.N) (d : Fin 1024) : @Eq EReal (iblk m c 9 t (ix2 (0 : Fin 1) d)) (b9 m c (ix1 d)) := by
  rw [blk_gp, V_gp]
  refine (read_gp t _ _).trans ?_
  rw [emb_gp]
  exact row_one _ d

theorem blk_g2 (t : Fin cfg0.N) : iblk m c 10 t = ((cfg0.win 10).blk t).view.read (Elt Ideal) (V m c main_v5) := rfl
theorem at_g2 (t : Fin cfg0.N) (d : Fin 1024) : @Eq EReal (iblk m c 10 t (ix2 (0 : Fin 1) d)) (b10 m c (ix1 d)) := by
  rw [blk_g2, V_g2]
  refine (read_g2 t _ _).trans ?_
  rw [emb_g2]
  exact row_one _ d

theorem blk_w1 (t : Fin cfg0.N) : iblk m c 11 t = ((cfg0.win 11).blk t).view.read (Elt Ideal) (V m c main_v6) := rfl
theorem at_w1 (t : Fin cfg0.N) (r : Fin 1024) (d : Fin 4096) : @Eq EReal (iblk m c 11 t (ix2 r d)) (b11 m c (ix2 r d)) := by
  rw [blk_w1, V_w1]
  refine (read_w1 t _ _).trans ?_
  rw [emb_w1]

theorem blk_w2 (t : Fin cfg0.N) : iblk m c 12 t = ((cfg0.win 12).blk t).view.read (Elt Ideal) (V m c main_v7) := rfl
theorem at_w2 (t : Fin cfg0.N) (r : Fin 4096) (d : Fin 1024) : @Eq EReal (iblk m c 12 t (ix2 r d)) (b12 m c (ix2 r d)) := by
  rw [blk_w2, V_w2]
  refine (read_w2 t _ _).trans ?_
  rw [emb_w2]

end

end Cert.Proof.Mlp
-- ==== Proof.MlpRow.lean ====
/-
  One row of the output projection and the feed-forward block, as plain sums over the extended reals.
-/
module

public import Idealize.ShloMosaic.PureOps.Ideal.Laws

@[expose] public section

noncomputable section

namespace Cert.Proof.Mlp

open Idealize.ShloMosaic

/-- The number of lanes, the square's offset, and one. -/
def len : EReal := Ideal.ofBits .f32 0x44800000#32
def eps : EReal := Ideal.ofBits .f32 0x358637BD#32
def one : EReal := Ideal.ofBits .f32 0x3F800000#32

/-- A row over its root mean square, times a gain. -/
def rms (v g : Fin 1024 → EReal) (d : Fin 1024) : EReal :=
  v d * Ideal.rsqrt (Ideal.div (∑ k, v k * v k) len + eps) * g d

/-- The row's output projection. -/
def proj (z : Fin 1024 → EReal) (wo : Fin 1024 → Fin 1024 → EReal) (b : Fin 1024 → EReal) (d : Fin 1024) : EReal :=
  (∑ k, z k * wo k d) + b d

/-- A residual: the row plus a gate times a normed row. -/
def res (x gt y g : Fin 1024 → EReal) (d : Fin 1024) : EReal := x d + gt d * rms y g d

/-- The normed row, scaled and shifted. -/
def hid (x g sc sh : Fin 1024 → EReal) (d : Fin 1024) : EReal := rms x g d * (one + sc d) + sh d

/-- A hidden unit: the positive part of its product. -/
def act (h : Fin 1024 → EReal) (w1 : Fin 1024 → Fin 4096 → EReal) (f : Fin 4096) : EReal := max (∑ k, h k * w1 k f) 0

/-- The sum over the 4096 hidden units of their squares' products. -/
def ffn (h : Fin 1024 → EReal) (w1 : Fin 1024 → Fin 4096 → EReal) (w2 : Fin 4096 → Fin 1024 → EReal) (d : Fin 1024) : EReal :=
  ∑ f, act h w1 f * act h w1 f * w2 f d

/-- The row after the first residual. -/
def mid (z : Fin 1024 → EReal) (wo : Fin 1024 → Fin 1024 → EReal) (bo gt1 g1 x : Fin 1024 → EReal) : Fin 1024 → EReal :=
  res x gt1 (proj z wo bo) g1

/-- The row of the result. -/
def out (z : Fin 1024 → EReal) (wo : Fin 1024 → Fin 1024 → EReal) (bo gt1 g1 x sh sc gt2 gp g2 : Fin 1024 → EReal)
    (w1 : Fin 1024 → Fin 4096 → EReal) (w2 : Fin 4096 → Fin 1024 → EReal) : Fin 1024 → EReal :=
  res (mid z wo bo gt1 g1 x) gt2 (ffn (hid (mid z wo bo gt1 g1 x) gp sc sh) w1 w2) g2

/-- A sum over 4096 in four parts, left to right. -/
theorem sum_four (g : Fin 4096 → EReal) :
    ∑ f, g f = (((∑ f : Fin 1024, g ⟨f.val, by omega⟩) + ∑ f : Fin 1024, g ⟨1024 + f.val, by omega⟩)
      + ∑ f : Fin 1024, g ⟨2048 + f.val, by omega⟩) + ∑ f : Fin 1024, g ⟨3072 + f.val, by omega⟩ := by
  refine (Fin.sum_univ_add (a := 3072) (b := 1024) g).trans ?_
  refine congrArg₂ (· + ·) ?_ rfl
  refine (Fin.sum_univ_add (a := 2048) (b := 1024) fun f : Fin (2048 + 1024) => g (Fin.castAdd 1024 f)).trans ?_
  refine congrArg₂ (· + ·) ?_ rfl
  exact Fin.sum_univ_add (a := 1024) (b := 1024) fun f : Fin (1024 + 1024) => g (Fin.castAdd 1024 (Fin.castAdd 1024 f))

end Cert.Proof.Mlp
-- ==== Proof.MlpElem.lean ====
/-
  What the feed-forward kernel's body leaves, read at an element.
-/
module

public import proofs.«01_k».proof.Proof.Gen.MlpKernelIdeal.Frame
public import proofs.«01_k».proof.Proof.MlpRow
public import Idealize.ShloMosaic.Lib.Pipeline.Value
public import Idealize.ShloMosaic.Lib.Pipeline.ValueKit.Basic
public import Idealize.ShloMosaic.Lib.ValueIdx
public import Idealize.ShloMosaic.Lib.ValueLayout
public import Idealize.ShloMosaic.Lib.ValueLayoutCasts
public import Idealize.ShloMosaic.PureOps.Ideal.Laws

@[expose] public section

set_option maxRecDepth 8192

noncomputable section

namespace Cert.Proof.Mlp

open Cert.MlpKernelIdeal Cert.MlpKernelIdeal.Gen
open Idealize.ShloMosaic Idealize.ShloMosaic.ValueIdx

/-- A product of two square blocks, read at an element. -/
theorem dot_apply {φ ψ : FTy} (x : FVec Ideal S1024x1024 φ) (y : FVec Ideal S1024x1024 ψ) (r n : Fin 1024) :
    @Eq EReal (matmul dot_S1024x1024_S1024x1024_S1024x1024_1_0_0_1_n_n none x y (constant S1024x1024 .f32 0x00000000#32) (ix2 r n))
      (∑ d : Fin 1024, (x (ix2 r d) : EReal) * (y (ix2 d n) : EReal)) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r n) ((contrEquiv1 dot_S1024x1024_S1024x1024_S1024x1024_1_0_0_1_n_n 1024 rfl rfl).symm k) = ix2 r k :=
    funext fun a => Fin.ext (by
      match a with
      | ⟨0, _⟩ => rfl
      | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 r n) ((contrEquiv1 dot_S1024x1024_S1024x1024_S1024x1024_1_0_0_1_n_n 1024 rfl rfl).symm k) = ix2 k n :=
    funext fun a => Fin.ext (by
      match a with
      | ⟨0, _⟩ => exact (dot_S1024x1024_S1024x1024_S1024x1024_1_0_0_1_n_n.rhsIdx_val_of_single rfl _ _).trans hk
      | ⟨1, _⟩ => rfl)
  rw [el, er]

theorem cast_vec (x : FVec Ideal S1x1x1024 .f32) (d : Fin 1024) :
    @Eq EReal (shapeCast S1x1024 x shapeCasts_S1x1x1024_S1x1024 (ix2 (0 : Fin 1) d)) (x (ix3 (0 : Fin 1) (0 : Fin 1) d)) :=
  shapeCast_1ab_ab_apply (α := EReal) x _ _ _

/-- One column broadcast over many. -/
theorem col_apply (v : FVec Ideal S1024x1 .f32) (r d : Fin 1024) :
    @Eq EReal (broadcastTo S1024x1024 v broadcasts_S1024x1_S1024x1024 (ix2 r d)) (v (ix2 r (0 : Fin 1))) :=
  broadcastTo_apply (α := EReal) v _ _ _ fun a => by
    match a with
    | ⟨0, _⟩ => rfl
    | ⟨1, _⟩ => rfl

theorem row_apply (v : FVec Ideal S1x1024 .f32) (r d : Fin 1024) :
    @Eq EReal (broadcastTo S1024x1024 v broadcasts_S1x1024_S1024x1024 (ix2 r d)) (v (ix2 (0 : Fin 1) d)) :=
  broadcastTo_1b_ab_apply (α := EReal) v _ _ _

/-- A row's sum of squares. -/
theorem sq_apply (x : FVec Ideal S1024x1024 .f32) (r : Fin 1024) :
    @Eq EReal (shapeCast S1024x1 (multiReduction .add [1] S1024 (mulf x x) 0x00000000#32 reduces_S1024x1024_S1024 (.inl rfl) rfl) shapeCasts_S1024_S1024x1 (ix2 r (0 : Fin 1)))
      (∑ k : Fin 1024, (x (ix2 r k) : EReal) * (x (ix2 r k) : EReal)) := by
  refine (shapeCast_a_a1_apply (α := EReal) _ _ _ _).trans ?_
  refine (Ideal.multiReduction_add_single (φ := .f32) (mulf x x) 0x00000000#32 reduces_S1024x1024_S1024 (.inl rfl) rfl (ix1 r)).trans ?_
  refine Finset.sum_congr rfl fun k _ => ?_
  have e : reduces_S1024x1024_S1024.lift (ix1 r) k = (ix2 r k : S1024x1024.Idx) := funext fun a => Fin.ext (by
    match a with | ⟨0, _⟩ => rfl | ⟨1, _⟩ => rfl)
  rw [e]; rfl

/-- The reciprocal root of a row's mean square, broadcast. -/
theorem inv_apply (s : FVec Ideal S1024x1 .f32) (r d : Fin 1024) :
    @Eq EReal (broadcastTo S1024x1024 (rsqrt (addf (divf s (broadcast S1024x1 (Scalar.ofBits (F := Ideal) .f32 0x44800000#32)))
        (broadcast S1024x1 (Scalar.ofBits (F := Ideal) .f32 0x358637BD#32)))) broadcasts_S1024x1_S1024x1024 (ix2 r d))
      (Ideal.rsqrt (Ideal.div (s (ix2 r (0 : Fin 1))) len + eps)) :=
  (col_apply _ r d).trans rfl

section

variable (v0 : Vec Ideal S1x1024x1024 .bf16) (v2 : Vec Ideal S1024x1024 .bf16) (v5 : Vec Ideal S1x1024 .f32)
  (v9 : Vec Ideal S1x1024x1024 .f32) (v11 : Vec Ideal S1x1x1024 .f32) (v13 : Vec Ideal S1x1024 .f32)

/-- The block after the first residual. -/
theorem pay2_apply (r d : Fin 1024) :
    @Eq EReal (k0_pay2 (F := Ideal) v0 v2 v5 v9 v11 v13 (ix2 r d))
      (mid (fun k => v0 (ix3 (0 : Fin 1) r k)) (fun k d => v2 (ix2 k d)) (fun k => v5 (ix2 (0 : Fin 1) k)) (fun k => v11 (ix3 (0 : Fin 1) (0 : Fin 1) k))
        (fun k => v13 (ix2 (0 : Fin 1) k)) (fun k => v9 (ix3 (0 : Fin 1) r k)) d) := by
  let y : FVec Ideal S1024x1024 .f32 := addf (matmul (φ₁ := .bf16) (φ₂ := .bf16) dot_S1024x1024_S1024x1024_S1024x1024_1_0_0_1_n_n none
    (shapeCast (α := EReal) S1024x1024 v0 shapeCasts_S1x1024x1024_S1024x1024) (shapeCast (α := EReal) S1024x1024 v2 shapeCasts_S1024x1024_S1024x1024) (constant S1024x1024 .f32 0x00000000#32))
    (broadcastTo S1024x1024 (shapeCast S1x1024 v5 shapeCasts_S1x1024_S1x1024) broadcasts_S1x1024_S1024x1024)
  have hy : ∀ k : Fin 1024, @Eq EReal (y (ix2 r k))
      (proj (fun k => v0 (ix3 (0 : Fin 1) r k)) (fun k d => v2 (ix2 k d)) (fun k => v5 (ix2 (0 : Fin 1) k)) k) := by
    intro k
    refine congrArg₂ (fun a b : EReal => a + b) ((dot_apply _ _ r k).trans (Finset.sum_congr rfl fun j _ => ?_)) ((row_apply _ r k).trans ?_)
    · exact congrArg₂ (fun a b : EReal => a * b) (shapeCast_1ab_ab_apply (α := EReal) v0 _ r j) (by rw [shapeCast_self])
    · rw [shapeCast_self]
  have e : @Eq EReal (k0_pay2 (F := Ideal) v0 v2 v5 v9 v11 v13 (ix2 r d))
      (shapeCast (α := EReal) S1024x1024 v9 shapeCasts_S1x1024x1024_S1024x1024 (ix2 r d)
        + (broadcastTo S1024x1024 (shapeCast (α := EReal) S1x1024 v11 shapeCasts_S1x1x1024_S1x1024) broadcasts_S1x1024_S1024x1024 (ix2 r d) : EReal)
          * ((y (ix2 r d) : EReal) * (broadcastTo S1024x1024 (rsqrt (addf (divf (shapeCast S1024x1 (multiReduction .add [1] S1024 (mulf y y) 0x00000000#32 reduces_S1024x1024_S1024 (.inl rfl) rfl) shapeCasts_S1024_S1024x1) (broadcast S1024x1 (Scalar.ofBits (F := Ideal) .f32 0x44800000#32)))
            (broadcast S1024x1 (Scalar.ofBits (F := Ideal) .f32 0x358637BD#32)))) broadcasts_S1024x1_S1024x1024 (ix2 r d) : EReal)
            * (broadcastTo S1024x1024 (shapeCast (α := EReal) S1x1024 v13 shapeCasts_S1x1024_S1x1024) broadcasts_S1x1024_S1024x1024 (ix2 r d) : EReal))) := rfl
  refine e.trans ?_
  refine congrArg₂ (fun a b : EReal => a + b) (shapeCast_1ab_ab_apply (α := EReal) v9 _ r d) (congrArg₂ (fun a b : EReal => a * b) ?_ (congrArg₂ (fun a b : EReal => a * b) (congrArg₂ (fun a b : EReal => a * b) (hy d) ?_) ?_))
  · exact (row_apply _ r d).trans (cast_vec v11 d)
  · refine (inv_apply _ r d).trans (congrArg (fun s : EReal => Ideal.rsqrt (Ideal.div s len + eps)) ((sq_apply y r).trans ?_))
    exact Finset.sum_congr rfl fun k _ => congrArg₂ (fun a b : EReal => a * b) (hy k) (hy k)
  · exact (row_apply _ r d).trans (by rw [shapeCast_self])

theorem pay4_apply (r : Fin 1024) :
    @Eq EReal (k0_pay4 (F := Ideal) v0 v2 v5 v9 v11 v13 (ix2 r (0 : Fin 1)))
      (∑ k : Fin 1024, (k0_pay2 (F := Ideal) v0 v2 v5 v9 v11 v13 (ix2 r k) : EReal) * (k0_pay2 (F := Ideal) v0 v2 v5 v9 v11 v13 (ix2 r k) : EReal)) :=
  sq_apply _ r

end

/-- The normed block, scaled and shifted. -/
theorem pay5_apply (x : FVec Ideal S1024x1024 .f32) (g : FVec Ideal S1x1024 .f32) (s : FVec Ideal S1024x1 .f32)
    (sc sh : Vec Ideal S1x1x1024 .f32) (r d : Fin 1024) (hs : @Eq EReal (s (ix2 r (0 : Fin 1))) (∑ k : Fin 1024, (x (ix2 r k) : EReal) * (x (ix2 r k) : EReal))) :
    @Eq EReal (k0_pay5 (F := Ideal) x g s (Scalar.ofBits .f32 0x44800000#32) sc sh (ix2 r d))
      (hid (fun k => x (ix2 r k)) (fun k => g (ix2 (0 : Fin 1) k)) (fun k => sc (ix3 (0 : Fin 1) (0 : Fin 1) k)) (fun k => sh (ix3 (0 : Fin 1) (0 : Fin 1) k)) d) := by
  have e : @Eq EReal (k0_pay5 (F := Ideal) x g s (Scalar.ofBits .f32 0x44800000#32) sc sh (ix2 r d))
      ((x (ix2 r d) : EReal) * (broadcastTo S1024x1024 (rsqrt (addf (divf s (broadcast S1024x1 (Scalar.ofBits (F := Ideal) .f32 0x44800000#32)))
            (broadcast S1024x1 (Scalar.ofBits (F := Ideal) .f32 0x358637BD#32)))) broadcasts_S1024x1_S1024x1024 (ix2 r d) : EReal)
          * (broadcastTo (α := EReal) S1024x1024 g broadcasts_S1x1024_S1024x1024 (ix2 r d) : EReal)
          * (broadcastTo (α := EReal) S1024x1024 (addf (F := Ideal) (φ := .f32) (broadcast S1x1024 (Scalar.ofBits (F := Ideal) .f32 0x3F800000#32)) (shapeCast S1x1024 sc shapeCasts_S1x1x1024_S1x1024)) broadcasts_S1x1024_S1024x1024 (ix2 r d) : EReal)
        + (broadcastTo (α := EReal) S1024x1024 (shapeCast (α := EReal) S1x1024 sh shapeCasts_S1x1x1024_S1x1024) broadcasts_S1x1024_S1024x1024 (ix2 r d) : EReal)) := rfl
  refine e.trans ?_
  refine congrArg₂ (fun a b : EReal => a + b) (congrArg₂ (fun a b : EReal => a * b) (congrArg₂ (fun a b : EReal => a * b) (congrArg (fun b : EReal => (x (ix2 r d) : EReal) * b) ?_) (row_apply g r d)) ?_) ?_
  · exact (inv_apply s r d).trans (congrArg (fun s : EReal => Ideal.rsqrt (Ideal.div s len + eps)) hs)
  · exact (row_apply _ r d).trans (congrArg (fun b : EReal => one + b) (cast_vec sc d))
  · exact (row_apply _ r d).trans (cast_vec sh d)

/-- Hidden units of one chunk, squared. -/
theorem unit_apply {φ ψ : FTy} (h : FVec Ideal S1024x1024 φ) (w : FVec Ideal S1024x1024 ψ) (r f : Fin 1024) (hr : Fin 1024 → EReal) (hh : ∀ k, @Eq EReal (h (ix2 r k)) (hr k)) :
    @Eq EReal (maximumf (F := Ideal) (matmul dot_S1024x1024_S1024x1024_S1024x1024_1_0_0_1_n_n none h (shapeCast S1024x1024 w shapeCasts_S1024x1024_S1024x1024) (constant S1024x1024 .f32 0x00000000#32))
        (broadcast S1024x1024 (Scalar.ofBits (F := Ideal) .f32 0x00000000#32)) (ix2 r f))
      (max (∑ k, hr k * (w (ix2 k f) : EReal)) 0) := by
  refine congrArg₂ (fun a b : EReal => max a b) ((dot_apply _ _ r f).trans (Finset.sum_congr rfl fun k _ => ?_)) Ideal.ofBits_zero_f32
  exact congrArg₂ (fun a b : EReal => a * b) (hh k) (by rw [shapeCast_self])

/-- One chunk's product with the second weights. -/
theorem part_apply {φ ψ : FTy} (u : FVec Ideal S1024x1024 φ) (w : FVec Ideal S1024x1024 ψ) (r d : Fin 1024) (ur wr : Fin 1024 → EReal)
    (hu : ∀ f, @Eq EReal (u (ix2 r f)) (ur f * ur f)) (hw : ∀ f, @Eq EReal (w (ix2 f d)) (wr f)) :
    @Eq EReal (matmul dot_S1024x1024_S1024x1024_S1024x1024_1_0_0_1_n_n none u (shapeCast S1024x1024 w shapeCasts_S1024x1024_S1024x1024) (constant S1024x1024 .f32 0x00000000#32) (ix2 r d))
      (∑ f, ur f * ur f * wr f) := by
  refine (dot_apply _ _ r d).trans (Finset.sum_congr rfl fun f _ => ?_)
  exact congrArg₂ (fun a b : EReal => a * b) (hu f) (by rw [shapeCast_self]; exact hw f)

/-- The last residual, the block re-laid. -/
theorem pay1_apply (x m : FVec Ideal S1024x1024 .f32) (gt g : FVec Ideal S1x1024 .f32) (n : FVec Ideal S1024x1024 .f32) (r d : Fin 1024) :
    @Eq EReal (k0_pay1 (F := Ideal) x m gt g n (ix3 (0 : Fin 1) r d))
      ((x (ix2 r d) : EReal) + (gt (ix2 (0 : Fin 1) d) : EReal) * ((m (ix2 r d) : EReal) * (n (ix2 r d) : EReal) * (g (ix2 (0 : Fin 1) d) : EReal))) := by
  have e : @Eq EReal (k0_pay1 (F := Ideal) x m gt g n (ix3 (0 : Fin 1) r d))
      (shapeCast (α := EReal) S1x1024x1024 (addf (F := Ideal) (φ := .f32) x (mulf (broadcastTo S1024x1024 gt broadcasts_S1x1024_S1024x1024)
        (mulf (mulf m n) (broadcastTo S1024x1024 g broadcasts_S1x1024_S1024x1024)))) shapeCasts_S1024x1024_S1x1024x1024 (ix3 (0 : Fin 1) r d)) := rfl
  refine (e.trans (shapeCast_ab_1ab_apply (α := EReal) _ _ (0 : Fin 1) r d)).trans ?_
  refine congrArg (fun b : EReal => (x (ix2 r d) : EReal) + b) (congrArg₂ (fun a b : EReal => a * b) (row_apply gt r d) ?_)
  exact congrArg (fun b : EReal => (m (ix2 r d) : EReal) * (n (ix2 r d) : EReal) * b) (row_apply g r d)

/-- One chunk of the hidden units: their squares' products with the chunk's second weights. -/
def chunk (h a b : FVec Ideal S1024x1024 .bf16) : FVec Ideal S1024x1024 .f32 :=
  matmul (φ₁ := .bf16) (φ₂ := .bf16) dot_S1024x1024_S1024x1024_S1024x1024_1_0_0_1_n_n none
    (truncf .bf16 (mulf
      (maximumf (F := Ideal) (matmul dot_S1024x1024_S1024x1024_S1024x1024_1_0_0_1_n_n none h (shapeCast S1024x1024 a shapeCasts_S1024x1024_S1024x1024) (constant S1024x1024 .f32 0x00000000#32))
        (broadcast S1024x1024 (Scalar.ofBits (F := Ideal) .f32 0x00000000#32)))
      (maximumf (F := Ideal) (matmul dot_S1024x1024_S1024x1024_S1024x1024_1_0_0_1_n_n none h (shapeCast S1024x1024 a shapeCasts_S1024x1024_S1024x1024) (constant S1024x1024 .f32 0x00000000#32))
        (broadcast S1024x1024 (Scalar.ofBits (F := Ideal) .f32 0x00000000#32)))) bitsLt_bf16_f32)
    (shapeCast S1024x1024 b shapeCasts_S1024x1024_S1024x1024) (constant S1024x1024 .f32 0x00000000#32)

/-- The chunk that starts at hidden unit `o`. -/
theorem chunk_apply (h a b : FVec Ideal S1024x1024 .bf16) (r d : Fin 1024) (hr : Fin 1024 → EReal) (w1 : Fin 1024 → Fin 4096 → EReal) (w2 : Fin 4096 → Fin 1024 → EReal)
    (o : ℕ) (ho : o + 1024 ≤ 4096) (hh : ∀ k, @Eq EReal (h (ix2 r k)) (hr k))
    (ha : ∀ k f : Fin 1024, @Eq EReal (a (ix2 k f)) (w1 k ⟨o + f.val, by omega⟩)) (hb : ∀ f : Fin 1024, @Eq EReal (b (ix2 f d)) (w2 ⟨o + f.val, by omega⟩ d)) :
    @Eq EReal (chunk h a b (ix2 r d)) (∑ f : Fin 1024, act hr w1 ⟨o + f.val, by omega⟩ * act hr w1 ⟨o + f.val, by omega⟩ * w2 ⟨o + f.val, by omega⟩ d) := by
  have hu : ∀ f : Fin 1024, @Eq EReal (maximumf (F := Ideal) (matmul dot_S1024x1024_S1024x1024_S1024x1024_1_0_0_1_n_n none h (shapeCast S1024x1024 a shapeCasts_S1024x1024_S1024x1024) (constant S1024x1024 .f32 0x00000000#32))
        (broadcast S1024x1024 (Scalar.ofBits (F := Ideal) .f32 0x00000000#32)) (ix2 r f)) (act hr w1 ⟨o + f.val, by omega⟩) := fun f =>
    (unit_apply h a r f hr hh).trans (congrArg (fun s : EReal => max s 0) (Finset.sum_congr rfl fun k _ => congrArg (fun s : EReal => hr k * s) (ha k f)))
  exact part_apply (φ := .bf16) (ψ := .bf16) _ b r d (fun f => act hr w1 ⟨o + f.val, by omega⟩) (fun f => w2 ⟨o + f.val, by omega⟩ d)
    (fun f => congrArg₂ (fun a b : EReal => a * b) (hu f) (hu f)) hb

section

variable (h a0 b0 a1 b1 a2 b2 a3 b3 : FVec Ideal S1024x1024 .bf16)

/-- The four chunks, added left to right. -/
def four : FVec Ideal S1024x1024 .f32 := addf (addf (addf (chunk h a0 b0) (chunk h a1 b1)) (chunk h a2 b2)) (chunk h a3 b3)

theorem four_apply (r d : Fin 1024) (hr : Fin 1024 → EReal) (w1 : Fin 1024 → Fin 4096 → EReal) (w2 : Fin 4096 → Fin 1024 → EReal)
    (hh : ∀ k, @Eq EReal (h (ix2 r k)) (hr k))
    (ha0 : ∀ k f : Fin 1024, @Eq EReal (a0 (ix2 k f)) (w1 k ⟨0 + f.val, by omega⟩)) (hb0 : ∀ f : Fin 1024, @Eq EReal (b0 (ix2 f d)) (w2 ⟨0 + f.val, by omega⟩ d))
    (ha1 : ∀ k f : Fin 1024, @Eq EReal (a1 (ix2 k f)) (w1 k ⟨1024 + f.val, by omega⟩)) (hb1 : ∀ f : Fin 1024, @Eq EReal (b1 (ix2 f d)) (w2 ⟨1024 + f.val, by omega⟩ d))
    (ha2 : ∀ k f : Fin 1024, @Eq EReal (a2 (ix2 k f)) (w1 k ⟨2048 + f.val, by omega⟩)) (hb2 : ∀ f : Fin 1024, @Eq EReal (b2 (ix2 f d)) (w2 ⟨2048 + f.val, by omega⟩ d))
    (ha3 : ∀ k f : Fin 1024, @Eq EReal (a3 (ix2 k f)) (w1 k ⟨3072 + f.val, by omega⟩)) (hb3 : ∀ f : Fin 1024, @Eq EReal (b3 (ix2 f d)) (w2 ⟨3072 + f.val, by omega⟩ d)) :
    @Eq EReal (four h a0 b0 a1 b1 a2 b2 a3 b3 (ix2 r d)) (ffn hr w1 w2 d) := by
  refine Eq.trans ?_ (sum_four fun f => act hr w1 f * act hr w1 f * w2 f d).symm
  refine congrArg₂ (fun a b : EReal => a + b) (congrArg₂ (fun a b : EReal => a + b) (congrArg₂ (fun a b : EReal => a + b) ?_ ?_) ?_) ?_
  · refine (chunk_apply h a0 b0 r d hr w1 w2 0 (by omega) hh ha0 hb0).trans (Finset.sum_congr rfl fun f _ => ?_)
    have e : (⟨0 + f.val, by omega⟩ : Fin 4096) = ⟨f.val, by omega⟩ := Fin.ext (Nat.zero_add _)
    rw [e]
  · exact chunk_apply h a1 b1 r d hr w1 w2 1024 (by omega) hh ha1 hb1
  · exact chunk_apply h a2 b2 r d hr w1 w2 2048 (by omega) hh ha2 hb2
  · exact chunk_apply h a3 b3 r d hr w1 w2 3072 (by omega) hh ha3 hb3

end

section

variable (x : FVec Ideal S1024x1024 .f32) (g : FVec Ideal S1x1024 .f32) (s : FVec Ideal S1024x1 .f32) (l : EReal) (sc sh : Vec Ideal S1x1x1024 .f32)
  (a0 b0 a1 b1 a2 b2 a3 b3 : Vec Ideal S1024x1024 .bf16)

theorem pay6_eq : k0_pay6 (F := Ideal) x g s l sc sh a0 b0 = chunk (k0_pay5 (F := Ideal) x g s l sc sh) a0 b0 := rfl

theorem pay9_eq : k0_pay9 (F := Ideal) (k0_pay5 (F := Ideal) x g s l sc sh) (k0_pay6 (F := Ideal) x g s l sc sh a0 b0) (k0_pay7 (F := Ideal) x g s l sc sh a1) (k0_pay8 (F := Ideal) b1) a2 b2 a3 b3
    = four (k0_pay5 (F := Ideal) x g s l sc sh) a0 b0 a1 b1 a2 b2 a3 b3 := rfl

end

theorem pay12_apply (h : FVec Ideal S1024x1024 .bf16) (p : FVec Ideal S1024x1024 .f32) (u w a2 b2 a3 b3 : FVec Ideal S1024x1024 .bf16) (r d : Fin 1024) :
    @Eq EReal (k0_pay12 (F := Ideal) h p u w a2 b2 a3 b3 (ix2 r d))
      (Ideal.rsqrt (Ideal.div (∑ k : Fin 1024, (k0_pay9 (F := Ideal) h p u w a2 b2 a3 b3 (ix2 r k) : EReal) * (k0_pay9 (F := Ideal) h p u w a2 b2 a3 b3 (ix2 r k) : EReal)) len + eps)) :=
  (inv_apply _ r d).trans (congrArg (fun s : EReal => Ideal.rsqrt (Ideal.div s len + eps)) (sq_apply _ r))

/-- A load through a unit-stride rectangle, read at an element. -/
theorem ld_at {S : Shape} {e : EltTy} {Val : EltTy → Type} (X : S.Idx → Val e) (off size : Fin S.rank → ℕ) (inb : ∀ a, off a + size a ≤ S.size a)
    (x : (⟨S.rank, size⟩ : Shape).Idx) (i : S.Idx) (h : ∀ a, (i a).val = off a + (x a).val) : View.ld X (Rect.unit off size inb) x = X i :=
  congrArg X (funext fun a => Fin.ext ((congrArg (off a + ·) (Nat.one_mul (x a).val)).trans (h a).symm))

/-- A load of the whole buffer. -/
theorem ld_all {S : Shape} {e : EltTy} {Val : EltTy → Type} (X : S.Idx → Val e) (off : Fin S.rank → ℕ) (inb : ∀ a, off a + S.size a ≤ S.size a)
    (h : ∀ a, off a = 0) : View.ld X (Rect.unit off S.size inb) = X :=
  funext fun x => ld_at X off S.size inb x x fun a => by rw [h a, Nat.zero_add]

section

variable (x0 : Vec Ideal S1x1024x1024 .bf16) (x1 : Vec Ideal S1024x1024 .bf16) (x2 : Vec Ideal S1x1024 .f32) (x3 : Vec Ideal S1x1x1024 .f32)
  (x4 : Vec Ideal S1x1024 .f32) (x5 : Vec Ideal S1x1024x1024 .f32) (x6 x7 x8 : Vec Ideal S1x1x1024 .f32) (x9 x10 : Vec Ideal S1x1024 .f32)
  (x11 : Vec Ideal S1024x4096 .bf16) (x12 : Vec Ideal S4096x1024 .bf16)

theorem ld_3 (x : Vec Ideal S1x1024x1024 .f32) : View.ld x r0_0 = x := ld_all x _ _ fun a => by match a with | ⟨0, _⟩ => rfl | ⟨1, _⟩ => rfl | ⟨2, _⟩ => rfl
theorem ld_3' (x : Vec Ideal S1x1024x1024 .bf16) : View.ld x r0_0 = x := ld_all x _ _ fun a => by match a with | ⟨0, _⟩ => rfl | ⟨1, _⟩ => rfl | ⟨2, _⟩ => rfl
theorem ld_2 (x : Vec Ideal S1024x1024 .bf16) : View.ld x r0_1 = x := ld_all x _ _ fun a => by match a with | ⟨0, _⟩ => rfl | ⟨1, _⟩ => rfl
theorem ld_r (x : Vec Ideal S1x1024 .f32) : View.ld x r0_2 = x := ld_all x _ _ fun a => by match a with | ⟨0, _⟩ => rfl | ⟨1, _⟩ => rfl
theorem ld_v (x : Vec Ideal S1x1x1024 .f32) : View.ld x r0_3 = x := ld_all x _ _ fun a => by match a with | ⟨0, _⟩ => rfl | ⟨1, _⟩ => rfl | ⟨2, _⟩ => rfl

/-- The block of the first residual. -/
def midB : FVec Ideal S1024x1024 .f32 := k0_pay2 (F := Ideal) x0 x1 x2 x5 x3 x4
/-- The block fed to the hidden units. -/
def hidB : FVec Ideal S1024x1024 .bf16 :=
  k0_pay5 (F := Ideal) (midB x0 x1 x2 x3 x4 x5) (k0_pay3 (F := Ideal) x9) (k0_pay4 (F := Ideal) x0 x1 x2 x5 x3 x4) (Scalar.ofBits (F := Ideal) .f32 0x44800000#32) x7 x6
/-- The block of the feed-forward sums. -/
def ffnB : FVec Ideal S1024x1024 .f32 :=
  four (hidB x0 x1 x2 x3 x4 x5 x6 x7 x9) (View.ld x11 r0_4) (View.ld x12 r0_5) (View.ld x11 r0_6) (View.ld x12 r0_7) (View.ld x11 r0_8) (View.ld x12 r0_9)
    (View.ld x11 r0_10) (View.ld x12 r0_11)

/-- What the body leaves at an element of its block. -/
theorem out_apply (r d : Fin 1024) :
    @Eq EReal (out0_13 (F := Ideal) x0 x1 x2 x3 x4 x5 x6 x7 x8 x9 x10 x11 x12 (ix3 (0 : Fin 1) r d))
      (out (fun k => x0 (ix3 (0 : Fin 1) r k)) (fun k d => x1 (ix2 k d)) (fun k => x2 (ix2 (0 : Fin 1) k)) (fun k => x3 (ix3 (0 : Fin 1) (0 : Fin 1) k))
        (fun k => x4 (ix2 (0 : Fin 1) k)) (fun k => x5 (ix3 (0 : Fin 1) r k)) (fun k => x6 (ix3 (0 : Fin 1) (0 : Fin 1) k)) (fun k => x7 (ix3 (0 : Fin 1) (0 : Fin 1) k))
        (fun k => x8 (ix3 (0 : Fin 1) (0 : Fin 1) k)) (fun k => x9 (ix2 (0 : Fin 1) k)) (fun k => x10 (ix2 (0 : Fin 1) k)) (fun k f => x11 (ix2 k f)) (fun f d => x12 (ix2 f d)) d) := by
  have hm : ∀ k, @Eq EReal (midB x0 x1 x2 x3 x4 x5 (ix2 r k)) _ := fun k => pay2_apply x0 x1 x2 x5 x3 x4 r k
  have hh : ∀ k, @Eq EReal (hidB x0 x1 x2 x3 x4 x5 x6 x7 x9 (ix2 r k)) _ := fun k =>
    pay5_apply (midB x0 x1 x2 x3 x4 x5) (k0_pay3 (F := Ideal) x9) (k0_pay4 (F := Ideal) x0 x1 x2 x5 x3 x4) x7 x6 r k (pay4_apply x0 x1 x2 x5 x3 x4 r)
  have hg : ∀ k, @Eq EReal (k0_pay3 (F := Ideal) x9 (ix2 (0 : Fin 1) k)) (x9 (ix2 (0 : Fin 1) k)) := fun k => congrFun (shapeCast_self (α := EReal) x9 _) _
  have hf : ∀ k, @Eq EReal (ffnB x0 x1 x2 x3 x4 x5 x6 x7 x9 x11 x12 (ix2 r k)) _ := fun k =>
    four_apply (hidB x0 x1 x2 x3 x4 x5 x6 x7 x9) (View.ld x11 r0_4) (View.ld x12 r0_5) (View.ld x11 r0_6) (View.ld x12 r0_7) (View.ld x11 r0_8) (View.ld x12 r0_9)
      (View.ld x11 r0_10) (View.ld x12 r0_11) r k _ (fun k f => x11 (ix2 k f)) (fun f d => x12 (ix2 f d)) hh
      (fun k f => ld_at x11 _ _ _ _ _ fun a => by match a with | ⟨0, _⟩ => exact (Nat.zero_add _).symm | ⟨1, _⟩ => rfl)
      (fun f => ld_at x12 _ _ _ _ _ fun a => by match a with | ⟨0, _⟩ => rfl | ⟨1, _⟩ => exact (Nat.zero_add _).symm)
      (fun k f => ld_at x11 _ _ _ _ _ fun a => by match a with | ⟨0, _⟩ => exact (Nat.zero_add _).symm | ⟨1, _⟩ => rfl)
      (fun f => ld_at x12 _ _ _ _ _ fun a => by match a with | ⟨0, _⟩ => rfl | ⟨1, _⟩ => exact (Nat.zero_add _).symm)
      (fun k f => ld_at x11 _ _ _ _ _ fun a => by match a with | ⟨0, _⟩ => exact (Nat.zero_add _).symm | ⟨1, _⟩ => rfl)
      (fun f => ld_at x12 _ _ _ _ _ fun a => by match a with | ⟨0, _⟩ => rfl | ⟨1, _⟩ => exact (Nat.zero_add _).symm)
      (fun k f => ld_at x11 _ _ _ _ _ fun a => by match a with | ⟨0, _⟩ => exact (Nat.zero_add _).symm | ⟨1, _⟩ => rfl)
      (fun f => ld_at x12 _ _ _ _ _ fun a => by match a with | ⟨0, _⟩ => rfl | ⟨1, _⟩ => exact (Nat.zero_add _).symm)
  have hfr : ∀ k, @Eq EReal (hid (fun k => midB x0 x1 x2 x3 x4 x5 (ix2 r k)) (fun k => k0_pay3 (F := Ideal) x9 (ix2 (0 : Fin 1) k)) (fun k => x7 (ix3 (0 : Fin 1) (0 : Fin 1) k)) (fun k => x6 (ix3 (0 : Fin 1) (0 : Fin 1) k)) k)
      (hid (mid (fun k => x0 (ix3 (0 : Fin 1) r k)) (fun k d => x1 (ix2 k d)) (fun k => x2 (ix2 (0 : Fin 1) k)) (fun k => x3 (ix3 (0 : Fin 1) (0 : Fin 1) k))
        (fun k => x4 (ix2 (0 : Fin 1) k)) (fun k => x5 (ix3 (0 : Fin 1) r k))) (fun k => x9 (ix2 (0 : Fin 1) k)) (fun k => x7 (ix3 (0 : Fin 1) (0 : Fin 1) k)) (fun k => x6 (ix3 (0 : Fin 1) (0 : Fin 1) k)) k) := fun k =>
    congrArg₂ (fun p q : Fin 1024 → EReal => hid p q (fun k => x7 (ix3 (0 : Fin 1) (0 : Fin 1) k)) (fun k => x6 (ix3 (0 : Fin 1) (0 : Fin 1) k)) k) (funext hm) (funext hg)
  have hF : ∀ k, @Eq EReal (ffnB x0 x1 x2 x3 x4 x5 x6 x7 x9 x11 x12 (ix2 r k)) _ := fun k =>
    (hf k).trans (congrArg (fun p : Fin 1024 → EReal => ffn p (fun k f => x11 (ix2 k f)) (fun f d => x12 (ix2 f d)) k) (funext hfr))
  have e : out0_13 (F := Ideal) x0 x1 x2 x3 x4 x5 x6 x7 x8 x9 x10 x11 x12
      = k0_pay1 (F := Ideal) (midB x0 x1 x2 x3 x4 x5) (ffnB x0 x1 x2 x3 x4 x5 x6 x7 x9 x11 x12) (k0_pay10 (F := Ideal) x8) (k0_pay11 (F := Ideal) x10)
        (k0_pay12 (F := Ideal) (hidB x0 x1 x2 x3 x4 x5 x6 x7 x9) (k0_pay6 (F := Ideal) (midB x0 x1 x2 x3 x4 x5) (k0_pay3 (F := Ideal) x9) (k0_pay4 (F := Ideal) x0 x1 x2 x5 x3 x4) (Scalar.ofBits (F := Ideal) .f32 0x44800000#32) x7 x6 (View.ld x11 r0_4) (View.ld x12 r0_5))
          (k0_pay7 (F := Ideal) (midB x0 x1 x2 x3 x4 x5) (k0_pay3 (F := Ideal) x9) (k0_pay4 (F := Ideal) x0 x1 x2 x5 x3 x4) (Scalar.ofBits (F := Ideal) .f32 0x44800000#32) x7 x6 (View.ld x11 r0_6))
          (k0_pay8 (F := Ideal) (View.ld x12 r0_7)) (View.ld x11 r0_8) (View.ld x12 r0_9) (View.ld x11 r0_10) (View.ld x12 r0_11)) := by
    unfold out0_13
    rw [View.canon_cons_unit_lit _ _ _ fun a => by match a with | ⟨0, _⟩ => rfl | ⟨1, _⟩ => rfl | ⟨2, _⟩ => rfl]
    unfold k0_pay19 k0_pay18 k0_pay17 k0_pay16 k0_pay15 k0_pay14 k0_pay13
    rw [ld_3', ld_2, ld_r, ld_3, ld_v, ld_r, ld_v, ld_v, ld_v, ld_r, ld_r]
    rw [pay9_eq]
    rfl
  refine (congrFun e _).trans ((pay1_apply _ _ _ _ _ r d).trans ?_)
  refine congrArg₂ (fun a b : EReal => a + b) (hm d) (congrArg₂ (fun a b : EReal => a * b) ?_ (congrArg₂ (fun a b : EReal => a * b) (congrArg₂ (fun a b : EReal => a * b) (hF d) ?_) ?_))
  · exact cast_vec x8 d
  · refine (pay12_apply _ _ _ _ _ _ _ _ r d).trans (congrArg (fun s : EReal => Ideal.rsqrt (Ideal.div s len + eps)) (Finset.sum_congr rfl fun k _ => ?_))
    exact congrArg₂ (fun a b : EReal => a * b) (hF k) (hF k)
  · exact congrFun (shapeCast_self (α := EReal) x10 _) _

end

end Cert.Proof.Mlp
-- ==== Proof.MlpRef.lean ====
/-
  The reference's second half read at an element: the row function of `MlpRow`.
-/
module

public import proofs.«01_k».proof.Proof.Gen.MlpReferenceIdeal.Read
public import proofs.«01_k».proof.Proof.MlpRow
public import Idealize.ShloMosaic.Lib.ValueIdx

@[expose] public section

set_option maxRecDepth 8192

noncomputable section

namespace Cert.Proof.Mlp

open Cert.MlpReferenceIdeal Cert.MlpReferenceIdeal.Gen Cert.MlpReferenceIdeal.Read
open Idealize.ShloMosaic Idealize.ShloMosaic.ValueIdx

section

variable (x0 : (⟨S2x16384x1024, .f32⟩ : BufTy).Contents (Elt Ideal))
  (x1 : (⟨S1024x1024, .f32⟩ : BufTy).Contents (Elt Ideal))
  (x2 : (⟨S1024, .f32⟩ : BufTy).Contents (Elt Ideal))
  (x3 : (⟨S2x1x1024, .f32⟩ : BufTy).Contents (Elt Ideal))
  (x4 : (⟨S1024, .f32⟩ : BufTy).Contents (Elt Ideal))
  (x5 : (⟨S2x16384x1024, .f32⟩ : BufTy).Contents (Elt Ideal))
  (x6 : (⟨S2x1x1024, .f32⟩ : BufTy).Contents (Elt Ideal))
  (x7 : (⟨S2x1x1024, .f32⟩ : BufTy).Contents (Elt Ideal))
  (x8 : (⟨S2x1x1024, .f32⟩ : BufTy).Contents (Elt Ideal))
  (x9 : (⟨S1024, .f32⟩ : BufTy).Contents (Elt Ideal))
  (x10 : (⟨S1024, .f32⟩ : BufTy).Contents (Elt Ideal))
  (x11 : (⟨S1024x4096, .f32⟩ : BufTy).Contents (Elt Ideal))
  (x12 : (⟨S4096x1024, .f32⟩ : BufTy).Contents (Elt Ideal))

/-- The projection's offset. -/
theorem ref_bo (b : Fin 2) (n : Fin 16384) (d : Fin 1024) : @Eq EReal (val_main_v2 (F := Ideal) x2 (ix3 b n d)) (x2 (ix1 d)) := by
  rw [val_main_v2_apply, val_main_v1_apply]
  exact congrArg x2 (funext fun a => by match a with | ⟨0, _⟩ => rfl)

/-- The first gain. -/
theorem ref_g1 (b : Fin 2) (n : Fin 16384) (d : Fin 1024) : @Eq EReal (val_main_v15 (F := Ideal) x4 (ix3 b n d)) (x4 (ix1 d)) := by
  rw [val_main_v15_apply, val_main_v14_apply]
  exact congrArg x4 (funext fun a => by match a with | ⟨0, _⟩ => rfl)

/-- The second gain. -/
theorem ref_gp (b : Fin 2) (n : Fin 16384) (d : Fin 1024) : @Eq EReal (val_main_v31 (F := Ideal) x9 (ix3 b n d)) (x9 (ix1 d)) := by
  rw [val_main_v31_apply, val_main_v30_apply]
  exact congrArg x9 (funext fun a => by match a with | ⟨0, _⟩ => rfl)

/-- The third gain. -/
theorem ref_g2 (b : Fin 2) (n : Fin 16384) (d : Fin 1024) : @Eq EReal (val_main_v54 (F := Ideal) x10 (ix3 b n d)) (x10 (ix1 d)) := by
  rw [val_main_v54_apply, val_main_v53_apply]
  exact congrArg x10 (funext fun a => by match a with | ⟨0, _⟩ => rfl)

/-- The first gate. -/
theorem ref_gt1 (b : Fin 2) (n : Fin 16384) (d : Fin 1024) : @Eq EReal (val_main_v17 (F := Ideal) x3 (ix3 b n d)) (x3 (ix3 b (0 : Fin 1) d)) := by
  rw [val_main_v17_apply]
  exact congrArg x3 (funext fun a => by match a with | ⟨0, _⟩ => rfl | ⟨1, _⟩ => rfl | ⟨2, _⟩ => rfl)

/-- The shift. -/
theorem ref_sh (b : Fin 2) (n : Fin 16384) (d : Fin 1024) : @Eq EReal (val_main_v37 (F := Ideal) x6 (ix3 b n d)) (x6 (ix3 b (0 : Fin 1) d)) := by
  rw [val_main_v37_apply]
  exact congrArg x6 (funext fun a => by match a with | ⟨0, _⟩ => rfl | ⟨1, _⟩ => rfl | ⟨2, _⟩ => rfl)

/-- The second gate. -/
theorem ref_gt2 (b : Fin 2) (n : Fin 16384) (d : Fin 1024) : @Eq EReal (val_main_v56 (F := Ideal) x8 (ix3 b n d)) (x8 (ix3 b (0 : Fin 1) d)) := by
  rw [val_main_v56_apply]
  exact congrArg x8 (funext fun a => by match a with | ⟨0, _⟩ => rfl | ⟨1, _⟩ => rfl | ⟨2, _⟩ => rfl)

/-- One plus the scale. -/
theorem ref_sc (b : Fin 2) (n : Fin 16384) (d : Fin 1024) : @Eq EReal (val_main_v35 (F := Ideal) x7 (ix3 b n d)) (one + (x7 (ix3 b (0 : Fin 1) d) : EReal)) := by
  rw [val_main_v35_apply, val_main_v34_apply, val_main_v33_apply, val_main_cst_5_apply]
  have i : idx_main_v35 (ix3 b n d) = ix3 b (0 : Fin 1) d := funext fun a => by match a with | ⟨0, _⟩ => rfl | ⟨1, _⟩ => rfl | ⟨2, _⟩ => rfl
  rw [i]
  rfl

/-- The projection. -/
theorem ref_proj (b : Fin 2) (n : Fin 16384) (d : Fin 1024) :
    @Eq EReal (val_main_v3 (F := Ideal) x0 x1 x2 (ix3 b n d)) ((proj (fun k => x0 (ix3 b n k)) (fun k d => x1 (ix2 k d)) (fun k => x2 (ix1 k))) d) := by
  rw [val_main_v3_apply, val_main_v0_apply]
  refine congrArg₂ (fun a b : EReal => a + b) (Finset.sum_congr rfl fun k _ => ?_) (ref_bo x2 b n d)
  have i : lidx_main_v0 (ix3 b n d) k = ix3 b n k := funext fun a => by match a with | ⟨0, _⟩ => rfl | ⟨1, _⟩ => rfl | ⟨2, _⟩ => rfl
  have j : ridx_main_v0 (ix3 b n d) k = ix2 k d := funext fun a => by match a with | ⟨0, _⟩ => rfl | ⟨1, _⟩ => rfl
  rw [i, j]

/-- One over the first root mean square. -/
theorem ref_inv1 (b : Fin 2) (n : Fin 16384) (d : Fin 1024) :
    @Eq EReal (val_main_v12 (F := Ideal) x0 x1 x2 (ix3 b n d))
      (Ideal.rsqrt (Ideal.div (∑ k : Fin 1024, (val_main_v3 (F := Ideal) x0 x1 x2 (ix3 b n k) : EReal) * (val_main_v3 (F := Ideal) x0 x1 x2 (ix3 b n k) : EReal)) len + eps)) := by
  rw [val_main_v12_apply, val_main_v11_apply, val_main_v10_apply, val_main_v8_apply, val_main_v6_apply, val_main_v5_apply, val_main_v7_apply, val_main_v9_apply,
    val_main_cst_apply, val_main_cst_0_apply, val_main_cst_1_apply]
  refine congrArg (fun s : EReal => Ideal.rsqrt (Ideal.div s len + eps)) ?_
  refine (congrArg (fun z : EReal => z + _) Ideal.ofBits_zero_f32).trans ((zero_add _).trans (Finset.sum_congr rfl fun k _ => ?_))
  have i : idx_main_v5 (idx_main_v6 (idx_main_v12 (ix3 b n d))) k = ix3 b n k := funext fun a => by
    match a with | ⟨0, _⟩ => rfl | ⟨1, _⟩ => rfl | ⟨2, _⟩ => rfl
  rw [i, val_main_v4_apply]
  rfl

/-- The first residual. -/
theorem ref_mid (b : Fin 2) (n : Fin 16384) (d : Fin 1024) :
    @Eq EReal (val_main_v19 (F := Ideal) x0 x1 x2 x3 x4 x5 (ix3 b n d)) ((mid (fun k => x0 (ix3 b n k)) (fun k d => x1 (ix2 k d)) (fun k => x2 (ix1 k)) (fun k => x3 (ix3 b (0 : Fin 1) k)) (fun k => x4 (ix1 k)) (fun k => x5 (ix3 b n k))) d) := by
  rw [val_main_v19_apply, val_main_v18_apply, val_main_v16_apply, val_main_v13_apply]
  refine congrArg₂ (fun a b : EReal => a + b) rfl (congrArg₂ (fun a b : EReal => a * b) (ref_gt1 x3 b n d)
    (congrArg₂ (fun a b : EReal => a * b) (congrArg₂ (fun a b : EReal => a * b) (ref_proj x0 x1 x2 b n d) ?_) (ref_g1 x4 b n d)))
  refine (ref_inv1 x0 x1 x2 b n d).trans (congrArg (fun s : EReal => Ideal.rsqrt (Ideal.div s len + eps)) (Finset.sum_congr rfl fun k _ => ?_))
  exact congrArg₂ (fun a b : EReal => a * b) (ref_proj x0 x1 x2 b n k) (ref_proj x0 x1 x2 b n k)

/-- One over the second root mean square. -/
theorem ref_inv2 (b : Fin 2) (n : Fin 16384) (d : Fin 1024) :
    @Eq EReal (val_main_v28 (F := Ideal) x0 x1 x2 x3 x4 x5 (ix3 b n d))
      (Ideal.rsqrt (Ideal.div (∑ k : Fin 1024, (val_main_v19 (F := Ideal) x0 x1 x2 x3 x4 x5 (ix3 b n k) : EReal) * (val_main_v19 (F := Ideal) x0 x1 x2 x3 x4 x5 (ix3 b n k) : EReal)) len + eps)) := by
  rw [val_main_v28_apply, val_main_v27_apply, val_main_v26_apply, val_main_v24_apply, val_main_v22_apply, val_main_v21_apply, val_main_v23_apply, val_main_v25_apply,
    val_main_cst_2_apply, val_main_cst_3_apply, val_main_cst_4_apply]
  refine congrArg (fun s : EReal => Ideal.rsqrt (Ideal.div s len + eps)) ?_
  refine (congrArg (fun z : EReal => z + _) Ideal.ofBits_zero_f32).trans ((zero_add _).trans (Finset.sum_congr rfl fun k _ => ?_))
  have i : idx_main_v21 (idx_main_v22 (idx_main_v28 (ix3 b n d))) k = ix3 b n k := funext fun a => by
    match a with | ⟨0, _⟩ => rfl | ⟨1, _⟩ => rfl | ⟨2, _⟩ => rfl
  rw [i, val_main_v20_apply]
  rfl

/-- The row fed to the hidden units. -/
theorem ref_hid (b : Fin 2) (n : Fin 16384) (d : Fin 1024) :
    @Eq EReal (val_main_v38 (F := Ideal) x0 x1 x2 x3 x4 x5 x6 x7 x9 (ix3 b n d)) ((hid (mid (fun k => x0 (ix3 b n k)) (fun k d => x1 (ix2 k d)) (fun k => x2 (ix1 k)) (fun k => x3 (ix3 b (0 : Fin 1) k)) (fun k => x4 (ix1 k)) (fun k => x5 (ix3 b n k))) (fun k => x9 (ix1 k)) (fun k => x7 (ix3 b (0 : Fin 1) k)) (fun k => x6 (ix3 b (0 : Fin 1) k))) d) := by
  rw [val_main_v38_apply, val_main_v36_apply, val_main_v32_apply, val_main_v29_apply]
  refine congrArg₂ (fun a b : EReal => a + b) (congrArg₂ (fun a b : EReal => a * b)
    (congrArg₂ (fun a b : EReal => a * b) (congrArg₂ (fun a b : EReal => a * b) (ref_mid x0 x1 x2 x3 x4 x5 b n d) ?_) (ref_gp x9 b n d)) (ref_sc x7 b n d)) (ref_sh x6 b n d)
  refine (ref_inv2 x0 x1 x2 x3 x4 x5 b n d).trans (congrArg (fun s : EReal => Ideal.rsqrt (Ideal.div s len + eps)) (Finset.sum_congr rfl fun k _ => ?_))
  exact congrArg₂ (fun a b : EReal => a * b) (ref_mid x0 x1 x2 x3 x4 x5 b n k) (ref_mid x0 x1 x2 x3 x4 x5 b n k)

/-- A hidden unit. -/
theorem ref_act (b : Fin 2) (n : Fin 16384) (f : Fin 4096) :
    @Eq EReal (val_main_v40 (F := Ideal) x0 x1 x2 x3 x4 x5 x6 x7 x9 x11 (ix3 b n f)) (act (hid (mid (fun k => x0 (ix3 b n k)) (fun k d => x1 (ix2 k d)) (fun k => x2 (ix1 k)) (fun k => x3 (ix3 b (0 : Fin 1) k)) (fun k => x4 (ix1 k)) (fun k => x5 (ix3 b n k))) (fun k => x9 (ix1 k)) (fun k => x7 (ix3 b (0 : Fin 1) k)) (fun k => x6 (ix3 b (0 : Fin 1) k))) (fun k f => x11 (ix2 k f)) f) := by
  rw [val_main_v40_apply, val_main_v39_apply, val_main_call0_v0_apply, val_main_call0_cst_apply]
  refine congrArg₂ (fun a b : EReal => max a b) (Finset.sum_congr rfl fun k _ => ?_) Ideal.ofBits_zero_f32
  have i : lidx_main_v39 (ix3 b n f) k = ix3 b n k := funext fun a => by match a with | ⟨0, _⟩ => rfl | ⟨1, _⟩ => rfl | ⟨2, _⟩ => rfl
  have j : ridx_main_v39 (ix3 b n f) k = ix2 k f := funext fun a => by match a with | ⟨0, _⟩ => rfl | ⟨1, _⟩ => rfl
  rw [i, j]
  exact congrArg (fun a : EReal => a * x11 (ix2 k f)) (ref_hid x0 x1 x2 x3 x4 x5 x6 x7 x9 b n k)

/-- The feed-forward sum. -/
theorem ref_ffn (b : Fin 2) (n : Fin 16384) (d : Fin 1024) :
    @Eq EReal (val_main_v42 (F := Ideal) x0 x1 x2 x3 x4 x5 x6 x7 x9 x11 x12 (ix3 b n d)) ((ffn (hid (mid (fun k => x0 (ix3 b n k)) (fun k d => x1 (ix2 k d)) (fun k => x2 (ix1 k)) (fun k => x3 (ix3 b (0 : Fin 1) k)) (fun k => x4 (ix1 k)) (fun k => x5 (ix3 b n k))) (fun k => x9 (ix1 k)) (fun k => x7 (ix3 b (0 : Fin 1) k)) (fun k => x6 (ix3 b (0 : Fin 1) k))) (fun k f => x11 (ix2 k f)) (fun f d => x12 (ix2 f d))) d) := by
  rw [val_main_v42_apply]
  refine Finset.sum_congr rfl fun f _ => ?_
  have i : lidx_main_v42 (ix3 b n d) f = ix3 b n f := funext fun a => by match a with | ⟨0, _⟩ => rfl | ⟨1, _⟩ => rfl | ⟨2, _⟩ => rfl
  have j : ridx_main_v42 (ix3 b n d) f = ix2 f d := funext fun a => by match a with | ⟨0, _⟩ => rfl | ⟨1, _⟩ => rfl
  rw [i, j, val_main_v41_apply]
  exact congrArg (fun a : EReal => a * x12 (ix2 f d)) (congrArg₂ (fun a b : EReal => a * b) (ref_act x0 x1 x2 x3 x4 x5 x6 x7 x9 x11 b n f) (ref_act x0 x1 x2 x3 x4 x5 x6 x7 x9 x11 b n f))

/-- One over the third root mean square. -/
theorem ref_inv3 (b : Fin 2) (n : Fin 16384) (d : Fin 1024) :
    @Eq EReal (val_main_v51 (F := Ideal) x0 x1 x2 x3 x4 x5 x6 x7 x9 x11 x12 (ix3 b n d))
      (Ideal.rsqrt (Ideal.div (∑ k : Fin 1024, (val_main_v42 (F := Ideal) x0 x1 x2 x3 x4 x5 x6 x7 x9 x11 x12 (ix3 b n k) : EReal) * (val_main_v42 (F := Ideal) x0 x1 x2 x3 x4 x5 x6 x7 x9 x11 x12 (ix3 b n k) : EReal)) len + eps)) := by
  rw [val_main_v51_apply, val_main_v50_apply, val_main_v49_apply, val_main_v47_apply, val_main_v45_apply, val_main_v44_apply, val_main_v46_apply, val_main_v48_apply,
    val_main_cst_6_apply, val_main_cst_7_apply, val_main_cst_8_apply]
  refine congrArg (fun s : EReal => Ideal.rsqrt (Ideal.div s len + eps)) ?_
  refine (congrArg (fun z : EReal => z + _) Ideal.ofBits_zero_f32).trans ((zero_add _).trans (Finset.sum_congr rfl fun k _ => ?_))
  have i : idx_main_v44 (idx_main_v45 (idx_main_v51 (ix3 b n d))) k = ix3 b n k := funext fun a => by
    match a with | ⟨0, _⟩ => rfl | ⟨1, _⟩ => rfl | ⟨2, _⟩ => rfl
  rw [i, val_main_v43_apply]
  rfl

/-- The reference's result at an element. -/
theorem ref_apply (b : Fin 2) (n : Fin 16384) (d : Fin 1024) :
    @Eq EReal (val_main_v58 (F := Ideal) x0 x1 x2 x3 x4 x5 x6 x7 x8 x9 x10 x11 x12 (ix3 b n d))
      (out (fun k => x0 (ix3 b n k)) (fun k d => x1 (ix2 k d)) (fun k => x2 (ix1 k)) (fun k => x3 (ix3 b (0 : Fin 1) k)) (fun k => x4 (ix1 k)) (fun k => x5 (ix3 b n k)) (fun k => x6 (ix3 b (0 : Fin 1) k)) (fun k => x7 (ix3 b (0 : Fin 1) k)) (fun k => x8 (ix3 b (0 : Fin 1) k)) (fun k => x9 (ix1 k)) (fun k => x10 (ix1 k)) (fun k f => x11 (ix2 k f)) (fun f d => x12 (ix2 f d)) d) := by
  rw [val_main_v58_apply, val_main_v57_apply, val_main_v55_apply, val_main_v52_apply]
  refine congrArg₂ (fun a b : EReal => a + b) (ref_mid x0 x1 x2 x3 x4 x5 b n d) (congrArg₂ (fun a b : EReal => a * b) (ref_gt2 x8 b n d)
    (congrArg₂ (fun a b : EReal => a * b) (congrArg₂ (fun a b : EReal => a * b) (ref_ffn x0 x1 x2 x3 x4 x5 x6 x7 x9 x11 x12 b n d) ?_) (ref_g2 x10 b n d)))
  refine (ref_inv3 x0 x1 x2 x3 x4 x5 x6 x7 x9 x11 x12 b n d).trans (congrArg (fun s : EReal => Ideal.rsqrt (Ideal.div s len + eps)) (Finset.sum_congr rfl fun k _ => ?_))
  exact congrArg₂ (fun a b : EReal => a * b) (ref_ffn x0 x1 x2 x3 x4 x5 x6 x7 x9 x11 x12 b n k) (ref_ffn x0 x1 x2 x3 x4 x5 x6 x7 x9 x11 x12 b n k)

end

end Cert.Proof.Mlp
-- ==== Proof.MlpValue.lean ====
/-
  The second program's result is the reference's function of its arguments: each point writes its block of it, and the blocks cover the array.
-/
module

public import proofs.«01_k».proof.Proof.MlpBlocks
public import proofs.«01_k».proof.Proof.MlpElem
public import proofs.«01_k».proof.Proof.MlpRef
public import Idealize.ShloMosaic.Lib.Pipeline.Covers

@[expose] public section

set_option maxRecDepth 8192

noncomputable section

namespace Cert.Proof.Mlp

open Cert.MlpKernelIdeal Cert.MlpKernelIdeal.Gen
open Cert.MlpReferenceIdeal.Read (val_main_v58)
open Idealize.ShloMosaic Idealize.ShloMosaic.ValueIdx Idealize.ShloMosaic.TcCoe Idealize.SL.Sem

variable (m : (ℓ : Loc nD τ sig) → Buf (Elt Ideal) ℓ)

/-- The reference's result from the arguments. -/
def refOut (c : Dev nD) : S2x16384x1024.Idx → EReal :=
  val_main_v58 (F := Ideal) (b0 m c) (b1 m c) (b2 m c) (b3 m c) (b4 m c) (b5 m c) (b6 m c) (b7 m c) (b8 m c) (b9 m c) (b10 m c) (b11 m c) (b12 m c)

/-- The row function on equal rows. -/
theorem out_congr {z z' : Fin 1024 → EReal} {wo wo' : Fin 1024 → Fin 1024 → EReal} {bo bo' gt1 gt1' g1 g1' x x' sh sh' sc sc' gt2 gt2' gp gp' g2 g2' : Fin 1024 → EReal}
    {w1 w1' : Fin 1024 → Fin 4096 → EReal} {w2 w2' : Fin 4096 → Fin 1024 → EReal} (d : Fin 1024)
    (hz : ∀ k, z k = z' k) (hwo : ∀ k d, wo k d = wo' k d) (hbo : ∀ k, bo k = bo' k) (hgt1 : ∀ k, gt1 k = gt1' k) (hg1 : ∀ k, g1 k = g1' k) (hx : ∀ k, x k = x' k)
    (hsh : ∀ k, sh k = sh' k) (hsc : ∀ k, sc k = sc' k) (hgt2 : ∀ k, gt2 k = gt2' k) (hgp : ∀ k, gp k = gp' k) (hg2 : ∀ k, g2 k = g2' k)
    (hw1 : ∀ k f, w1 k f = w1' k f) (hw2 : ∀ f d, w2 f d = w2' f d) :
    out z wo bo gt1 g1 x sh sc gt2 gp g2 w1 w2 d = out z' wo' bo' gt1' g1' x' sh' sc' gt2' gp' g2' w1' w2' d := by
  obtain rfl : z = z' := funext hz
  obtain rfl : wo = wo' := funext fun k => funext (hwo k)
  obtain rfl : bo = bo' := funext hbo
  obtain rfl : gt1 = gt1' := funext hgt1
  obtain rfl : g1 = g1' := funext hg1
  obtain rfl : x = x' := funext hx
  obtain rfl : sh = sh' := funext hsh
  obtain rfl : sc = sc' := funext hsc
  obtain rfl : gt2 = gt2' := funext hgt2
  obtain rfl : gp = gp' := funext hgp
  obtain rfl : g2 = g2' := funext hg2
  obtain rfl : w1 = w1' := funext fun k => funext (hw1 k)
  obtain rfl : w2 = w2' := funext fun k => funext (hw2 k)
  rfl

/-- What a point computes is its block of the reference's result. -/
theorem out_at (c : Dev nD) (t : Fin cfg0.N) (r d : Fin 1024) :
    @Eq EReal (out0_13 (F := Ideal) (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (ix3 (0 : Fin 1) r d)) (refOut m c (ix3 (pb t) (rowAt t r) d)) := by
  refine (out_apply (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) r d).trans ?_
  refine Eq.trans ?_ (ref_apply (b0 m c) (b1 m c) (b2 m c) (b3 m c) (b4 m c) (b5 m c) (b6 m c) (b7 m c) (b8 m c) (b9 m c) (b10 m c) (b11 m c) (b12 m c)
      (pb t) (rowAt t r) d).symm
  exact out_congr d (fun k => at_z m c t r k) (fun k d => at_wo m c t k d) (fun k => at_bo m c t k) (fun k => at_gt1 m c t k) (fun k => at_g1 m c t k)
    (fun k => at_x m c t r k) (fun k => at_sh m c t k) (fun k => at_sc m c t k) (fun k => at_gt2 m c t k) (fun k => at_gp m c t k) (fun k => at_g2 m c t k)
    (fun k f => at_w1 m c t k f) (fun f d => at_w2 m c t f d)

theorem cut_13 (t : Fin cfg0.N) (X : S1x1024x1024.Idx → EReal) (y : S1x1024x1024.Idx) : @Eq EReal ((cfg0.win 13).cut (grid0.coords t) X y) (X y) := rfl
theorem read_13 (t : Fin cfg0.N) (G : S2x16384x1024.Idx → EReal) (y) :
    @Eq EReal (((cfg0.win 13).blk t).view.read (Elt Ideal) G y) (G (((cfg0.win 13).blk t).view.emb y)) := rfl

/-- A point whose body leaves `G`'s elements writes back `G`'s block. -/
theorem cut_eq (t : Fin cfg0.N) (X : S1x1024x1024.Idx → EReal) (G : S2x16384x1024.Idx → EReal)
    (h : ∀ r d, X (ix3 (0 : Fin 1) r d) = G (ix3 (pb t) (rowAt t r) d)) :
    (cfg0.win 13).cut (grid0.coords t) X = ((cfg0.win 13).blk t).view.read (Elt Ideal) G := by
  funext y
  have e : ∀ y : S1x1024x1024.Idx, X y = G (((cfg0.win 13).blk t).view.emb y) := by
    intro y
    obtain ⟨r, d, rfl⟩ : ∃ (r d : Fin 1024), y = ix3 (0 : Fin 1) r d := ⟨y 1, y 2, by
      funext a
      match a with
      | ⟨0, _⟩ => exact Subsingleton.elim (α := Fin 1) _ _
      | ⟨1, _⟩ => rfl
      | ⟨2, _⟩ => rfl⟩
    exact (h r d).trans (congrArg G (emb_out t r d).symm)
  exact (cut_13 t X y).trans ((e y).trans (read_13 t G y).symm)

theorem flushed_eq (c : Dev nD) (t : Fin cfg0.N) :
    (dats (F := Ideal) m 0 c).flushed 13 t = ((cfg0.win 13).blk t).view.read (Elt Ideal) (refOut m c) :=
  (Cert.MlpKernelIdeal.Value.flushed13 m c t).trans (cut_eq t _ _ (out_at m c t))

/-- Every index of the result is in a point's block. -/
theorem covered (i : S2x16384x1024.Idx) : ∃ t : Fin cfg0.N, (cfg0.win 13).flush t = true ∧ i ∈ ((cfg0.win 13).blk t).view.set := by
  have h0 : (i 0).val < 2 := (i 0).isLt
  have h1 : (i 1).val < 16384 := (i 1).isLt
  have h2 : (i 2).val < 1024 := (i 2).isLt
  obtain ⟨t, ht⟩ := Pipeline.Grid.coords_surjective grid0 (fun a => match a with
    | ⟨0, _⟩ => (⟨(i 0).val, h0⟩ : Fin 2) | ⟨1, _⟩ => (⟨(i 1).val / 1024, by omega⟩ : Fin 16))
  have p0 : (pb t).val = (i 0).val := by show (grid0.coords t 0).val = _; rw [ht]
  have p1 : (pq t).val = (i 1).val / 1024 := by show (grid0.coords t 1).val = _; rw [ht]
  refine ⟨t, flush0_13 t, ?_⟩
  have e : i = ix3 (pb t) (rowAt t ⟨(i 1).val % 1024, Nat.mod_lt _ (by decide)⟩) (⟨(i 2).val, h2⟩ : Fin 1024) := by
    funext a; apply Fin.ext
    match a with
    | ⟨0, _⟩ => exact p0.symm
    | ⟨1, _⟩ => show (i 1).val = 1024 * (pq t).val + (i 1).val % 1024; omega
    | ⟨2, _⟩ => rfl
  rw [e, ← emb_out]
  exact ((cfg0.win 13).blk t).view.emb_mem_set _

/-- The result array after the run. -/
theorem final (c : Dev nD) : (dats (F := Ideal) m 0 c).arrAt 13 cfg0.N = refOut m c :=
  (dats (F := Ideal) m 0 c).arrAt_eq_of_cover 13 (refOut m c) (fun t _ => flushed_eq m c t) covered

end Cert.Proof.Mlp
-- ==== Proof.HyBlocks.lean ====
/-
  The third kernel's operands at a grid point, read at an element from the program's arguments.
-/
module

public import proofs.«01_k».proof.Proof.Gen.HyKernelIdeal.Frame
public import proofs.«01_k».proof.Proof.Gen.HyKernelIdeal.Value
public import Idealize.ShloMosaic.Lib.StableHlo.RunRead
public import Idealize.ShloMosaic.Lib.Pipeline.Value
public import Idealize.ShloMosaic.Lib.ValueIdx
public import Idealize.ShloMosaic.Lib.ValueLayout
public import Idealize.ShloMosaic.PureOps.Ideal.Laws

@[expose] public section

set_option maxRecDepth 8192

noncomputable section

namespace Cert.Proof.Hy

open Cert.HyKernelIdeal Cert.HyKernelIdeal.Gen
open Idealize.ShloMosaic Idealize.ShloMosaic.ValueIdx Idealize.ShloMosaic.TcCoe Idealize.SL.Sem

/-! ### The point's coordinates -/

/-- The batch of point `t`. -/
def pb (t : Fin cfg0.N) : Fin 2 := ⟨(grid0.coords t 0).val, (grid0.coords t 0).isLt⟩
/-- Its 1024 rows. -/
def pq (t : Fin cfg0.N) : Fin 16 := ⟨(grid0.coords t 1).val, (grid0.coords t 1).isLt⟩
/-- Row `r` of the 1024. -/
def rowAt (t : Fin cfg0.N) (r : Fin 1024) : Fin 16384 := ⟨1024 * (pq t).val + r.val, by omega⟩
/-- Row `s` of the eight before them (the first eight rows, where none are before). -/
def rowPrev (t : Fin cfg0.N) (s : Fin 8) : Fin 16384 := ⟨(128 * (pq t).val - 1) * 8 + s.val, by omega⟩
/-- Row `s` of the eight after them (the last eight rows, where none are after). -/
def rowNext (t : Fin cfg0.N) (s : Fin 8) : Fin 16384 := ⟨min (128 * ((pq t).val + 1)) 2047 * 8 + s.val, by omega⟩

theorem pq_val (t : Fin cfg0.N) : (pq t).val = t.val % 16 :=
  (Pipeline.Grid.coords_val t 1 (by decide) rfl : (grid0.coords t 1).val = t.val / 1 % 16).trans (by rw [Nat.div_one])

theorem word (n : ℕ) (h : n < 32) : (BitVec.ofNat 32 n).toNat = n := by
  rw [BitVec.toNat_ofNat]; exact Nat.mod_eq_of_lt (by omega)

theorem c0 (t : Fin cfg0.N) : (BitVec.ofNat 32 (grid0.coords t 0).val).toNat = (pb t).val := word _ (by have : (grid0.coords t 0).val < 2 := (grid0.coords t 0).isLt; omega)
theorem c1 (t : Fin cfg0.N) : (BitVec.ofNat 32 (grid0.coords t 1).val).toNat = (pq t).val := word _ (by have : (grid0.coords t 1).val < 16 := (grid0.coords t 1).isLt; omega)

theorem word_prev : ∀ q : Fin 16, (Scalar.maxsi (Scalar.subi (Scalar.muli (BitVec.ofNat 32 q.val) 128#32) 1#32) 0#32).toNat = 128 * q.val - 1 := by decide
theorem word_next : ∀ q : Fin 16, (Scalar.minsi (Scalar.muli (Scalar.addi (BitVec.ofNat 32 q.val) 1#32) 128#32) 2047#32).toNat = min (128 * (q.val + 1)) 2047 := by decide

/-! ### Where a block's element sits -/

theorem emb_x (t : Fin cfg0.N) (r : Fin 1024) (d : Fin 1024) :
    ((cfg0.win 0).blk t).view.emb (ix3 (0 : Fin 1) r d) = (ix3 (pb t) (rowAt t r) d : S2x16384x1024.Idx) := by
  have e0 : win0_0.index t (0 : Fin 3) = (pb t).val := c0 t
  have e1 : win0_0.index t (1 : Fin 3) = (pq t).val := c1 t
  have e2 : win0_0.index t (2 : Fin 3) = 0 := rfl
  funext a; apply Fin.ext
  match a with
  | ⟨0, _⟩ => show win0_0.index t (0 : Fin 3) * 1 + 1 * 0 = (pb t).val; omega
  | ⟨1, _⟩ => show win0_0.index t (1 : Fin 3) * 1024 + 1 * r.val = 1024 * (pq t).val + r.val; rw [e1]; omega
  | ⟨2, _⟩ => show win0_0.index t (2 : Fin 3) * 1024 + 1 * d.val = d.val; omega

theorem emb_pv (t : Fin cfg0.N) (r : Fin 8) (d : Fin 1024) :
    ((cfg0.win 1).blk t).view.emb (ix3 (0 : Fin 1) r d) = (ix3 (pb t) (rowPrev t r) d : S2x16384x1024.Idx) := by
  have e0 : win0_1.index t (0 : Fin 3) = (pb t).val := c0 t
  have e1 : win0_1.index t (1 : Fin 3) = 128 * (pq t).val - 1 := word_prev (pq t)
  have e2 : win0_1.index t (2 : Fin 3) = 0 := rfl
  funext a; apply Fin.ext
  match a with
  | ⟨0, _⟩ => show win0_1.index t (0 : Fin 3) * 1 + 1 * 0 = (pb t).val; omega
  | ⟨1, _⟩ => show win0_1.index t (1 : Fin 3) * 8 + 1 * r.val = (128 * (pq t).val - 1) * 8 + r.val; rw [e1]; omega
  | ⟨2, _⟩ => show win0_1.index t (2 : Fin 3) * 1024 + 1 * d.val = d.val; omega

theorem emb_nx (t : Fin cfg0.N) (r : Fin 8) (d : Fin 1024) :
    ((cfg0.win 2).blk t).view.emb (ix3 (0 : Fin 1) r d) = (ix3 (pb t) (rowNext t r) d : S2x16384x1024.Idx) := by
  have e0 : win0_2.index t (0 : Fin 3) = (pb t).val := c0 t
  have e1 : win0_2.index t (1 : Fin 3) = min (128 * ((pq t).val + 1)) 2047 := word_next (pq t)
  have e2 : win0_2.index t (2 : Fin 3) = 0 := rfl
  funext a; apply Fin.ext
  match a with
  | ⟨0, _⟩ => show win0_2.index t (0 : Fin 3) * 1 + 1 * 0 = (pb t).val; omega
  | ⟨1, _⟩ => show win0_2.index t (1 : Fin 3) * 8 + 1 * r.val = min (128 * ((pq t).val + 1)) 2047 * 8 + r.val; rw [e1]; omega
  | ⟨2, _⟩ => show win0_2.index t (2 : Fin 3) * 1024 + 1 * d.val = d.val; omega

theorem emb_o10 (t : Fin cfg0.N) (r : Fin 1024) (d : Fin 1024) :
    ((cfg0.win 10).blk t).view.emb (ix3 (0 : Fin 1) r d) = (ix3 (pb t) (rowAt t r) d : S2x16384x1024.Idx) := by
  have e0 : win0_10.index t (0 : Fin 3) = (pb t).val := c0 t
  have e1 : win0_10.index t (1 : Fin 3) = (pq t).val := c1 t
  have e2 : win0_10.index t (2 : Fin 3) = 0 := rfl
  funext a; apply Fin.ext
  match a with
  | ⟨0, _⟩ => show win0_10.index t (0 : Fin 3) * 1 + 1 * 0 = (pb t).val; omega
  | ⟨1, _⟩ => show win0_10.index t (1 : Fin 3) * 1024 + 1 * r.val = 1024 * (pq t).val + r.val; rw [e1]; omega
  | ⟨2, _⟩ => show win0_10.index t (2 : Fin 3) * 1024 + 1 * d.val = d.val; omega

theorem emb_o11 (t : Fin cfg0.N) (r : Fin 1024) (d : Fin 1024) :
    ((cfg0.win 11).blk t).view.emb (ix3 (0 : Fin 1) r d) = (ix3 (pb t) (rowAt t r) d : S2x16384x1024.Idx) := by
  have e0 : win0_11.index t (0 : Fin 3) = (pb t).val := c0 t
  have e1 : win0_11.index t (1 : Fin 3) = (pq t).val := c1 t
  have e2 : win0_11.index t (2 : Fin 3) = 0 := rfl
  funext a; apply Fin.ext
  match a with
  | ⟨0, _⟩ => show win0_11.index t (0 : Fin 3) * 1 + 1 * 0 = (pb t).val; omega
  | ⟨1, _⟩ => show win0_11.index t (1 : Fin 3) * 1024 + 1 * r.val = 1024 * (pq t).val + r.val; rw [e1]; omega
  | ⟨2, _⟩ => show win0_11.index t (2 : Fin 3) * 1024 + 1 * d.val = d.val; omega

theorem emb_o12 (t : Fin cfg0.N) (r : Fin 1024) (d : Fin 1024) :
    ((cfg0.win 12).blk t).view.emb (ix3 (0 : Fin 1) r d) = (ix3 (pb t) (rowAt t r) d : S2x16384x1024.Idx) := by
  have e0 : win0_12.index t (0 : Fin 3) = (pb t).val := c0 t
  have e1 : win0_12.index t (1 : Fin 3) = (pq t).val := c1 t
  have e2 : win0_12.index t (2 : Fin 3) = 0 := rfl
  funext a; apply Fin.ext
  match a with
  | ⟨0, _⟩ => show win0_12.index t (0 : Fin 3) * 1 + 1 * 0 = (pb t).val; omega
  | ⟨1, _⟩ => show win0_12.index t (1 : Fin 3) * 1024 + 1 * r.val = 1024 * (pq t).val + r.val; rw [e1]; omega
  | ⟨2, _⟩ => show win0_12.index t (2 : Fin 3) * 1024 + 1 * d.val = d.val; omega

theorem emb_sh (t : Fin cfg0.N) (d : Fin 1024) :
    ((cfg0.win 3).blk t).view.emb (ix3 (0 : Fin 1) (0 : Fin 1) d) = (ix3 (pb t) (0 : Fin 1) d : S2x1x1024.Idx) := by
  have e0 : win0_3.index t (0 : Fin 3) = (pb t).val := c0 t
  have e1 : win0_3.index t (1 : Fin 3) = 0 := rfl
  have e2 : win0_3.index t (2 : Fin 3) = 0 := rfl
  funext a; apply Fin.ext
  match a with
  | ⟨0, _⟩ => show win0_3.index t (0 : Fin 3) * 1 + 1 * 0 = (pb t).val; omega
  | ⟨1, _⟩ => show win0_3.index t (1 : Fin 3) * 1 + 1 * 0 = 0; omega
  | ⟨2, _⟩ => show win0_3.index t (2 : Fin 3) * 1024 + 1 * d.val = d.val; omega

theorem emb_sc (t : Fin cfg0.N) (d : Fin 1024) :
    ((cfg0.win 4).blk t).view.emb (ix3 (0 : Fin 1) (0 : Fin 1) d) = (ix3 (pb t) (0 : Fin 1) d : S2x1x1024.Idx) := by
  have e0 : win0_4.index t (0 : Fin 3) = (pb t).val := c0 t
  have e1 : win0_4.index t (1 : Fin 3) = 0 := rfl
  have e2 : win0_4.index t (2 : Fin 3) = 0 := rfl
  funext a; apply Fin.ext
  match a with
  | ⟨0, _⟩ => show win0_4.index t (0 : Fin 3) * 1 + 1 * 0 = (pb t).val; omega
  | ⟨1, _⟩ => show win0_4.index t (1 : Fin 3) * 1 + 1 * 0 = 0; omega
  | ⟨2, _⟩ => show win0_4.index t (2 : Fin 3) * 1024 + 1 * d.val = d.val; omega

theorem emb_g (t : Fin cfg0.N) (r : Fin 1) (d : Fin 1024) :
    ((cfg0.win 5).blk t).view.emb (ix2 r d) = (ix2 r d : S1x1024.Idx) := by
  have e0 : win0_5.index t (0 : Fin 2) = 0 := rfl
  have e1 : win0_5.index t (1 : Fin 2) = 0 := rfl
  funext a; apply Fin.ext
  match a with
  | ⟨0, _⟩ => show win0_5.index t (0 : Fin 2) * 1 + 1 * r.val = r.val; omega
  | ⟨1, _⟩ => show win0_5.index t (1 : Fin 2) * 1024 + 1 * d.val = d.val; omega

theorem emb_wi (t : Fin cfg0.N) (r : Fin 1024) (d : Fin 3072) :
    ((cfg0.win 6).blk t).view.emb (ix2 r d) = (ix2 r d : S1024x3072.Idx) := by
  have e0 : win0_6.index t (0 : Fin 2) = 0 := rfl
  have e1 : win0_6.index t (1 : Fin 2) = 0 := rfl
  funext a; apply Fin.ext
  match a with
  | ⟨0, _⟩ => show win0_6.index t (0 : Fin 2) * 1024 + 1 * r.val = r.val; omega
  | ⟨1, _⟩ => show win0_6.index t (1 : Fin 2) * 3072 + 1 * d.val = d.val; omega

theorem emb_bi (t : Fin cfg0.N) (r : Fin 1) (d : Fin 3072) :
    ((cfg0.win 7).blk t).view.emb (ix2 r d) = (ix2 r d : S1x3072.Idx) := by
  have e0 : win0_7.index t (0 : Fin 2) = 0 := rfl
  have e1 : win0_7.index t (1 : Fin 2) = 0 := rfl
  funext a; apply Fin.ext
  match a with
  | ⟨0, _⟩ => show win0_7.index t (0 : Fin 2) * 1 + 1 * r.val = r.val; omega
  | ⟨1, _⟩ => show win0_7.index t (1 : Fin 2) * 3072 + 1 * d.val = d.val; omega

theorem emb_ws (t : Fin cfg0.N) (r : Fin 3) (d : Fin 3072) :
    ((cfg0.win 8).blk t).view.emb (ix2 r d) = (ix2 r d : S3x3072.Idx) := by
  have e0 : win0_8.index t (0 : Fin 2) = 0 := rfl
  have e1 : win0_8.index t (1 : Fin 2) = 0 := rfl
  funext a; apply Fin.ext
  match a with
  | ⟨0, _⟩ => show win0_8.index t (0 : Fin 2) * 3 + 1 * r.val = r.val; omega
  | ⟨1, _⟩ => show win0_8.index t (1 : Fin 2) * 3072 + 1 * d.val = d.val; omega

theorem emb_bs (t : Fin cfg0.N) (r : Fin 1) (d : Fin 3072) :
    ((cfg0.win 9).blk t).view.emb (ix2 r d) = (ix2 r d : S1x3072.Idx) := by
  have e0 : win0_9.index t (0 : Fin 2) = 0 := rfl
  have e1 : win0_9.index t (1 : Fin 2) = 0 := rfl
  funext a; apply Fin.ext
  match a with
  | ⟨0, _⟩ => show win0_9.index t (0 : Fin 2) * 1 + 1 * r.val = r.val; omega
  | ⟨1, _⟩ => show win0_9.index t (1 : Fin 2) * 3072 + 1 * d.val = d.val; omega
theorem read_x (t : Fin cfg0.N) (f : S2x16384x1024.Idx → EReal) (y) :
    @Eq EReal (((cfg0.win 0).blk t).view.read (Elt Ideal) f y) (f (((cfg0.win 0).blk t).view.emb y)) := rfl
theorem read_pv (t : Fin cfg0.N) (f : S2x16384x1024.Idx → EReal) (y) :
    @Eq EReal (((cfg0.win 1).blk t).view.read (Elt Ideal) f y) (f (((cfg0.win 1).blk t).view.emb y)) := rfl
theorem read_nx (t : Fin cfg0.N) (f : S2x16384x1024.Idx → EReal) (y) :
    @Eq EReal (((cfg0.win 2).blk t).view.read (Elt Ideal) f y) (f (((cfg0.win 2).blk t).view.emb y)) := rfl
theorem read_sh (t : Fin cfg0.N) (f : S2x1x1024.Idx → EReal) (y) :
    @Eq EReal (((cfg0.win 3).blk t).view.read (Elt Ideal) f y) (f (((cfg0.win 3).blk t).view.emb y)) := rfl
theorem read_sc (t : Fin cfg0.N) (f : S2x1x1024.Idx → EReal) (y) :
    @Eq EReal (((cfg0.win 4).blk t).view.read (Elt Ideal) f y) (f (((cfg0.win 4).blk t).view.emb y)) := rfl
theorem read_g (t : Fin cfg0.N) (f : S1x1024.Idx → EReal) (y) :
    @Eq EReal (((cfg0.win 5).blk t).view.read (Elt Ideal) f y) (f (((cfg0.win 5).blk t).view.emb y)) := rfl
theorem read_wi (t : Fin cfg0.N) (f : S1024x3072.Idx → EReal) (y) :
    @Eq EReal (((cfg0.win 6).blk t).view.read (Elt Ideal) f y) (f (((cfg0.win 6).blk t).view.emb y)) := rfl
theorem read_bi (t : Fin cfg0.N) (f : S1x3072.Idx → EReal) (y) :
    @Eq EReal (((cfg0.win 7).blk t).view.read (Elt Ideal) f y) (f (((cfg0.win 7).blk t).view.emb y)) := rfl
theorem read_ws (t : Fin cfg0.N) (f : S3x3072.Idx → EReal) (y) :
    @Eq EReal (((cfg0.win 8).blk t).view.read (Elt Ideal) f y) (f (((cfg0.win 8).blk t).view.emb y)) := rfl
theorem read_bs (t : Fin cfg0.N) (f : S1x3072.Idx → EReal) (y) :
    @Eq EReal (((cfg0.win 9).blk t).view.read (Elt Ideal) f y) (f (((cfg0.win 9).blk t).view.emb y)) := rfl

section

variable (m : (ℓ : Loc nD τ sig) → Buf (Elt Ideal) ℓ) (c : Dev nD)

/-- Argument `i`'s contents. -/
abbrev b0 : FVec Ideal S2x16384x1024 .f32 := m ((c : Thread nD τ).loc main_arg0)
abbrev b1 : FVec Ideal S2x1x1024 .f32 := m ((c : Thread nD τ).loc main_arg1)
abbrev b2 : FVec Ideal S2x1x1024 .f32 := m ((c : Thread nD τ).loc main_arg2)
abbrev b3 : FVec Ideal S1024 .f32 := m ((c : Thread nD τ).loc main_arg3)
abbrev b4 : FVec Ideal S1024x3072 .f32 := m ((c : Thread nD τ).loc main_arg4)
abbrev b5 : FVec Ideal S3072 .f32 := m ((c : Thread nD τ).loc main_arg5)
abbrev b6 : FVec Ideal S3x3072 .f32 := m ((c : Thread nD τ).loc main_arg6)
abbrev b7 : FVec Ideal S3072 .f32 := m ((c : Thread nD τ).loc main_arg7)

/-! ### The arrays the kernel finds -/

theorem V_x : V m c main_arg0 = b0 m c := V_main_arg0 m c
theorem V_sh : V m c main_arg1 = b1 m c := V_main_arg1 m c
theorem V_sc : V m c main_arg2 = b2 m c := V_main_arg2 m c
theorem V_ws : V m c main_arg6 = b6 m c := V_main_arg6 m c

theorem V_g : V m c main_v0 = shapeCast (α := EReal) S1x1024 (b3 m c) shapeCasts_S1024_S1x1024 := by
  unfold V hostOps0
  after_reads_simp
  rfl

theorem V_wi : V m c main_v1 = b4 m c := by
  unfold V hostOps0
  after_reads_simp
  rfl

theorem V_bi : V m c main_v2 = shapeCast (α := EReal) S1x3072 (b5 m c) shapeCasts_S3072_S1x3072 := by
  unfold V hostOps0
  after_reads_simp
  rfl

theorem V_bs : V m c main_v3 = shapeCast (α := EReal) S1x3072 (b7 m c) shapeCasts_S3072_S1x3072 := by
  unfold V hostOps0
  after_reads_simp
  rfl

/-! ### The operands at an element -/

theorem blk_x (t : Fin cfg0.N) : iblk m c 0 t = ((cfg0.win 0).blk t).view.read (Elt Ideal) (V m c main_arg0) := rfl
theorem at_x (t : Fin cfg0.N) (r d : Fin 1024) : @Eq EReal (iblk m c 0 t (ix3 (0 : Fin 1) r d)) (b0 m c (ix3 (pb t) (rowAt t r) d)) := by
  rw [blk_x, V_x]
  refine (read_x t _ _).trans ?_
  rw [emb_x]

theorem blk_pv (t : Fin cfg0.N) : iblk m c 1 t = ((cfg0.win 1).blk t).view.read (Elt Ideal) (V m c main_arg0) := rfl
theorem at_pv (t : Fin cfg0.N) (r : Fin 8) (d : Fin 1024) : @Eq EReal (iblk m c 1 t (ix3 (0 : Fin 1) r d)) (b0 m c (ix3 (pb t) (rowPrev t r) d)) := by
  rw [blk_pv, V_x]
  refine (read_pv t _ _).trans ?_
  rw [emb_pv]

theorem blk_nx (t : Fin cfg0.N) : iblk m c 2 t = ((cfg0.win 2).blk t).view.read (Elt Ideal) (V m c main_arg0) := rfl
theorem at_nx (t : Fin cfg0.N) (r : Fin 8) (d : Fin 1024) : @Eq EReal (iblk m c 2 t (ix3 (0 : Fin 1) r d)) (b0 m c (ix3 (pb t) (rowNext t r) d)) := by
  rw [blk_nx, V_x]
  refine (read_nx t _ _).trans ?_
  rw [emb_nx]

theorem blk_sh (t : Fin cfg0.N) : iblk m c 3 t = ((cfg0.win 3).blk t).view.read (Elt Ideal) (V m c main_arg1) := rfl
theorem at_sh (t : Fin cfg0.N) (d : Fin 1024) : @Eq EReal (iblk m c 3 t (ix3 (0 : Fin 1) (0 : Fin 1) d)) (b1 m c (ix3 (pb t) (0 : Fin 1) d)) := by
  rw [blk_sh, V_sh]
  refine (read_sh t _ _).trans ?_
  rw [emb_sh]

theorem blk_sc (t : Fin cfg0.N) : iblk m c 4 t = ((cfg0.win 4).blk t).view.read (Elt Ideal) (V m c main_arg2) := rfl
theorem at_sc (t : Fin cfg0.N) (d : Fin 1024) : @Eq EReal (iblk m c 4 t (ix3 (0 : Fin 1) (0 : Fin 1) d)) (b2 m c (ix3 (pb t) (0 : Fin 1) d)) := by
  rw [blk_sc, V_sc]
  refine (read_sc t _ _).trans ?_
  rw [emb_sc]

theorem blk_g (t : Fin cfg0.N) : iblk m c 5 t = ((cfg0.win 5).blk t).view.read (Elt Ideal) (V m c main_v0) := rfl
theorem at_g (t : Fin cfg0.N) (d : Fin 1024) : @Eq EReal (iblk m c 5 t (ix2 (0 : Fin 1) d)) (b3 m c (ix1 d)) := by
  rw [blk_g, V_g]
  refine (read_g t _ _).trans ?_
  rw [emb_g]
  exact shapeCast_a_1a_apply (α := EReal) _ shapeCasts_S1024_S1x1024 (0 : Fin 1) d

theorem blk_wi (t : Fin cfg0.N) : iblk m c 6 t = ((cfg0.win 6).blk t).view.read (Elt Ideal) (V m c main_v1) := rfl
theorem at_wi (t : Fin cfg0.N) (r : Fin 1024) (d : Fin 3072) : @Eq EReal (iblk m c 6 t (ix2 r d)) (b4 m c (ix2 r d)) := by
  rw [blk_wi, V_wi]
  refine (read_wi t _ _).trans ?_
  rw [emb_wi]

theorem blk_bi (t : Fin cfg0.N) : iblk m c 7 t = ((cfg0.win 7).blk t).view.read (Elt Ideal) (V m c main_v2) := rfl
theorem at_bi (t : Fin cfg0.N) (d : Fin 3072) : @Eq EReal (iblk m c 7 t (ix2 (0 : Fin 1) d)) (b5 m c (ix1 d)) := by
  rw [blk_bi, V_bi]
  refine (read_bi t _ _).trans ?_
  rw [emb_bi]
  exact shapeCast_a_1a_apply (α := EReal) _ shapeCasts_S3072_S1x3072 (0 : Fin 1) d

theorem blk_ws (t : Fin cfg0.N) : iblk m c 8 t = ((cfg0.win 8).blk t).view.read (Elt Ideal) (V m c main_arg6) := rfl
theorem at_ws (t : Fin cfg0.N) (r : Fin 3) (d : Fin 3072) : @Eq EReal (iblk m c 8 t (ix2 r d)) (b6 m c (ix2 r d)) := by
  rw [blk_ws, V_ws]
  refine (read_ws t _ _).trans ?_
  rw [emb_ws]

theorem blk_bs (t : Fin cfg0.N) : iblk m c 9 t = ((cfg0.win 9).blk t).view.read (Elt Ideal) (V m c main_v3) := rfl
theorem at_bs (t : Fin cfg0.N) (d : Fin 3072) : @Eq EReal (iblk m c 9 t (ix2 (0 : Fin 1) d)) (b7 m c (ix1 d)) := by
  rw [blk_bs, V_bs]
  refine (read_bs t _ _).trans ?_
  rw [emb_bs]
  exact shapeCast_a_1a_apply (α := EReal) _ shapeCasts_S3072_S1x3072 (0 : Fin 1) d

end

end Cert.Proof.Hy
-- ==== Proof.HyRow.lean ====
/-
  One row of the gated convolution's input stage: three channel groups' projection, and the three-tap filter along the sequence.
-/
module

public import proofs.«01_k».proof.Proof.MlpRow

@[expose] public section

noncomputable section

namespace Cert.Proof.Hy

open Cert.Proof.Mlp (hid)

/-- The normed row's projection to the 3072 channels. -/
def pre (x g sc sh : Fin 1024 → EReal) (w : Fin 1024 → Fin 3072 → EReal) (b : Fin 3072 → EReal) (j : Fin 3072) : EReal :=
  (∑ k, hid x g sc sh k * w k j) + b j

/-- Three neighbours' weighted sum, and an offset. -/
def tap (p q r w0 w1 w2 b : EReal) : EReal := p * w0 + q * w1 + r * w2 + b

/-- A sequence with one zero before it and zeros after it. -/
def edge (u : Fin 16384 → EReal) (n : ℕ) : EReal := if h : 1 ≤ n ∧ n ≤ 16384 then u ⟨n - 1, by omega⟩ else 0

theorem edge_in (u : Fin 16384 → EReal) (n : Fin 16384) : edge u (n.val + 1) = u n := by
  unfold edge
  rw [dif_pos ⟨by omega, by omega⟩]
  rfl

theorem edge_out (u : Fin 16384 → EReal) (n : ℕ) (h : n = 0 ∨ 16384 < n) : edge u n = 0 := by
  unfold edge
  rw [dif_neg (by omega)]

end Cert.Proof.Hy
-- ==== Proof.HyElem.lean ====
/-
  The third kernel's payloads read at an element.
-/
module

public import proofs.«01_k».proof.Proof.Gen.HyKernelIdeal.Skeleton
public import proofs.«01_k».proof.Proof.HyRow
public import Idealize.ShloMosaic.Lib.Pipeline.Value
public import Idealize.ShloMosaic.Lib.KernelVsHost
public import Idealize.ShloMosaic.Lib.ValueIdx
public import Idealize.ShloMosaic.Lib.ValueLayout
public import Idealize.ShloMosaic.Lib.ValueLayoutCasts
public import Idealize.ShloMosaic.PureOps.Ideal.Laws

@[expose] public section

set_option maxRecDepth 8192

noncomputable section

namespace Cert.Proof.Hy

open Cert.HyKernelIdeal Cert.HyKernelIdeal.Gen
open Cert.Proof.Mlp (hid rms len eps one)
open Idealize.ShloMosaic Idealize.ShloMosaic.ValueIdx

/-- The projection's product, read at an element. -/
theorem dot_apply {φ ψ : FTy} (x : FVec Ideal S1040x1024 φ) (y : FVec Ideal S1024x3072 ψ) (r : Fin 1040) (n : Fin 3072) :
    @Eq EReal (matmul dot_S1040x1024_S1024x3072_S1040x3072_1_0_0_1_n_n none x y (constant S1040x3072 .f32 0x00000000#32) (ix2 r n))
      (∑ d : Fin 1024, (x (ix2 r d) : EReal) * (y (ix2 d n) : EReal)) := by
  simp only [matmul]
  rw [Ideal.matmul_constant_zero_apply, ← Equiv.sum_comp (contrEquiv1 dot_S1040x1024_S1024x3072_S1040x3072_1_0_0_1_n_n 1024 rfl rfl).symm]
  refine Finset.sum_congr rfl fun k _ => ?_
  have hk := contrEquiv1_symm_val dot_S1040x1024_S1024x3072_S1040x3072_1_0_0_1_n_n 1024 rfl rfl k
  have el : dot_S1040x1024_S1024x3072_S1040x3072_1_0_0_1_n_n.lhsIdx (ix2 r n) ((contrEquiv1 dot_S1040x1024_S1024x3072_S1040x3072_1_0_0_1_n_n 1024 rfl rfl).symm k) = ix2 r k :=
    funext fun a => Fin.ext (by
      match a with
      | ⟨0, _⟩ => rfl
      | ⟨1, _⟩ => exact (dot_S1040x1024_S1024x3072_S1040x3072_1_0_0_1_n_n.lhsIdx_val_of_single rfl _ _).trans hk)
  have er : dot_S1040x1024_S1024x3072_S1040x3072_1_0_0_1_n_n.rhsIdx (ix2 r n) ((contrEquiv1 dot_S1040x1024_S1024x3072_S1040x3072_1_0_0_1_n_n 1024 rfl rfl).symm k) = ix2 k n :=
    funext fun a => Fin.ext (by
      match a with
      | ⟨0, _⟩ => exact (dot_S1040x1024_S1024x3072_S1040x3072_1_0_0_1_n_n.rhsIdx_val_of_single rfl _ _).trans hk
      | ⟨1, _⟩ => rfl)
  rw [el, er]

theorem cast_vec (x : FVec Ideal S1x1x1024 .f32) (d : Fin 1024) :
    @Eq EReal (shapeCast S1x1024 x shapeCasts_S1x1x1024_S1x1024 (ix2 (0 : Fin 1) d)) (x (ix3 (0 : Fin 1) (0 : Fin 1) d)) :=
  shapeCast_1ab_ab_apply (α := EReal) x _ _ _

theorem col_apply (v : FVec Ideal S1040x1 .f32) (r : Fin 1040) (d : Fin 1024) :
    @Eq EReal (broadcastTo S1040x1024 v broadcasts_S1040x1_S1040x1024 (ix2 r d)) (v (ix2 r (0 : Fin 1))) :=
  broadcastTo_apply (α := EReal) v _ _ _ fun a => by
    match a with
    | ⟨0, _⟩ => rfl
    | ⟨1, _⟩ => rfl

theorem row_apply (v : FVec Ideal S1x1024 .f32) (r : Fin 1040) (d : Fin 1024) :
    @Eq EReal (broadcastTo S1040x1024 v broadcasts_S1x1024_S1040x1024 (ix2 r d)) (v (ix2 (0 : Fin 1) d)) :=
  broadcastTo_1b_ab_apply (α := EReal) v _ _ _

theorem row_apply' (v : FVec Ideal S1x1024 .f32) (r d : Fin 1024) :
    @Eq EReal (broadcastTo S1024x1024 v broadcasts_S1x1024_S1024x1024 (ix2 r d)) (v (ix2 (0 : Fin 1) d)) :=
  broadcastTo_1b_ab_apply (α := EReal) v _ _ _

theorem row_wide (v : FVec Ideal S1x3072 .f32) (r : Fin 1040) (j : Fin 3072) :
    @Eq EReal (broadcastTo S1040x3072 v broadcasts_S1x3072_S1040x3072 (ix2 r j)) (v (ix2 (0 : Fin 1) j)) :=
  broadcastTo_1b_ab_apply (α := EReal) v _ _ _

/-- A row's sum of squares. -/
theorem sq_apply (x : FVec Ideal S1040x1024 .f32) (r : Fin 1040) :
    @Eq EReal (shapeCast S1040x1 (multiReduction .add [1] S1040 (mulf x x) 0x00000000#32 reduces_S1040x1024_S1040 (.inl rfl) rfl) shapeCasts_S1040_S1040x1 (ix2 r (0 : Fin 1)))
      (∑ k : Fin 1024, (x (ix2 r k) : EReal) * (x (ix2 r k) : EReal)) := by
  refine (shapeCast_a_a1_apply (α := EReal) _ _ _ _).trans ?_
  refine (Ideal.multiReduction_add_single (φ := .f32) (mulf x x) 0x00000000#32 reduces_S1040x1024_S1040 (.inl rfl) rfl (ix1 r)).trans ?_
  refine Finset.sum_congr rfl fun k _ => ?_
  have e : reduces_S1040x1024_S1040.lift (ix1 r) k = (ix2 r k : S1040x1024.Idx) := funext fun a => Fin.ext (by
    match a with | ⟨0, _⟩ => rfl | ⟨1, _⟩ => rfl)
  rw [e]; rfl

/-- The reciprocal root of a row's mean square, broadcast. -/
theorem inv_apply (s : FVec Ideal S1040x1 .f32) (r : Fin 1040) (d : Fin 1024) :
    @Eq EReal (broadcastTo S1040x1024 (rsqrt (addf (divf s (broadcast S1040x1 (Scalar.ofBits (F := Ideal) .f32 0x44800000#32)))
        (broadcast S1040x1 (Scalar.ofBits (F := Ideal) .f32 0x358637BD#32)))) broadcasts_S1040x1_S1040x1024 (ix2 r d))
      (Ideal.rsqrt (Ideal.div (s (ix2 r (0 : Fin 1))) len + eps)) :=
  (col_apply _ r d).trans rfl

section

variable (p : Vec Ideal S1x8x1024 .f32) (x : Vec Ideal S1x1024x1024 .f32) (n : Vec Ideal S1x8x1024 .f32)
  (g : Vec Ideal S1x1024 .f32) (sc sh : Vec Ideal S1x1x1024 .f32)

/-- The block between its two halos. -/
def cat : FVec Ideal S1040x1024 .f32 :=
  concatenate (α := EReal) S1040x1024 0 [⟨S8x1024, shapeCast (α := EReal) S8x1024 p shapeCasts_S1x8x1024_S8x1024⟩,
    ⟨S1024x1024, shapeCast (α := EReal) S1024x1024 x shapeCasts_S1x1024x1024_S1024x1024⟩,
    ⟨S8x1024, shapeCast (α := EReal) S8x1024 n shapeCasts_S1x8x1024_S8x1024⟩] concatenates_S8x1024_S1024x1024_S8x1024_S1040x1024_d0

theorem cat_prev (r : Fin 1040) (s : Fin 8) (d : Fin 1024) (h : r.val = s.val) : @Eq EReal (cat p x n (ix2 r d)) (p (ix3 (0 : Fin 1) s d)) := by
  refine Eq.trans ?_ (shapeCast_1ab_ab_apply (α := EReal) p shapeCasts_S1x8x1024_S8x1024 s d)
  refine concatenate_apply_piece (α := EReal) (t := S1040x1024) (0 : Fin 2) [⟨S8x1024, shapeCast (α := EReal) S8x1024 p shapeCasts_S1x8x1024_S8x1024⟩, ⟨S1024x1024, shapeCast (α := EReal) S1024x1024 x shapeCasts_S1x1024x1024_S1024x1024⟩, ⟨S8x1024, shapeCast (α := EReal) S8x1024 n shapeCasts_S1x8x1024_S8x1024⟩] concatenates_S8x1024_S1024x1024_S8x1024_S1040x1024_d0 (ix2 r d) 0 (show 0 < 3 by omega) S8x1024 _ rfl rfl 0 rfl (ix2 s d) (fun b hb => ?_) ?_
  · match b with
    | ⟨0, _⟩ => exact absurd rfl hb
    | ⟨1, _⟩ => rfl
  · show 0 + s.val = r.val; omega

theorem cat_mid (r : Fin 1040) (s d : Fin 1024) (h : r.val = 8 + s.val) : @Eq EReal (cat p x n (ix2 r d)) (x (ix3 (0 : Fin 1) s d)) := by
  refine Eq.trans ?_ (shapeCast_1ab_ab_apply (α := EReal) x shapeCasts_S1x1024x1024_S1024x1024 s d)
  refine concatenate_apply_piece (α := EReal) (t := S1040x1024) (0 : Fin 2) [⟨S8x1024, shapeCast (α := EReal) S8x1024 p shapeCasts_S1x8x1024_S8x1024⟩, ⟨S1024x1024, shapeCast (α := EReal) S1024x1024 x shapeCasts_S1x1024x1024_S1024x1024⟩, ⟨S8x1024, shapeCast (α := EReal) S8x1024 n shapeCasts_S1x8x1024_S8x1024⟩] concatenates_S8x1024_S1024x1024_S8x1024_S1040x1024_d0 (ix2 r d) 1 (show 1 < 3 by omega) S1024x1024 _ rfl rfl 8 rfl (ix2 s d) (fun b hb => ?_) ?_
  · match b with
    | ⟨0, _⟩ => exact absurd rfl hb
    | ⟨1, _⟩ => rfl
  · show 8 + s.val = r.val; omega

theorem cat_next (r : Fin 1040) (s : Fin 8) (d : Fin 1024) (h : r.val = 1032 + s.val) : @Eq EReal (cat p x n (ix2 r d)) (n (ix3 (0 : Fin 1) s d)) := by
  refine Eq.trans ?_ (shapeCast_1ab_ab_apply (α := EReal) n shapeCasts_S1x8x1024_S8x1024 s d)
  refine concatenate_apply_piece (α := EReal) (t := S1040x1024) (0 : Fin 2) [⟨S8x1024, shapeCast (α := EReal) S8x1024 p shapeCasts_S1x8x1024_S8x1024⟩, ⟨S1024x1024, shapeCast (α := EReal) S1024x1024 x shapeCasts_S1x1024x1024_S1024x1024⟩, ⟨S8x1024, shapeCast (α := EReal) S8x1024 n shapeCasts_S1x8x1024_S8x1024⟩] concatenates_S8x1024_S1024x1024_S8x1024_S1040x1024_d0 (ix2 r d) 2 (show 2 < 3 by omega) S8x1024 _ rfl rfl 1032 rfl (ix2 s d) (fun b hb => ?_) ?_
  · match b with
    | ⟨0, _⟩ => exact absurd rfl hb
    | ⟨1, _⟩ => rfl
  · show 1032 + s.val = r.val; omega

/-- The normed rows, scaled and shifted. -/
theorem pay2_apply (r : Fin 1040) (d : Fin 1024) :
    @Eq EReal (k0_pay2 (F := Ideal) p x n g sc sh (ix2 r d))
      (hid (fun k => cat p x n (ix2 r k)) (fun k => g (ix2 (0 : Fin 1) k)) (fun k => sc (ix3 (0 : Fin 1) (0 : Fin 1) k)) (fun k => sh (ix3 (0 : Fin 1) (0 : Fin 1) k)) d) := by
  have e : @Eq EReal (k0_pay2 (F := Ideal) p x n g sc sh (ix2 r d))
      ((cat p x n (ix2 r d) : EReal) * (broadcastTo S1040x1024 (rsqrt (addf (divf (shapeCast S1040x1 (multiReduction .add [1] S1040 (mulf (cat p x n) (cat p x n)) 0x00000000#32 reduces_S1040x1024_S1040 (.inl rfl) rfl) shapeCasts_S1040_S1040x1)
            (broadcast S1040x1 (Scalar.ofBits (F := Ideal) .f32 0x44800000#32))) (broadcast S1040x1 (Scalar.ofBits (F := Ideal) .f32 0x358637BD#32)))) broadcasts_S1040x1_S1040x1024 (ix2 r d) : EReal)
          * (broadcastTo (α := EReal) S1040x1024 (shapeCast (α := EReal) S1x1024 g shapeCasts_S1x1024_S1x1024) broadcasts_S1x1024_S1040x1024 (ix2 r d) : EReal)
          * (broadcastTo (α := EReal) S1040x1024 (addf (F := Ideal) (φ := .f32) (broadcast S1x1024 (Scalar.ofBits (F := Ideal) .f32 0x3F800000#32)) (shapeCast S1x1024 sc shapeCasts_S1x1x1024_S1x1024)) broadcasts_S1x1024_S1040x1024 (ix2 r d) : EReal)
        + (broadcastTo (α := EReal) S1040x1024 (shapeCast (α := EReal) S1x1024 sh shapeCasts_S1x1x1024_S1x1024) broadcasts_S1x1024_S1040x1024 (ix2 r d) : EReal)) := rfl
  refine e.trans ?_
  refine congrArg₂ (fun a b : EReal => a + b) (congrArg₂ (fun a b : EReal => a * b) (congrArg₂ (fun a b : EReal => a * b) (congrArg (fun b : EReal => (cat p x n (ix2 r d) : EReal) * b) ?_) ?_) ?_) ?_
  · exact (inv_apply _ r d).trans (congrArg (fun s : EReal => Ideal.rsqrt (Ideal.div s len + eps)) (sq_apply (cat p x n) r))
  · exact (row_apply _ r d).trans (congrFun (shapeCast_self (α := EReal) g _) _)
  · exact (row_apply _ r d).trans (congrArg (fun b : EReal => one + b) (cast_vec sc d))
  · exact (row_apply _ r d).trans (cast_vec sh d)

variable (w : Vec Ideal S1024x3072 .bf16) (b : Vec Ideal S1x3072 .f32)

/-- The projected rows, as the kernel keeps them. -/
def big : FVec Ideal S1040x3072 .f32 :=
  k0_pay4 (F := Ideal) (k0_pay2 (F := Ideal) p x n g sc sh) (k0_pay3 (F := Ideal) w) (constant S1040x3072 .f32 0x00000000#32) b

theorem big_apply (r : Fin 1040) (j : Fin 3072) :
    @Eq EReal (big p x n g sc sh w b (ix2 r j))
      (pre (fun k => cat p x n (ix2 r k)) (fun k => g (ix2 (0 : Fin 1) k)) (fun k => sc (ix3 (0 : Fin 1) (0 : Fin 1) k)) (fun k => sh (ix3 (0 : Fin 1) (0 : Fin 1) k))
        (fun k j => w (ix2 k j)) (fun j => b (ix2 (0 : Fin 1) j)) j) := by
  have e : @Eq EReal (big p x n g sc sh w b (ix2 r j))
      (shapeCast (α := EReal) S1040x3072 (addf (F := Ideal) (φ := .f32) (matmul (φ₁ := .bf16) (φ₂ := .bf16) dot_S1040x1024_S1024x3072_S1040x3072_1_0_0_1_n_n none
        (k0_pay2 (F := Ideal) p x n g sc sh) (k0_pay3 (F := Ideal) w) (constant S1040x3072 .f32 0x00000000#32))
        (broadcastTo S1040x3072 (shapeCast S1x3072 b shapeCasts_S1x3072_S1x3072) broadcasts_S1x3072_S1040x3072)) shapeCasts_S1040x3072_S1040x3072 (ix2 r j)) := rfl
  refine e.trans ((congrFun (shapeCast_self (α := EReal) _ _) _).trans ?_)
  refine congrArg₂ (fun a b : EReal => a + b) ((dot_apply _ _ r j).trans (Finset.sum_congr rfl fun k _ => ?_)) ((row_wide _ r j).trans (congrFun (shapeCast_self (α := EReal) b _) _))
  exact congrArg₂ (fun a b : EReal => a * b) (pay2_apply p x n g sc sh r k) (congrFun (shapeCast_self (α := EReal) w _) _)

end

/-- The rows of zeros. -/
theorem pay5_apply (i : S8x3072.Idx) : @Eq EReal (k0_pay5 (F := Ideal) i) 0 := by
  have e : k0_pay5 (F := Ideal) = shapeCast (α := EReal) S8x3072 (broadcast S8x3072 (Scalar.ofBits (F := Ideal) .f32 0x00000000#32)) shapeCasts_S8x3072_S8x3072 := rfl
  rw [e, shapeCast_self]
  exact Ideal.ofBits_zero_f32
theorem pay6_apply (i : S8x3072.Idx) : @Eq EReal (k0_pay6 (F := Ideal) i) 0 := pay5_apply i

section

variable (s : FVec Ideal S1040x1024 .f32) (w0 w1 w2 bb : FVec Ideal S1x1024 .f32)

/-- The rows before, and after. -/
theorem rot_prev (r d : Fin 1024) :
    @Eq EReal (extractStridedSlice (α := EReal) S1024x1024 ![8, 0] (dynamicRotate (α := EReal) 0 1#32 none s rotates_S1040x1024_d0) slices_S1040x1024_o8_0_S1024x1024 (ix2 r d))
      (s (ix2 (⟨r.val + 7, by omega⟩ : Fin 1040) d)) := by
  refine (extractStridedSlice_apply (α := EReal) _ _ _ (ix2 r d) (ix2 (⟨r.val + 8, by omega⟩ : Fin 1040) d : S1040x1024.Idx) fun a => ?_).trans ?_
  · match a with
    | ⟨0, _⟩ => exact Nat.add_comm _ _
    | ⟨1, _⟩ => exact (Nat.zero_add _).symm
  · refine dynamicRotate_apply (α := EReal) _ _ _ _ _ _ fun a => ?_
    match a with
    | ⟨0, _⟩ => show r.val + 7 = (r.val + 8 + 1040 - 1) % 1040; omega
    | ⟨1, _⟩ => rfl

theorem rot_next (r d : Fin 1024) :
    @Eq EReal (extractStridedSlice (α := EReal) S1024x1024 ![8, 0] (dynamicRotate (α := EReal) 0 1039#32 none s rotates_S1040x1024_d0) slices_S1040x1024_o8_0_S1024x1024 (ix2 r d))
      (s (ix2 (⟨r.val + 9, by omega⟩ : Fin 1040) d)) := by
  refine (extractStridedSlice_apply (α := EReal) _ _ _ (ix2 r d) (ix2 (⟨r.val + 8, by omega⟩ : Fin 1040) d : S1040x1024.Idx) fun a => ?_).trans ?_
  · match a with
    | ⟨0, _⟩ => exact Nat.add_comm _ _
    | ⟨1, _⟩ => exact (Nat.zero_add _).symm
  · refine dynamicRotate_apply (α := EReal) _ _ _ _ _ _ fun a => ?_
    match a with
    | ⟨0, _⟩ => show r.val + 9 = (r.val + 8 + 1040 - 1039) % 1040; omega
    | ⟨1, _⟩ => rfl

theorem rot_self (r d : Fin 1024) :
    @Eq EReal (extractStridedSlice (α := EReal) S1024x1024 ![8, 0] s slices_S1040x1024_o8_0_S1024x1024 (ix2 r d))
      (s (ix2 (⟨r.val + 8, by omega⟩ : Fin 1040) d)) := by
  refine extractStridedSlice_apply (α := EReal) _ _ _ (ix2 r d) (ix2 (⟨r.val + 8, by omega⟩ : Fin 1040) d : S1040x1024.Idx) fun a => ?_
  match a with
  | ⟨0, _⟩ => exact Nat.add_comm _ _
  | ⟨1, _⟩ => exact (Nat.zero_add _).symm

/-- One channel group's filtered rows. -/
theorem pay9_apply (r d : Fin 1024) :
    @Eq EReal (k0_pay9 (F := Ideal) s w0 w1 w2 bb (ix3 (0 : Fin 1) r d))
      (tap (s (ix2 (⟨r.val + 7, by omega⟩ : Fin 1040) d)) (s (ix2 (⟨r.val + 8, by omega⟩ : Fin 1040) d)) (s (ix2 (⟨r.val + 9, by omega⟩ : Fin 1040) d))
        (w0 (ix2 (0 : Fin 1) d)) (w1 (ix2 (0 : Fin 1) d)) (w2 (ix2 (0 : Fin 1) d)) (bb (ix2 (0 : Fin 1) d))) := by
  have e : @Eq EReal (k0_pay9 (F := Ideal) s w0 w1 w2 bb (ix3 (0 : Fin 1) r d))
      (shapeCast (α := EReal) S1x1024x1024 (addf (F := Ideal) (φ := .f32) (addf (addf
        (mulf (extractStridedSlice (α := EReal) S1024x1024 ![8, 0] (dynamicRotate (α := EReal) 0 1#32 none s rotates_S1040x1024_d0) slices_S1040x1024_o8_0_S1024x1024) (broadcastTo S1024x1024 w0 broadcasts_S1x1024_S1024x1024))
        (mulf (extractStridedSlice (α := EReal) S1024x1024 ![8, 0] s slices_S1040x1024_o8_0_S1024x1024) (broadcastTo S1024x1024 w1 broadcasts_S1x1024_S1024x1024)))
        (mulf (extractStridedSlice (α := EReal) S1024x1024 ![8, 0] (dynamicRotate (α := EReal) 0 1039#32 none s rotates_S1040x1024_d0) slices_S1040x1024_o8_0_S1024x1024) (broadcastTo S1024x1024 w2 broadcasts_S1x1024_S1024x1024)))
        (broadcastTo S1024x1024 (shapeCast (α := EReal) S1x1024 bb shapeCasts_S1x1024_S1x1024) broadcasts_S1x1024_S1024x1024)) shapeCasts_S1024x1024_S1x1024x1024 (ix3 (0 : Fin 1) r d)) := rfl
  refine (e.trans (shapeCast_ab_1ab_apply (α := EReal) _ _ (0 : Fin 1) r d)).trans ?_
  exact congrArg₂ (fun a b : EReal => a + b) (congrArg₂ (fun a b : EReal => a + b) (congrArg₂ (fun a b : EReal => a + b)
    (congrArg₂ (fun a b : EReal => a * b) (rot_prev s r d) (row_apply' w0 r d))
    (congrArg₂ (fun a b : EReal => a * b) (rot_self s r d) (row_apply' w1 r d)))
    (congrArg₂ (fun a b : EReal => a * b) (rot_next s r d) (row_apply' w2 r d)))
    ((row_apply' _ r d).trans (congrFun (shapeCast_self (α := EReal) bb _) _))

theorem pay8_eq : k0_pay8 (F := Ideal) (k0_pay7 (F := Ideal) s w0 w1 w2 bb) = k0_pay9 (F := Ideal) s w0 w1 w2 bb := rfl
theorem pay1_eq : k0_pay1 (F := Ideal) s (k0_pay10 (F := Ideal) s) (k0_pay11 (F := Ideal) s) (k0_pay12 (F := Ideal) w0) w1 w2 bb = k0_pay9 (F := Ideal) s w0 w1 w2 bb := rfl

end

end Cert.Proof.Hy
-- ==== Proof.HyOut.lean ====
/-
  What the third kernel's body leaves in its three output blocks, read at an element.
-/
module

public import proofs.«01_k».proof.Proof.Gen.HyKernelIdeal.Frame
public import proofs.«01_k».proof.Proof.HyElem
public import Idealize.ShloMosaic.Lib.WritesUnit
public import Idealize.ShloMosaic.Lib.VecWindow

@[expose] public section

set_option maxRecDepth 16384

noncomputable section

namespace Cert.Proof.Hy

open Cert.HyKernelIdeal Cert.HyKernelIdeal.Gen
open Idealize.ShloMosaic Idealize.ShloMosaic.ValueIdx Idealize.ShloMosaic.TcCoe Idealize.SL.Sem

section

variable (lo hi : ℕ) (p : Vec Ideal S1x8x1024 .f32) (x : Vec Ideal S1x1024x1024 .f32) (n : Vec Ideal S1x8x1024 .f32)
  (g : Vec Ideal S1x1024 .f32) (sc sh : Vec Ideal S1x1x1024 .f32) (w : Vec Ideal S1024x3072 .bf16) (b : Vec Ideal S1x3072 .f32)

/-- The kept rows, zero outside rows `lo` to `hi`. -/
def col (r : Fin 1040) (j : Fin 3072) : EReal := if lo ≤ r.val ∧ r.val < hi then big p x n g sc sh w b (ix2 r j) else 0

theorem col_in (r : Fin 1040) (j : Fin 3072) (h : lo ≤ r.val ∧ r.val < hi) : col lo hi p x n g sc sh w b r j = big p x n g sc sh w b (ix2 r j) := if_pos h
theorem col_out (r : Fin 1040) (j : Fin 3072) (h : r.val < lo ∨ hi ≤ r.val) : col lo hi p x n g sc sh w b r j = 0 := if_neg (by omega)

/-- The filtered rows. -/
def res (ws : Vec Ideal S3x3072 .f32) (bs : Vec Ideal S1x3072 .f32) (r : Fin 1024) (j : Fin 3072) : EReal :=
  tap (col lo hi p x n g sc sh w b (⟨r.val + 7, by omega⟩ : Fin 1040) j) (col lo hi p x n g sc sh w b (⟨r.val + 8, by omega⟩ : Fin 1040) j)
    (col lo hi p x n g sc sh w b (⟨r.val + 9, by omega⟩ : Fin 1040) j)
    (ws (ix2 (0 : Fin 3) j)) (ws (ix2 (1 : Fin 3) j)) (ws (ix2 (2 : Fin 3) j)) (bs (ix2 (0 : Fin 1) j))

end

/-- A load at a place, of contents that read `X`. -/
theorem load_at {κ : Kind} {sp : Space} {S : Shape} {e : EltTy} (v : View sig κ sp S e) (f : v.ty.Contents (Elt Ideal)) (X : S.Idx → Elt Ideal e)
    (h : v.read (Elt Ideal) f = X) (off size : Fin S.rank → ℕ) (inb : ∀ a, off a + size a ≤ S.size a)
    (y : (⟨S.rank, size⟩ : Shape).Idx) (i : S.Idx) (hi : ∀ a, (i a).val = off a + (y a).val) :
    v.readAt (Elt Ideal) (Rect.unit off size inb).toLoadRect f y = X i := by
  subst h
  exact congrArg (v.read (Elt Ideal) f) (funext fun a => Fin.ext ((congrArg (off a + ·) (Nat.one_mul (y a).val)).trans (hi a).symm))

/-- A load of everything, of contents that read `X`. -/
theorem load_all {κ : Kind} {sp : Space} {S : Shape} {e : EltTy} (v : View sig κ sp S e) (f : v.ty.Contents (Elt Ideal)) (X : S.Idx → Elt Ideal e)
    (h : v.read (Elt Ideal) f = X) (off : Fin S.rank → ℕ) (inb : ∀ a, off a + S.size a ≤ S.size a) :
    v.readAt (Elt Ideal) (Rect.unit off S.size inb).toLoadRect f = X := (View.readAt_full v f inb).trans h

/-- The filter on 1024 channels of the kept rows. -/
theorem tap_at (v : View sig .tc .vmem S1040x3072 .f32) (L : List (View.Piece (Elt Ideal) S1040x3072 .f32)) (M : Fin 1040 → Fin 3072 → EReal)
    (hM : ∀ r j, @Eq EReal (v.read (Elt Ideal) (v.writes (Elt Ideal) v.junk L) (ix2 r j)) (M r j))
    (va : View sig .tc .vmem S3x3072 .f32) (fa : va.ty.Contents (Elt Ideal)) (ws : Vec Ideal S3x3072 .f32) (ha : va.read (Elt Ideal) fa = ws)
    (vb : View sig .tc .vmem S1x3072 .f32) (fb : vb.ty.Contents (Elt Ideal)) (bs : Vec Ideal S1x3072 .f32) (hb : vb.read (Elt Ideal) fb = bs)
    (o : ℕ) (ho : o + 1024 ≤ 3072) (is : ∀ a, (![0, o] : Fin 2 → ℕ) a + S1040x1024.size a ≤ S1040x3072.size a)
    (i0 : ∀ a, (![0, o] : Fin 2 → ℕ) a + S1x1024.size a ≤ S3x3072.size a) (i1 : ∀ a, (![1, o] : Fin 2 → ℕ) a + S1x1024.size a ≤ S3x3072.size a)
    (i2 : ∀ a, (![2, o] : Fin 2 → ℕ) a + S1x1024.size a ≤ S3x3072.size a) (ib : ∀ a, (![0, o] : Fin 2 → ℕ) a + S1x1024.size a ≤ S1x3072.size a)
    (r d : Fin 1024) :
    @Eq EReal (k0_pay9 (F := Ideal) (v.readCov L (Rect.unit (s := S1040x3072) ![0, o] S1040x1024.size is).toLoadRect)
        (va.readAt (Elt Ideal) (Rect.unit (s := S3x3072) ![0, o] S1x1024.size i0).toLoadRect fa) (va.readAt (Elt Ideal) (Rect.unit (s := S3x3072) ![1, o] S1x1024.size i1).toLoadRect fa)
        (va.readAt (Elt Ideal) (Rect.unit (s := S3x3072) ![2, o] S1x1024.size i2).toLoadRect fa) (vb.readAt (Elt Ideal) (Rect.unit (s := S1x3072) ![0, o] S1x1024.size ib).toLoadRect fb) (ix3 (0 : Fin 1) r d))
      (tap (M (⟨r.val + 7, by omega⟩ : Fin 1040) ⟨o + d.val, by omega⟩) (M (⟨r.val + 8, by omega⟩ : Fin 1040) ⟨o + d.val, by omega⟩)
        (M (⟨r.val + 9, by omega⟩ : Fin 1040) ⟨o + d.val, by omega⟩)
        (ws (ix2 (0 : Fin 3) ⟨o + d.val, by omega⟩)) (ws (ix2 (1 : Fin 3) ⟨o + d.val, by omega⟩)) (ws (ix2 (2 : Fin 3) ⟨o + d.val, by omega⟩))
        (bs (ix2 (0 : Fin 1) ⟨o + d.val, by omega⟩))) := by
  have hs : ∀ q : Fin 1040, @Eq EReal (v.readCov L (Rect.unit (s := S1040x3072) ![0, o] S1040x1024.size is).toLoadRect (ix2 q d)) (M q ⟨o + d.val, by omega⟩) := fun q =>
    (load_at v (v.writes (Elt Ideal) v.junk L) _ rfl ![0, o] S1040x1024.size is (ix2 q d) (ix2 q (⟨o + d.val, by omega⟩ : Fin 3072)) fun a => by
      match a with
      | ⟨0, _⟩ => exact (Nat.zero_add _).symm
      | ⟨1, _⟩ => rfl).trans (hM q _)
  have h0 : @Eq EReal (va.readAt (Elt Ideal) (Rect.unit (s := S3x3072) ![0, o] S1x1024.size i0).toLoadRect fa (ix2 (0 : Fin 1) d)) (ws (ix2 (0 : Fin 3) ⟨o + d.val, by omega⟩)) :=
    load_at va fa ws ha ![0, o] S1x1024.size i0 (ix2 (0 : Fin 1) d) (ix2 (0 : Fin 3) (⟨o + d.val, by omega⟩ : Fin 3072)) fun a => by match a with | ⟨0, _⟩ => rfl | ⟨1, _⟩ => rfl
  have h1 : @Eq EReal (va.readAt (Elt Ideal) (Rect.unit (s := S3x3072) ![1, o] S1x1024.size i1).toLoadRect fa (ix2 (0 : Fin 1) d)) (ws (ix2 (1 : Fin 3) ⟨o + d.val, by omega⟩)) :=
    load_at va fa ws ha ![1, o] S1x1024.size i1 (ix2 (0 : Fin 1) d) (ix2 (1 : Fin 3) (⟨o + d.val, by omega⟩ : Fin 3072)) fun a => by match a with | ⟨0, _⟩ => rfl | ⟨1, _⟩ => rfl
  have h2 : @Eq EReal (va.readAt (Elt Ideal) (Rect.unit (s := S3x3072) ![2, o] S1x1024.size i2).toLoadRect fa (ix2 (0 : Fin 1) d)) (ws (ix2 (2 : Fin 3) ⟨o + d.val, by omega⟩)) :=
    load_at va fa ws ha ![2, o] S1x1024.size i2 (ix2 (0 : Fin 1) d) (ix2 (2 : Fin 3) (⟨o + d.val, by omega⟩ : Fin 3072)) fun a => by match a with | ⟨0, _⟩ => rfl | ⟨1, _⟩ => rfl
  have hbs : @Eq EReal (vb.readAt (Elt Ideal) (Rect.unit (s := S1x3072) ![0, o] S1x1024.size ib).toLoadRect fb (ix2 (0 : Fin 1) d)) (bs (ix2 (0 : Fin 1) ⟨o + d.val, by omega⟩)) :=
    load_at vb fb bs hb ![0, o] S1x1024.size ib (ix2 (0 : Fin 1) d) (ix2 (0 : Fin 1) (⟨o + d.val, by omega⟩ : Fin 3072)) fun a => by match a with | ⟨0, _⟩ => rfl | ⟨1, _⟩ => rfl
  refine (pay9_apply _ _ _ _ _ r d).trans ?_
  rw [hs, hs, hs, h0, h1, h2, hbs]

/-- One piece holding the whole of an output block. -/
theorem whole_at (v : View sig .tc .vmem S1x1024x1024 .bf16) (f : v.ty.Contents (Elt Ideal)) (inb : ∀ a, (![0, 0, 0] : Fin 3 → ℕ) a + S1x1024x1024.size a ≤ S1x1024x1024.size a)
    (W : S1x1024x1024.Idx → EReal) (y : S1x1024x1024.Idx) :
    @Eq EReal (v.read (Elt Ideal) (v.writes (Elt Ideal) f [⟨Rect.unit ![0, 0, 0] S1x1024x1024.size inb, W⟩]) y) (W y) :=
  View.read_writes_cons_unit_of_mem v f inb W [] y y rfl fun a => by
    match a with
    | ⟨0, _⟩ => exact (Nat.zero_add _).symm
    | ⟨1, _⟩ => exact (Nat.zero_add _).symm
    | ⟨2, _⟩ => exact (Nat.zero_add _).symm

section

variable (v : View sig .tc .vmem S1040x3072 .f32) (f : v.ty.Contents (Elt Ideal)) (W : FVec Ideal S1040x3072 .f32)

/-- The kept rows with nothing over them, -/
theorem mem_B (inb : ∀ a, (![0, 0] : Fin 2 → ℕ) a + S1040x3072.size a ≤ S1040x3072.size a) (r : Fin 1040) (j : Fin 3072) :
    @Eq EReal (v.read (Elt Ideal) (v.writes (Elt Ideal) f [⟨Rect.unit ![0, 0] S1040x3072.size inb, W⟩]) (ix2 r j)) (W (ix2 r j)) :=
  View.read_writes_cons_unit_of_mem v f inb W [] (ix2 r j) (ix2 r j) rfl fun a => by
    match a with
    | ⟨0, _⟩ => exact (Nat.zero_add _).symm
    | ⟨1, _⟩ => exact (Nat.zero_add _).symm

/-- with the first eight zeroed, -/
theorem mem_A (inb : ∀ a, (![0, 0] : Fin 2 → ℕ) a + S1040x3072.size a ≤ S1040x3072.size a) (inz : ∀ a, (![0, 0] : Fin 2 → ℕ) a + S8x3072.size a ≤ S1040x3072.size a)
    (Z : FVec Ideal S8x3072 .f32) (hZ : ∀ i, @Eq EReal (Z i) 0) (r : Fin 1040) (j : Fin 3072) :
    @Eq EReal (v.read (Elt Ideal) (v.writes (Elt Ideal) f [⟨Rect.unit ![0, 0] S8x3072.size inz, Z⟩, ⟨Rect.unit ![0, 0] S1040x3072.size inb, W⟩]) (ix2 r j))
      (if 8 ≤ r.val ∧ r.val < 1040 then W (ix2 r j) else 0) := by
  by_cases h : 8 ≤ r.val
  · rw [if_pos ⟨h, r.isLt⟩]
    exact (View.read_writes_cons_unit_of_not_mem v f inz Z _ (ix2 r j) rfl (0 : Fin 2) (Or.inr (by show 0 + 8 ≤ r.val; omega))).trans (mem_B v f W inb r j)
  · rw [if_neg (by omega)]
    exact (View.read_writes_cons_unit_of_mem v f inz Z _ (ix2 r j) (ix2 (⟨r.val, by omega⟩ : Fin 8) j) rfl fun a => by
      match a with
      | ⟨0, _⟩ => exact (Nat.zero_add _).symm
      | ⟨1, _⟩ => exact (Nat.zero_add _).symm).trans (hZ _)

/-- with the last eight zeroed. -/
theorem mem_C (inb : ∀ a, (![0, 0] : Fin 2 → ℕ) a + S1040x3072.size a ≤ S1040x3072.size a) (inz : ∀ a, (![1032, 0] : Fin 2 → ℕ) a + S8x3072.size a ≤ S1040x3072.size a)
    (Z : FVec Ideal S8x3072 .f32) (hZ : ∀ i, @Eq EReal (Z i) 0) (r : Fin 1040) (j : Fin 3072) :
    @Eq EReal (v.read (Elt Ideal) (v.writes (Elt Ideal) f [⟨Rect.unit ![1032, 0] S8x3072.size inz, Z⟩, ⟨Rect.unit ![0, 0] S1040x3072.size inb, W⟩]) (ix2 r j))
      (if 0 ≤ r.val ∧ r.val < 1032 then W (ix2 r j) else 0) := by
  by_cases h : r.val < 1032
  · rw [if_pos ⟨Nat.zero_le _, h⟩]
    exact (View.read_writes_cons_unit_of_not_mem v f inz Z _ (ix2 r j) rfl (0 : Fin 2) (Or.inl (by show r.val < 1032; omega))).trans (mem_B v f W inb r j)
  · rw [if_neg (by omega)]
    exact (View.read_writes_cons_unit_of_mem v f inz Z _ (ix2 r j) (ix2 (⟨r.val - 1032, by omega⟩ : Fin 8) j) rfl fun a => by
      match a with
      | ⟨0, _⟩ => show r.val = 1032 + (r.val - 1032); omega
      | ⟨1, _⟩ => exact (Nat.zero_add _).symm).trans (hZ _)

end

/-- The projected rows as the body computes them. -/
theorem proj_A (c : Dev nD) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole)
    (x0 : Vec Ideal S1x1024x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x3072 .bf16) (x7 : Vec Ideal S1x3072 .f32) :
    k0_pay4 (F := Ideal) (kernelRun0_A.sl.r c arg2 harg2 arg3 harg3 arg4 harg4 arg5 harg5 arg6 harg6 arg7 harg7 x0 x1 x2 x3 x4 x5) (kernelRun0_A.sl.r_1 c arg8 harg8 x6) kernelRun0_A.sl.cst_21
      (View.readAt (Elt Ideal) arg9.view (Rect.unit ![0, 0] S1x3072.size inb_S1x3072_S1x3072_0_0).toLoadRect (harg9.unread x7))
      = big x1 x0 x2 x5 x4 x3 x6 x7 := by
  unfold kernelRun0_A.sl.r kernelRun0_A.sl.r_1 kernelRun0_A.sl.cst_21
  rw [load_all arg3.view _ _ (harg3.read_unread x1), load_all arg2.view _ _ (harg2.read_unread x0), load_all arg4.view _ _ (harg4.read_unread x2),
    load_all arg7.view _ _ (harg7.read_unread x5), load_all arg6.view _ _ (harg6.read_unread x4), load_all arg5.view _ _ (harg5.read_unread x3),
    load_all arg8.view _ _ (harg8.read_unread x6), load_all arg9.view _ _ (harg9.read_unread x7)]
  rfl

theorem mem_at_A (c : Dev nD) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole)
    (x0 : Vec Ideal S1x1024x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x3072 .bf16) (x7 : Vec Ideal S1x3072 .f32) (v : View sig .tc .vmem S1040x3072 .f32) (r : Fin 1040) (j : Fin 3072) :
    @Eq EReal (v.read (Elt Ideal) (v.writes (Elt Ideal) v.junk (kernelRun0_A.sl.HS0_2 c arg2 harg2 arg3 harg3 arg4 harg4 arg5 harg5 arg6 harg6 arg7 harg7 arg8 harg8 arg9 harg9 x0 x1 x2 x3 x4 x5 x6 x7)) (ix2 r j))
      (col 8 1040 x1 x0 x2 x5 x4 x3 x6 x7 r j) := by
  have hW := proj_A c arg2 harg2 arg3 harg3 arg4 harg4 arg5 harg5 arg6 harg6 arg7 harg7 arg8 harg8 arg9 harg9 x0 x1 x2 x3 x4 x5 x6 x7
  unfold kernelRun0_A.sl.HS0_2
  rw [hW]
  exact mem_A v _ _ _ _ _ pay5_apply r j

/-- Output 10 at an element, case A. -/
theorem out_A_10 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole) (arg10 : Memref sig .tc .vmem S3x3072 .f32) (harg10 : arg10.IsWhole) (arg11 : Memref sig .tc .vmem S1x3072 .f32) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x1024 .bf16) (harg14 : arg14.IsWhole) (arg15 : Memref sig .tc .vmem S1040x3072 .f32) (harg15 : arg15.IsWhole) (hc0 : cond0_0 i) (hc1 : ¬cond0_1 i)
    (x0 : Vec Ideal S1x1024x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x3072 .bf16) (x7 : Vec Ideal S1x3072 .f32) (x8 : Vec Ideal S3x3072 .f32) (x9 : Vec Ideal S1x3072 .f32) (r d : Fin 1024) :
    @Eq EReal (out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 (ix3 (0 : Fin 1) r d))
      (res 8 1040 x1 x0 x2 x5 x4 x3 x6 x7 x8 x9 r ⟨0 + d.val, by omega⟩) := by
  unfold out0_A_10 kernelRun0_A
  refine (whole_at _ _ _ _ _).trans ?_
  unfold kernelRun0_A.sl.r_2 kernelRun0_A.sl.v48
  refine (congrFun (pay8_eq _ _ _ _ _) _).trans (?_)
  exact tap_at arg15.view _ _ (mem_at_A c arg2 harg2 arg3 harg3 arg4 harg4 arg5 harg5 arg6 harg6 arg7 harg7 arg8 harg8 arg9 harg9 x0 x1 x2 x3 x4 x5 x6 x7 arg15.view)
    arg10.view _ _ (harg10.read_unread x8) arg11.view _ _ (harg11.read_unread x9) 0 (by decide) _ _ _ _ _ r d

/-- Output 11 at an element, case A. -/
theorem out_A_11 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole) (arg10 : Memref sig .tc .vmem S3x3072 .f32) (harg10 : arg10.IsWhole) (arg11 : Memref sig .tc .vmem S1x3072 .f32) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x1024 .bf16) (harg14 : arg14.IsWhole) (arg15 : Memref sig .tc .vmem S1040x3072 .f32) (harg15 : arg15.IsWhole) (hc0 : cond0_0 i) (hc1 : ¬cond0_1 i)
    (x0 : Vec Ideal S1x1024x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x3072 .bf16) (x7 : Vec Ideal S1x3072 .f32) (x8 : Vec Ideal S3x3072 .f32) (x9 : Vec Ideal S1x3072 .f32) (r d : Fin 1024) :
    @Eq EReal (out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 (ix3 (0 : Fin 1) r d))
      (res 8 1040 x1 x0 x2 x5 x4 x3 x6 x7 x8 x9 r ⟨1024 + d.val, by omega⟩) := by
  unfold out0_A_11 kernelRun0_A
  refine (whole_at _ _ _ _ _).trans ?_
  unfold kernelRun0_A.sl.v73
  refine  (id ?_)
  exact tap_at arg15.view _ _ (mem_at_A c arg2 harg2 arg3 harg3 arg4 harg4 arg5 harg5 arg6 harg6 arg7 harg7 arg8 harg8 arg9 harg9 x0 x1 x2 x3 x4 x5 x6 x7 arg15.view)
    arg10.view _ _ (harg10.read_unread x8) arg11.view _ _ (harg11.read_unread x9) 1024 (by decide) _ _ _ _ _ r d

/-- Output 12 at an element, case A. -/
theorem out_A_12 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole) (arg10 : Memref sig .tc .vmem S3x3072 .f32) (harg10 : arg10.IsWhole) (arg11 : Memref sig .tc .vmem S1x3072 .f32) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x1024 .bf16) (harg14 : arg14.IsWhole) (arg15 : Memref sig .tc .vmem S1040x3072 .f32) (harg15 : arg15.IsWhole) (hc0 : cond0_0 i) (hc1 : ¬cond0_1 i)
    (x0 : Vec Ideal S1x1024x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x3072 .bf16) (x7 : Vec Ideal S1x3072 .f32) (x8 : Vec Ideal S3x3072 .f32) (x9 : Vec Ideal S1x3072 .f32) (r d : Fin 1024) :
    @Eq EReal (out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 (ix3 (0 : Fin 1) r d))
      (res 8 1040 x1 x0 x2 x5 x4 x3 x6 x7 x8 x9 r ⟨2048 + d.val, by omega⟩) := by
  unfold out0_A_12 kernelRun0_A
  refine (whole_at _ _ _ _ _).trans ?_
  unfold kernelRun0_A.sl.r_3 kernelRun0_A.sl.r_4 kernelRun0_A.sl.r_5 kernelRun0_A.sl.v98
  refine (congrFun (pay1_eq _ _ _ _ _) _).trans (?_)
  exact tap_at arg15.view _ _ (mem_at_A c arg2 harg2 arg3 harg3 arg4 harg4 arg5 harg5 arg6 harg6 arg7 harg7 arg8 harg8 arg9 harg9 x0 x1 x2 x3 x4 x5 x6 x7 arg15.view)
    arg10.view _ _ (harg10.read_unread x8) arg11.view _ _ (harg11.read_unread x9) 2048 (by decide) _ _ _ _ _ r d

/-- The projected rows as the body computes them. -/
theorem proj_B (c : Dev nD) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole)
    (x0 : Vec Ideal S1x1024x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x3072 .bf16) (x7 : Vec Ideal S1x3072 .f32) :
    k0_pay4 (F := Ideal) (kernelRun0_B.sl.r c arg2 harg2 arg3 harg3 arg4 harg4 arg5 harg5 arg6 harg6 arg7 harg7 x0 x1 x2 x3 x4 x5) (kernelRun0_B.sl.r_1 c arg8 harg8 x6) kernelRun0_B.sl.cst_21
      (View.readAt (Elt Ideal) arg9.view (Rect.unit ![0, 0] S1x3072.size inb_S1x3072_S1x3072_0_0).toLoadRect (harg9.unread x7))
      = big x1 x0 x2 x5 x4 x3 x6 x7 := by
  unfold kernelRun0_B.sl.r kernelRun0_B.sl.r_1 kernelRun0_B.sl.cst_21
  rw [load_all arg3.view _ _ (harg3.read_unread x1), load_all arg2.view _ _ (harg2.read_unread x0), load_all arg4.view _ _ (harg4.read_unread x2),
    load_all arg7.view _ _ (harg7.read_unread x5), load_all arg6.view _ _ (harg6.read_unread x4), load_all arg5.view _ _ (harg5.read_unread x3),
    load_all arg8.view _ _ (harg8.read_unread x6), load_all arg9.view _ _ (harg9.read_unread x7)]
  rfl

theorem mem_at_B (c : Dev nD) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole)
    (x0 : Vec Ideal S1x1024x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x3072 .bf16) (x7 : Vec Ideal S1x3072 .f32) (v : View sig .tc .vmem S1040x3072 .f32) (r : Fin 1040) (j : Fin 3072) :
    @Eq EReal (v.read (Elt Ideal) (v.writes (Elt Ideal) v.junk (kernelRun0_B.sl.HS0_1 c arg2 harg2 arg3 harg3 arg4 harg4 arg5 harg5 arg6 harg6 arg7 harg7 arg8 harg8 arg9 harg9 x0 x1 x2 x3 x4 x5 x6 x7)) (ix2 r j))
      (col 0 1040 x1 x0 x2 x5 x4 x3 x6 x7 r j) := by
  have hW := proj_B c arg2 harg2 arg3 harg3 arg4 harg4 arg5 harg5 arg6 harg6 arg7 harg7 arg8 harg8 arg9 harg9 x0 x1 x2 x3 x4 x5 x6 x7
  unfold kernelRun0_B.sl.HS0_1
  rw [hW]
  exact (mem_B v _ _ _ r j).trans (col_in 0 1040 _ _ _ _ _ _ _ _ r j ⟨Nat.zero_le _, r.isLt⟩).symm

/-- Output 10 at an element, case B. -/
theorem out_B_10 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole) (arg10 : Memref sig .tc .vmem S3x3072 .f32) (harg10 : arg10.IsWhole) (arg11 : Memref sig .tc .vmem S1x3072 .f32) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x1024 .bf16) (harg14 : arg14.IsWhole) (arg15 : Memref sig .tc .vmem S1040x3072 .f32) (harg15 : arg15.IsWhole) (hc0 : ¬cond0_0 i) (hc1 : ¬cond0_1 i)
    (x0 : Vec Ideal S1x1024x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x3072 .bf16) (x7 : Vec Ideal S1x3072 .f32) (x8 : Vec Ideal S3x3072 .f32) (x9 : Vec Ideal S1x3072 .f32) (r d : Fin 1024) :
    @Eq EReal (out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 (ix3 (0 : Fin 1) r d))
      (res 0 1040 x1 x0 x2 x5 x4 x3 x6 x7 x8 x9 r ⟨0 + d.val, by omega⟩) := by
  unfold out0_B_10 kernelRun0_B
  refine (whole_at _ _ _ _ _).trans ?_
  unfold kernelRun0_B.sl.r_2 kernelRun0_B.sl.v48
  refine (congrFun (pay8_eq _ _ _ _ _) _).trans (?_)
  exact tap_at arg15.view _ _ (mem_at_B c arg2 harg2 arg3 harg3 arg4 harg4 arg5 harg5 arg6 harg6 arg7 harg7 arg8 harg8 arg9 harg9 x0 x1 x2 x3 x4 x5 x6 x7 arg15.view)
    arg10.view _ _ (harg10.read_unread x8) arg11.view _ _ (harg11.read_unread x9) 0 (by decide) _ _ _ _ _ r d

/-- Output 11 at an element, case B. -/
theorem out_B_11 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole) (arg10 : Memref sig .tc .vmem S3x3072 .f32) (harg10 : arg10.IsWhole) (arg11 : Memref sig .tc .vmem S1x3072 .f32) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x1024 .bf16) (harg14 : arg14.IsWhole) (arg15 : Memref sig .tc .vmem S1040x3072 .f32) (harg15 : arg15.IsWhole) (hc0 : ¬cond0_0 i) (hc1 : ¬cond0_1 i)
    (x0 : Vec Ideal S1x1024x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x3072 .bf16) (x7 : Vec Ideal S1x3072 .f32) (x8 : Vec Ideal S3x3072 .f32) (x9 : Vec Ideal S1x3072 .f32) (r d : Fin 1024) :
    @Eq EReal (out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 (ix3 (0 : Fin 1) r d))
      (res 0 1040 x1 x0 x2 x5 x4 x3 x6 x7 x8 x9 r ⟨1024 + d.val, by omega⟩) := by
  unfold out0_B_11 kernelRun0_B
  refine (whole_at _ _ _ _ _).trans ?_
  unfold kernelRun0_B.sl.v73
  refine  (id ?_)
  exact tap_at arg15.view _ _ (mem_at_B c arg2 harg2 arg3 harg3 arg4 harg4 arg5 harg5 arg6 harg6 arg7 harg7 arg8 harg8 arg9 harg9 x0 x1 x2 x3 x4 x5 x6 x7 arg15.view)
    arg10.view _ _ (harg10.read_unread x8) arg11.view _ _ (harg11.read_unread x9) 1024 (by decide) _ _ _ _ _ r d

/-- Output 12 at an element, case B. -/
theorem out_B_12 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole) (arg10 : Memref sig .tc .vmem S3x3072 .f32) (harg10 : arg10.IsWhole) (arg11 : Memref sig .tc .vmem S1x3072 .f32) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x1024 .bf16) (harg14 : arg14.IsWhole) (arg15 : Memref sig .tc .vmem S1040x3072 .f32) (harg15 : arg15.IsWhole) (hc0 : ¬cond0_0 i) (hc1 : ¬cond0_1 i)
    (x0 : Vec Ideal S1x1024x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x3072 .bf16) (x7 : Vec Ideal S1x3072 .f32) (x8 : Vec Ideal S3x3072 .f32) (x9 : Vec Ideal S1x3072 .f32) (r d : Fin 1024) :
    @Eq EReal (out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 (ix3 (0 : Fin 1) r d))
      (res 0 1040 x1 x0 x2 x5 x4 x3 x6 x7 x8 x9 r ⟨2048 + d.val, by omega⟩) := by
  unfold out0_B_12 kernelRun0_B
  refine (whole_at _ _ _ _ _).trans ?_
  unfold kernelRun0_B.sl.r_3 kernelRun0_B.sl.r_4 kernelRun0_B.sl.r_5 kernelRun0_B.sl.v98
  refine (congrFun (pay1_eq _ _ _ _ _) _).trans (?_)
  exact tap_at arg15.view _ _ (mem_at_B c arg2 harg2 arg3 harg3 arg4 harg4 arg5 harg5 arg6 harg6 arg7 harg7 arg8 harg8 arg9 harg9 x0 x1 x2 x3 x4 x5 x6 x7 arg15.view)
    arg10.view _ _ (harg10.read_unread x8) arg11.view _ _ (harg11.read_unread x9) 2048 (by decide) _ _ _ _ _ r d

/-- The projected rows as the body computes them. -/
theorem proj_C (c : Dev nD) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole)
    (x0 : Vec Ideal S1x1024x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x3072 .bf16) (x7 : Vec Ideal S1x3072 .f32) :
    k0_pay4 (F := Ideal) (kernelRun0_C.sl.r c arg2 harg2 arg3 harg3 arg4 harg4 arg5 harg5 arg6 harg6 arg7 harg7 x0 x1 x2 x3 x4 x5) (kernelRun0_C.sl.r_1 c arg8 harg8 x6) kernelRun0_C.sl.cst_21
      (View.readAt (Elt Ideal) arg9.view (Rect.unit ![0, 0] S1x3072.size inb_S1x3072_S1x3072_0_0).toLoadRect (harg9.unread x7))
      = big x1 x0 x2 x5 x4 x3 x6 x7 := by
  unfold kernelRun0_C.sl.r kernelRun0_C.sl.r_1 kernelRun0_C.sl.cst_21
  rw [load_all arg3.view _ _ (harg3.read_unread x1), load_all arg2.view _ _ (harg2.read_unread x0), load_all arg4.view _ _ (harg4.read_unread x2),
    load_all arg7.view _ _ (harg7.read_unread x5), load_all arg6.view _ _ (harg6.read_unread x4), load_all arg5.view _ _ (harg5.read_unread x3),
    load_all arg8.view _ _ (harg8.read_unread x6), load_all arg9.view _ _ (harg9.read_unread x7)]
  rfl

theorem mem_at_C (c : Dev nD) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole)
    (x0 : Vec Ideal S1x1024x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x3072 .bf16) (x7 : Vec Ideal S1x3072 .f32) (v : View sig .tc .vmem S1040x3072 .f32) (r : Fin 1040) (j : Fin 3072) :
    @Eq EReal (v.read (Elt Ideal) (v.writes (Elt Ideal) v.junk (kernelRun0_C.sl.HS0_2 c arg2 harg2 arg3 harg3 arg4 harg4 arg5 harg5 arg6 harg6 arg7 harg7 arg8 harg8 arg9 harg9 x0 x1 x2 x3 x4 x5 x6 x7)) (ix2 r j))
      (col 0 1032 x1 x0 x2 x5 x4 x3 x6 x7 r j) := by
  have hW := proj_C c arg2 harg2 arg3 harg3 arg4 harg4 arg5 harg5 arg6 harg6 arg7 harg7 arg8 harg8 arg9 harg9 x0 x1 x2 x3 x4 x5 x6 x7
  unfold kernelRun0_C.sl.HS0_2
  rw [hW]
  exact mem_C v _ _ _ _ _ pay6_apply r j

/-- Output 10 at an element, case C. -/
theorem out_C_10 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole) (arg10 : Memref sig .tc .vmem S3x3072 .f32) (harg10 : arg10.IsWhole) (arg11 : Memref sig .tc .vmem S1x3072 .f32) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x1024 .bf16) (harg14 : arg14.IsWhole) (arg15 : Memref sig .tc .vmem S1040x3072 .f32) (harg15 : arg15.IsWhole) (hc0 : ¬cond0_0 i) (hc1 : cond0_1 i)
    (x0 : Vec Ideal S1x1024x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x3072 .bf16) (x7 : Vec Ideal S1x3072 .f32) (x8 : Vec Ideal S3x3072 .f32) (x9 : Vec Ideal S1x3072 .f32) (r d : Fin 1024) :
    @Eq EReal (out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 (ix3 (0 : Fin 1) r d))
      (res 0 1032 x1 x0 x2 x5 x4 x3 x6 x7 x8 x9 r ⟨0 + d.val, by omega⟩) := by
  unfold out0_C_10 kernelRun0_C
  refine (whole_at _ _ _ _ _).trans ?_
  unfold kernelRun0_C.sl.r_2 kernelRun0_C.sl.v48
  refine (congrFun (pay8_eq _ _ _ _ _) _).trans (?_)
  exact tap_at arg15.view _ _ (mem_at_C c arg2 harg2 arg3 harg3 arg4 harg4 arg5 harg5 arg6 harg6 arg7 harg7 arg8 harg8 arg9 harg9 x0 x1 x2 x3 x4 x5 x6 x7 arg15.view)
    arg10.view _ _ (harg10.read_unread x8) arg11.view _ _ (harg11.read_unread x9) 0 (by decide) _ _ _ _ _ r d

/-- Output 11 at an element, case C. -/
theorem out_C_11 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole) (arg10 : Memref sig .tc .vmem S3x3072 .f32) (harg10 : arg10.IsWhole) (arg11 : Memref sig .tc .vmem S1x3072 .f32) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x1024 .bf16) (harg14 : arg14.IsWhole) (arg15 : Memref sig .tc .vmem S1040x3072 .f32) (harg15 : arg15.IsWhole) (hc0 : ¬cond0_0 i) (hc1 : cond0_1 i)
    (x0 : Vec Ideal S1x1024x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x3072 .bf16) (x7 : Vec Ideal S1x3072 .f32) (x8 : Vec Ideal S3x3072 .f32) (x9 : Vec Ideal S1x3072 .f32) (r d : Fin 1024) :
    @Eq EReal (out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 (ix3 (0 : Fin 1) r d))
      (res 0 1032 x1 x0 x2 x5 x4 x3 x6 x7 x8 x9 r ⟨1024 + d.val, by omega⟩) := by
  unfold out0_C_11 kernelRun0_C
  refine (whole_at _ _ _ _ _).trans ?_
  unfold kernelRun0_C.sl.v73
  refine  (id ?_)
  exact tap_at arg15.view _ _ (mem_at_C c arg2 harg2 arg3 harg3 arg4 harg4 arg5 harg5 arg6 harg6 arg7 harg7 arg8 harg8 arg9 harg9 x0 x1 x2 x3 x4 x5 x6 x7 arg15.view)
    arg10.view _ _ (harg10.read_unread x8) arg11.view _ _ (harg11.read_unread x9) 1024 (by decide) _ _ _ _ _ r d

/-- Output 12 at an element, case C. -/
theorem out_C_12 (c : Dev nD) (i : grid0.Coords) (arg2 : Memref sig .tc .vmem S1x1024x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x3072 .bf16) (harg8 : arg8.IsWhole) (arg9 : Memref sig .tc .vmem S1x3072 .f32) (harg9 : arg9.IsWhole) (arg10 : Memref sig .tc .vmem S3x3072 .f32) (harg10 : arg10.IsWhole) (arg11 : Memref sig .tc .vmem S1x3072 .f32) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x1024x1024 .bf16) (harg14 : arg14.IsWhole) (arg15 : Memref sig .tc .vmem S1040x3072 .f32) (harg15 : arg15.IsWhole) (hc0 : ¬cond0_0 i) (hc1 : cond0_1 i)
    (x0 : Vec Ideal S1x1024x1024 .f32) (x1 : Vec Ideal S1x8x1024 .f32) (x2 : Vec Ideal S1x8x1024 .f32) (x3 : Vec Ideal S1x1x1024 .f32) (x4 : Vec Ideal S1x1x1024 .f32) (x5 : Vec Ideal S1x1024 .f32) (x6 : Vec Ideal S1024x3072 .bf16) (x7 : Vec Ideal S1x3072 .f32) (x8 : Vec Ideal S3x3072 .f32) (x9 : Vec Ideal S1x3072 .f32) (r d : Fin 1024) :
    @Eq EReal (out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 (ix3 (0 : Fin 1) r d))
      (res 0 1032 x1 x0 x2 x5 x4 x3 x6 x7 x8 x9 r ⟨2048 + d.val, by omega⟩) := by
  unfold out0_C_12 kernelRun0_C
  refine (whole_at _ _ _ _ _).trans ?_
  unfold kernelRun0_C.sl.r_3 kernelRun0_C.sl.r_4 kernelRun0_C.sl.r_5 kernelRun0_C.sl.v98
  refine (congrFun (pay1_eq _ _ _ _ _) _).trans (?_)
  exact tap_at arg15.view _ _ (mem_at_C c arg2 harg2 arg3 harg3 arg4 harg4 arg5 harg5 arg6 harg6 arg7 harg7 arg8 harg8 arg9 harg9 x0 x1 x2 x3 x4 x5 x6 x7 arg15.view)
    arg10.view _ _ (harg10.read_unread x8) arg11.view _ _ (harg11.read_unread x9) 2048 (by decide) _ _ _ _ _ r d

end Cert.Proof.Hy
-- ==== Proof.HyRef.lean ====
/-
  The third reference read at an element: the row function of `HyRow`.
-/
module

public import proofs.«01_k».proof.Proof.Gen.HyReferenceIdeal.Read
public import proofs.«01_k».proof.Proof.HyRow
public import Idealize.ShloMosaic.Lib.ValueIdx
public import Idealize.ShloMosaic.Lib.KernelVsHost

@[expose] public section

set_option maxRecDepth 8192

noncomputable section

namespace Cert.Proof.Hy

open Cert.HyReferenceIdeal Cert.HyReferenceIdeal.Gen Cert.HyReferenceIdeal.Read
open Cert.Proof.Mlp (hid rms len eps one)
open Idealize.ShloMosaic Idealize.ShloMosaic.ValueIdx

section

variable (x0 : (⟨S2x16384x1024, .f32⟩ : BufTy).Contents (Elt Ideal))
  (x1 : (⟨S2x1x1024, .f32⟩ : BufTy).Contents (Elt Ideal))
  (x2 : (⟨S2x1x1024, .f32⟩ : BufTy).Contents (Elt Ideal))
  (x3 : (⟨S1024, .f32⟩ : BufTy).Contents (Elt Ideal))
  (x4 : (⟨S1024x3072, .f32⟩ : BufTy).Contents (Elt Ideal))
  (x5 : (⟨S3072, .f32⟩ : BufTy).Contents (Elt Ideal))
  (x6 : (⟨S3x3072, .f32⟩ : BufTy).Contents (Elt Ideal))
  (x7 : (⟨S3072, .f32⟩ : BufTy).Contents (Elt Ideal))

/-- The gain. -/
theorem ref_g (b : Fin 2) (n : Fin 16384) (d : Fin 1024) : @Eq EReal (val_main_v11 (F := Ideal) x3 (ix3 b n d)) (x3 (ix1 d)) := by
  rw [val_main_v11_apply, val_main_v10_apply]
  exact congrArg x3 (funext fun a => by match a with | ⟨0, _⟩ => rfl)

/-- The shift. -/
theorem ref_sh (b : Fin 2) (n : Fin 16384) (d : Fin 1024) : @Eq EReal (val_main_v17 (F := Ideal) x1 (ix3 b n d)) (x1 (ix3 b (0 : Fin 1) d)) := by
  rw [val_main_v17_apply]
  exact congrArg x1 (funext fun a => by match a with | ⟨0, _⟩ => rfl | ⟨1, _⟩ => rfl | ⟨2, _⟩ => rfl)

/-- One plus the scale. -/
theorem ref_sc (b : Fin 2) (n : Fin 16384) (d : Fin 1024) : @Eq EReal (val_main_v15 (F := Ideal) x2 (ix3 b n d)) (one + (x2 (ix3 b (0 : Fin 1) d) : EReal)) := by
  rw [val_main_v15_apply, val_main_v14_apply, val_main_v13_apply, val_main_cst_2_apply]
  have i : idx_main_v15 (ix3 b n d) = ix3 b (0 : Fin 1) d := funext fun a => by match a with | ⟨0, _⟩ => rfl | ⟨1, _⟩ => rfl | ⟨2, _⟩ => rfl
  rw [i]
  rfl

/-- One over the root mean square. -/
theorem ref_inv (b : Fin 2) (n : Fin 16384) (d : Fin 1024) :
    @Eq EReal (val_main_v8 (F := Ideal) x0 (ix3 b n d))
      (Ideal.rsqrt (Ideal.div (∑ k : Fin 1024, (x0 (ix3 b n k) : EReal) * (x0 (ix3 b n k) : EReal)) len + eps)) := by
  rw [val_main_v8_apply, val_main_v7_apply, val_main_v6_apply, val_main_v4_apply, val_main_v2_apply, val_main_v1_apply, val_main_v3_apply, val_main_v5_apply,
    val_main_cst_apply, val_main_cst_0_apply, val_main_cst_1_apply]
  refine congrArg (fun s : EReal => Ideal.rsqrt (Ideal.div s len + eps)) ?_
  refine (congrArg (fun z : EReal => z + _) Ideal.ofBits_zero_f32).trans ((zero_add _).trans (Finset.sum_congr rfl fun k _ => ?_))
  have i : idx_main_v1 (idx_main_v2 (idx_main_v8 (ix3 b n d))) k = ix3 b n k := funext fun a => by
    match a with | ⟨0, _⟩ => rfl | ⟨1, _⟩ => rfl | ⟨2, _⟩ => rfl
  rw [i, val_main_v0_apply]
  rfl

/-- The row fed to the projection. -/
theorem ref_hid (b : Fin 2) (n : Fin 16384) (d : Fin 1024) :
    @Eq EReal (val_main_v18 (F := Ideal) x0 x1 x2 x3 (ix3 b n d))
      (hid (fun k => x0 (ix3 b n k)) (fun k => x3 (ix1 k)) (fun k => x2 (ix3 b (0 : Fin 1) k)) (fun k => x1 (ix3 b (0 : Fin 1) k)) d) := by
  rw [val_main_v18_apply, val_main_v16_apply, val_main_v12_apply, val_main_v9_apply]
  exact congrArg₂ (fun a b : EReal => a + b) (congrArg₂ (fun a b : EReal => a * b)
    (congrArg₂ (fun a b : EReal => a * b) (congrArg (fun s : EReal => (x0 (ix3 b n d) : EReal) * s) (ref_inv x0 b n d)) (ref_g x3 b n d)) (ref_sc x2 b n d)) (ref_sh x1 b n d)

/-- The projection's offset. -/
theorem ref_bi (b : Fin 2) (n : Fin 16384) (j : Fin 3072) : @Eq EReal (val_main_v21 (F := Ideal) x5 (ix3 b n j)) (x5 (ix1 j)) := by
  rw [val_main_v21_apply, val_main_v20_apply]
  exact congrArg x5 (funext fun a => by match a with | ⟨0, _⟩ => rfl)

/-- The projected row at channel `j`, along the sequence. -/
def seq (b : Fin 2) (j : Fin 3072) (n : Fin 16384) : EReal :=
  pre (fun k => x0 (ix3 b n k)) (fun k => x3 (ix1 k)) (fun k => x2 (ix3 b (0 : Fin 1) k)) (fun k => x1 (ix3 b (0 : Fin 1) k)) (fun k j => x4 (ix2 k j)) (fun j => x5 (ix1 j)) j

theorem ref_pre (b : Fin 2) (n : Fin 16384) (j : Fin 3072) :
    @Eq EReal (val_main_v22 (F := Ideal) x0 x1 x2 x3 x4 x5 (ix3 b n j)) (seq x0 x1 x2 x3 x4 x5 b j n) := by
  rw [val_main_v22_apply, val_main_v19_apply]
  refine congrArg₂ (fun a b : EReal => a + b) (Finset.sum_congr rfl fun k _ => ?_) (ref_bi x5 b n j)
  have i : lidx_main_v19 (ix3 b n j) k = ix3 b n k := funext fun a => by match a with | ⟨0, _⟩ => rfl | ⟨1, _⟩ => rfl | ⟨2, _⟩ => rfl
  have j : ridx_main_v19 (ix3 b n j) k = ix2 k j := funext fun a => by match a with | ⟨0, _⟩ => rfl | ⟨1, _⟩ => rfl
  rw [i, j]
  exact congrArg (fun s : EReal => s * _) (ref_hid x0 x1 x2 x3 b n k)

/-- The padding's value. -/
theorem ref_zero (i : S_.Idx) : @Eq EReal (val_main_call0_v0 (F := Ideal) i) 0 := by
  rw [val_main_call0_v0_apply, val_main_c_apply]
  show (((0#32 : BitVec 32).toInt : ℝ) : EReal) = 0
  simp

/-- The padded projection. -/
theorem ref_pad (b : Fin 2) (n : Fin 16386) (j : Fin 3072) :
    @Eq EReal (val_main_v23 (F := Ideal) x0 x1 x2 x3 x4 x5 (ix3 b n j)) (edge (seq x0 x1 x2 x3 x4 x5 b j) n.val) := by
  unfold val_main_v23
  by_cases h : 1 ≤ n.val ∧ n.val ≤ 16384
  · obtain ⟨p, hp⟩ : ∃ p : Fin 16384, n.val = p.val + 1 := ⟨⟨n.val - 1, by omega⟩, by show n.val = n.val - 1 + 1; omega⟩
    rw [hp, edge_in]
    refine Eq.trans ?_ (ref_pre x0 x1 x2 x3 x4 x5 b p j)
    refine pad_apply_of_inside _ _ _ _ _ _ _ _ (ix3 b p j : S2x16384x3072.Idx) fun a => ?_
    match a with
    | ⟨0, _⟩ => show b.val = 0 + b.val * (0 + 1); omega
    | ⟨1, _⟩ => show n.val = 1 + p.val * (0 + 1); omega
    | ⟨2, _⟩ => show j.val = 0 + j.val * (0 + 1); omega
  · rw [edge_out _ _ (by omega)]
    refine Eq.trans ?_ (ref_zero (Shape.Idx.first h_S_))
    refine pad_apply_of_not_inside _ _ _ _ _ _ _ _ (1 : Fin 3) fun hin => ?_
    have h1 : 1 ≤ n.val := hin.1
    have h2 : (n.val - 1) / (0 + 1) < 16384 := hin.2.2
    rw [Nat.zero_add, Nat.div_one] at h2
    omega

/-- A row of the filter. -/
theorem ref_w0 (b : Fin 2) (n : Fin 16384) (j : Fin 3072) : @Eq EReal (val_main_v28 (F := Ideal) x6 (ix3 b n j)) (x6 (ix2 (0 : Fin 3) j)) := by
  rw [val_main_v28_apply, val_main_v27_apply, val_main_v26_apply, val_main_v25_apply]
  exact congrArg x6 (funext fun a => Fin.ext (by match a with | ⟨0, _⟩ => rfl | ⟨1, _⟩ => exact Nat.mod_eq_of_lt j.isLt))
theorem ref_w1 (b : Fin 2) (n : Fin 16384) (j : Fin 3072) : @Eq EReal (val_main_v34 (F := Ideal) x6 (ix3 b n j)) (x6 (ix2 (1 : Fin 3) j)) := by
  rw [val_main_v34_apply, val_main_v33_apply, val_main_v32_apply, val_main_v31_apply]
  exact congrArg x6 (funext fun a => Fin.ext (by match a with | ⟨0, _⟩ => rfl | ⟨1, _⟩ => exact Nat.mod_eq_of_lt j.isLt))
theorem ref_w2 (b : Fin 2) (n : Fin 16384) (j : Fin 3072) : @Eq EReal (val_main_v41 (F := Ideal) x6 (ix3 b n j)) (x6 (ix2 (2 : Fin 3) j)) := by
  rw [val_main_v41_apply, val_main_v40_apply, val_main_v39_apply, val_main_v38_apply]
  exact congrArg x6 (funext fun a => Fin.ext (by match a with | ⟨0, _⟩ => rfl | ⟨1, _⟩ => exact Nat.mod_eq_of_lt j.isLt))
theorem ref_bs (b : Fin 2) (n : Fin 16384) (j : Fin 3072) : @Eq EReal (val_main_v45 (F := Ideal) x7 (ix3 b n j)) (x7 (ix1 j)) := by
  rw [val_main_v45_apply, val_main_v44_apply]
  exact congrArg x7 (funext fun a => by match a with | ⟨0, _⟩ => rfl)

/-- The filtered row at channel `j`. -/
def flt (b : Fin 2) (n : Fin 16384) (j : Fin 3072) : EReal :=
  tap (edge (seq x0 x1 x2 x3 x4 x5 b j) n.val) (edge (seq x0 x1 x2 x3 x4 x5 b j) (n.val + 1)) (edge (seq x0 x1 x2 x3 x4 x5 b j) (n.val + 2))
    (x6 (ix2 (0 : Fin 3) j)) (x6 (ix2 (1 : Fin 3) j)) (x6 (ix2 (2 : Fin 3) j)) (x7 (ix1 j))

theorem ref_flt (b : Fin 2) (n : Fin 16384) (j : Fin 3072) :
    @Eq EReal (val_main_v46 (F := Ideal) x0 x1 x2 x3 x4 x5 x6 x7 (ix3 b n j)) (flt x0 x1 x2 x3 x4 x5 x6 x7 b n j) := by
  rw [val_main_v46_apply, val_main_v43_apply, val_main_v36_apply, val_main_v29_apply, val_main_v35_apply, val_main_v42_apply,
    val_main_v24_apply, val_main_v30_apply, val_main_v37_apply]
  have i0 : idx_main_v24 (ix3 b n j) = ix3 b (⟨n.val, by omega⟩ : Fin 16386) j := funext fun a => by match a with | ⟨0, _⟩ => rfl | ⟨1, _⟩ => rfl | ⟨2, _⟩ => rfl
  have i1 : idx_main_v30 (ix3 b n j) = ix3 b (⟨n.val + 1, by omega⟩ : Fin 16386) j := funext fun a => Fin.ext (by
    match a with | ⟨0, _⟩ => rfl | ⟨1, _⟩ => exact Nat.add_comm _ _ | ⟨2, _⟩ => rfl)
  have i2 : idx_main_v37 (ix3 b n j) = ix3 b (⟨n.val + 2, by omega⟩ : Fin 16386) j := funext fun a => Fin.ext (by
    match a with | ⟨0, _⟩ => rfl | ⟨1, _⟩ => exact Nat.add_comm _ _ | ⟨2, _⟩ => rfl)
  rw [i0, i1, i2]
  exact congrArg₂ (fun a b : EReal => a + b) (congrArg₂ (fun a b : EReal => a + b) (congrArg₂ (fun a b : EReal => a + b)
    (congrArg₂ (fun a b : EReal => a * b) (ref_pad x0 x1 x2 x3 x4 x5 b _ j) (ref_w0 x6 b n j))
    (congrArg₂ (fun a b : EReal => a * b) (ref_pad x0 x1 x2 x3 x4 x5 b _ j) (ref_w1 x6 b n j)))
    (congrArg₂ (fun a b : EReal => a * b) (ref_pad x0 x1 x2 x3 x4 x5 b _ j) (ref_w2 x6 b n j))) (ref_bs x7 b n j)

/-- The three results. -/
theorem ref_a (b : Fin 2) (n : Fin 16384) (d : Fin 1024) :
    @Eq EReal (val_main_v50 (F := Ideal) x0 x1 x2 x3 x4 x5 x6 x7 (ix3 b n d)) (flt x0 x1 x2 x3 x4 x5 x6 x7 b n ⟨0 + d.val, by omega⟩) := by
  rw [val_main_v50_apply, val_main_v47_apply]
  refine Eq.trans ?_ (ref_flt x0 x1 x2 x3 x4 x5 x6 x7 b n ⟨0 + d.val, by omega⟩)
  refine congrArg (fun i => val_main_v46 (F := Ideal) x0 x1 x2 x3 x4 x5 x6 x7 i) (funext fun a => Fin.ext ?_)
  match a with | ⟨0, _⟩ => rfl | ⟨1, _⟩ => rfl | ⟨2, _⟩ => exact (Nat.zero_add _).symm
theorem ref_b (b : Fin 2) (n : Fin 16384) (d : Fin 1024) :
    @Eq EReal (val_main_v51 (F := Ideal) x0 x1 x2 x3 x4 x5 x6 x7 (ix3 b n d)) (flt x0 x1 x2 x3 x4 x5 x6 x7 b n ⟨1024 + d.val, by omega⟩) := by
  rw [val_main_v51_apply, val_main_v48_apply]
  refine Eq.trans ?_ (ref_flt x0 x1 x2 x3 x4 x5 x6 x7 b n ⟨1024 + d.val, by omega⟩)
  refine congrArg (fun i => val_main_v46 (F := Ideal) x0 x1 x2 x3 x4 x5 x6 x7 i) (funext fun a => Fin.ext ?_)
  match a with | ⟨0, _⟩ => rfl | ⟨1, _⟩ => rfl | ⟨2, _⟩ => rfl
theorem ref_c (b : Fin 2) (n : Fin 16384) (d : Fin 1024) :
    @Eq EReal (val_main_v52 (F := Ideal) x0 x1 x2 x3 x4 x5 x6 x7 (ix3 b n d)) (flt x0 x1 x2 x3 x4 x5 x6 x7 b n ⟨2048 + d.val, by omega⟩) := by
  rw [val_main_v52_apply, val_main_v49_apply]
  refine Eq.trans ?_ (ref_flt x0 x1 x2 x3 x4 x5 x6 x7 b n ⟨2048 + d.val, by omega⟩)
  refine congrArg (fun i => val_main_v46 (F := Ideal) x0 x1 x2 x3 x4 x5 x6 x7 i) (funext fun a => Fin.ext ?_)
  match a with | ⟨0, _⟩ => rfl | ⟨1, _⟩ => rfl | ⟨2, _⟩ => rfl

end

end Cert.Proof.Hy
-- ==== Proof.HyValue.lean ====
/-
  The third program's results are the reference's functions of its arguments: each point writes its block of each, and the blocks cover the arrays.
-/
module

public import proofs.«01_k».proof.Proof.HyBlocks
public import proofs.«01_k».proof.Proof.HyOut
public import proofs.«01_k».proof.Proof.HyRef
public import Idealize.ShloMosaic.Lib.Pipeline.Covers

@[expose] public section

set_option maxRecDepth 8192

noncomputable section

namespace Cert.Proof.Hy

open Cert.HyKernelIdeal Cert.HyKernelIdeal.Gen
open Cert.HyReferenceIdeal.Read (val_main_v50 val_main_v51 val_main_v52)
open Idealize.ShloMosaic Idealize.ShloMosaic.ValueIdx Idealize.ShloMosaic.TcCoe Idealize.SL.Sem

variable (m : (ℓ : Loc nD τ sig) → Buf (Elt Ideal) ℓ)

/-- The projected row on equal rows. -/
theorem pre_congr {x x' g g' sc sc' sh sh' : Fin 1024 → EReal} {w w' : Fin 1024 → Fin 3072 → EReal} {b b' : Fin 3072 → EReal} (j : Fin 3072)
    (hx : ∀ k, x k = x' k) (hg : ∀ k, g k = g' k) (hsc : ∀ k, sc k = sc' k) (hsh : ∀ k, sh k = sh' k) (hw : ∀ k j, w k j = w' k j) (hb : ∀ j, b j = b' j) :
    pre x g sc sh w b j = pre x' g' sc' sh' w' b' j := by
  obtain rfl : x = x' := funext hx
  obtain rfl : g = g' := funext hg
  obtain rfl : sc = sc' := funext hsc
  obtain rfl : sh = sh' := funext hsh
  obtain rfl : w = w' := funext fun k => funext (hw k)
  obtain rfl : b = b' := funext hb
  rfl

/-- The sum of the three neighbours on equal terms. -/
theorem tap_congr {p p' q q' r r' w0 w0' w1 w1' w2 w2' b b' : EReal} (hp : p = p') (hq : q = q') (hr : r = r') (h0 : w0 = w0') (h1 : w1 = w1') (h2 : w2 = w2') (hb : b = b') :
    tap p q r w0 w1 w2 b = tap p' q' r' w0' w1' w2' b' := by
  subst hp hq hr h0 h1 h2 hb; rfl

section

variable (c : Dev nD) (t : Fin cfg0.N)

/-- The projected sequence of the point's batch at channel `j`. -/
abbrev sq (j : Fin 3072) : Fin 16384 → EReal := seq (b0 m c) (b1 m c) (b2 m c) (b3 m c) (b4 m c) (b5 m c) (pb t) j

/-- The kept row that holds row `n` of the sequence. -/
theorem big_at (r : Fin 1040) (j : Fin 3072) (n : Fin 16384)
    (h : ∀ k : Fin 1024, @Eq EReal (cat (iblk m c 1 t) (iblk m c 0 t) (iblk m c 2 t) (ix2 r k)) (b0 m c (ix3 (pb t) n k))) :
    @Eq EReal (big (iblk m c 1 t) (iblk m c 0 t) (iblk m c 2 t) (iblk m c 5 t) (iblk m c 4 t) (iblk m c 3 t) (iblk m c 6 t) (iblk m c 7 t) (ix2 r j)) (sq m c t j n) :=
  (big_apply (iblk m c 1 t) (iblk m c 0 t) (iblk m c 2 t) (iblk m c 5 t) (iblk m c 4 t) (iblk m c 3 t) (iblk m c 6 t) (iblk m c 7 t) r j).trans
    (pre_congr j h (fun k => at_g m c t k) (fun k => at_sc m c t k) (fun k => at_sh m c t k) (fun k j => at_wi m c t k j) (fun j => at_bi m c t j))

/-- A kept row between the halos' far rows is its row of the zero-padded sequence. -/
theorem col_at (lo hi : ℕ) (hlo : (lo = 0 ∧ (pq t).val ≠ 0) ∨ (lo = 8 ∧ (pq t).val = 0)) (hhi : (hi = 1040 ∧ (pq t).val ≠ 15) ∨ (hi = 1032 ∧ (pq t).val = 15))
    (r : Fin 1040) (j : Fin 3072) (n : ℕ) (h7 : 7 ≤ r.val) (h1032 : r.val ≤ 1032) (hn : n + 7 = 1024 * (pq t).val + r.val) :
    @Eq EReal (col lo hi (iblk m c 1 t) (iblk m c 0 t) (iblk m c 2 t) (iblk m c 5 t) (iblk m c 4 t) (iblk m c 3 t) (iblk m c 6 t) (iblk m c 7 t) r j) (edge (sq m c t j) n) := by
  have hq : (pq t).val < 16 := (pq t).isLt
  by_cases hr : r.val < lo ∨ hi ≤ r.val
  · rw [edge_out _ n (by omega)]
    exact col_out lo hi _ _ _ _ _ _ _ _ r j hr
  · have hr' : lo ≤ r.val ∧ r.val < hi := by omega
    obtain ⟨p, hp⟩ : ∃ p : Fin 16384, n = p.val + 1 := ⟨⟨n - 1, by omega⟩, by show n = n - 1 + 1; omega⟩
    rw [hp, edge_in]
    refine (col_in lo hi _ _ _ _ _ _ _ _ r j hr').trans (big_at m c t r j p fun k => ?_)
    by_cases a : r.val < 8
    · refine (cat_prev _ _ _ r ⟨r.val, a⟩ k rfl).trans ((at_pv m c t ⟨r.val, a⟩ k).trans ?_)
      refine congrArg (fun q : Fin 16384 => b0 m c (ix3 (pb t) q k)) (Fin.ext ?_)
      show (128 * (pq t).val - 1) * 8 + r.val = p.val
      omega
    · by_cases e : r.val < 1032
      · refine (cat_mid _ _ _ r ⟨r.val - 8, by omega⟩ k (by show r.val = 8 + (r.val - 8); omega)).trans ((at_x m c t ⟨r.val - 8, by omega⟩ k).trans ?_)
        refine congrArg (fun q : Fin 16384 => b0 m c (ix3 (pb t) q k)) (Fin.ext ?_)
        show 1024 * (pq t).val + (r.val - 8) = p.val
        omega
      · refine (cat_next _ _ _ r ⟨r.val - 1032, by omega⟩ k (by show r.val = 1032 + (r.val - 1032); omega)).trans ((at_nx m c t ⟨r.val - 1032, by omega⟩ k).trans ?_)
        refine congrArg (fun q : Fin 16384 => b0 m c (ix3 (pb t) q k)) (Fin.ext ?_)
        show min (128 * ((pq t).val + 1)) 2047 * 8 + (r.val - 1032) = p.val
        omega

/-- What a point leaves at a channel is the reference's filtered row. -/
theorem res_at (lo hi : ℕ) (hlo : (lo = 0 ∧ (pq t).val ≠ 0) ∨ (lo = 8 ∧ (pq t).val = 0)) (hhi : (hi = 1040 ∧ (pq t).val ≠ 15) ∨ (hi = 1032 ∧ (pq t).val = 15))
    (r : Fin 1024) (j : Fin 3072) :
    @Eq EReal (res lo hi (iblk m c 1 t) (iblk m c 0 t) (iblk m c 2 t) (iblk m c 5 t) (iblk m c 4 t) (iblk m c 3 t) (iblk m c 6 t) (iblk m c 7 t) (iblk m c 8 t) (iblk m c 9 t) r j)
      (flt (b0 m c) (b1 m c) (b2 m c) (b3 m c) (b4 m c) (b5 m c) (b6 m c) (b7 m c) (pb t) (rowAt t r) j) := by
  have hr := r.isLt
  exact tap_congr
    (col_at m c t lo hi hlo hhi ⟨r.val + 7, by omega⟩ j (rowAt t r).val (by show 7 ≤ r.val + 7; omega) (by show r.val + 7 ≤ 1032; omega) (by show 1024 * (pq t).val + r.val + 7 = 1024 * (pq t).val + (r.val + 7); omega))
    (col_at m c t lo hi hlo hhi ⟨r.val + 8, by omega⟩ j ((rowAt t r).val + 1) (by show 7 ≤ r.val + 8; omega) (by show r.val + 8 ≤ 1032; omega) (by show 1024 * (pq t).val + r.val + 1 + 7 = 1024 * (pq t).val + (r.val + 8); omega))
    (col_at m c t lo hi hlo hhi ⟨r.val + 9, by omega⟩ j ((rowAt t r).val + 2) (by show 7 ≤ r.val + 9; omega) (by show r.val + 9 ≤ 1032; omega) (by show 1024 * (pq t).val + r.val + 2 + 7 = 1024 * (pq t).val + (r.val + 9); omega))
    (at_ws m c t 0 j) (at_ws m c t 1 j) (at_ws m c t 2 j) (at_bs m c t j)

end

/-! ### Result 0 -/

/-- The reference's result from the arguments. -/
def refOut_10 (c : Dev nD) : S2x16384x1024.Idx → EReal := val_main_v50 (F := Ideal) (b0 m c) (b1 m c) (b2 m c) (b3 m c) (b4 m c) (b5 m c) (b6 m c) (b7 m c)

theorem cut_10 (t : Fin cfg0.N) (X : S1x1024x1024.Idx → EReal) (y : S1x1024x1024.Idx) : @Eq EReal ((cfg0.win 10).cut (grid0.coords t) X y) (X y) := rfl
theorem read_10 (t : Fin cfg0.N) (G : S2x16384x1024.Idx → EReal) (y) :
    @Eq EReal (((cfg0.win 10).blk t).view.read (Elt Ideal) G y) (G (((cfg0.win 10).blk t).view.emb y)) := rfl

/-- A point whose body leaves `G`'s elements writes back `G`'s block. -/
theorem cut_eq_10 (t : Fin cfg0.N) (X : S1x1024x1024.Idx → EReal) (G : S2x16384x1024.Idx → EReal)
    (h : ∀ r d, X (ix3 (0 : Fin 1) r d) = G (ix3 (pb t) (rowAt t r) d)) :
    (cfg0.win 10).cut (grid0.coords t) X = ((cfg0.win 10).blk t).view.read (Elt Ideal) G := by
  funext y
  have e : ∀ y : S1x1024x1024.Idx, X y = G (((cfg0.win 10).blk t).view.emb y) := by
    intro y
    obtain ⟨r, d, rfl⟩ : ∃ (r d : Fin 1024), y = ix3 (0 : Fin 1) r d := ⟨y 1, y 2, by
      funext a
      match a with
      | ⟨0, _⟩ => exact Subsingleton.elim (α := Fin 1) _ _
      | ⟨1, _⟩ => rfl
      | ⟨2, _⟩ => rfl⟩
    exact (h r d).trans (congrArg G (emb_o10 t r d).symm)
  exact (cut_10 t X y).trans ((e y).trans (read_10 t G y).symm)

theorem flushed_eq_10 (c : Dev nD) (t : Fin cfg0.N) :
    (dats (F := Ideal) m 0 c).flushed 10 t = ((cfg0.win 10).blk t).view.read (Elt Ideal) (refOut_10 m c) := by
  by_cases h0 : t.val % 16 = 0
  · have h1 : ¬ t.val % 16 = 15 := by omega
    exact (Cert.HyKernelIdeal.Value.flushed10_A m c t h0 h1).trans (cut_eq_10 t _ _ fun r d =>
      (out_A_10 c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) r d).trans
        ((res_at m c t 8 1040 (Or.inr ⟨rfl, (pq_val t).trans h0⟩) (Or.inl ⟨rfl, fun h => h1 ((pq_val t).symm.trans h)⟩) r _).trans (ref_a (b0 m c) (b1 m c) (b2 m c) (b3 m c) (b4 m c) (b5 m c) (b6 m c) (b7 m c) (pb t) (rowAt t r) d).symm))
  · by_cases h1 : t.val % 16 = 15
    · exact (Cert.HyKernelIdeal.Value.flushed10_C m c t h0 h1).trans (cut_eq_10 t _ _ fun r d =>
      (out_C_10 c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) r d).trans
        ((res_at m c t 0 1032 (Or.inl ⟨rfl, fun h => h0 ((pq_val t).symm.trans h)⟩) (Or.inr ⟨rfl, (pq_val t).trans h1⟩) r _).trans (ref_a (b0 m c) (b1 m c) (b2 m c) (b3 m c) (b4 m c) (b5 m c) (b6 m c) (b7 m c) (pb t) (rowAt t r) d).symm))
    · exact (Cert.HyKernelIdeal.Value.flushed10_B m c t h0 h1).trans (cut_eq_10 t _ _ fun r d =>
      (out_B_10 c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) r d).trans
        ((res_at m c t 0 1040 (Or.inl ⟨rfl, fun h => h0 ((pq_val t).symm.trans h)⟩) (Or.inl ⟨rfl, fun h => h1 ((pq_val t).symm.trans h)⟩) r _).trans (ref_a (b0 m c) (b1 m c) (b2 m c) (b3 m c) (b4 m c) (b5 m c) (b6 m c) (b7 m c) (pb t) (rowAt t r) d).symm))

/-- Every index of the result is in a point's block. -/
theorem covered_10 (i : S2x16384x1024.Idx) : ∃ t : Fin cfg0.N, (cfg0.win 10).flush t = true ∧ i ∈ ((cfg0.win 10).blk t).view.set := by
  have h0 : (i 0).val < 2 := (i 0).isLt
  have h1 : (i 1).val < 16384 := (i 1).isLt
  have h2 : (i 2).val < 1024 := (i 2).isLt
  obtain ⟨t, ht⟩ := Pipeline.Grid.coords_surjective grid0 (fun a => match a with
    | ⟨0, _⟩ => (⟨(i 0).val, h0⟩ : Fin 2) | ⟨1, _⟩ => (⟨(i 1).val / 1024, by omega⟩ : Fin 16))
  have p0 : (pb t).val = (i 0).val := by show (grid0.coords t 0).val = _; rw [ht]
  have p1 : (pq t).val = (i 1).val / 1024 := by show (grid0.coords t 1).val = _; rw [ht]
  refine ⟨t, flush0_10 t, ?_⟩
  have e : i = ix3 (pb t) (rowAt t ⟨(i 1).val % 1024, Nat.mod_lt _ (by decide)⟩) (⟨(i 2).val, h2⟩ : Fin 1024) := by
    funext a; apply Fin.ext
    match a with
    | ⟨0, _⟩ => exact p0.symm
    | ⟨1, _⟩ => show (i 1).val = 1024 * (pq t).val + (i 1).val % 1024; omega
    | ⟨2, _⟩ => rfl
  rw [e, ← emb_o10]
  exact ((cfg0.win 10).blk t).view.emb_mem_set _

/-- The result array after the run. -/
theorem final_10 (c : Dev nD) : (dats (F := Ideal) m 0 c).arrAt 10 cfg0.N = refOut_10 m c :=
  (dats (F := Ideal) m 0 c).arrAt_eq_of_cover 10 (refOut_10 m c) (fun t _ => flushed_eq_10 m c t) covered_10

/-! ### Result 1 -/

/-- The reference's result from the arguments. -/
def refOut_11 (c : Dev nD) : S2x16384x1024.Idx → EReal := val_main_v51 (F := Ideal) (b0 m c) (b1 m c) (b2 m c) (b3 m c) (b4 m c) (b5 m c) (b6 m c) (b7 m c)

theorem cut_11 (t : Fin cfg0.N) (X : S1x1024x1024.Idx → EReal) (y : S1x1024x1024.Idx) : @Eq EReal ((cfg0.win 11).cut (grid0.coords t) X y) (X y) := rfl
theorem read_11 (t : Fin cfg0.N) (G : S2x16384x1024.Idx → EReal) (y) :
    @Eq EReal (((cfg0.win 11).blk t).view.read (Elt Ideal) G y) (G (((cfg0.win 11).blk t).view.emb y)) := rfl

/-- A point whose body leaves `G`'s elements writes back `G`'s block. -/
theorem cut_eq_11 (t : Fin cfg0.N) (X : S1x1024x1024.Idx → EReal) (G : S2x16384x1024.Idx → EReal)
    (h : ∀ r d, X (ix3 (0 : Fin 1) r d) = G (ix3 (pb t) (rowAt t r) d)) :
    (cfg0.win 11).cut (grid0.coords t) X = ((cfg0.win 11).blk t).view.read (Elt Ideal) G := by
  funext y
  have e : ∀ y : S1x1024x1024.Idx, X y = G (((cfg0.win 11).blk t).view.emb y) := by
    intro y
    obtain ⟨r, d, rfl⟩ : ∃ (r d : Fin 1024), y = ix3 (0 : Fin 1) r d := ⟨y 1, y 2, by
      funext a
      match a with
      | ⟨0, _⟩ => exact Subsingleton.elim (α := Fin 1) _ _
      | ⟨1, _⟩ => rfl
      | ⟨2, _⟩ => rfl⟩
    exact (h r d).trans (congrArg G (emb_o11 t r d).symm)
  exact (cut_11 t X y).trans ((e y).trans (read_11 t G y).symm)

theorem flushed_eq_11 (c : Dev nD) (t : Fin cfg0.N) :
    (dats (F := Ideal) m 0 c).flushed 11 t = ((cfg0.win 11).blk t).view.read (Elt Ideal) (refOut_11 m c) := by
  by_cases h0 : t.val % 16 = 0
  · have h1 : ¬ t.val % 16 = 15 := by omega
    exact (Cert.HyKernelIdeal.Value.flushed11_A m c t h0 h1).trans (cut_eq_11 t _ _ fun r d =>
      (out_A_11 c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) r d).trans
        ((res_at m c t 8 1040 (Or.inr ⟨rfl, (pq_val t).trans h0⟩) (Or.inl ⟨rfl, fun h => h1 ((pq_val t).symm.trans h)⟩) r _).trans (ref_b (b0 m c) (b1 m c) (b2 m c) (b3 m c) (b4 m c) (b5 m c) (b6 m c) (b7 m c) (pb t) (rowAt t r) d).symm))
  · by_cases h1 : t.val % 16 = 15
    · exact (Cert.HyKernelIdeal.Value.flushed11_C m c t h0 h1).trans (cut_eq_11 t _ _ fun r d =>
      (out_C_11 c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) r d).trans
        ((res_at m c t 0 1032 (Or.inl ⟨rfl, fun h => h0 ((pq_val t).symm.trans h)⟩) (Or.inr ⟨rfl, (pq_val t).trans h1⟩) r _).trans (ref_b (b0 m c) (b1 m c) (b2 m c) (b3 m c) (b4 m c) (b5 m c) (b6 m c) (b7 m c) (pb t) (rowAt t r) d).symm))
    · exact (Cert.HyKernelIdeal.Value.flushed11_B m c t h0 h1).trans (cut_eq_11 t _ _ fun r d =>
      (out_B_11 c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) r d).trans
        ((res_at m c t 0 1040 (Or.inl ⟨rfl, fun h => h0 ((pq_val t).symm.trans h)⟩) (Or.inl ⟨rfl, fun h => h1 ((pq_val t).symm.trans h)⟩) r _).trans (ref_b (b0 m c) (b1 m c) (b2 m c) (b3 m c) (b4 m c) (b5 m c) (b6 m c) (b7 m c) (pb t) (rowAt t r) d).symm))

/-- Every index of the result is in a point's block. -/
theorem covered_11 (i : S2x16384x1024.Idx) : ∃ t : Fin cfg0.N, (cfg0.win 11).flush t = true ∧ i ∈ ((cfg0.win 11).blk t).view.set := by
  have h0 : (i 0).val < 2 := (i 0).isLt
  have h1 : (i 1).val < 16384 := (i 1).isLt
  have h2 : (i 2).val < 1024 := (i 2).isLt
  obtain ⟨t, ht⟩ := Pipeline.Grid.coords_surjective grid0 (fun a => match a with
    | ⟨0, _⟩ => (⟨(i 0).val, h0⟩ : Fin 2) | ⟨1, _⟩ => (⟨(i 1).val / 1024, by omega⟩ : Fin 16))
  have p0 : (pb t).val = (i 0).val := by show (grid0.coords t 0).val = _; rw [ht]
  have p1 : (pq t).val = (i 1).val / 1024 := by show (grid0.coords t 1).val = _; rw [ht]
  refine ⟨t, flush0_11 t, ?_⟩
  have e : i = ix3 (pb t) (rowAt t ⟨(i 1).val % 1024, Nat.mod_lt _ (by decide)⟩) (⟨(i 2).val, h2⟩ : Fin 1024) := by
    funext a; apply Fin.ext
    match a with
    | ⟨0, _⟩ => exact p0.symm
    | ⟨1, _⟩ => show (i 1).val = 1024 * (pq t).val + (i 1).val % 1024; omega
    | ⟨2, _⟩ => rfl
  rw [e, ← emb_o11]
  exact ((cfg0.win 11).blk t).view.emb_mem_set _

/-- The result array after the run. -/
theorem final_11 (c : Dev nD) : (dats (F := Ideal) m 0 c).arrAt 11 cfg0.N = refOut_11 m c :=
  (dats (F := Ideal) m 0 c).arrAt_eq_of_cover 11 (refOut_11 m c) (fun t _ => flushed_eq_11 m c t) covered_11

/-! ### Result 2 -/

/-- The reference's result from the arguments. -/
def refOut_12 (c : Dev nD) : S2x16384x1024.Idx → EReal := val_main_v52 (F := Ideal) (b0 m c) (b1 m c) (b2 m c) (b3 m c) (b4 m c) (b5 m c) (b6 m c) (b7 m c)

theorem cut_12 (t : Fin cfg0.N) (X : S1x1024x1024.Idx → EReal) (y : S1x1024x1024.Idx) : @Eq EReal ((cfg0.win 12).cut (grid0.coords t) X y) (X y) := rfl
theorem read_12 (t : Fin cfg0.N) (G : S2x16384x1024.Idx → EReal) (y) :
    @Eq EReal (((cfg0.win 12).blk t).view.read (Elt Ideal) G y) (G (((cfg0.win 12).blk t).view.emb y)) := rfl

/-- A point whose body leaves `G`'s elements writes back `G`'s block. -/
theorem cut_eq_12 (t : Fin cfg0.N) (X : S1x1024x1024.Idx → EReal) (G : S2x16384x1024.Idx → EReal)
    (h : ∀ r d, X (ix3 (0 : Fin 1) r d) = G (ix3 (pb t) (rowAt t r) d)) :
    (cfg0.win 12).cut (grid0.coords t) X = ((cfg0.win 12).blk t).view.read (Elt Ideal) G := by
  funext y
  have e : ∀ y : S1x1024x1024.Idx, X y = G (((cfg0.win 12).blk t).view.emb y) := by
    intro y
    obtain ⟨r, d, rfl⟩ : ∃ (r d : Fin 1024), y = ix3 (0 : Fin 1) r d := ⟨y 1, y 2, by
      funext a
      match a with
      | ⟨0, _⟩ => exact Subsingleton.elim (α := Fin 1) _ _
      | ⟨1, _⟩ => rfl
      | ⟨2, _⟩ => rfl⟩
    exact (h r d).trans (congrArg G (emb_o12 t r d).symm)
  exact (cut_12 t X y).trans ((e y).trans (read_12 t G y).symm)

theorem flushed_eq_12 (c : Dev nD) (t : Fin cfg0.N) :
    (dats (F := Ideal) m 0 c).flushed 12 t = ((cfg0.win 12).blk t).view.read (Elt Ideal) (refOut_12 m c) := by
  by_cases h0 : t.val % 16 = 0
  · have h1 : ¬ t.val % 16 = 15 := by omega
    exact (Cert.HyKernelIdeal.Value.flushed12_A m c t h0 h1).trans (cut_eq_12 t _ _ fun r d =>
      (out_A_12 c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) r d).trans
        ((res_at m c t 8 1040 (Or.inr ⟨rfl, (pq_val t).trans h0⟩) (Or.inl ⟨rfl, fun h => h1 ((pq_val t).symm.trans h)⟩) r _).trans (ref_c (b0 m c) (b1 m c) (b2 m c) (b3 m c) (b4 m c) (b5 m c) (b6 m c) (b7 m c) (pb t) (rowAt t r) d).symm))
  · by_cases h1 : t.val % 16 = 15
    · exact (Cert.HyKernelIdeal.Value.flushed12_C m c t h0 h1).trans (cut_eq_12 t _ _ fun r d =>
      (out_C_12 c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) r d).trans
        ((res_at m c t 0 1032 (Or.inl ⟨rfl, fun h => h0 ((pq_val t).symm.trans h)⟩) (Or.inr ⟨rfl, (pq_val t).trans h1⟩) r _).trans (ref_c (b0 m c) (b1 m c) (b2 m c) (b3 m c) (b4 m c) (b5 m c) (b6 m c) (b7 m c) (pb t) (rowAt t r) d).symm))
    · exact (Cert.HyKernelIdeal.Value.flushed12_B m c t h0 h1).trans (cut_eq_12 t _ _ fun r d =>
      (out_B_12 c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) r d).trans
        ((res_at m c t 0 1040 (Or.inl ⟨rfl, fun h => h0 ((pq_val t).symm.trans h)⟩) (Or.inl ⟨rfl, fun h => h1 ((pq_val t).symm.trans h)⟩) r _).trans (ref_c (b0 m c) (b1 m c) (b2 m c) (b3 m c) (b4 m c) (b5 m c) (b6 m c) (b7 m c) (pb t) (rowAt t r) d).symm))

/-- Every index of the result is in a point's block. -/
theorem covered_12 (i : S2x16384x1024.Idx) : ∃ t : Fin cfg0.N, (cfg0.win 12).flush t = true ∧ i ∈ ((cfg0.win 12).blk t).view.set := by
  have h0 : (i 0).val < 2 := (i 0).isLt
  have h1 : (i 1).val < 16384 := (i 1).isLt
  have h2 : (i 2).val < 1024 := (i 2).isLt
  obtain ⟨t, ht⟩ := Pipeline.Grid.coords_surjective grid0 (fun a => match a with
    | ⟨0, _⟩ => (⟨(i 0).val, h0⟩ : Fin 2) | ⟨1, _⟩ => (⟨(i 1).val / 1024, by omega⟩ : Fin 16))
  have p0 : (pb t).val = (i 0).val := by show (grid0.coords t 0).val = _; rw [ht]
  have p1 : (pq t).val = (i 1).val / 1024 := by show (grid0.coords t 1).val = _; rw [ht]
  refine ⟨t, flush0_12 t, ?_⟩
  have e : i = ix3 (pb t) (rowAt t ⟨(i 1).val % 1024, Nat.mod_lt _ (by decide)⟩) (⟨(i 2).val, h2⟩ : Fin 1024) := by
    funext a; apply Fin.ext
    match a with
    | ⟨0, _⟩ => exact p0.symm
    | ⟨1, _⟩ => show (i 1).val = 1024 * (pq t).val + (i 1).val % 1024; omega
    | ⟨2, _⟩ => rfl
  rw [e, ← emb_o12]
  exact ((cfg0.win 12).blk t).view.emb_mem_set _

/-- The result array after the run. -/
theorem final_12 (c : Dev nD) : (dats (F := Ideal) m 0 c).arrAt 12 cfg0.N = refOut_12 m c :=
  (dats (F := Ideal) m 0 c).arrAt_eq_of_cover 12 (refOut_12 m c) (fun t _ => flushed_eq_12 m c t) covered_12

end Cert.Proof.Hy
-- ==== Proof.lean ====
/- The claims of this certificate, put together from the modules of Proof/. -/
module

public import proofs.«01_k».proof.Proof.Gen.ReferenceIdeal.Run
public import proofs.«01_k».proof.Proof.Gen.ReferenceIdeal.Read
public import proofs.«01_k».proof.Defs
public import proofs.«01_k».proof.Proof.Same
public import proofs.«01_k».proof.Proof.Value
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.MlpKernel
public import proofs.«01_k».proof.Proof.Gen.MlpKernel.Frame
public import proofs.«01_k».proof.Proof.Gen.MlpKernelIdeal
public import proofs.«01_k».proof.Proof.Gen.MlpKernelIdeal.Frame
public import proofs.«01_k».proof.Proof.Gen.MlpKernelIdeal.Value
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.Gen.HyKernel
public import proofs.«01_k».proof.Proof.Gen.HyKernel.Frame
public import proofs.«01_k».proof.Proof.Gen.HyKernelIdeal
public import proofs.«01_k».proof.Proof.Gen.HyKernelIdeal.Frame
public import proofs.«01_k».proof.Proof.Gen.HyKernelIdeal.Value
public import proofs.«01_k».proof.Proof.Gen.HyReferenceIdeal
public import proofs.«01_k».proof.Proof.Gen.HyReferenceIdeal.Run
public import proofs.«01_k».proof.Proof.Gen.HyReferenceIdeal.Read
public import proofs.«01_k».proof.Proof.MlpValue
public import proofs.«01_k».proof.Proof.HyValue
public import Idealize.ShloMosaic.Adequacy
public import Idealize.ShloMosaic.Init

@[expose] public section

noncomputable section

namespace Cert.Proof

open Idealize.ShloMosaic Idealize.SL.Sem Idealize.ShloMosaic.TcCoe

/-- The kernel's frame at the machine's numbers: the run over any numbers, read there. -/
theorem frame_kernel : @Cert.quiescent_Kernel Cert.Kernel.Gen.facts := fun m ρ _ =>
  Cert.Proof.Attn.frame_other (F := Bits) m ρ

/-- The kernel's frame at the ideal numbers. -/
theorem frame_ideal : @Cert.quiescent_KernelIdeal Cert.KernelIdeal.Gen.facts := fun m ρ _ =>
  Cert.Proof.Attn.frame (F := Ideal) m ρ

/-- The reference's frame: its run is a list of host operations, and it declares no semaphore. -/
theorem frame_reference : @Cert.quiescent_ReferenceIdeal Cert.ReferenceIdeal.Gen.facts := fun m ρ _ =>
  (θ_run _ _ _).mono (fun r h => ⟨fun c => (h c).2, Idealize.ShloMosaic.sem_eq_zero_of_no_sems (by decide) r.2⟩)
    (Cert.ReferenceIdeal.Value.run (F := Ideal) m ρ)

theorem facts_pre : Cert.Pre_finite_scores.Facts := by constructor <;> decide

/-- The value claim: on real queries and keys the kernel's result is the reference's. -/
theorem value : @Cert.algebraic_KernelIdeal_ReferenceIdeal_pre_finite_scores Cert.KernelIdeal.Gen.facts Cert.ReferenceIdeal.Gen.facts facts_pre := by
  intro m ρ m' ρ' hpre hargs
  letI := facts_pre
  have hf : ∀ c, Cert.Proof.Attn.Finite m c := fun c => Cert.Proof.Attn.pre_real _ _ _ _ _ _ _ _ (hpre c)
  refine ⟨fun c => Cert.Proof.Attn.refOut m c, ?_, ?_⟩
  · exact Cert.Proof.Attn.run_value m ρ hf
  · refine (θ_run _ _ _).mono (fun r h c => ⟨(h c).1.trans ?_, (h c).2⟩) (Cert.ReferenceIdeal.Value.run (F := Ideal) m' ρ')
    obtain ⟨e0, e1, e2, e3, e4, e5, e6, e7⟩ := hargs c
    refine (Cert.ReferenceIdeal.Read.val_main_v25_eq m' c).trans ?_
    rw [e0, e1, e2, e3, e4, e5, e6, e7]
    rfl

/-- The second kernel's frame at the machine's numbers, and at the ideal ones. -/
theorem frame_mlp : @Cert.quiescent_MlpKernel Cert.MlpKernel.Gen.facts := fun m ρ _ => Cert.MlpKernel.Gen.frame m ρ
theorem frame_mlp_ideal : @Cert.quiescent_MlpKernelIdeal Cert.MlpKernelIdeal.Gen.facts := fun m ρ _ => Cert.MlpKernelIdeal.Gen.frame m ρ

/-- The second reference's frame. -/
theorem frame_mlp_reference : @Cert.quiescent_MlpReferenceIdeal Cert.MlpReferenceIdeal.Gen.facts := fun m ρ _ =>
  (θ_run _ _ _).mono (fun r h => ⟨fun c => (h c).2, Idealize.ShloMosaic.sem_eq_zero_of_no_sems (by decide) r.2⟩)
    (Cert.MlpReferenceIdeal.Value.run (F := Ideal) m ρ)

/-- The second value claim: on any arguments the kernel's result is the reference's. -/
theorem value_mlp : @Cert.algebraic_MlpKernelIdeal_MlpReferenceIdeal Cert.MlpKernelIdeal.Gen.facts Cert.MlpReferenceIdeal.Gen.facts := by
  intro m ρ m' ρ' _ hargs
  refine ⟨fun c => Cert.Proof.Mlp.refOut m c, ?_, ?_⟩
  · exact (θ_run _ _ _).mono (fun r h c => ⟨(h c).1.trans (Cert.Proof.Mlp.final m c), (h c).2⟩) (Cert.MlpKernelIdeal.Value.run_blocks (F := Ideal) m ρ)
  · refine (θ_run _ _ _).mono (fun r h c => ⟨(h c).1.trans ?_, (h c).2⟩) (Cert.MlpReferenceIdeal.Value.run (F := Ideal) m' ρ')
    obtain ⟨e0, e1, e2, e3, e4, e5, e6, e7, e8, e9, e10, e11, e12⟩ := hargs c
    refine (Cert.MlpReferenceIdeal.Read.val_main_v58_eq m' c).trans ?_
    rw [e0, e1, e2, e3, e4, e5, e6, e7, e8, e9, e10, e11, e12]
    rfl

/-- The third kernel's frame at the machine's numbers, and at the ideal ones. -/
theorem frame_hy : @Cert.quiescent_HyKernel Cert.HyKernel.Gen.facts := fun m ρ _ => Cert.HyKernel.Gen.frame m ρ
theorem frame_hy_ideal : @Cert.quiescent_HyKernelIdeal Cert.HyKernelIdeal.Gen.facts := fun m ρ _ => Cert.HyKernelIdeal.Gen.frame m ρ

/-- The third reference's frame. -/
theorem frame_hy_reference : @Cert.quiescent_HyReferenceIdeal Cert.HyReferenceIdeal.Gen.facts := fun m ρ _ =>
  (θ_run _ _ _).mono (fun r h => ⟨fun c => (h c).2.2.2, Idealize.ShloMosaic.sem_eq_zero_of_no_sems (by decide) r.2⟩)
    (Cert.HyReferenceIdeal.Value.run (F := Ideal) m ρ)

/-- The third value claim: on any arguments the kernel's three results are the reference's. -/
theorem value_hy : @Cert.algebraic_HyKernelIdeal_HyReferenceIdeal Cert.HyKernelIdeal.Gen.facts Cert.HyReferenceIdeal.Gen.facts := by
  intro m ρ m' ρ' _ hargs
  refine ⟨fun c => Cert.Proof.Hy.refOut_10 m c, fun c => Cert.Proof.Hy.refOut_11 m c, fun c => Cert.Proof.Hy.refOut_12 m c, ?_, ?_⟩
  · exact (θ_run _ _ _).mono (fun r h c => ⟨(h c).1.trans (Cert.Proof.Hy.final_10 m c), (h c).2.1.trans (Cert.Proof.Hy.final_11 m c),
      (h c).2.2.1.trans (Cert.Proof.Hy.final_12 m c), (h c).2.2.2⟩) (Cert.HyKernelIdeal.Value.run_blocks (F := Ideal) m ρ)
  · refine (θ_run _ _ _).mono (fun r h c => ⟨(h c).1.trans ?_, (h c).2.1.trans ?_, (h c).2.2.1.trans ?_, (h c).2.2.2⟩) (Cert.HyReferenceIdeal.Value.run (F := Ideal) m' ρ')
    all_goals obtain ⟨e0, e1, e2, e3, e4, e5, e6, e7⟩ := hargs c
    · refine (Cert.HyReferenceIdeal.Read.val_main_v50_eq m' c).trans ?_
      rw [e0, e1, e2, e3, e4, e5, e6, e7]
      rfl
    · refine (Cert.HyReferenceIdeal.Read.val_main_v51_eq m' c).trans ?_
      rw [e0, e1, e2, e3, e4, e5, e6, e7]
      rfl
    · refine (Cert.HyReferenceIdeal.Read.val_main_v52_eq m' c).trans ?_
      rw [e0, e1, e2, e3, e4, e5, e6, e7]
      rfl

theorem claim : Cert.Claim := ⟨Cert.Kernel.Gen.facts, Cert.KernelIdeal.Gen.facts, Cert.ReferenceIdeal.Gen.facts,
  Cert.MlpKernel.Gen.facts, Cert.MlpKernelIdeal.Gen.facts, Cert.MlpReferenceIdeal.Gen.facts,
  Cert.HyKernel.Gen.facts, Cert.HyKernelIdeal.Gen.facts, Cert.HyReferenceIdeal.Gen.facts, facts_pre,
  frame_kernel, frame_ideal, fun m ρ _ => frame_ideal m ρ trivial, frame_reference, fun m ρ _ => frame_reference m ρ trivial,
  frame_mlp, frame_mlp_ideal, frame_mlp_reference, frame_hy, frame_hy_ideal, frame_hy_reference,
  trivial, value, trivial, value_mlp, trivial, value_hy⟩

end Cert.Proof

end
